-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_in_range [hPre_gates_in_range : Cert.Pre_gates_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_gates_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_in_range [hPre_gates_in_range : Cert.Pre_gates_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_RefExpertsIdeal (m : (ℓ : Loc Cert.RefExpertsIdeal.nD Cert.RefExpertsIdeal.τ Cert.RefExpertsIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_RefOddInIdeal (m : (ℓ : Loc Cert.RefOddInIdeal.nD Cert.RefOddInIdeal.τ Cert.RefOddInIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_RefEvenInIdeal (m : (ℓ : Loc Cert.RefEvenInIdeal.nD Cert.RefEvenInIdeal.τ Cert.RefEvenInIdeal.sig) → Buf (Elt Ideal) ℓ) : Prop :=
  True

def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_scores_finite [hPre_scores_finite : Cert.Pre_scores_finite.Facts] (m : (ℓ : Loc Cert.MlaIdeal.nD Cert.MlaIdeal.τ Cert.MlaIdeal.sig) → Buf (Elt Ideal) ℓ) : Prop :=
  ∀ c : Dev Cert.MlaIdeal.nD,
    (Cert.Pre_scores_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_RefMlaIdeal (m : (ℓ : Loc Cert.RefMlaIdeal.nD Cert.RefMlaIdeal.τ Cert.RefMlaIdeal.sig) → Buf (Elt Ideal) ℓ) : Prop :=
  True

def Pre_RefMlaIdeal_scores_finite [hPre_scores_finite : Cert.Pre_scores_finite.Facts] (m : (ℓ : Loc Cert.RefMlaIdeal.nD Cert.RefMlaIdeal.τ Cert.RefMlaIdeal.sig) → Buf (Elt Ideal) ℓ) : Prop :=
  ∀ c : Dev Cert.RefMlaIdeal.nD,
    (Cert.Pre_scores_finite.fn (F := Ideal) (m ((c.tc : Thread Cert.RefMlaIdeal.nD Cert.RefMlaIdeal.τ).loc Cert.RefMlaIdeal.main_arg0)) (m ((c.tc : Thread Cert.RefMlaIdeal.nD Cert.RefMlaIdeal.τ).loc Cert.RefMlaIdeal.main_arg1)) (m ((c.tc : Thread Cert.RefMlaIdeal.nD Cert.RefMlaIdeal.τ).loc Cert.RefMlaIdeal.main_arg2))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_RefOutProjIdeal (m : (ℓ : Loc Cert.RefOutProjIdeal.nD Cert.RefOutProjIdeal.τ Cert.RefOutProjIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gates_in_range [hKernelIdeal : Cert.KernelIdeal.Facts] [hPre_gates_in_range : Cert.Pre_gates_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gates_in_range [hReferenceIdeal : Cert.ReferenceIdeal.Facts] [hPre_gates_in_range : Cert.Pre_gates_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_RefExpertsIdeal [hRefExpertsIdeal : Cert.RefExpertsIdeal.Facts] : Prop :=
  ∀ (m : (ℓ : Loc Cert.RefExpertsIdeal.nD Cert.RefExpertsIdeal.τ Cert.RefExpertsIdeal.sig) → Buf (Elt Ideal) ℓ) (g : Dev Cert.RefExpertsIdeal.nD → PrngReg), Pre_RefExpertsIdeal m →
    θ_run (Cert.RefExpertsIdeal.defs (F := Ideal)) (onTc (τ := Cert.RefExpertsIdeal.τ) (Cert.RefExpertsIdeal.main (F := Ideal))) ⟨m, fun _ => 0, g⟩ (fun r => (∀ c : Dev Cert.RefExpertsIdeal.nD,
      r.2.mem ((c.tc : Thread Cert.RefExpertsIdeal.nD Cert.RefExpertsIdeal.τ).loc Cert.RefExpertsIdeal.main_arg0) = m ((c.tc : Thread Cert.RefExpertsIdeal.nD Cert.RefExpertsIdeal.τ).loc Cert.RefExpertsIdeal.main_arg0)
      ∧ r.2.mem ((c.tc : Thread Cert.RefExpertsIdeal.nD Cert.RefExpertsIdeal.τ).loc Cert.RefExpertsIdeal.main_arg1) = m ((c.tc : Thread Cert.RefExpertsIdeal.nD Cert.RefExpertsIdeal.τ).loc Cert.RefExpertsIdeal.main_arg1)
      ∧ r.2.mem ((c.tc : Thread Cert.RefExpertsIdeal.nD Cert.RefExpertsIdeal.τ).loc Cert.RefExpertsIdeal.main_arg2) = m ((c.tc : Thread Cert.RefExpertsIdeal.nD Cert.RefExpertsIdeal.τ).loc Cert.RefExpertsIdeal.main_arg2)
      ∧ r.2.mem ((c.tc : Thread Cert.RefExpertsIdeal.nD Cert.RefExpertsIdeal.τ).loc Cert.RefExpertsIdeal.main_arg3) = m ((c.tc : Thread Cert.RefExpertsIdeal.nD Cert.RefExpertsIdeal.τ).loc Cert.RefExpertsIdeal.main_arg3))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3))
      ∧ r.2.sem = fun _ => 0)

def quiescent_RefOddInIdeal [hRefOddInIdeal : Cert.RefOddInIdeal.Facts] : Prop :=
  ∀ (m : (ℓ : Loc Cert.RefOddInIdeal.nD Cert.RefOddInIdeal.τ Cert.RefOddInIdeal.sig) → Buf (Elt Ideal) ℓ) (g : Dev Cert.RefOddInIdeal.nD → PrngReg), Pre_RefOddInIdeal m →
    θ_run (Cert.RefOddInIdeal.defs (F := Ideal)) (onTc (τ := Cert.RefOddInIdeal.τ) (Cert.RefOddInIdeal.main (F := Ideal))) ⟨m, fun _ => 0, g⟩ (fun r => (∀ c : Dev Cert.RefOddInIdeal.nD,
      r.2.mem ((c.tc : Thread Cert.RefOddInIdeal.nD Cert.RefOddInIdeal.τ).loc Cert.RefOddInIdeal.main_arg0) = m ((c.tc : Thread Cert.RefOddInIdeal.nD Cert.RefOddInIdeal.τ).loc Cert.RefOddInIdeal.main_arg0)
      ∧ r.2.mem ((c.tc : Thread Cert.RefOddInIdeal.nD Cert.RefOddInIdeal.τ).loc Cert.RefOddInIdeal.main_arg1) = m ((c.tc : Thread Cert.RefOddInIdeal.nD Cert.RefOddInIdeal.τ).loc Cert.RefOddInIdeal.main_arg1)
      ∧ r.2.mem ((c.tc : Thread Cert.RefOddInIdeal.nD Cert.RefOddInIdeal.τ).loc Cert.RefOddInIdeal.main_arg2) = m ((c.tc : Thread Cert.RefOddInIdeal.nD Cert.RefOddInIdeal.τ).loc Cert.RefOddInIdeal.main_arg2)
      ∧ r.2.mem ((c.tc : Thread Cert.RefOddInIdeal.nD Cert.RefOddInIdeal.τ).loc Cert.RefOddInIdeal.main_arg3) = m ((c.tc : Thread Cert.RefOddInIdeal.nD Cert.RefOddInIdeal.τ).loc Cert.RefOddInIdeal.main_arg3))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ r.2.sem = fun _ => 0)

def quiescent_RefEvenInIdeal [hRefEvenInIdeal : Cert.RefEvenInIdeal.Facts] : Prop :=
  ∀ (m : (ℓ : Loc Cert.RefEvenInIdeal.nD Cert.RefEvenInIdeal.τ Cert.RefEvenInIdeal.sig) → Buf (Elt Ideal) ℓ) (g : Dev Cert.RefEvenInIdeal.nD → PrngReg), Pre_RefEvenInIdeal m →
    θ_run (Cert.RefEvenInIdeal.defs (F := Ideal)) (onTc (τ := Cert.RefEvenInIdeal.τ) (Cert.RefEvenInIdeal.main (F := Ideal))) ⟨m, fun _ => 0, g⟩ (fun r => (∀ c : Dev Cert.RefEvenInIdeal.nD,
      r.2.mem ((c.tc : Thread Cert.RefEvenInIdeal.nD Cert.RefEvenInIdeal.τ).loc Cert.RefEvenInIdeal.main_arg0) = m ((c.tc : Thread Cert.RefEvenInIdeal.nD Cert.RefEvenInIdeal.τ).loc Cert.RefEvenInIdeal.main_arg0)
      ∧ r.2.mem ((c.tc : Thread Cert.RefEvenInIdeal.nD Cert.RefEvenInIdeal.τ).loc Cert.RefEvenInIdeal.main_arg1) = m ((c.tc : Thread Cert.RefEvenInIdeal.nD Cert.RefEvenInIdeal.τ).loc Cert.RefEvenInIdeal.main_arg1)
      ∧ r.2.mem ((c.tc : Thread Cert.RefEvenInIdeal.nD Cert.RefEvenInIdeal.τ).loc Cert.RefEvenInIdeal.main_arg2) = m ((c.tc : Thread Cert.RefEvenInIdeal.nD Cert.RefEvenInIdeal.τ).loc Cert.RefEvenInIdeal.main_arg2)
      ∧ r.2.mem ((c.tc : Thread Cert.RefEvenInIdeal.nD Cert.RefEvenInIdeal.τ).loc Cert.RefEvenInIdeal.main_arg3) = m ((c.tc : Thread Cert.RefEvenInIdeal.nD Cert.RefEvenInIdeal.τ).loc Cert.RefEvenInIdeal.main_arg3))
      ∧ r.2.sem = fun _ => 0)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_scores_finite [hMlaIdeal : Cert.MlaIdeal.Facts] [hPre_scores_finite : Cert.Pre_scores_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_scores_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_RefMlaIdeal [hRefMlaIdeal : Cert.RefMlaIdeal.Facts] : Prop :=
  ∀ (m : (ℓ : Loc Cert.RefMlaIdeal.nD Cert.RefMlaIdeal.τ Cert.RefMlaIdeal.sig) → Buf (Elt Ideal) ℓ) (g : Dev Cert.RefMlaIdeal.nD → PrngReg), Pre_RefMlaIdeal m →
    θ_run (Cert.RefMlaIdeal.defs (F := Ideal)) (onTc (τ := Cert.RefMlaIdeal.τ) (Cert.RefMlaIdeal.main (F := Ideal))) ⟨m, fun _ => 0, g⟩ (fun r => (∀ c : Dev Cert.RefMlaIdeal.nD,
      r.2.mem ((c.tc : Thread Cert.RefMlaIdeal.nD Cert.RefMlaIdeal.τ).loc Cert.RefMlaIdeal.main_arg0) = m ((c.tc : Thread Cert.RefMlaIdeal.nD Cert.RefMlaIdeal.τ).loc Cert.RefMlaIdeal.main_arg0)
      ∧ r.2.mem ((c.tc : Thread Cert.RefMlaIdeal.nD Cert.RefMlaIdeal.τ).loc Cert.RefMlaIdeal.main_arg1) = m ((c.tc : Thread Cert.RefMlaIdeal.nD Cert.RefMlaIdeal.τ).loc Cert.RefMlaIdeal.main_arg1)
      ∧ r.2.mem ((c.tc : Thread Cert.RefMlaIdeal.nD Cert.RefMlaIdeal.τ).loc Cert.RefMlaIdeal.main_arg2) = m ((c.tc : Thread Cert.RefMlaIdeal.nD Cert.RefMlaIdeal.τ).loc Cert.RefMlaIdeal.main_arg2))
      ∧ r.2.sem = fun _ => 0)

def quiescent_RefMlaIdeal_pre_scores_finite [hRefMlaIdeal : Cert.RefMlaIdeal.Facts] [hPre_scores_finite : Cert.Pre_scores_finite.Facts] : Prop :=
  ∀ (m : (ℓ : Loc Cert.RefMlaIdeal.nD Cert.RefMlaIdeal.τ Cert.RefMlaIdeal.sig) → Buf (Elt Ideal) ℓ) (g : Dev Cert.RefMlaIdeal.nD → PrngReg), Pre_RefMlaIdeal_scores_finite m →
    θ_run (Cert.RefMlaIdeal.defs (F := Ideal)) (onTc (τ := Cert.RefMlaIdeal.τ) (Cert.RefMlaIdeal.main (F := Ideal))) ⟨m, fun _ => 0, g⟩ (fun r => (∀ c : Dev Cert.RefMlaIdeal.nD,
      r.2.mem ((c.tc : Thread Cert.RefMlaIdeal.nD Cert.RefMlaIdeal.τ).loc Cert.RefMlaIdeal.main_arg0) = m ((c.tc : Thread Cert.RefMlaIdeal.nD Cert.RefMlaIdeal.τ).loc Cert.RefMlaIdeal.main_arg0)
      ∧ r.2.mem ((c.tc : Thread Cert.RefMlaIdeal.nD Cert.RefMlaIdeal.τ).loc Cert.RefMlaIdeal.main_arg1) = m ((c.tc : Thread Cert.RefMlaIdeal.nD Cert.RefMlaIdeal.τ).loc Cert.RefMlaIdeal.main_arg1)
      ∧ r.2.mem ((c.tc : Thread Cert.RefMlaIdeal.nD Cert.RefMlaIdeal.τ).loc Cert.RefMlaIdeal.main_arg2) = m ((c.tc : Thread Cert.RefMlaIdeal.nD Cert.RefMlaIdeal.τ).loc Cert.RefMlaIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_RefOutProjIdeal [hRefOutProjIdeal : Cert.RefOutProjIdeal.Facts] : Prop :=
  ∀ (m : (ℓ : Loc Cert.RefOutProjIdeal.nD Cert.RefOutProjIdeal.τ Cert.RefOutProjIdeal.sig) → Buf (Elt Ideal) ℓ) (g : Dev Cert.RefOutProjIdeal.nD → PrngReg), Pre_RefOutProjIdeal m →
    θ_run (Cert.RefOutProjIdeal.defs (F := Ideal)) (onTc (τ := Cert.RefOutProjIdeal.τ) (Cert.RefOutProjIdeal.main (F := Ideal))) ⟨m, fun _ => 0, g⟩ (fun r => (∀ c : Dev Cert.RefOutProjIdeal.nD,
      r.2.mem ((c.tc : Thread Cert.RefOutProjIdeal.nD Cert.RefOutProjIdeal.τ).loc Cert.RefOutProjIdeal.main_arg0) = m ((c.tc : Thread Cert.RefOutProjIdeal.nD Cert.RefOutProjIdeal.τ).loc Cert.RefOutProjIdeal.main_arg0)
      ∧ r.2.mem ((c.tc : Thread Cert.RefOutProjIdeal.nD Cert.RefOutProjIdeal.τ).loc Cert.RefOutProjIdeal.main_arg1) = m ((c.tc : Thread Cert.RefOutProjIdeal.nD Cert.RefOutProjIdeal.τ).loc Cert.RefOutProjIdeal.main_arg1)
      ∧ r.2.mem ((c.tc : Thread Cert.RefOutProjIdeal.nD Cert.RefOutProjIdeal.τ).loc Cert.RefOutProjIdeal.main_arg2) = m ((c.tc : Thread Cert.RefOutProjIdeal.nD Cert.RefOutProjIdeal.τ).loc Cert.RefOutProjIdeal.main_arg2)
      ∧ r.2.mem ((c.tc : Thread Cert.RefOutProjIdeal.nD Cert.RefOutProjIdeal.τ).loc Cert.RefOutProjIdeal.main_arg3) = m ((c.tc : Thread Cert.RefOutProjIdeal.nD Cert.RefOutProjIdeal.τ).loc Cert.RefOutProjIdeal.main_arg3)
      ∧ r.2.mem ((c.tc : Thread Cert.RefOutProjIdeal.nD Cert.RefOutProjIdeal.τ).loc Cert.RefOutProjIdeal.main_arg4) = m ((c.tc : Thread Cert.RefOutProjIdeal.nD Cert.RefOutProjIdeal.τ).loc Cert.RefOutProjIdeal.main_arg4)
      ∧ r.2.mem ((c.tc : Thread Cert.RefOutProjIdeal.nD Cert.RefOutProjIdeal.τ).loc Cert.RefOutProjIdeal.main_arg5) = m ((c.tc : Thread Cert.RefOutProjIdeal.nD Cert.RefOutProjIdeal.τ).loc Cert.RefOutProjIdeal.main_arg5)
      ∧ r.2.mem ((c.tc : Thread Cert.RefOutProjIdeal.nD Cert.RefOutProjIdeal.τ).loc Cert.RefOutProjIdeal.main_arg6) = m ((c.tc : Thread Cert.RefOutProjIdeal.nD Cert.RefOutProjIdeal.τ).loc Cert.RefOutProjIdeal.main_arg6)
      ∧ r.2.mem ((c.tc : Thread Cert.RefOutProjIdeal.nD Cert.RefOutProjIdeal.τ).loc Cert.RefOutProjIdeal.main_arg7) = m ((c.tc : Thread Cert.RefOutProjIdeal.nD Cert.RefOutProjIdeal.τ).loc Cert.RefOutProjIdeal.main_arg7))
      ∧ r.2.sem = fun _ => 0)

def preserves_Kernel_KernelIdeal : Prop :=
  True

def algebraic_KernelIdeal_ReferenceIdeal_pre_gates_in_range [hKernelIdeal : Cert.KernelIdeal.Facts] [hReferenceIdeal : Cert.ReferenceIdeal.Facts] [hPre_gates_in_range : Cert.Pre_gates_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Experts_ExpertsIdeal : Prop :=
  True

def algebraic_ExpertsIdeal_RefExpertsIdeal [hExpertsIdeal : Cert.ExpertsIdeal.Facts] [hRefExpertsIdeal : Cert.RefExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.RefExpertsIdeal.nD Cert.RefExpertsIdeal.τ Cert.RefExpertsIdeal.sig) → Buf (Elt Ideal) ℓ) (g' : Dev Cert.RefExpertsIdeal.nD → PrngReg), Pre_ExpertsIdeal m →
    (∀ c : Dev Cert.ExpertsIdeal.nD,
      m' ((c.tc : Thread Cert.RefExpertsIdeal.nD Cert.RefExpertsIdeal.τ).loc Cert.RefExpertsIdeal.main_arg0) = m ((c.tc : Thread Cert.ExpertsIdeal.nD Cert.ExpertsIdeal.τ).loc Cert.ExpertsIdeal.main_arg0)
      ∧ m' ((c.tc : Thread Cert.RefExpertsIdeal.nD Cert.RefExpertsIdeal.τ).loc Cert.RefExpertsIdeal.main_arg1) = m ((c.tc : Thread Cert.ExpertsIdeal.nD Cert.ExpertsIdeal.τ).loc Cert.ExpertsIdeal.main_arg1)
      ∧ m' ((c.tc : Thread Cert.RefExpertsIdeal.nD Cert.RefExpertsIdeal.τ).loc Cert.RefExpertsIdeal.main_arg2) = m ((c.tc : Thread Cert.ExpertsIdeal.nD Cert.ExpertsIdeal.τ).loc Cert.ExpertsIdeal.main_arg2)
      ∧ m' ((c.tc : Thread Cert.RefExpertsIdeal.nD Cert.RefExpertsIdeal.τ).loc Cert.RefExpertsIdeal.main_arg3) = m ((c.tc : Thread Cert.ExpertsIdeal.nD Cert.ExpertsIdeal.τ).loc Cert.ExpertsIdeal.main_arg3)) →
    ∃ (v0 : (c : Dev Cert.ExpertsIdeal.nD) → Buf (Elt Ideal) ((c.tc : Thread Cert.ExpertsIdeal.nD Cert.ExpertsIdeal.τ).loc Cert.ExpertsIdeal.main_v1)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v1) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.RefExpertsIdeal.defs (F := Ideal)) (onTc (τ := Cert.RefExpertsIdeal.τ) (Cert.RefExpertsIdeal.main (F := Ideal))) ⟨m', fun _ => 0, g'⟩ (fun r => ∀ c : Dev Cert.RefExpertsIdeal.nD,
          r.2.mem ((c.tc : Thread Cert.RefExpertsIdeal.nD Cert.RefExpertsIdeal.τ).loc Cert.RefExpertsIdeal.main_v18) = v0 c
          ∧ r.2.mem ((c.tc : Thread Cert.RefExpertsIdeal.nD Cert.RefExpertsIdeal.τ).loc Cert.RefExpertsIdeal.main_arg0) = m' ((c.tc : Thread Cert.RefExpertsIdeal.nD Cert.RefExpertsIdeal.τ).loc Cert.RefExpertsIdeal.main_arg0)
          ∧ r.2.mem ((c.tc : Thread Cert.RefExpertsIdeal.nD Cert.RefExpertsIdeal.τ).loc Cert.RefExpertsIdeal.main_arg1) = m' ((c.tc : Thread Cert.RefExpertsIdeal.nD Cert.RefExpertsIdeal.τ).loc Cert.RefExpertsIdeal.main_arg1)
          ∧ r.2.mem ((c.tc : Thread Cert.RefExpertsIdeal.nD Cert.RefExpertsIdeal.τ).loc Cert.RefExpertsIdeal.main_arg2) = m' ((c.tc : Thread Cert.RefExpertsIdeal.nD Cert.RefExpertsIdeal.τ).loc Cert.RefExpertsIdeal.main_arg2)
          ∧ r.2.mem ((c.tc : Thread Cert.RefExpertsIdeal.nD Cert.RefExpertsIdeal.τ).loc Cert.RefExpertsIdeal.main_arg3) = m' ((c.tc : Thread Cert.RefExpertsIdeal.nD Cert.RefExpertsIdeal.τ).loc Cert.RefExpertsIdeal.main_arg3))

def preserves_OddIn_OddInIdeal : Prop :=
  True

def algebraic_OddInIdeal_RefOddInIdeal [hOddInIdeal : Cert.OddInIdeal.Facts] [hRefOddInIdeal : Cert.RefOddInIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.RefOddInIdeal.nD Cert.RefOddInIdeal.τ Cert.RefOddInIdeal.sig) → Buf (Elt Ideal) ℓ) (g' : Dev Cert.RefOddInIdeal.nD → PrngReg), Pre_OddInIdeal m →
    (∀ c : Dev Cert.OddInIdeal.nD,
      m' ((c.tc : Thread Cert.RefOddInIdeal.nD Cert.RefOddInIdeal.τ).loc Cert.RefOddInIdeal.main_arg0) = m ((c.tc : Thread Cert.OddInIdeal.nD Cert.OddInIdeal.τ).loc Cert.OddInIdeal.main_arg0)
      ∧ m' ((c.tc : Thread Cert.RefOddInIdeal.nD Cert.RefOddInIdeal.τ).loc Cert.RefOddInIdeal.main_arg1) = m ((c.tc : Thread Cert.OddInIdeal.nD Cert.OddInIdeal.τ).loc Cert.OddInIdeal.main_arg1)
      ∧ m' ((c.tc : Thread Cert.RefOddInIdeal.nD Cert.RefOddInIdeal.τ).loc Cert.RefOddInIdeal.main_arg2) = m ((c.tc : Thread Cert.OddInIdeal.nD Cert.OddInIdeal.τ).loc Cert.OddInIdeal.main_arg2)
      ∧ m' ((c.tc : Thread Cert.RefOddInIdeal.nD Cert.RefOddInIdeal.τ).loc Cert.RefOddInIdeal.main_arg3) = m ((c.tc : Thread Cert.OddInIdeal.nD Cert.OddInIdeal.τ).loc Cert.OddInIdeal.main_arg3)) →
    ∃ (v0 : (c : Dev Cert.OddInIdeal.nD) → Buf (Elt Ideal) ((c.tc : Thread Cert.OddInIdeal.nD Cert.OddInIdeal.τ).loc Cert.OddInIdeal.main_v15)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v15) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3))
      ∧ θ_run (Cert.RefOddInIdeal.defs (F := Ideal)) (onTc (τ := Cert.RefOddInIdeal.τ) (Cert.RefOddInIdeal.main (F := Ideal))) ⟨m', fun _ => 0, g'⟩ (fun r => ∀ c : Dev Cert.RefOddInIdeal.nD,
          r.2.mem ((c.tc : Thread Cert.RefOddInIdeal.nD Cert.RefOddInIdeal.τ).loc Cert.RefOddInIdeal.main_v30) = v0 c
          ∧ r.2.mem ((c.tc : Thread Cert.RefOddInIdeal.nD Cert.RefOddInIdeal.τ).loc Cert.RefOddInIdeal.main_arg0) = m' ((c.tc : Thread Cert.RefOddInIdeal.nD Cert.RefOddInIdeal.τ).loc Cert.RefOddInIdeal.main_arg0)
          ∧ r.2.mem ((c.tc : Thread Cert.RefOddInIdeal.nD Cert.RefOddInIdeal.τ).loc Cert.RefOddInIdeal.main_arg1) = m' ((c.tc : Thread Cert.RefOddInIdeal.nD Cert.RefOddInIdeal.τ).loc Cert.RefOddInIdeal.main_arg1)
          ∧ r.2.mem ((c.tc : Thread Cert.RefOddInIdeal.nD Cert.RefOddInIdeal.τ).loc Cert.RefOddInIdeal.main_arg2) = m' ((c.tc : Thread Cert.RefOddInIdeal.nD Cert.RefOddInIdeal.τ).loc Cert.RefOddInIdeal.main_arg2)
          ∧ r.2.mem ((c.tc : Thread Cert.RefOddInIdeal.nD Cert.RefOddInIdeal.τ).loc Cert.RefOddInIdeal.main_arg3) = m' ((c.tc : Thread Cert.RefOddInIdeal.nD Cert.RefOddInIdeal.τ).loc Cert.RefOddInIdeal.main_arg3))

def preserves_EvenIn_EvenInIdeal : Prop :=
  True

def algebraic_EvenInIdeal_RefEvenInIdeal [hEvenInIdeal : Cert.EvenInIdeal.Facts] [hRefEvenInIdeal : Cert.RefEvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.RefEvenInIdeal.nD Cert.RefEvenInIdeal.τ Cert.RefEvenInIdeal.sig) → Buf (Elt Ideal) ℓ) (g' : Dev Cert.RefEvenInIdeal.nD → PrngReg), Pre_EvenInIdeal m →
    (∀ c : Dev Cert.EvenInIdeal.nD,
      m' ((c.tc : Thread Cert.RefEvenInIdeal.nD Cert.RefEvenInIdeal.τ).loc Cert.RefEvenInIdeal.main_arg0) = m ((c.tc : Thread Cert.EvenInIdeal.nD Cert.EvenInIdeal.τ).loc Cert.EvenInIdeal.main_arg0)
      ∧ m' ((c.tc : Thread Cert.RefEvenInIdeal.nD Cert.RefEvenInIdeal.τ).loc Cert.RefEvenInIdeal.main_arg1) = m ((c.tc : Thread Cert.EvenInIdeal.nD Cert.EvenInIdeal.τ).loc Cert.EvenInIdeal.main_arg1)
      ∧ m' ((c.tc : Thread Cert.RefEvenInIdeal.nD Cert.RefEvenInIdeal.τ).loc Cert.RefEvenInIdeal.main_arg2) = m ((c.tc : Thread Cert.EvenInIdeal.nD Cert.EvenInIdeal.τ).loc Cert.EvenInIdeal.main_arg2)
      ∧ m' ((c.tc : Thread Cert.RefEvenInIdeal.nD Cert.RefEvenInIdeal.τ).loc Cert.RefEvenInIdeal.main_arg3) = m ((c.tc : Thread Cert.EvenInIdeal.nD Cert.EvenInIdeal.τ).loc Cert.EvenInIdeal.main_arg3)) →
    ∃ (v0 : (c : Dev Cert.EvenInIdeal.nD) → Buf (Elt Ideal) ((c.tc : Thread Cert.EvenInIdeal.nD Cert.EvenInIdeal.τ).loc Cert.EvenInIdeal.main_v28)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v28) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3))
      ∧ θ_run (Cert.RefEvenInIdeal.defs (F := Ideal)) (onTc (τ := Cert.RefEvenInIdeal.τ) (Cert.RefEvenInIdeal.main (F := Ideal))) ⟨m', fun _ => 0, g'⟩ (fun r => ∀ c : Dev Cert.RefEvenInIdeal.nD,
          r.2.mem ((c.tc : Thread Cert.RefEvenInIdeal.nD Cert.RefEvenInIdeal.τ).loc Cert.RefEvenInIdeal.main_v43) = v0 c
          ∧ r.2.mem ((c.tc : Thread Cert.RefEvenInIdeal.nD Cert.RefEvenInIdeal.τ).loc Cert.RefEvenInIdeal.main_arg0) = m' ((c.tc : Thread Cert.RefEvenInIdeal.nD Cert.RefEvenInIdeal.τ).loc Cert.RefEvenInIdeal.main_arg0)
          ∧ r.2.mem ((c.tc : Thread Cert.RefEvenInIdeal.nD Cert.RefEvenInIdeal.τ).loc Cert.RefEvenInIdeal.main_arg1) = m' ((c.tc : Thread Cert.RefEvenInIdeal.nD Cert.RefEvenInIdeal.τ).loc Cert.RefEvenInIdeal.main_arg1)
          ∧ r.2.mem ((c.tc : Thread Cert.RefEvenInIdeal.nD Cert.RefEvenInIdeal.τ).loc Cert.RefEvenInIdeal.main_arg2) = m' ((c.tc : Thread Cert.RefEvenInIdeal.nD Cert.RefEvenInIdeal.τ).loc Cert.RefEvenInIdeal.main_arg2)
          ∧ r.2.mem ((c.tc : Thread Cert.RefEvenInIdeal.nD Cert.RefEvenInIdeal.τ).loc Cert.RefEvenInIdeal.main_arg3) = m' ((c.tc : Thread Cert.RefEvenInIdeal.nD Cert.RefEvenInIdeal.τ).loc Cert.RefEvenInIdeal.main_arg3))

def preserves_Mla_MlaIdeal : Prop :=
  True

def algebraic_MlaIdeal_RefMlaIdeal_pre_scores_finite [hMlaIdeal : Cert.MlaIdeal.Facts] [hRefMlaIdeal : Cert.RefMlaIdeal.Facts] [hPre_scores_finite : Cert.Pre_scores_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.RefMlaIdeal.nD Cert.RefMlaIdeal.τ Cert.RefMlaIdeal.sig) → Buf (Elt Ideal) ℓ) (g' : Dev Cert.RefMlaIdeal.nD → PrngReg), Pre_MlaIdeal_scores_finite m →
    (∀ c : Dev Cert.MlaIdeal.nD,
      m' ((c.tc : Thread Cert.RefMlaIdeal.nD Cert.RefMlaIdeal.τ).loc Cert.RefMlaIdeal.main_arg0) = m ((c.tc : Thread Cert.MlaIdeal.nD Cert.MlaIdeal.τ).loc Cert.MlaIdeal.main_arg0)
      ∧ m' ((c.tc : Thread Cert.RefMlaIdeal.nD Cert.RefMlaIdeal.τ).loc Cert.RefMlaIdeal.main_arg1) = m ((c.tc : Thread Cert.MlaIdeal.nD Cert.MlaIdeal.τ).loc Cert.MlaIdeal.main_arg1)
      ∧ m' ((c.tc : Thread Cert.RefMlaIdeal.nD Cert.RefMlaIdeal.τ).loc Cert.RefMlaIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.RefMlaIdeal.defs (F := Ideal)) (onTc (τ := Cert.RefMlaIdeal.τ) (Cert.RefMlaIdeal.main (F := Ideal))) ⟨m', fun _ => 0, g'⟩ (fun r => ∀ c : Dev Cert.RefMlaIdeal.nD,
          r.2.mem ((c.tc : Thread Cert.RefMlaIdeal.nD Cert.RefMlaIdeal.τ).loc Cert.RefMlaIdeal.main_v44) = v0 c
          ∧ r.2.mem ((c.tc : Thread Cert.RefMlaIdeal.nD Cert.RefMlaIdeal.τ).loc Cert.RefMlaIdeal.main_arg0) = m' ((c.tc : Thread Cert.RefMlaIdeal.nD Cert.RefMlaIdeal.τ).loc Cert.RefMlaIdeal.main_arg0)
          ∧ r.2.mem ((c.tc : Thread Cert.RefMlaIdeal.nD Cert.RefMlaIdeal.τ).loc Cert.RefMlaIdeal.main_arg1) = m' ((c.tc : Thread Cert.RefMlaIdeal.nD Cert.RefMlaIdeal.τ).loc Cert.RefMlaIdeal.main_arg1)
          ∧ r.2.mem ((c.tc : Thread Cert.RefMlaIdeal.nD Cert.RefMlaIdeal.τ).loc Cert.RefMlaIdeal.main_arg2) = m' ((c.tc : Thread Cert.RefMlaIdeal.nD Cert.RefMlaIdeal.τ).loc Cert.RefMlaIdeal.main_arg2))

def preserves_OutProj_OutProjIdeal : Prop :=
  True

def algebraic_OutProjIdeal_RefOutProjIdeal [hOutProjIdeal : Cert.OutProjIdeal.Facts] [hRefOutProjIdeal : Cert.RefOutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.RefOutProjIdeal.nD Cert.RefOutProjIdeal.τ Cert.RefOutProjIdeal.sig) → Buf (Elt Ideal) ℓ) (g' : Dev Cert.RefOutProjIdeal.nD → PrngReg), Pre_OutProjIdeal m →
    (∀ c : Dev Cert.OutProjIdeal.nD,
      m' ((c.tc : Thread Cert.RefOutProjIdeal.nD Cert.RefOutProjIdeal.τ).loc Cert.RefOutProjIdeal.main_arg0) = m ((c.tc : Thread Cert.OutProjIdeal.nD Cert.OutProjIdeal.τ).loc Cert.OutProjIdeal.main_arg0)
      ∧ m' ((c.tc : Thread Cert.RefOutProjIdeal.nD Cert.RefOutProjIdeal.τ).loc Cert.RefOutProjIdeal.main_arg1) = m ((c.tc : Thread Cert.OutProjIdeal.nD Cert.OutProjIdeal.τ).loc Cert.OutProjIdeal.main_arg1)
      ∧ m' ((c.tc : Thread Cert.RefOutProjIdeal.nD Cert.RefOutProjIdeal.τ).loc Cert.RefOutProjIdeal.main_arg2) = m ((c.tc : Thread Cert.OutProjIdeal.nD Cert.OutProjIdeal.τ).loc Cert.OutProjIdeal.main_arg2)
      ∧ m' ((c.tc : Thread Cert.RefOutProjIdeal.nD Cert.RefOutProjIdeal.τ).loc Cert.RefOutProjIdeal.main_arg3) = m ((c.tc : Thread Cert.OutProjIdeal.nD Cert.OutProjIdeal.τ).loc Cert.OutProjIdeal.main_arg3)
      ∧ m' ((c.tc : Thread Cert.RefOutProjIdeal.nD Cert.RefOutProjIdeal.τ).loc Cert.RefOutProjIdeal.main_arg4) = m ((c.tc : Thread Cert.OutProjIdeal.nD Cert.OutProjIdeal.τ).loc Cert.OutProjIdeal.main_arg4)
      ∧ m' ((c.tc : Thread Cert.RefOutProjIdeal.nD Cert.RefOutProjIdeal.τ).loc Cert.RefOutProjIdeal.main_arg5) = m ((c.tc : Thread Cert.OutProjIdeal.nD Cert.OutProjIdeal.τ).loc Cert.OutProjIdeal.main_arg5)
      ∧ m' ((c.tc : Thread Cert.RefOutProjIdeal.nD Cert.RefOutProjIdeal.τ).loc Cert.RefOutProjIdeal.main_arg6) = m ((c.tc : Thread Cert.OutProjIdeal.nD Cert.OutProjIdeal.τ).loc Cert.OutProjIdeal.main_arg6)
      ∧ m' ((c.tc : Thread Cert.RefOutProjIdeal.nD Cert.RefOutProjIdeal.τ).loc Cert.RefOutProjIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v21_0)) (v1 : (c : Dev Cert.OutProjIdeal.nD) → Buf (Elt Ideal) ((c.tc : Thread Cert.OutProjIdeal.nD Cert.OutProjIdeal.τ).loc Cert.OutProjIdeal.main_v21_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v21_0) = v0 c
          ∧ r.2.mem ((c.tc : Thread Cert.OutProjIdeal.nD Cert.OutProjIdeal.τ).loc Cert.OutProjIdeal.main_v21_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.RefOutProjIdeal.defs (F := Ideal)) (onTc (τ := Cert.RefOutProjIdeal.τ) (Cert.RefOutProjIdeal.main (F := Ideal))) ⟨m', fun _ => 0, g'⟩ (fun r => ∀ c : Dev Cert.RefOutProjIdeal.nD,
          r.2.mem ((c.tc : Thread Cert.RefOutProjIdeal.nD Cert.RefOutProjIdeal.τ).loc Cert.RefOutProjIdeal.main_v58) = v0 c
          ∧ r.2.mem ((c.tc : Thread Cert.RefOutProjIdeal.nD Cert.RefOutProjIdeal.τ).loc Cert.RefOutProjIdeal.main_v59) = v1 c
          ∧ r.2.mem ((c.tc : Thread Cert.RefOutProjIdeal.nD Cert.RefOutProjIdeal.τ).loc Cert.RefOutProjIdeal.main_arg0) = m' ((c.tc : Thread Cert.RefOutProjIdeal.nD Cert.RefOutProjIdeal.τ).loc Cert.RefOutProjIdeal.main_arg0)
          ∧ r.2.mem ((c.tc : Thread Cert.RefOutProjIdeal.nD Cert.RefOutProjIdeal.τ).loc Cert.RefOutProjIdeal.main_arg1) = m' ((c.tc : Thread Cert.RefOutProjIdeal.nD Cert.RefOutProjIdeal.τ).loc Cert.RefOutProjIdeal.main_arg1)
          ∧ r.2.mem ((c.tc : Thread Cert.RefOutProjIdeal.nD Cert.RefOutProjIdeal.τ).loc Cert.RefOutProjIdeal.main_arg2) = m' ((c.tc : Thread Cert.RefOutProjIdeal.nD Cert.RefOutProjIdeal.τ).loc Cert.RefOutProjIdeal.main_arg2)
          ∧ r.2.mem ((c.tc : Thread Cert.RefOutProjIdeal.nD Cert.RefOutProjIdeal.τ).loc Cert.RefOutProjIdeal.main_arg3) = m' ((c.tc : Thread Cert.RefOutProjIdeal.nD Cert.RefOutProjIdeal.τ).loc Cert.RefOutProjIdeal.main_arg3)
          ∧ r.2.mem ((c.tc : Thread Cert.RefOutProjIdeal.nD Cert.RefOutProjIdeal.τ).loc Cert.RefOutProjIdeal.main_arg4) = m' ((c.tc : Thread Cert.RefOutProjIdeal.nD Cert.RefOutProjIdeal.τ).loc Cert.RefOutProjIdeal.main_arg4)
          ∧ r.2.mem ((c.tc : Thread Cert.RefOutProjIdeal.nD Cert.RefOutProjIdeal.τ).loc Cert.RefOutProjIdeal.main_arg5) = m' ((c.tc : Thread Cert.RefOutProjIdeal.nD Cert.RefOutProjIdeal.τ).loc Cert.RefOutProjIdeal.main_arg5)
          ∧ r.2.mem ((c.tc : Thread Cert.RefOutProjIdeal.nD Cert.RefOutProjIdeal.τ).loc Cert.RefOutProjIdeal.main_arg6) = m' ((c.tc : Thread Cert.RefOutProjIdeal.nD Cert.RefOutProjIdeal.τ).loc Cert.RefOutProjIdeal.main_arg6)
          ∧ r.2.mem ((c.tc : Thread Cert.RefOutProjIdeal.nD Cert.RefOutProjIdeal.τ).loc Cert.RefOutProjIdeal.main_arg7) = m' ((c.tc : Thread Cert.RefOutProjIdeal.nD Cert.RefOutProjIdeal.τ).loc Cert.RefOutProjIdeal.main_arg7))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hRefExpertsIdeal : Cert.RefExpertsIdeal.Facts) (hOddIn : Cert.OddIn.Facts) (hOddInIdeal : Cert.OddInIdeal.Facts) (hRefOddInIdeal : Cert.RefOddInIdeal.Facts) (hEvenIn : Cert.EvenIn.Facts) (hEvenInIdeal : Cert.EvenInIdeal.Facts) (hRefEvenInIdeal : Cert.RefEvenInIdeal.Facts) (hMla : Cert.Mla.Facts) (hMlaIdeal : Cert.MlaIdeal.Facts) (hRefMlaIdeal : Cert.RefMlaIdeal.Facts) (hOutProj : Cert.OutProj.Facts) (hOutProjIdeal : Cert.OutProjIdeal.Facts) (hRefOutProjIdeal : Cert.RefOutProjIdeal.Facts) (hPre_gates_in_range : Cert.Pre_gates_in_range.Facts) (hPre_scores_finite : Cert.Pre_scores_finite.Facts),
    quiescent_Kernel (hKernel := hKernel)
    ∧ quiescent_KernelIdeal (hKernelIdeal := hKernelIdeal)
    ∧ quiescent_KernelIdeal_pre_gates_in_range (hKernelIdeal := hKernelIdeal) (hPre_gates_in_range := hPre_gates_in_range)
    ∧ quiescent_ReferenceIdeal (hReferenceIdeal := hReferenceIdeal)
    ∧ quiescent_ReferenceIdeal_pre_gates_in_range (hReferenceIdeal := hReferenceIdeal) (hPre_gates_in_range := hPre_gates_in_range)
    ∧ quiescent_Experts (hExperts := hExperts)
    ∧ quiescent_ExpertsIdeal (hExpertsIdeal := hExpertsIdeal)
    ∧ quiescent_RefExpertsIdeal (hRefExpertsIdeal := hRefExpertsIdeal)
    ∧ quiescent_OddIn (hOddIn := hOddIn)
    ∧ quiescent_OddInIdeal (hOddInIdeal := hOddInIdeal)
    ∧ quiescent_RefOddInIdeal (hRefOddInIdeal := hRefOddInIdeal)
    ∧ quiescent_EvenIn (hEvenIn := hEvenIn)
    ∧ quiescent_EvenInIdeal (hEvenInIdeal := hEvenInIdeal)
    ∧ quiescent_RefEvenInIdeal (hRefEvenInIdeal := hRefEvenInIdeal)
    ∧ quiescent_Mla (hMla := hMla)
    ∧ quiescent_MlaIdeal (hMlaIdeal := hMlaIdeal)
    ∧ quiescent_MlaIdeal_pre_scores_finite (hMlaIdeal := hMlaIdeal) (hPre_scores_finite := hPre_scores_finite)
    ∧ quiescent_RefMlaIdeal (hRefMlaIdeal := hRefMlaIdeal)
    ∧ quiescent_RefMlaIdeal_pre_scores_finite (hRefMlaIdeal := hRefMlaIdeal) (hPre_scores_finite := hPre_scores_finite)
    ∧ quiescent_OutProj (hOutProj := hOutProj)
    ∧ quiescent_OutProjIdeal (hOutProjIdeal := hOutProjIdeal)
    ∧ quiescent_RefOutProjIdeal (hRefOutProjIdeal := hRefOutProjIdeal)
    ∧ preserves_Kernel_KernelIdeal
    ∧ algebraic_KernelIdeal_ReferenceIdeal_pre_gates_in_range (hKernelIdeal := hKernelIdeal) (hReferenceIdeal := hReferenceIdeal) (hPre_gates_in_range := hPre_gates_in_range)
    ∧ preserves_Experts_ExpertsIdeal
    ∧ algebraic_ExpertsIdeal_RefExpertsIdeal (hExpertsIdeal := hExpertsIdeal) (hRefExpertsIdeal := hRefExpertsIdeal)
    ∧ preserves_OddIn_OddInIdeal
    ∧ algebraic_OddInIdeal_RefOddInIdeal (hOddInIdeal := hOddInIdeal) (hRefOddInIdeal := hRefOddInIdeal)
    ∧ preserves_EvenIn_EvenInIdeal
    ∧ algebraic_EvenInIdeal_RefEvenInIdeal (hEvenInIdeal := hEvenInIdeal) (hRefEvenInIdeal := hRefEvenInIdeal)
    ∧ preserves_Mla_MlaIdeal
    ∧ algebraic_MlaIdeal_RefMlaIdeal_pre_scores_finite (hMlaIdeal := hMlaIdeal) (hRefMlaIdeal := hRefMlaIdeal) (hPre_scores_finite := hPre_scores_finite)
    ∧ preserves_OutProj_OutProjIdeal
    ∧ algebraic_OutProjIdeal_RefOutProjIdeal (hOutProjIdeal := hOutProjIdeal) (hRefOutProjIdeal := hRefOutProjIdeal)
-- ==== Pre_gates_in_range.lean ====
abbrev S8x2304x4096 : Shape := ⟨3, ![8, 2304, 4096]⟩
abbrev S2x512 : Shape := ⟨2, ![2, 512]⟩
abbrev S128 : Shape := ⟨1, ![128]⟩
abbrev S_ : Shape := ⟨0, ![]⟩
abbrev S8x2304x1024 : Shape := ⟨3, ![8, 2304, 1024]⟩

class Facts : Prop where
  bcast_S_S2x512 : S_.BroadcastsInDim S2x512 (![] : Fin 0 → Fin S2x512.rank)
  reducesTo_S2x512_S_d0_1 : S2x512.ReducesTo [0, 1] S_
  h_S_ : 0 < S_.numel
  slices_S8x2304x4096_S8x2304x1024_0_0_2048 : S8x2304x4096.Slices ![0, 0, 2048] S8x2304x1024
  bcast_S_S8x2304x1024 : S_.BroadcastsInDim S8x2304x1024 (![] : Fin 0 → Fin S8x2304x1024.rank)
  reducesTo_S8x2304x1024_S_d0_1_2 : S8x2304x1024.ReducesTo [0, 1, 2] S_

variable [Facts]

def fn {F : FTy → Type} [FloatOps F] (main_arg0 : FVec F S8x2304x4096 .f32) (main_arg1 : FVec F S2x512 .f32) (main_arg2 : FVec F S128 .f32) : IVec S_ 1 :=
  let main_cst : FVec F S_ .f32 := constant S_ .f32 0x00000000#32
  let main_v0 : FVec F S2x512 .f32 := broadcastInDim S2x512 ![] bcast_S_S2x512 main_cst
  let main_v1 : IVec S2x512 1 := cmpf .oge main_arg1 main_v0
  let main_cst_0 : FVec F S_ .f32 := constant S_ .f32 0x3F800000#32
  let main_v2 : FVec F S2x512 .f32 := broadcastInDim S2x512 ![] bcast_S_S2x512 main_cst_0
  let main_v3 : IVec S2x512 1 := cmpf .ole main_arg1 main_v2
  let main_v4 : IVec S2x512 1 := andi main_v1 main_v3
  let main_c : IVec S_ 1 := constantI S_ 1 1#1
  let main_v5 : IVec S_ 1 := (fun x v => Host.reduce IntOp.andi x v reducesTo_S2x512_S_d0_1 h_S_) main_v4 main_c
  let main_v6 : FVec F S8x2304x1024 .f32 := (extractStridedSlice S8x2304x1024 ![0, 0, 2048] · slices_S8x2304x4096_S8x2304x1024_0_0_2048) main_arg0
  let main_cst_1 : FVec F S_ .f32 := constant S_ .f32 0xFF800000#32
  let main_v7 : FVec F S8x2304x1024 .f32 := broadcastInDim S8x2304x1024 ![] bcast_S_S8x2304x1024 main_cst_1
  let main_v8 : IVec S8x2304x1024 1 := cmpf .ogt main_v6 main_v7
  let main_c_2 : IVec S_ 1 := constantI S_ 1 1#1
  let main_v9 : IVec S_ 1 := (fun x v => Host.reduce IntOp.andi x v reducesTo_S8x2304x1024_S_d0_1_2 h_S_) main_v8 main_c_2
  let main_v10 : IVec S_ 1 := andi main_v5 main_v9
  main_v10
-- ==== Pre_scores_finite.lean ====
abbrev S8x2304x1024 : Shape := ⟨3, ![8, 2304, 1024]⟩
abbrev S8x2304x512 : Shape := ⟨3, ![8, 2304, 512]⟩
abbrev S_ : Shape := ⟨0, ![]⟩

class Facts : Prop where
  bcast_S_S8x2304x1024 : S_.BroadcastsInDim S8x2304x1024 (![] : Fin 0 → Fin S8x2304x1024.rank)
  reducesTo_S8x2304x1024_S_d0_1_2 : S8x2304x1024.ReducesTo [0, 1, 2] S_
  h_S_ : 0 < S_.numel

variable [Facts]

def fn {F : FTy → Type} [FloatOps F] (main_arg0 : FVec F S8x2304x1024 .bf16) (main_arg1 : FVec F S8x2304x1024 .bf16) (main_arg2 : FVec F S8x2304x512 .bf16) : IVec S_ 1 :=
  let main_cst : FVec F S_ .bf16 := constant S_ .bf16 0xFF80#16
  let main_v0 : FVec F S8x2304x1024 .bf16 := broadcastInDim S8x2304x1024 ![] bcast_S_S8x2304x1024 main_cst
  let main_v1 : IVec S8x2304x1024 1 := cmpf .ogt main_arg0 main_v0
  let main_cst_0 : FVec F S_ .bf16 := constant S_ .bf16 0x7F80#16
  let main_v2 : FVec F S8x2304x1024 .bf16 := broadcastInDim S8x2304x1024 ![] bcast_S_S8x2304x1024 main_cst_0
  let main_v3 : IVec S8x2304x1024 1 := cmpf .olt main_arg0 main_v2
  let main_v4 : IVec S8x2304x1024 1 := andi main_v1 main_v3
  let main_c : IVec S_ 1 := constantI S_ 1 1#1
  let main_v5 : IVec S_ 1 := (fun x v => Host.reduce IntOp.andi x v reducesTo_S8x2304x1024_S_d0_1_2 h_S_) main_v4 main_c
  let main_cst_1 : FVec F S_ .bf16 := constant S_ .bf16 0xFF80#16
  let main_v6 : FVec F S8x2304x1024 .bf16 := broadcastInDim S8x2304x1024 ![] bcast_S_S8x2304x1024 main_cst_1
  let main_v7 : IVec S8x2304x1024 1 := cmpf .ogt main_arg1 main_v6
  let main_cst_2 : FVec F S_ .bf16 := constant S_ .bf16 0x7F80#16
  let main_v8 : FVec F S8x2304x1024 .bf16 := broadcastInDim S8x2304x1024 ![] bcast_S_S8x2304x1024 main_cst_2
  let main_v9 : IVec S8x2304x1024 1 := cmpf .olt main_arg1 main_v8
  let main_v10 : IVec S8x2304x1024 1 := andi main_v7 main_v9
  let main_c_3 : IVec S_ 1 := constantI S_ 1 1#1
  let main_v11 : IVec S_ 1 := (fun x v => Host.reduce IntOp.andi x v reducesTo_S8x2304x1024_S_d0_1_2 h_S_) main_v10 main_c_3
  let main_v12 : IVec S_ 1 := andi main_v5 main_v11
  main_v12
-- ==== Kernel.lean ====
abbrev S8x2304x4096 : Shape := ⟨3, ![8, 2304, 4096]⟩
abbrev S2x512 : Shape := ⟨2, ![2, 512]⟩
abbrev S128 : Shape := ⟨1, ![128]⟩
abbrev S_ : Shape := ⟨0, ![]⟩
abbrev S1x128 : Shape := ⟨2, ![1, 128]⟩
abbrev S8x2304x512 : Shape := ⟨3, ![8, 2304, 512]⟩
abbrev S1x2304x128 : Shape := ⟨3, ![1, 2304, 128]⟩
abbrev S2x128 : Shape := ⟨2, ![2, 128]⟩
abbrev S2x2304x128 : Shape := ⟨3, ![2, 2304, 128]⟩
abbrev S72x128x128 : Shape := ⟨3, ![72, 128, 128]⟩
abbrev S72x8x128 : Shape := ⟨3, ![72, 8, 128]⟩
abbrev S2304x128 : Shape := ⟨2, ![2304, 128]⟩
abbrev S64x64 : Shape := ⟨2, ![64, 64]⟩
abbrev S64x128 : Shape := ⟨2, ![64, 128]⟩
abbrev S1x64x128 : Shape := ⟨3, ![1, 64, 128]⟩
abbrev S128x64 : Shape := ⟨2, ![128, 64]⟩
abbrev S64 : Shape := ⟨1, ![64]⟩
abbrev S64x1 : Shape := ⟨2, ![64, 1]⟩
abbrev S1x1x128 : Shape := ⟨3, ![1, 1, 128]⟩
abbrev S2x32x128 : Shape := ⟨3, ![2, 32, 128]⟩
abbrev S2x1x128 : Shape := ⟨3, ![2, 1, 128]⟩
abbrev S4x16x128 : Shape := ⟨3, ![4, 16, 128]⟩
abbrev S4x1x128 : Shape := ⟨3, ![4, 1, 128]⟩
abbrev S8x8x128 : Shape := ⟨3, ![8, 8, 128]⟩
abbrev S8x1x128 : Shape := ⟨3, ![8, 1, 128]⟩
abbrev S128x128 : Shape := ⟨2, ![128, 128]⟩
abbrev S1x128x128 : Shape := ⟨3, ![1, 128, 128]⟩
abbrev S8x128 : Shape := ⟨2, ![8, 128]⟩
abbrev S1x8x128 : Shape := ⟨3, ![1, 8, 128]⟩
abbrev S2304 : Shape := ⟨1, ![2304]⟩
abbrev S2304x1 : Shape := ⟨2, ![2304, 1]⟩

abbrev nBuf : Space → Nat
  | .hbm => 11
  | .vmem => 25
  | .smem => 0
  | _ => 0

abbrev bufTy : (tb : Table) → Fin (tcTables nBuf tb) → BufTy
  | .hbm, ⟨0, _⟩ => ⟨S8x2304x4096, .f32⟩
  | .hbm, ⟨1, _⟩ => ⟨S2x512, .f32⟩
  | .hbm, ⟨2, _⟩ => ⟨S128, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S_, .f32⟩
  | .hbm, ⟨7, _⟩ => ⟨S2x512, .f32⟩
  | .hbm, ⟨8, _⟩ => ⟨S2x512, .f32⟩
  | .hbm, ⟨9, _⟩ => ⟨S1x128, .f32⟩
  | .hbm, ⟨10, _⟩ => ⟨S8x2304x512, .bf16⟩
  | .local _ .vmem, ⟨0, _⟩ => ⟨S1x2304x128, .f32⟩
  | .local _ .vmem, ⟨1, _⟩ => ⟨S1x2304x128, .f32⟩
  | .local _ .vmem, ⟨2, _⟩ => ⟨S1x2304x128, .f32⟩
  | .local _ .vmem, ⟨3, _⟩ => ⟨S1x2304x128, .f32⟩
  | .local _ .vmem, ⟨4, _⟩ => ⟨S1x2304x128, .f32⟩
  | .local _ .vmem, ⟨5, _⟩ => ⟨S1x2304x128, .f32⟩
  | .local _ .vmem, ⟨6, _⟩ => ⟨S1x2304x128, .f32⟩
  | .local _ .vmem, ⟨7, _⟩ => ⟨S1x2304x128, .f32⟩
  | .local _ .vmem, ⟨8, _⟩ => ⟨S1x2304x128, .f32⟩
  | .local _ .vmem, ⟨9, _⟩ => ⟨S1x2304x128, .f32⟩
  | .local _ .vmem, ⟨10, _⟩ => ⟨S2x128, .f32⟩
  | .local _ .vmem, ⟨11, _⟩ => ⟨S2x128, .f32⟩
  | .local _ .vmem, ⟨12, _⟩ => ⟨S2x128, .f32⟩
  | .local _ .vmem, ⟨13, _⟩ => ⟨S2x128, .f32⟩
  | .local _ .vmem, ⟨14, _⟩ => ⟨S2x128, .f32⟩
  | .local _ .vmem, ⟨15, _⟩ => ⟨S2x128, .f32⟩
  | .local _ .vmem, ⟨16, _⟩ => ⟨S1x128, .f32⟩
  | .local _ .vmem, ⟨17, _⟩ => ⟨S1x2304x128, .bf16⟩
  | .local _ .vmem, ⟨18, _⟩ => ⟨S1x2304x128, .bf16⟩
  | .local _ .vmem, ⟨19, _⟩ => ⟨S2x2304x128, .bf16⟩
  | .local _ .vmem, ⟨20, _⟩ => ⟨S72x128x128, .f32⟩
  | .local _ .vmem, ⟨21, _⟩ => ⟨S2x2304x128, .f32⟩
  | .local _ .vmem, ⟨22, _⟩ => ⟨S72x8x128, .f32⟩
  | .local _ .vmem, ⟨23, _⟩ => ⟨S2304x128, .f32⟩
  | .local _ .vmem, ⟨24, _⟩ => ⟨S2304x128, .f32⟩
  | _, _ => ⟨S8x2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c36_i32 : BitVec 32 := 36#32
  let v14 : BitVec 32 := Scalar.addi c0_i32 c36_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c64_i32 : BitVec 32 := 64#32
  let v44 : BitVec 32 := Scalar.muli arg18 c64_i32
  v44
def k0_off1 (k0_t1 : Fin k0_t1_loop.trips) : Fin 3 → Nat :=
  let c0_20 : Index := 0#32
  let c0_i32 : BitVec 32 := 0#32
  let c1_i32 : BitVec 32 := 1#32
  let arg18 : BitVec 32 := Scf.iv c0_i32 c1_i32 k0_t1
  let c64_i32 : BitVec 32 := 64#32
  let v44 : BitVec 32 := Scalar.muli arg18 c64_i32
  let v45 : BitVec 32 := v44
  let v46 : Index := Scalar.indexCast v45
  let c0_21 : Index := 0#32
  ![0, v46.toNat, 0]
def k0_off2 (k0_t1 : Fin k0_t1_loop.trips) : Fin 3 → Nat :=
  let c0_78 : Index := 0#32
  let c0_i32 : BitVec 32 := 0#32
  let c1_i32 : BitVec 32 := 1#32
  let arg18 : BitVec 32 := Scf.iv c0_i32 c1_i32 k0_t1
  let c64_i32 : BitVec 32 := 64#32
  let v44 : BitVec 32 := Scalar.muli arg18 c64_i32
  let v45 : BitVec 32 := v44
  let v262 : Index := Scalar.indexCast v45
  let c0_79 : Index := 0#32
  ![0, v262.toNat, 0]
def k0_off3 (k0_t1 : Fin k0_t1_loop.trips) (c0_i32_83 : BitVec 32) : Fin 3 → Nat :=
  let c0_i32 : BitVec 32 := 0#32
  let c1_i32 : BitVec 32 := 1#32
  let arg18 : BitVec 32 := Scf.iv c0_i32 c1_i32 k0_t1
  let v280 : BitVec 32 := Scalar.addi c0_i32_83 arg18
  let v281 : Index := Scalar.indexCast v280
  let c0_84 : Index := 0#32
  let c0_85 : Index := 0#32
  ![v281.toNat, 0, 0]
def k0_off4 (k0_t1 : Fin k0_t1_loop.trips) (c0_i32_86 : BitVec 32) : Fin 3 → Nat :=
  let c0_i32 : BitVec 32 := 0#32
  let c1_i32 : BitVec 32 := 1#32
  let arg18 : BitVec 32 := Scf.iv c0_i32 c1_i32 k0_t1
  let v288 : BitVec 32 := Scalar.addi c0_i32_86 arg18
  let v289 : Index := Scalar.indexCast v288
  let c0_87 : Index := 0#32
  let c0_88 : Index := 0#32
  ![v289.toNat, 0, 0]
def k0_off5 (k0_t1 : Fin k0_t1_loop.trips) : Fin 3 → Nat :=
  let c1_148 : Index := 1#32
  let c0_i32 : BitVec 32 := 0#32
  let c1_i32 : BitVec 32 := 1#32
  let arg18 : BitVec 32 := Scf.iv c0_i32 c1_i32 k0_t1
  let c64_i32 : BitVec 32 := 64#32
  let v44 : BitVec 32 := Scalar.muli arg18 c64_i32
  let v45 : BitVec 32 := v44
  let v500 : Index := Scalar.indexCast v45
  let c0_149 : Index := 0#32
  ![1, v500.toNat, 0]
@[reducible] def k0_t2_loop : Scf.Loop 32 :=
  let c0_i32_2 : BitVec 32 := 0#32
  let c36_i32_3 : BitVec 32 := 36#32
  let v16 : BitVec 32 := Scalar.addi c0_i32_2 c36_i32_3
  let c1_i32_4 : BitVec 32 := 1#32
  ⟨c0_i32_2, v16, c1_i32_4⟩
def k0_mult2 (k0_t2 : Fin k0_t2_loop.trips) : BitVec 32 :=
  let c0_i32_2 : BitVec 32 := 0#32
  let c1_i32_4 : BitVec 32 := 1#32
  let arg18 : BitVec 32 := Scf.iv c0_i32_2 c1_i32_4 k0_t2
  let c64_i32 : BitVec 32 := 64#32
  let v44 : BitVec 32 := Scalar.muli arg18 c64_i32
  v44
def k0_off6 (k0_t2 : Fin k0_t2_loop.trips) : Fin 3 → Nat :=
  let c0_20 : Index := 0#32
  let c0_i32_2 : BitVec 32 := 0#32
  let c1_i32_4 : BitVec 32 := 1#32
  let arg18 : BitVec 32 := Scf.iv c0_i32_2 c1_i32_4 k0_t2
  let c64_i32 : BitVec 32 := 64#32
  let v44 : BitVec 32 := Scalar.muli arg18 c64_i32
  let v45 : BitVec 32 := v44
  let v46 : Index := Scalar.indexCast v45
  let c0_21 : Index := 0#32
  ![0, v46.toNat, 0]
def k0_off7 (k0_t2 : Fin k0_t2_loop.trips) : Fin 3 → Nat :=
  let c0_i32_25 : BitVec 32 := 0#32
  let c0_i32_2 : BitVec 32 := 0#32
  let c1_i32_4 : BitVec 32 := 1#32
  let arg18 : BitVec 32 := Scf.iv c0_i32_2 c1_i32_4 k0_t2
  let v55 : BitVec 32 := Scalar.addi c0_i32_25 arg18
  let v56 : Index := Scalar.indexCast v55
  let c0_26 : Index := 0#32
  let c0_27 : Index := 0#32
  ![v56.toNat, 0, 0]
def k0_off8 (k0_t2 : Fin k0_t2_loop.trips) : Fin 3 → Nat :=
  let c0_i32_28 : BitVec 32 := 0#32
  let c0_i32_2 : BitVec 32 := 0#32
  let c1_i32_4 : BitVec 32 := 1#32
  let arg18 : BitVec 32 := Scf.iv c0_i32_2 c1_i32_4 k0_t2
  let v62 : BitVec 32 := Scalar.addi c0_i32_28 arg18
  let v63 : Index := Scalar.indexCast v62
  let c0_29 : Index := 0#32
  let c0_30 : Index := 0#32
  ![v63.toNat, 0, 0]
def k0_mult3 (k0_t2 : Fin k0_t2_loop.trips) : BitVec 32 :=
  let c0_i32_2 : BitVec 32 := 0#32
  let c1_i32_4 : BitVec 32 := 1#32
  let arg18 : BitVec 32 := Scf.iv c0_i32_2 c1_i32_4 k0_t2
  let c4_i32 : BitVec 32 := 4#32
  let v67 : BitVec 1 := Scalar.cmpi .slt arg18 c4_i32
  let c3_i32 : BitVec 32 := 3#32
  let v68 : BitVec 32 := Scalar.subi c3_i32 arg18
  let c35_i32 : BitVec 32 := 35#32
  let c4_i32_31 : BitVec 32 := 4#32
  let v69 : BitVec 32 := Scalar.subi arg18 c4_i32_31
  let v70 : BitVec 32 := Scalar.subi c35_i32 v69
  let v71 : BitVec 32 := Scalar.select v67 v68 v70
  let c64_i32_32 : BitVec 32 := 64#32
  let v72 : BitVec 32 := Scalar.muli v71 c64_i32_32
  v72
def k0_off9 (k0_t2 : Fin k0_t2_loop.trips) : Fin 3 → Nat :=
  let c1 : Index := 1#32
  let c0_i32_2 : BitVec 32 := 0#32
  let c1_i32_4 : BitVec 32 := 1#32
  let arg18 : BitVec 32 := Scf.iv c0_i32_2 c1_i32_4 k0_t2
  let c4_i32 : BitVec 32 := 4#32
  let v67 : BitVec 1 := Scalar.cmpi .slt arg18 c4_i32
  let c3_i32 : BitVec 32 := 3#32
  let v68 : BitVec 32 := Scalar.subi c3_i32 arg18
  let c35_i32 : BitVec 32 := 35#32
  let c4_i32_31 : BitVec 32 := 4#32
  let v69 : BitVec 32 := Scalar.subi arg18 c4_i32_31
  let v70 : BitVec 32 := Scalar.subi c35_i32 v69
  let v71 : BitVec 32 := Scalar.select v67 v68 v70
  let c64_i32_32 : BitVec 32 := 64#32
  let v72 : BitVec 32 := Scalar.muli v71 c64_i32_32
  let v73 : BitVec 32 := v72
  let v74 : Index := Scalar.indexCast v73
  let c0_33 : Index := 0#32
  ![1, v74.toNat, 0]
def k0_off10 (k0_t2 : Fin k0_t2_loop.trips) : Fin 3 → Nat :=
  let c36_i32_37 : BitVec 32 := 36#32
  let c0_i32_2 : BitVec 32 := 0#32
  let c1_i32_4 : BitVec 32 := 1#32
  let arg18 : BitVec 32 := Scf.iv c0_i32_2 c1_i32_4 k0_t2
  let c4_i32 : BitVec 32 := 4#32
  let v67 : BitVec 1 := Scalar.cmpi .slt arg18 c4_i32
  let c3_i32 : BitVec 32 := 3#32
  let v68 : BitVec 32 := Scalar.subi c3_i32 arg18
  let c35_i32 : BitVec 32 := 35#32
  let c4_i32_31 : BitVec 32 := 4#32
  let v69 : BitVec 32 := Scalar.subi arg18 c4_i32_31
  let v70 : BitVec 32 := Scalar.subi c35_i32 v69
  let v71 : BitVec 32 := Scalar.select v67 v68 v70
  let v83 : BitVec 32 := Scalar.addi c36_i32_37 v71
  let v84 : Index := Scalar.indexCast v83
  let c0_38 : Index := 0#32
  let c0_39 : Index := 0#32
  ![v84.toNat, 0, 0]
def k0_off11 (k0_t2 : Fin k0_t2_loop.trips) : Fin 3 → Nat :=
  let c36_i32_40 : BitVec 32 := 36#32
  let c0_i32_2 : BitVec 32 := 0#32
  let c1_i32_4 : BitVec 32 := 1#32
  let arg18 : BitVec 32 := Scf.iv c0_i32_2 c1_i32_4 k0_t2
  let c4_i32 : BitVec 32 := 4#32
  let v67 : BitVec 1 := Scalar.cmpi .slt arg18 c4_i32
  let c3_i32 : BitVec 32 := 3#32
  let v68 : BitVec 32 := Scalar.subi c3_i32 arg18
  let c35_i32 : BitVec 32 := 35#32
  let c4_i32_31 : BitVec 32 := 4#32
  let v69 : BitVec 32 := Scalar.subi arg18 c4_i32_31
  let v70 : BitVec 32 := Scalar.subi c35_i32 v69
  let v71 : BitVec 32 := Scalar.select v67 v68 v70
  let v90 : BitVec 32 := Scalar.addi c36_i32_40 v71
  let v91 : Index := Scalar.indexCast v90
  let c0_41 : Index := 0#32
  let c0_42 : Index := 0#32
  ![v91.toNat, 0, 0]
def k0_off12 (k0_t2 : Fin k0_t2_loop.trips) : Fin 2 → Nat :=
  let c0_i32_2 : BitVec 32 := 0#32
  let c1_i32_4 : BitVec 32 := 1#32
  let arg18 : BitVec 32 := Scf.iv c0_i32_2 c1_i32_4 k0_t2
  let c64_i32 : BitVec 32 := 64#32
  let v44 : BitVec 32 := Scalar.muli arg18 c64_i32
  let v45 : BitVec 32 := v44
  let v95 : Index := Scalar.indexCast v45
  let c0_43 : Index := 0#32
  ![v95.toNat, 0]
def k0_off13 (k0_t2 : Fin k0_t2_loop.trips) : Fin 2 → Nat :=
  let c0_i32_2 : BitVec 32 := 0#32
  let c1_i32_4 : BitVec 32 := 1#32
  let arg18 : BitVec 32 := Scf.iv c0_i32_2 c1_i32_4 k0_t2
  let c4_i32 : BitVec 32 := 4#32
  let v67 : BitVec 1 := Scalar.cmpi .slt arg18 c4_i32
  let c3_i32 : BitVec 32 := 3#32
  let v68 : BitVec 32 := Scalar.subi c3_i32 arg18
  let c35_i32 : BitVec 32 := 35#32
  let c4_i32_31 : BitVec 32 := 4#32
  let v69 : BitVec 32 := Scalar.subi arg18 c4_i32_31
  let v70 : BitVec 32 := Scalar.subi c35_i32 v69
  let v71 : BitVec 32 := Scalar.select v67 v68 v70
  let c64_i32_32 : BitVec 32 := 64#32
  let v72 : BitVec 32 := Scalar.muli v71 c64_i32_32
  let v73 : BitVec 32 := v72
  let v99 : Index := Scalar.indexCast v73
  let c0_44 : Index := 0#32
  ![v99.toNat, 0]
def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2304x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2304x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2304x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x2304x4096 : Shape := ⟨3, ![8, 2304, 4096]⟩
abbrev S2x512 : Shape := ⟨2, ![2, 512]⟩
abbrev S128 : Shape := ⟨1, ![128]⟩
abbrev S8x2304x512 : Shape := ⟨3, ![8, 2304, 512]⟩
abbrev S_ : Shape := ⟨0, ![]⟩
abbrev S8x256x512 : Shape := ⟨3, ![8, 256, 512]⟩
abbrev S8x2048x512 : Shape := ⟨3, ![8, 2048, 512]⟩
abbrev S1x8x2304x512 : Shape := ⟨4, ![1, 8, 2304, 512]⟩
abbrev S2x8x2304x512 : Shape := ⟨4, ![2, 8, 2304, 512]⟩
abbrev S2x8x2304x4x128 : Shape := ⟨5, ![2, 8, 2304, 4, 128]⟩
abbrev S2x8x4x2304x128 : Shape := ⟨5, ![2, 8, 4, 2304, 128]⟩
abbrev S2x1x4x1x128 : Shape := ⟨5, ![2, 1, 4, 1, 128]⟩
abbrev S2x8x4x36x64x128 : Shape := ⟨6, ![2, 8, 4, 36, 64, 128]⟩
abbrev S36x2x8x4x64x128 : Shape := ⟨6, ![36, 2, 8, 4, 64, 128]⟩
abbrev S64x64 : Shape := ⟨2, ![64, 64]⟩
abbrev S64x64x1 : Shape := ⟨3, ![64, 64, 1]⟩
abbrev S2x8x4x128x128 : Shape := ⟨5, ![2, 8, 4, 128, 128]⟩
abbrev S1x2x8x4x64x128 : Shape := ⟨6, ![1, 2, 8, 4, 64, 128]⟩
abbrev S2x8x4x64x128 : Shape := ⟨5, ![2, 8, 4, 64, 128]⟩
abbrev S2x8x4x64x1x128 : Shape := ⟨6, ![2, 8, 4, 64, 1, 128]⟩
abbrev S2x8x4x1x64x128 : Shape := ⟨6, ![2, 8, 4, 1, 64, 128]⟩
abbrev S2x8x4x64x64x128 : Shape := ⟨6, ![2, 8, 4, 64, 64, 128]⟩
abbrev S2x8x4x64x64 : Shape := ⟨5, ![2, 8, 4, 64, 64]⟩
abbrev S2x8x4x1x128 : Shape := ⟨5, ![2, 8, 4, 1, 128]⟩
abbrev S2x8x4x128 : Shape := ⟨4, ![2, 8, 4, 128]⟩
abbrev S2x8x4x128x1 : Shape := ⟨5, ![2, 8, 4, 128, 1]⟩
abbrev S1x8x2304x4x128 : Shape := ⟨5, ![1, 8, 2304, 4, 128]⟩
abbrev S8x2304x4x128 : Shape := ⟨4, ![8, 2304, 4, 128]⟩
abbrev S8x256x4x128 : Shape := ⟨4, ![8, 256, 4, 128]⟩
abbrev S8x2048x4x128 : Shape := ⟨4, ![8, 2048, 4, 128]⟩
abbrev S8x2304x4 : Shape := ⟨3, ![8, 2304, 4]⟩
abbrev S8x2304x4x1 : Shape := ⟨4, ![8, 2304, 4, 1]⟩
abbrev S1x1x1x128 : Shape := ⟨4, ![1, 1, 1, 128]⟩

abbrev nBuf : Space → Nat
  | .hbm => 249
  | .vmem => 0
  | .smem => 0
  | _ => 0

abbrev hbmTy0_0 (i : Nat) : BufTy := match i % 128 with
  | 0 => ⟨S8x2304x4096, .f32⟩
  | 1 => ⟨S2x512, .f32⟩
  | 2 => ⟨S128, .f32⟩
  | 3 => ⟨S8x2304x512, .f32⟩
  | 4 => ⟨S8x2304x512, .f32⟩
  | 5 => ⟨S8x2304x512, .f32⟩
  | 6 => ⟨S_, .f32⟩
  | 7 => ⟨S8x2304x512, .f32⟩
  | 8 => ⟨S8x2304x512, .f32⟩
  | 9 => ⟨S_, .f32⟩
  | 10 => ⟨S8x2304x512, .f32⟩
  | 11 => ⟨S8x2304x512, .f32⟩
  | 12 => ⟨S8x2304x512, .f32⟩
  | 13 => ⟨S8x2304x512, .f32⟩
  | 14 => ⟨S8x2304x512, .f32⟩
  | 15 => ⟨S8x2304x512, .f32⟩
  | 16 => ⟨S8x256x512, .f32⟩
  | 17 => ⟨S8x256x512, .f32⟩
  | 18 => ⟨S8x2048x512, .f32⟩
  | 19 => ⟨S8x2048x512, .f32⟩
  | 20 => ⟨S8x2304x512, .f32⟩
  | 21 => ⟨S1x8x2304x512, .f32⟩
  | 22 => ⟨S1x8x2304x512, .f32⟩
  | 23 => ⟨S2x8x2304x512, .f32⟩
  | 24 => ⟨S2x8x2304x4x128, .f32⟩
  | 25 => ⟨S2x8x4x2304x128, .f32⟩
  | 26 => ⟨S8x256x512, .f32⟩
  | 27 => ⟨S8x256x512, .f32⟩
  | 28 => ⟨S8x2048x512, .f32⟩
  | 29 => ⟨S8x2048x512, .f32⟩
  | 30 => ⟨S8x2304x512, .f32⟩
  | 31 => ⟨S1x8x2304x512, .f32⟩
  | 32 => ⟨S1x8x2304x512, .f32⟩
  | 33 => ⟨S2x8x2304x512, .f32⟩
  | 34 => ⟨S2x8x2304x4x128, .f32⟩
  | 35 => ⟨S2x8x4x2304x128, .f32⟩
  | 36 => ⟨S8x256x512, .f32⟩
  | 37 => ⟨S8x256x512, .f32⟩
  | 38 => ⟨S8x2048x512, .f32⟩
  | 39 => ⟨S8x2048x512, .f32⟩
  | 40 => ⟨S8x2304x512, .f32⟩
  | 41 => ⟨S1x8x2304x512, .f32⟩
  | 42 => ⟨S1x8x2304x512, .f32⟩
  | 43 => ⟨S2x8x2304x512, .f32⟩
  | 44 => ⟨S2x8x2304x4x128, .f32⟩
  | 45 => ⟨S2x8x4x2304x128, .f32⟩
  | 46 => ⟨S2x1x4x1x128, .f32⟩
  | 47 => ⟨S2x1x4x1x128, .f32⟩
  | 48 => ⟨S2x1x4x1x128, .f32⟩
  | 49 => ⟨S2x1x4x1x128, .f32⟩
  | 50 => ⟨S2x8x4x2304x128, .f32⟩
  | 51 => ⟨S_, .f32⟩
  | 52 => ⟨S2x8x4x2304x128, .f32⟩
  | 53 => ⟨S2x8x4x2304x128, .f32⟩
  | 54 => ⟨S2x8x4x2304x128, .f32⟩
  | 55 => ⟨S2x8x4x2304x128, .f32⟩
  | 56 => ⟨S2x8x4x2304x128, .i1⟩
  | 57 => ⟨S2x8x4x2304x128, .f32⟩
  | 58 => ⟨S2x8x4x2304x128, .f32⟩
  | 59 => ⟨S2x8x4x2304x128, .f32⟩
  | 60 => ⟨S2x8x4x2304x128, .f32⟩
  | 61 => ⟨S2x8x4x2304x128, .f32⟩
  | 62 => ⟨S2x8x4x2304x128, .f32⟩
  | 63 => ⟨S2x8x4x2304x128, .f32⟩
  | 64 => ⟨S2x8x4x2304x128, .f32⟩
  | 65 => ⟨S2x8x4x2304x128, .f32⟩
  | 66 => ⟨S2x8x4x2304x128, .f32⟩
  | 67 => ⟨S2x8x4x2304x128, .f32⟩
  | 68 => ⟨S2x8x4x2304x128, .f32⟩
  | 69 => ⟨S2x8x4x2304x128, .f32⟩
  | 70 => ⟨S2x8x4x2304x128, .f32⟩
  | 71 => ⟨S2x8x4x2304x128, .i1⟩
  | 72 => ⟨S2x8x4x2304x128, .f32⟩
  | 73 => ⟨S2x8x4x2304x128, .f32⟩
  | 74 => ⟨S2x8x4x2304x128, .f32⟩
  | 75 => ⟨S2x8x4x2304x128, .f32⟩
  | 76 => ⟨S2x8x4x2304x128, .f32⟩
  | 77 => ⟨S2x8x4x2304x128, .f32⟩
  | 78 => ⟨S2x8x4x2304x128, .f32⟩
  | 79 => ⟨S2x8x4x2304x128, .f32⟩
  | 80 => ⟨S_, .f32⟩
  | 81 => ⟨S2x1x4x1x128, .f32⟩
  | 82 => ⟨S2x1x4x1x128, .f32⟩
  | 83 => ⟨S2x8x4x2304x128, .f32⟩
  | 84 => ⟨S2x8x4x2304x128, .f32⟩
  | 85 => ⟨S2x8x4x2304x128, .f32⟩
  | 86 => ⟨S_, .f32⟩
  | 87 => ⟨S2x8x4x2304x128, .f32⟩
  | 88 => ⟨S2x8x4x2304x128, .f32⟩
  | 89 => ⟨S_, .f32⟩
  | 90 => ⟨S2x8x4x2304x128, .f32⟩
  | 91 => ⟨S2x8x4x2304x128, .f32⟩
  | 92 => ⟨S2x8x4x2304x128, .f32⟩
  | 93 => ⟨S2x8x4x2304x128, .f32⟩
  | 94 => ⟨S2x8x4x36x64x128, .f32⟩
  | 95 => ⟨S_, .f32⟩
  | 96 => ⟨S_, .f32⟩
  | 97 => ⟨S2x8x4x36x64x128, .f32⟩
  | 98 => ⟨S2x8x4x36x64x128, .f32⟩
  | 99 => ⟨S2x8x4x36x64x128, .f32⟩
  | 100 => ⟨S2x8x4x36x64x128, .f32⟩
  | 101 => ⟨S36x2x8x4x64x128, .f32⟩
  | 102 => ⟨S36x2x8x4x64x128, .f32⟩
  | 103 => ⟨S36x2x8x4x64x128, .f32⟩
  | 104 => ⟨S36x2x8x4x64x128, .f32⟩
  | 105 => ⟨S_, .i1⟩
  | 106 => ⟨S64x64, .i1⟩
  | 107 => ⟨S64x64, .i32⟩
  | 108 => ⟨S_, .i32⟩
  | 109 => ⟨S64x64, .i32⟩
  | 110 => ⟨S64x64, .i32⟩
  | 111 => ⟨S64x64, .i32⟩
  | 112 => ⟨S64x64, .i1⟩
  | 113 => ⟨S_, .i1⟩
  | 114 => ⟨S64x64, .i1⟩
  | 115 => ⟨S64x64, .i1⟩
  | 116 => ⟨S64x64x1, .i1⟩
  | 117 => ⟨S_, .f32⟩
  | 118 => ⟨S2x8x4x128x128, .f32⟩
  | 119 => ⟨S_, .f32⟩
  | 120 => ⟨S36x2x8x4x64x128, .f32⟩
  | 121 => ⟨S_, .i32⟩
  | 122 => ⟨S36x2x8x4x64x128, .f32⟩
  | 123 => ⟨S36x2x8x4x64x128, .f32⟩
  | 124 => ⟨S36x2x8x4x64x128, .f32⟩
  | 125 => ⟨S36x2x8x4x64x128, .f32⟩
  | 126 => ⟨S64x64x1, .i1⟩
  | 127 => ⟨S_, .i32⟩
  | _ => ⟨S8x2304x4096, .f32⟩

abbrev hbmTy0_1 (i : Nat) : BufTy := match i % 128 with
  | 0 => ⟨S2x8x4x128x128, .f32⟩
  | 1 => ⟨S36x2x8x4x64x128, .f32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S1x2x8x4x64x128, .f32⟩
  | 10 => ⟨S2x8x4x64x128, .f32⟩
  | 11 => ⟨S_, .i32⟩
  | 12 => ⟨S_, .i32⟩
  | 13 => ⟨S_, .i32⟩
  | 14 => ⟨S_, .i32⟩
  | 15 => ⟨S_, .i32⟩
  | 16 => ⟨S1x2x8x4x64x128, .f32⟩
  | 17 => ⟨S2x8x4x64x128, .f32⟩
  | 18 => ⟨S_, .i32⟩
  | 19 => ⟨S_, .i32⟩
  | 20 => ⟨S_, .i32⟩
  | 21 => ⟨S_, .i32⟩
  | 22 => ⟨S_, .i32⟩
  | 23 => ⟨S1x2x8x4x64x128, .f32⟩
  | 24 => ⟨S2x8x4x64x128, .f32⟩
  | 25 => ⟨S_, .i32⟩
  | 26 => ⟨S_, .i32⟩
  | 27 => ⟨S_, .i32⟩
  | 28 => ⟨S_, .i32⟩
  | 29 => ⟨S_, .i32⟩
  | 30 => ⟨S1x2x8x4x64x128, .f32⟩
  | 31 => ⟨S2x8x4x64x128, .f32⟩
  | 32 => ⟨S2x8x4x64x1x128, .f32⟩
  | 33 => ⟨S2x8x4x1x64x128, .f32⟩
  | 34 => ⟨S2x8x4x64x64x128, .f32⟩
  | 35 => ⟨S2x8x4x64x64x128, .f32⟩
  | 36 => ⟨S2x8x4x64x64x128, .f32⟩
  | 37 => ⟨S_, .f32⟩
  | 38 => ⟨S_, .f32⟩
  | 39 => ⟨S2x8x4x64x64x128, .i1⟩
  | 40 => ⟨S2x8x4x64x64x128, .f32⟩
  | 41 => ⟨S2x8x4x64x64x128, .f32⟩
  | 42 => ⟨S2x8x4x64x64x128, .f32⟩
  | 43 => ⟨S2x8x4x64x1x128, .f32⟩
  | 44 => ⟨S2x8x4x1x64x128, .f32⟩
  | 45 => ⟨S2x8x4x64x64x128, .f32⟩
  | 46 => ⟨S2x8x4x64x64x128, .f32⟩
  | 47 => ⟨S2x8x4x64x64x128, .f32⟩
  | 48 => ⟨S2x8x4x64x64x128, .f32⟩
  | 49 => ⟨S_, .f32⟩
  | 50 => ⟨S2x8x4x64x64, .f32⟩
  | 51 => ⟨S2x8x4x64x128, .f32⟩
  | 52 => ⟨S2x8x4x64x128, .f32⟩
  | 53 => ⟨S2x8x4x64x128, .f32⟩
  | 54 => ⟨S2x8x4x64x128, .f32⟩
  | 55 => ⟨S2x8x4x64x128, .f32⟩
  | 56 => ⟨S2x8x4x1x128, .f32⟩
  | 57 => ⟨S2x8x4x128, .f32⟩
  | 58 => ⟨S2x8x4x128, .f32⟩
  | 59 => ⟨S2x8x4x128x1, .f32⟩
  | 60 => ⟨S2x8x4x128x128, .f32⟩
  | 61 => ⟨S2x8x4x128x128, .f32⟩
  | 62 => ⟨S2x8x4x1x128, .f32⟩
  | 63 => ⟨S2x8x4x64x128, .f32⟩
  | 64 => ⟨S2x8x4x64x128, .f32⟩
  | 65 => ⟨S2x8x4x64x128, .f32⟩
  | 66 => ⟨S2x8x4x64x128, .f32⟩
  | 67 => ⟨S2x8x4x128x128, .f32⟩
  | 68 => ⟨S2x8x4x128x128, .f32⟩
  | 69 => ⟨S1x2x8x4x64x128, .f32⟩
  | 70 => ⟨S_, .i32⟩
  | 71 => ⟨S_, .i32⟩
  | 72 => ⟨S_, .i32⟩
  | 73 => ⟨S_, .i32⟩
  | 74 => ⟨S_, .i32⟩
  | 75 => ⟨S36x2x8x4x64x128, .f32⟩
  | 76 => ⟨S_, .i32⟩
  | 77 => ⟨S_, .i32⟩
  | 78 => ⟨S2x8x4x36x64x128, .f32⟩
  | 79 => ⟨S2x8x4x2304x128, .f32⟩
  | 80 => ⟨S2x8x2304x4x128, .f32⟩
  | 81 => ⟨S1x8x2304x4x128, .f32⟩
  | 82 => ⟨S8x2304x4x128, .f32⟩
  | 83 => ⟨S1x8x2304x4x128, .f32⟩
  | 84 => ⟨S8x2304x4x128, .f32⟩
  | 85 => ⟨S8x256x4x128, .f32⟩
  | 86 => ⟨S8x256x4x128, .f32⟩
  | 87 => ⟨S8x2048x4x128, .f32⟩
  | 88 => ⟨S8x2048x4x128, .f32⟩
  | 89 => ⟨S8x2304x4x128, .f32⟩
  | 90 => ⟨S8x2304x4x128, .f32⟩
  | 91 => ⟨S8x2304x4x128, .f32⟩
  | 92 => ⟨S_, .f32⟩
  | 93 => ⟨S8x2304x4, .f32⟩
  | 94 => ⟨S8x2304x4x1, .f32⟩
  | 95 => ⟨S_, .f32⟩
  | 96 => ⟨S8x2304x4x1, .f32⟩
  | 97 => ⟨S8x2304x4x1, .f32⟩
  | 98 => ⟨S_, .f32⟩
  | 99 => ⟨S8x2304x4x1, .f32⟩
  | 100 => ⟨S8x2304x4x1, .f32⟩
  | 101 => ⟨S8x2304x4x1, .f32⟩
  | 102 => ⟨S8x2304x4x128, .f32⟩
  | 103 => ⟨S8x2304x4x128, .f32⟩
  | 104 => ⟨S1x1x1x128, .f32⟩
  | 105 => ⟨S8x2304x4x128, .f32⟩
  | 106 => ⟨S8x2304x4x128, .f32⟩
  | 107 => ⟨S8x2304x512, .f32⟩
  | 108 => ⟨S8x2304x4x128, .f32⟩
  | 109 => ⟨S8x2304x4x128, .f32⟩
  | 110 => ⟨S8x2304x4x128, .f32⟩
  | 111 => ⟨S_, .f32⟩
  | 112 => ⟨S8x2304x4x128, .f32⟩
  | 113 => ⟨S8x2304x4x128, .f32⟩
  | 114 => ⟨S_, .f32⟩
  | 115 => ⟨S8x2304x4x128, .f32⟩
  | 116 => ⟨S8x2304x4x128, .f32⟩
  | 117 => ⟨S8x2304x4x128, .f32⟩
  | 118 => ⟨S8x2304x4x128, .f32⟩
  | 119 => ⟨S8x2304x512, .f32⟩
  | 120 => ⟨S8x2304x512, .bf16⟩
  | _ => ⟨S8x2304x4096, .f32⟩

abbrev hbmTy (i : Nat) : BufTy := match i / 128 with
  | 0 => hbmTy0_0 i
  | 1 => hbmTy0_1 i
  | _ => ⟨S8x2304x4096, .f32⟩

abbrev bufTy : (tb : Table) → Fin (tcTables nBuf tb) → BufTy
  | .hbm, ⟨i, _⟩ => hbmTy i
  | _, _ => ⟨S8x2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_call6_cst : Ref sig .tc := ⟨.hbm, 51, rfl⟩
abbrev main_call6_v0 : Ref sig .tc := ⟨.hbm, 52, rfl⟩
abbrev main_call6_v1 : Ref sig .tc := ⟨.hbm, 53, rfl⟩
abbrev main_call6_v2 : Ref sig .tc := ⟨.hbm, 54, rfl⟩
abbrev main_call6_v3 : Ref sig .tc := ⟨.hbm, 55, rfl⟩
abbrev main_call6_v4 : Ref sig .tc := ⟨.hbm, 56, rfl⟩
abbrev main_call6_v5 : Ref sig .tc := ⟨.hbm, 57, rfl⟩
abbrev main_call6_v6 : Ref sig .tc := ⟨.hbm, 58, rfl⟩
abbrev main_call6_v7 : Ref sig .tc := ⟨.hbm, 59, rfl⟩
abbrev main_call6_v8 : Ref sig .tc := ⟨.hbm, 60, rfl⟩
abbrev main_call6_v9 : Ref sig .tc := ⟨.hbm, 61, rfl⟩
abbrev main_call6_v10 : Ref sig .tc := ⟨.hbm, 62, rfl⟩
abbrev main_call6_v11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_1 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_2 : Ref sig .tc := ⟨.hbm, 86, rfl⟩
abbrev main_v67 : Ref sig .tc := ⟨.hbm, 87, rfl⟩
abbrev main_v68 : Ref sig .tc := ⟨.hbm, 88, rfl⟩
abbrev main_cst_3 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_call7_call0_cst : Ref sig .tc := ⟨.hbm, 95, rfl⟩
abbrev main_call7_call0_v0 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_c : Ref sig .tc := ⟨.hbm, 105, rfl⟩
abbrev main_v82 : Ref sig .tc := ⟨.hbm, 106, rfl⟩
abbrev main_call8_v0 : Ref sig .tc := ⟨.hbm, 107, rfl⟩
abbrev main_call8_c : Ref sig .tc := ⟨.hbm, 108, rfl⟩
abbrev main_call8_v1 : Ref sig .tc := ⟨.hbm, 109, rfl⟩
abbrev main_call8_v2 : Ref sig .tc := ⟨.hbm, 110, rfl⟩
abbrev main_call8_v3 : Ref sig .tc := ⟨.hbm, 111, rfl⟩
abbrev main_call8_v4 : Ref sig .tc := ⟨.hbm, 112, rfl⟩
abbrev main_call8_c_0 : Ref sig .tc := ⟨.hbm, 113, rfl⟩
abbrev main_call8_v5 : Ref sig .tc := ⟨.hbm, 114, rfl⟩
abbrev main_v83 : Ref sig .tc := ⟨.hbm, 115, rfl⟩
abbrev main_v84 : Ref sig .tc := ⟨.hbm, 116, rfl⟩
abbrev main_cst_4 : Ref sig .tc := ⟨.hbm, 117, rfl⟩
abbrev main_v85 : Ref sig .tc := ⟨.hbm, 118, rfl⟩
abbrev main_cst_5 : Ref sig .tc := ⟨.hbm, 119, rfl⟩
abbrev main_v86 : Ref sig .tc := ⟨.hbm, 120, rfl⟩
abbrev main_c_6 : Ref sig .tc := ⟨.hbm, 121, rfl⟩
abbrev main_v87_0 : Ref sig .tc := ⟨.hbm, 122, rfl⟩
abbrev main_v87_1 : Ref sig .tc := ⟨.hbm, 123, rfl⟩
abbrev main_v87_2 : Ref sig .tc := ⟨.hbm, 124, rfl⟩
abbrev main_v87_3 : Ref sig .tc := ⟨.hbm, 125, rfl⟩
abbrev main_v87_4 : Ref sig .tc := ⟨.hbm, 126, rfl⟩
abbrev main_v87_5 : Ref sig .tc := ⟨.hbm, 127, rfl⟩
abbrev main_v87_6 : Ref sig .tc := ⟨.hbm, 128, rfl⟩
abbrev main_v87_7 : Ref sig .tc := ⟨.hbm, 129, rfl⟩
abbrev main_while0c_c_19 : Ref sig .tc := ⟨.hbm, 130, rfl⟩
abbrev main_while0c_v126 : Ref sig .tc := ⟨.hbm, 131, rfl⟩
abbrev main_while0b_call9_c : Ref sig .tc := ⟨.hbm, 132, rfl⟩
abbrev main_while0b_call9_c_0 : Ref sig .tc := ⟨.hbm, 133, rfl⟩
abbrev main_while0b_call9_c_1 : Ref sig .tc := ⟨.hbm, 134, rfl⟩
abbrev main_while0b_call9_c_2 : Ref sig .tc := ⟨.hbm, 135, rfl⟩
abbrev main_while0b_call9_c_3 : Ref sig .tc := ⟨.hbm, 136, rfl⟩
abbrev main_while0b_call9_v0 : Ref sig .tc := ⟨.hbm, 137, rfl⟩
abbrev main_while0b_v126 : Ref sig .tc := ⟨.hbm, 138, rfl⟩
abbrev main_while0b_call10_c : Ref sig .tc := ⟨.hbm, 139, rfl⟩
abbrev main_while0b_call10_c_0 : Ref sig .tc := ⟨.hbm, 140, rfl⟩
abbrev main_while0b_call10_c_1 : Ref sig .tc := ⟨.hbm, 141, rfl⟩
abbrev main_while0b_call10_c_2 : Ref sig .tc := ⟨.hbm, 142, rfl⟩
abbrev main_while0b_call10_c_3 : Ref sig .tc := ⟨.hbm, 143, rfl⟩
abbrev main_while0b_call10_v0 : Ref sig .tc := ⟨.hbm, 144, rfl⟩
abbrev main_while0b_v127 : Ref sig .tc := ⟨.hbm, 145, rfl⟩
abbrev main_while0b_call11_c : Ref sig .tc := ⟨.hbm, 146, rfl⟩
abbrev main_while0b_call11_c_0 : Ref sig .tc := ⟨.hbm, 147, rfl⟩
abbrev main_while0b_call11_c_1 : Ref sig .tc := ⟨.hbm, 148, rfl⟩
abbrev main_while0b_call11_c_2 : Ref sig .tc := ⟨.hbm, 149, rfl⟩
abbrev main_while0b_call11_c_3 : Ref sig .tc := ⟨.hbm, 150, rfl⟩
abbrev main_while0b_call11_v0 : Ref sig .tc := ⟨.hbm, 151, rfl⟩
abbrev main_while0b_v128 : Ref sig .tc := ⟨.hbm, 152, rfl⟩
abbrev main_while0b_call12_c : Ref sig .tc := ⟨.hbm, 153, rfl⟩
abbrev main_while0b_call12_c_0 : Ref sig .tc := ⟨.hbm, 154, rfl⟩
abbrev main_while0b_call12_c_1 : Ref sig .tc := ⟨.hbm, 155, rfl⟩
abbrev main_while0b_call12_c_2 : Ref sig .tc := ⟨.hbm, 156, rfl⟩
abbrev main_while0b_call12_c_3 : Ref sig .tc := ⟨.hbm, 157, rfl⟩
abbrev main_while0b_call12_v0 : Ref sig .tc := ⟨.hbm, 158, rfl⟩
abbrev main_while0b_v129 : Ref sig .tc := ⟨.hbm, 159, rfl⟩
abbrev main_while0b_v130 : Ref sig .tc := ⟨.hbm, 160, rfl⟩
abbrev main_while0b_v131 : Ref sig .tc := ⟨.hbm, 161, rfl⟩
abbrev main_while0b_v132 : Ref sig .tc := ⟨.hbm, 162, rfl⟩
abbrev main_while0b_v133 : Ref sig .tc := ⟨.hbm, 163, rfl⟩
abbrev main_while0b_v134 : Ref sig .tc := ⟨.hbm, 164, rfl⟩
abbrev main_while0b_cst_19 : Ref sig .tc := ⟨.hbm, 165, rfl⟩
abbrev main_while0b_call13_v0 : Ref sig .tc := ⟨.hbm, 166, rfl⟩
abbrev main_while0b_call13_v1 : Ref sig .tc := ⟨.hbm, 167, rfl⟩
abbrev main_while0b_call13_v2 : Ref sig .tc := ⟨.hbm, 168, rfl⟩
abbrev main_while0b_v135 : Ref sig .tc := ⟨.hbm, 169, rfl⟩
abbrev main_while0b_v136 : Ref sig .tc := ⟨.hbm, 170, rfl⟩
abbrev main_while0b_v137 : Ref sig .tc := ⟨.hbm, 171, rfl⟩
abbrev main_while0b_v138 : Ref sig .tc := ⟨.hbm, 172, rfl⟩
abbrev main_while0b_v139 : Ref sig .tc := ⟨.hbm, 173, rfl⟩
abbrev main_while0b_v140 : Ref sig .tc := ⟨.hbm, 174, rfl⟩
abbrev main_while0b_v141 : Ref sig .tc := ⟨.hbm, 175, rfl⟩
abbrev main_while0b_v142 : Ref sig .tc := ⟨.hbm, 176, rfl⟩
abbrev main_while0b_cst_20 : Ref sig .tc := ⟨.hbm, 177, rfl⟩
abbrev main_while0b_v143 : Ref sig .tc := ⟨.hbm, 178, rfl⟩
abbrev main_while0b_v144 : Ref sig .tc := ⟨.hbm, 179, rfl⟩
abbrev main_while0b_v145 : Ref sig .tc := ⟨.hbm, 180, rfl⟩
abbrev main_while0b_v146 : Ref sig .tc := ⟨.hbm, 181, rfl⟩
abbrev main_while0b_v147 : Ref sig .tc := ⟨.hbm, 182, rfl⟩
abbrev main_while0b_v148 : Ref sig .tc := ⟨.hbm, 183, rfl⟩
abbrev main_while0b_v149 : Ref sig .tc := ⟨.hbm, 184, rfl⟩
abbrev main_while0b_v150 : Ref sig .tc := ⟨.hbm, 185, rfl⟩
abbrev main_while0b_v151 : Ref sig .tc := ⟨.hbm, 186, rfl⟩
abbrev main_while0b_v152 : Ref sig .tc := ⟨.hbm, 187, rfl⟩
abbrev main_while0b_v153 : Ref sig .tc := ⟨.hbm, 188, rfl⟩
abbrev main_while0b_v154 : Ref sig .tc := ⟨.hbm, 189, rfl⟩
abbrev main_while0b_v155 : Ref sig .tc := ⟨.hbm, 190, rfl⟩
abbrev main_while0b_v156 : Ref sig .tc := ⟨.hbm, 191, rfl⟩
abbrev main_while0b_v157 : Ref sig .tc := ⟨.hbm, 192, rfl⟩
abbrev main_while0b_v158 : Ref sig .tc := ⟨.hbm, 193, rfl⟩
abbrev main_while0b_v159 : Ref sig .tc := ⟨.hbm, 194, rfl⟩
abbrev main_while0b_v160 : Ref sig .tc := ⟨.hbm, 195, rfl⟩
abbrev main_while0b_v161 : Ref sig .tc := ⟨.hbm, 196, rfl⟩
abbrev main_while0b_call14_v0 : Ref sig .tc := ⟨.hbm, 197, rfl⟩
abbrev main_while0b_call14_c : Ref sig .tc := ⟨.hbm, 198, rfl⟩
abbrev main_while0b_call14_c_0 : Ref sig .tc := ⟨.hbm, 199, rfl⟩
abbrev main_while0b_call14_c_1 : Ref sig .tc := ⟨.hbm, 200, rfl⟩
abbrev main_while0b_call14_c_2 : Ref sig .tc := ⟨.hbm, 201, rfl⟩
abbrev main_while0b_call14_c_3 : Ref sig .tc := ⟨.hbm, 202, rfl⟩
abbrev main_while0b_v162 : Ref sig .tc := ⟨.hbm, 203, rfl⟩
abbrev main_while0b_c_21 : Ref sig .tc := ⟨.hbm, 204, rfl⟩
abbrev main_while0b_v163 : Ref sig .tc := ⟨.hbm, 205, rfl⟩
abbrev main_v88 : Ref sig .tc := ⟨.hbm, 206, rfl⟩
abbrev main_v89 : Ref sig .tc := ⟨.hbm, 207, rfl⟩
abbrev main_v90 : Ref sig .tc := ⟨.hbm, 208, rfl⟩
abbrev main_v91 : Ref sig .tc := ⟨.hbm, 209, rfl⟩
abbrev main_v92 : Ref sig .tc := ⟨.hbm, 210, rfl⟩
abbrev main_v93 : Ref sig .tc := ⟨.hbm, 211, rfl⟩
abbrev main_v94 : Ref sig .tc := ⟨.hbm, 212, rfl⟩
abbrev main_v95 : Ref sig .tc := ⟨.hbm, 213, rfl⟩
abbrev main_v96 : Ref sig .tc := ⟨.hbm, 214, rfl⟩
abbrev main_v97 : Ref sig .tc := ⟨.hbm, 215, rfl⟩
abbrev main_v98 : Ref sig .tc := ⟨.hbm, 216, rfl⟩
abbrev main_v99 : Ref sig .tc := ⟨.hbm, 217, rfl⟩
abbrev main_v100 : Ref sig .tc := ⟨.hbm, 218, rfl⟩
abbrev main_v101 : Ref sig .tc := ⟨.hbm, 219, rfl⟩
abbrev main_cst_7 : Ref sig .tc := ⟨.hbm, 220, rfl⟩
abbrev main_v102 : Ref sig .tc := ⟨.hbm, 221, rfl⟩
abbrev main_v103 : Ref sig .tc := ⟨.hbm, 222, rfl⟩
abbrev main_cst_8 : Ref sig .tc := ⟨.hbm, 223, rfl⟩
abbrev main_v104 : Ref sig .tc := ⟨.hbm, 224, rfl⟩
abbrev main_v105 : Ref sig .tc := ⟨.hbm, 225, rfl⟩
abbrev main_cst_9 : Ref sig .tc := ⟨.hbm, 226, rfl⟩
abbrev main_v106 : Ref sig .tc := ⟨.hbm, 227, rfl⟩
abbrev main_v107 : Ref sig .tc := ⟨.hbm, 228, rfl⟩
abbrev main_v108 : Ref sig .tc := ⟨.hbm, 229, rfl⟩
abbrev main_v109 : Ref sig .tc := ⟨.hbm, 230, rfl⟩
abbrev main_v110 : Ref sig .tc := ⟨.hbm, 231, rfl⟩
abbrev main_v111 : Ref sig .tc := ⟨.hbm, 232, rfl⟩
abbrev main_v112 : Ref sig .tc := ⟨.hbm, 233, rfl⟩
abbrev main_v113 : Ref sig .tc := ⟨.hbm, 234, rfl⟩
abbrev main_v114 : Ref sig .tc := ⟨.hbm, 235, rfl⟩
abbrev main_v115 : Ref sig .tc := ⟨.hbm, 236, rfl⟩
abbrev main_v116 : Ref sig .tc := ⟨.hbm, 237, rfl⟩
abbrev main_v117 : Ref sig .tc := ⟨.hbm, 238, rfl⟩
abbrev main_cst_10 : Ref sig .tc := ⟨.hbm, 239, rfl⟩
abbrev main_v118 : Ref sig .tc := ⟨.hbm, 240, rfl⟩
abbrev main_v119 : Ref sig .tc := ⟨.hbm, 241, rfl⟩
abbrev main_cst_11 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_v125 : Ref sig .tc := ⟨.hbm, 248, rfl⟩

abbrev nD : Nat := 1
abbrev τ : Topo := Topo.v7x

variable {F : FTy → Type} [FloatOps F]

abbrev main_while0_count : Scf.Loop 32 := ⟨0#32, 36#32, 1#32⟩
-- ==== Experts.lean ====
abbrev S16x8x288x1024 : Shape := ⟨4, ![16, 8, 288, 1024]⟩
abbrev S4x16x1024x1024 : Shape := ⟨4, ![4, 16, 1024, 1024]⟩
abbrev S16x2304x1024 : Shape := ⟨3, ![16, 2304, 1024]⟩
abbrev S1x768x1024 : Shape := ⟨3, ![1, 768, 1024]⟩
abbrev S1x1x1024x1024 : Shape := ⟨4, ![1, 1, 1024, 1024]⟩
abbrev S768x1024 : Shape := ⟨2, ![768, 1024]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16x8x288x1024, .bf16⟩
  | .hbm, ⟨1, _⟩ => ⟨S4x16x1024x1024, .f32⟩
  | .hbm, ⟨2, _⟩ => ⟨S4x16x1024x1024, .f32⟩
  | .hbm, ⟨3, _⟩ => ⟨S4x16x1024x1024, .f32⟩
  | .hbm, ⟨4, _⟩ => ⟨S16x2304x1024, .bf16⟩
  | .hbm, ⟨5, _⟩ => ⟨S16x2304x1024, .f32⟩
  | .local _ .vmem, ⟨0, _⟩ => ⟨S1x768x1024, .bf16⟩
  | .local _ .vmem, ⟨1, _⟩ => ⟨S1x768x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x768x1024, .f32⟩
  | .local _ .vmem, ⟨9, _⟩ => ⟨S1x768x1024, .f32⟩
  | _, _ => ⟨S16x8x288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefExpertsIdeal.lean ====
abbrev S16x8x288x1024 : Shape := ⟨4, ![16, 8, 288, 1024]⟩
abbrev S4x16x1024x1024 : Shape := ⟨4, ![4, 16, 1024, 1024]⟩
abbrev S1x16x1024x1024 : Shape := ⟨4, ![1, 16, 1024, 1024]⟩
abbrev S16x1024x1024 : Shape := ⟨3, ![16, 1024, 1024]⟩
abbrev S_ : Shape := ⟨0, ![]⟩
abbrev S16x2304x1024 : Shape := ⟨3, ![16, 2304, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16x8x288x1024, .bf16⟩
  | .hbm, ⟨1, _⟩ => ⟨S4x16x1024x1024, .f32⟩
  | .hbm, ⟨2, _⟩ => ⟨S4x16x1024x1024, .f32⟩
  | .hbm, ⟨3, _⟩ => ⟨S4x16x1024x1024, .f32⟩
  | .hbm, ⟨4, _⟩ => ⟨S16x8x288x1024, .f32⟩
  | .hbm, ⟨5, _⟩ => ⟨S1x16x1024x1024, .f32⟩
  | .hbm, ⟨6, _⟩ => ⟨S16x1024x1024, .f32⟩
  | .hbm, ⟨7, _⟩ => ⟨S16x8x288x1024, .f32⟩
  | .hbm, ⟨8, _⟩ => ⟨S16x8x288x1024, .f32⟩
  | .hbm, ⟨9, _⟩ => ⟨S16x8x288x1024, .f32⟩
  | .hbm, ⟨10, _⟩ => ⟨S_, .f32⟩
  | .hbm, ⟨11, _⟩ => ⟨S16x8x288x1024, .f32⟩
  | .hbm, ⟨12, _⟩ => ⟨S16x8x288x1024, .f32⟩
  | .hbm, ⟨13, _⟩ => ⟨S_, .f32⟩
  | .hbm, ⟨14, _⟩ => ⟨S16x8x288x1024, .f32⟩
  | .hbm, ⟨15, _⟩ => ⟨S16x8x288x1024, .f32⟩
  | .hbm, ⟨16, _⟩ => ⟨S16x8x288x1024, .f32⟩
  | .hbm, ⟨17, _⟩ => ⟨S1x16x1024x1024, .f32⟩
  | .hbm, ⟨18, _⟩ => ⟨S16x1024x1024, .f32⟩
  | .hbm, ⟨19, _⟩ => ⟨S16x8x288x1024, .f32⟩
  | .hbm, ⟨20, _⟩ => ⟨S16x8x288x1024, .f32⟩
  | .hbm, ⟨21, _⟩ => ⟨S1x16x1024x1024, .f32⟩
  | .hbm, ⟨22, _⟩ => ⟨S16x1024x1024, .f32⟩
  | .hbm, ⟨23, _⟩ => ⟨S16x8x288x1024, .f32⟩
  | .hbm, ⟨24, _⟩ => ⟨S16x2304x1024, .f32⟩
  | _, _ => ⟨S16x8x288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== OddIn.lean ====
abbrev S8x2048x1024 : Shape := ⟨3, ![8, 2048, 1024]⟩
abbrev S8x256x1024 : Shape := ⟨3, ![8, 256, 1024]⟩
abbrev S9x6x1024 : Shape := ⟨3, ![9, 6, 1024]⟩
abbrev S1024x4096 : Shape := ⟨2, ![1024, 4096]⟩
abbrev S8x2304x1024 : Shape := ⟨3, ![8, 2304, 1024]⟩
abbrev S1x6x1024 : Shape := ⟨3, ![1, 6, 1024]⟩
abbrev S8x6x1024 : Shape := ⟨3, ![8, 6, 1024]⟩
abbrev S8x1x6x1024 : Shape := ⟨4, ![8, 1, 6, 1024]⟩
abbrev S8x2x6x1024 : Shape := ⟨4, ![8, 2, 6, 1024]⟩
abbrev S6x8x2x1024 : Shape := ⟨4, ![6, 8, 2, 1024]⟩
abbrev S6x8x2x1x1024 : Shape := ⟨5, ![6, 8, 2, 1, 1024]⟩
abbrev S1x8x2x1x1024 : Shape := ⟨5, ![1, 8, 2, 1, 1024]⟩
abbrev S8x2x1x1024 : Shape := ⟨4, ![8, 2, 1, 1024]⟩
abbrev S18432x1024 : Shape := ⟨2, ![18432, 1024]⟩
abbrev S18432x4096 : Shape := ⟨2, ![18432, 4096]⟩
abbrev S256x1024 : Shape := ⟨2, ![256, 1024]⟩
abbrev S1x1x1x1024 : Shape := ⟨4, ![1, 1, 1, 1024]⟩
abbrev S256x4096 : Shape := ⟨2, ![256, 4096]⟩
abbrev S1x1024 : Shape := ⟨2, ![1, 1024]⟩

abbrev nBuf : Space → Nat
  | .hbm => 20
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S9x6x1024, .f32⟩
  | .hbm, ⟨3, _⟩ => ⟨S1024x4096, .f32⟩
  | .hbm, ⟨4, _⟩ => ⟨S8x2304x1024, .f32⟩
  | .hbm, ⟨5, _⟩ => ⟨S1x6x1024, .f32⟩
  | .hbm, ⟨6, _⟩ => ⟨S8x6x1024, .f32⟩
  | .hbm, ⟨7, _⟩ => ⟨S8x6x1024, .f32⟩
  | .hbm, ⟨8, _⟩ => ⟨S8x1x6x1024, .f32⟩
  | .hbm, ⟨9, _⟩ => ⟨S8x1x6x1024, .f32⟩
  | .hbm, ⟨10, _⟩ => ⟨S8x2x6x1024, .f32⟩
  | .hbm, ⟨11, _⟩ => ⟨S6x8x2x1024, .f32⟩
  | .hbm, ⟨12, _⟩ => ⟨S6x8x2x1x1024, .f32⟩
  | .hbm, ⟨13, _⟩ => ⟨S1x8x2x1x1024, .f32⟩
  | .hbm, ⟨14, _⟩ => ⟨S8x2x1x1024, .f32⟩
  | .hbm, ⟨15, _⟩ => ⟨S1x8x2x1x1024, .f32⟩
  | .hbm, ⟨16, _⟩ => ⟨S8x2x1x1024, .f32⟩
  | .hbm, ⟨17, _⟩ => ⟨S1024x4096, .bf16⟩
  | .hbm, ⟨18, _⟩ => ⟨S18432x1024, .f32⟩
  | .hbm, ⟨19, _⟩ => ⟨S18432x4096, .f32⟩
  | .local _ .vmem, ⟨0, _⟩ => ⟨S256x1024, .f32⟩
  | .local _ .vmem, ⟨1, _⟩ => ⟨S256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1024x4096, .bf16⟩
  | .local _ .vmem, ⟨7, _⟩ => ⟨S256x4096, .f32⟩
  | .local _ .vmem, ⟨8, _⟩ => ⟨S256x4096, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 1 := Scalar.cmpi .sge v26 c1_i32_10
  let c1_i32_11 : BitVec 32 := 1#32
  let c0_i32_12 : BitVec 32 := 0#32
  let v28 : BitVec 32 := Scalar.select v27 c1_i32_11 c0_i32_12
  let c0_i32_13 : BitVec 32 := 0#32
  let c0_i32_14 : BitVec 32 := 0#32
  let c0_i32_15 : BitVec 32 := 0#32
  ![v16.toNat, v28.toNat, c0_i32_13.toNat, c0_i32_14.toNat]

def cc0_transform_2 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 1 := Scalar.cmpi .sge v26 c1_i32_10
  let c1_i32_11 : BitVec 32 := 1#32
  let c0_i32_12 : BitVec 32 := 0#32
  let v28 : BitVec 32 := Scalar.select v27 c1_i32_11 c0_i32_12
  let c0_i32_13 : BitVec 32 := 0#32
  let c0_i32_14 : BitVec 32 := 0#32
  let c0_i32_15 : BitVec 32 := 0#32
  ![v16.toNat, v28.toNat, c0_i32_13.toNat, c0_i32_14.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefOddInIdeal.lean ====
abbrev S8x2048x1024 : Shape := ⟨3, ![8, 2048, 1024]⟩
abbrev S8x256x1024 : Shape := ⟨3, ![8, 256, 1024]⟩
abbrev S9x6x1024 : Shape := ⟨3, ![9, 6, 1024]⟩
abbrev S1024x4096 : Shape := ⟨2, ![1024, 4096]⟩
abbrev S8x6x1024 : Shape := ⟨3, ![8, 6, 1024]⟩
abbrev S1x6x1024 : Shape := ⟨3, ![1, 6, 1024]⟩
abbrev S6x1024 : Shape := ⟨2, ![6, 1024]⟩
abbrev S8x1x1024 : Shape := ⟨3, ![8, 1, 1024]⟩
abbrev S8x1024 : Shape := ⟨2, ![8, 1024]⟩
abbrev S_ : Shape := ⟨0, ![]⟩
abbrev S1x1024 : Shape := ⟨2, ![1, 1024]⟩
abbrev S1024 : Shape := ⟨1, ![1024]⟩
abbrev S1x1x1024 : Shape := ⟨3, ![1, 1, 1024]⟩
abbrev S8x256x4096 : Shape := ⟨3, ![8, 256, 4096]⟩
abbrev S8x2048x4096 : Shape := ⟨3, ![8, 2048, 4096]⟩
abbrev S8x2304x4096 : Shape := ⟨3, ![8, 2304, 4096]⟩
abbrev S18432x4096 : Shape := ⟨2, ![18432, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S9x6x1024, .f32⟩
  | .hbm, ⟨3, _⟩ => ⟨S1024x4096, .f32⟩
  | .hbm, ⟨4, _⟩ => ⟨S8x6x1024, .f32⟩
  | .hbm, ⟨5, _⟩ => ⟨S1x6x1024, .f32⟩
  | .hbm, ⟨6, _⟩ => ⟨S6x1024, .f32⟩
  | .hbm, ⟨7, _⟩ => ⟨S8x1x1024, .f32⟩
  | .hbm, ⟨8, _⟩ => ⟨S8x1024, .f32⟩
  | .hbm, ⟨9, _⟩ => ⟨S8x1x1024, .f32⟩
  | .hbm, ⟨10, _⟩ => ⟨S_, .f32⟩
  | .hbm, ⟨11, _⟩ => ⟨S8x1x1024, .f32⟩
  | .hbm, ⟨12, _⟩ => ⟨S8x1x1024, .f32⟩
  | .hbm, ⟨13, _⟩ => ⟨S8x2048x1024, .f32⟩
  | .hbm, ⟨14, _⟩ => ⟨S8x2048x1024, .f32⟩
  | .hbm, ⟨15, _⟩ => ⟨S8x1x1024, .f32⟩
  | .hbm, ⟨16, _⟩ => ⟨S8x1024, .f32⟩
  | .hbm, ⟨17, _⟩ => ⟨S8x1x1024, .f32⟩
  | .hbm, ⟨18, _⟩ => ⟨S8x2048x1024, .f32⟩
  | .hbm, ⟨19, _⟩ => ⟨S8x2048x1024, .f32⟩
  | .hbm, ⟨20, _⟩ => ⟨S1x1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1x1024, .f32⟩
  | .hbm, ⟨26, _⟩ => ⟨S8x256x1024, .f32⟩
  | .hbm, ⟨27, _⟩ => ⟨S8x256x1024, .f32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S8x256x1024, .f32⟩
  | .hbm, ⟨32, _⟩ => ⟨S8x256x1024, .f32⟩
  | .hbm, ⟨33, _⟩ => ⟨S8x256x4096, .f32⟩
  | .hbm, ⟨34, _⟩ => ⟨S8x2048x4096, .f32⟩
  | .hbm, ⟨35, _⟩ => ⟨S8x2304x4096, .f32⟩
  | .hbm, ⟨36, _⟩ => ⟨S18432x4096, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== EvenIn.lean ====
abbrev S8x2048x1024 : Shape := ⟨3, ![8, 2048, 1024]⟩
abbrev S8x256x1024 : Shape := ⟨3, ![8, 256, 1024]⟩
abbrev S9x6x1024 : Shape := ⟨3, ![9, 6, 1024]⟩
abbrev S1024x2640 : Shape := ⟨2, ![1024, 2640]⟩
abbrev S8x2304x1024 : Shape := ⟨3, ![8, 2304, 1024]⟩
abbrev S1x6x1024 : Shape := ⟨3, ![1, 6, 1024]⟩
abbrev S8x6x1024 : Shape := ⟨3, ![8, 6, 1024]⟩
abbrev S8x1x6x1024 : Shape := ⟨4, ![8, 1, 6, 1024]⟩
abbrev S8x2x6x1024 : Shape := ⟨4, ![8, 2, 6, 1024]⟩
abbrev S6x8x2x1024 : Shape := ⟨4, ![6, 8, 2, 1024]⟩
abbrev S6x8x2x1x1024 : Shape := ⟨5, ![6, 8, 2, 1, 1024]⟩
abbrev S1x8x2x1x1024 : Shape := ⟨5, ![1, 8, 2, 1, 1024]⟩
abbrev S8x2x1x1024 : Shape := ⟨4, ![8, 2, 1, 1024]⟩
abbrev S1024x16 : Shape := ⟨2, ![1024, 16]⟩
abbrev S1024x512 : Shape := ⟨2, ![1024, 512]⟩
abbrev S1024x64 : Shape := ⟨2, ![1024, 64]⟩
abbrev S_ : Shape := ⟨0, ![]⟩
abbrev S1024x112 : Shape := ⟨2, ![1024, 112]⟩
abbrev S1024x2048 : Shape := ⟨2, ![1024, 2048]⟩
abbrev S1024x2816 : Shape := ⟨2, ![1024, 2816]⟩
abbrev S18432x1024 : Shape := ⟨2, ![18432, 1024]⟩
abbrev S18432x2816 : Shape := ⟨2, ![18432, 2816]⟩
abbrev S256x1024 : Shape := ⟨2, ![256, 1024]⟩
abbrev S1x1x1x1024 : Shape := ⟨4, ![1, 1, 1, 1024]⟩
abbrev S256x2816 : Shape := ⟨2, ![256, 2816]⟩
abbrev S1x1024 : Shape := ⟨2, ![1, 1024]⟩

abbrev nBuf : Space → Nat
  | .hbm => 34
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S9x6x1024, .f32⟩
  | .hbm, ⟨3, _⟩ => ⟨S1024x2640, .f32⟩
  | .hbm, ⟨4, _⟩ => ⟨S8x2304x1024, .f32⟩
  | .hbm, ⟨5, _⟩ => ⟨S1x6x1024, .f32⟩
  | .hbm, ⟨6, _⟩ => ⟨S8x6x1024, .f32⟩
  | .hbm, ⟨7, _⟩ => ⟨S8x6x1024, .f32⟩
  | .hbm, ⟨8, _⟩ => ⟨S8x1x6x1024, .f32⟩
  | .hbm, ⟨9, _⟩ => ⟨S8x1x6x1024, .f32⟩
  | .hbm, ⟨10, _⟩ => ⟨S8x2x6x1024, .f32⟩
  | .hbm, ⟨11, _⟩ => ⟨S6x8x2x1024, .f32⟩
  | .hbm, ⟨12, _⟩ => ⟨S6x8x2x1x1024, .f32⟩
  | .hbm, ⟨13, _⟩ => ⟨S1x8x2x1x1024, .f32⟩
  | .hbm, ⟨14, _⟩ => ⟨S8x2x1x1024, .f32⟩
  | .hbm, ⟨15, _⟩ => ⟨S1x8x2x1x1024, .f32⟩
  | .hbm, ⟨16, _⟩ => ⟨S8x2x1x1024, .f32⟩
  | .hbm, ⟨17, _⟩ => ⟨S1024x16, .f32⟩
  | .hbm, ⟨18, _⟩ => ⟨S1024x512, .f32⟩
  | .hbm, ⟨19, _⟩ => ⟨S1024x64, .f32⟩
  | .hbm, ⟨20, _⟩ => ⟨S_, .f32⟩
  | .hbm, ⟨21, _⟩ => ⟨S1024x112, .f32⟩
  | .hbm, ⟨22, _⟩ => ⟨S1024x2048, .f32⟩
  | .hbm, ⟨23, _⟩ => ⟨S1024x16, .f32⟩
  | .hbm, ⟨24, _⟩ => ⟨S1024x16, .f32⟩
  | .hbm, ⟨25, _⟩ => ⟨S1024x16, .f32⟩
  | .hbm, ⟨26, _⟩ => ⟨S1024x16, .f32⟩
  | .hbm, ⟨27, _⟩ => ⟨S1024x16, .f32⟩
  | .hbm, ⟨28, _⟩ => ⟨S1024x16, .f32⟩
  | .hbm, ⟨29, _⟩ => ⟨S1024x64, .f32⟩
  | .hbm, ⟨30, _⟩ => ⟨S1024x2816, .f32⟩
  | .hbm, ⟨31, _⟩ => ⟨S1024x2816, .bf16⟩
  | .hbm, ⟨32, _⟩ => ⟨S18432x1024, .f32⟩
  | .hbm, ⟨33, _⟩ => ⟨S18432x2816, .f32⟩
  | .local _ .vmem, ⟨0, _⟩ => ⟨S256x1024, .f32⟩
  | .local _ .vmem, ⟨1, _⟩ => ⟨S256x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1024x2816, .bf16⟩
  | .local _ .vmem, ⟨7, _⟩ => ⟨S256x2816, .f32⟩
  | .local _ .vmem, ⟨8, _⟩ => ⟨S256x2816, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 1 := Scalar.cmpi .sge v26 c1_i32_10
  let c1_i32_11 : BitVec 32 := 1#32
  let c0_i32_12 : BitVec 32 := 0#32
  let v28 : BitVec 32 := Scalar.select v27 c1_i32_11 c0_i32_12
  let c0_i32_13 : BitVec 32 := 0#32
  let c0_i32_14 : BitVec 32 := 0#32
  let c0_i32_15 : BitVec 32 := 0#32
  ![v16.toNat, v28.toNat, c0_i32_13.toNat, c0_i32_14.toNat]

def cc0_transform_2 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 1 := Scalar.cmpi .sge v26 c1_i32_10
  let c1_i32_11 : BitVec 32 := 1#32
  let c0_i32_12 : BitVec 32 := 0#32
  let v28 : BitVec 32 := Scalar.select v27 c1_i32_11 c0_i32_12
  let c0_i32_13 : BitVec 32 := 0#32
  let c0_i32_14 : BitVec 32 := 0#32
  let c0_i32_15 : BitVec 32 := 0#32
  ![v16.toNat, v28.toNat, c0_i32_13.toNat, c0_i32_14.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefEvenInIdeal.lean ====
abbrev S8x2048x1024 : Shape := ⟨3, ![8, 2048, 1024]⟩
abbrev S8x256x1024 : Shape := ⟨3, ![8, 256, 1024]⟩
abbrev S9x6x1024 : Shape := ⟨3, ![9, 6, 1024]⟩
abbrev S1024x2640 : Shape := ⟨2, ![1024, 2640]⟩
abbrev S1024x64 : Shape := ⟨2, ![1024, 64]⟩
abbrev S1024x16 : Shape := ⟨2, ![1024, 16]⟩
abbrev S1024x2048 : Shape := ⟨2, ![1024, 2048]⟩
abbrev S1024x512 : Shape := ⟨2, ![1024, 512]⟩
abbrev S_ : Shape := ⟨0, ![]⟩
abbrev S1024x112 : Shape := ⟨2, ![1024, 112]⟩
abbrev S1024x2816 : Shape := ⟨2, ![1024, 2816]⟩
abbrev S8x6x1024 : Shape := ⟨3, ![8, 6, 1024]⟩
abbrev S1x6x1024 : Shape := ⟨3, ![1, 6, 1024]⟩
abbrev S6x1024 : Shape := ⟨2, ![6, 1024]⟩
abbrev S8x1x1024 : Shape := ⟨3, ![8, 1, 1024]⟩
abbrev S8x1024 : Shape := ⟨2, ![8, 1024]⟩
abbrev S1x1024 : Shape := ⟨2, ![1, 1024]⟩
abbrev S1024 : Shape := ⟨1, ![1024]⟩
abbrev S1x1x1024 : Shape := ⟨3, ![1, 1, 1024]⟩
abbrev S8x256x2816 : Shape := ⟨3, ![8, 256, 2816]⟩
abbrev S8x2048x2816 : Shape := ⟨3, ![8, 2048, 2816]⟩
abbrev S8x2304x2816 : Shape := ⟨3, ![8, 2304, 2816]⟩
abbrev S18432x2816 : Shape := ⟨2, ![18432, 2816]⟩

abbrev nBuf : Space → Nat
  | .hbm => 51
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S9x6x1024, .f32⟩
  | .hbm, ⟨3, _⟩ => ⟨S1024x2640, .f32⟩
  | .hbm, ⟨4, _⟩ => ⟨S1024x64, .f32⟩
  | .hbm, ⟨5, _⟩ => ⟨S1024x16, .f32⟩
  | .hbm, ⟨6, _⟩ => ⟨S1024x16, .f32⟩
  | .hbm, ⟨7, _⟩ => ⟨S1024x16, .f32⟩
  | .hbm, ⟨8, _⟩ => ⟨S1024x16, .f32⟩
  | .hbm, ⟨9, _⟩ => ⟨S1024x16, .f32⟩
  | .hbm, ⟨10, _⟩ => ⟨S1024x16, .f32⟩
  | .hbm, ⟨11, _⟩ => ⟨S1024x64, .f32⟩
  | .hbm, ⟨12, _⟩ => ⟨S1024x2048, .f32⟩
  | .hbm, ⟨13, _⟩ => ⟨S1024x512, .f32⟩
  | .hbm, ⟨14, _⟩ => ⟨S1024x16, .f32⟩
  | .hbm, ⟨15, _⟩ => ⟨S_, .f32⟩
  | .hbm, ⟨16, _⟩ => ⟨S1024x112, .f32⟩
  | .hbm, ⟨17, _⟩ => ⟨S1024x2816, .f32⟩
  | .hbm, ⟨18, _⟩ => ⟨S8x6x1024, .f32⟩
  | .hbm, ⟨19, _⟩ => ⟨S1x6x1024, .f32⟩
  | .hbm, ⟨20, _⟩ => ⟨S6x1024, .f32⟩
  | .hbm, ⟨21, _⟩ => ⟨S8x1x1024, .f32⟩
  | .hbm, ⟨22, _⟩ => ⟨S8x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x1x1024, .f32⟩
  | .hbm, ⟨30, _⟩ => ⟨S8x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S1x1024, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1x1x1024, .f32⟩
  | .hbm, ⟨40, _⟩ => ⟨S8x256x1024, .f32⟩
  | .hbm, ⟨41, _⟩ => ⟨S8x256x1024, .f32⟩
  | .hbm, ⟨42, _⟩ => ⟨S1x1024, .f32⟩
  | .hbm, ⟨43, _⟩ => ⟨S1024, .f32⟩
  | .hbm, ⟨44, _⟩ => ⟨S1x1x1024, .f32⟩
  | .hbm, ⟨45, _⟩ => ⟨S8x256x1024, .f32⟩
  | .hbm, ⟨46, _⟩ => ⟨S8x256x1024, .f32⟩
  | .hbm, ⟨47, _⟩ => ⟨S8x256x2816, .f32⟩
  | .hbm, ⟨48, _⟩ => ⟨S8x2048x2816, .f32⟩
  | .hbm, ⟨49, _⟩ => ⟨S8x2304x2816, .f32⟩
  | .hbm, ⟨50, _⟩ => ⟨S18432x2816, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]
-- ==== Mla.lean ====
abbrev S8x2304x1024 : Shape := ⟨3, ![8, 2304, 1024]⟩
abbrev S8x2304x512 : Shape := ⟨3, ![8, 2304, 512]⟩
abbrev S1x256x256 : Shape := ⟨3, ![1, 256, 256]⟩
abbrev S1x2304x256 : Shape := ⟨3, ![1, 2304, 256]⟩
abbrev S1x2304x128 : Shape := ⟨3, ![1, 2304, 128]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S2304x256 : Shape := ⟨2, ![2304, 256]⟩
abbrev S256x2304 : Shape := ⟨2, ![256, 2304]⟩
abbrev S2304x128 : Shape := ⟨2, ![2304, 128]⟩

abbrev nBuf : Space → Nat
  | .hbm => 4
  | .vmem => 8
  | .smem => 0
  | _ => 0

abbrev bufTy : (tb : Table) → Fin (tcTables nBuf tb) → BufTy
  | .hbm, ⟨0, _⟩ => ⟨S8x2304x1024, .bf16⟩
  | .hbm, ⟨1, _⟩ => ⟨S8x2304x1024, .bf16⟩
  | .hbm, ⟨2, _⟩ => ⟨S8x2304x512, .bf16⟩
  | .hbm, ⟨3, _⟩ => ⟨S8x2304x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x2304x256, .bf16⟩
  | .local _ .vmem, ⟨3, _⟩ => ⟨S1x2304x256, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x256x128, .bf16⟩
  | .local _ .vmem, ⟨7, _⟩ => ⟨S1x256x128, .bf16⟩
  | _, _ => ⟨S8x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 9], ![false, false, false]⟩

def k0_cond1 (i : grid0.Coords) : BitVec 1 :=
  let arg2 : BitVec 32 := BitVec.ofNat 32 (i 2).val
  let c1_i32 : BitVec 32 := 1#32
  let v2 : BitVec 1 := Scalar.cmpi .slt arg2 c1_i32
  let v3 : BitVec 32 := Scalar.extui v2
  let c0_i32 : BitVec 32 := 0#32
  let v4 : BitVec 1 := Scalar.cmpi .ne v3 c0_i32
  v4

def k0_cond2 (i : grid0.Coords) : BitVec 1 :=
  let arg2 : BitVec 32 := BitVec.ofNat 32 (i 2).val
  let c1_i32_2 : BitVec 32 := 1#32
  let v5 : BitVec 1 := Scalar.cmpi .sge arg2 c1_i32_2
  let v6 : BitVec 32 := Scalar.extui v5
  let c0_i32_3 : BitVec 32 := 0#32
  let v7 : BitVec 1 := Scalar.cmpi .ne v6 c0_i32_3
  v7

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== RefMlaIdeal.lean ====
abbrev S8x2304x1024 : Shape := ⟨3, ![8, 2304, 1024]⟩
abbrev S8x2304x512 : Shape := ⟨3, ![8, 2304, 512]⟩
abbrev S8x2304x4x256 : Shape := ⟨4, ![8, 2304, 4, 256]⟩
abbrev S8x2304x4x128 : Shape := ⟨4, ![8, 2304, 4, 128]⟩
abbrev S8x256x4x256 : Shape := ⟨4, ![8, 256, 4, 256]⟩
abbrev S8x256x4x128 : Shape := ⟨4, ![8, 256, 4, 128]⟩
abbrev S8x4x256x256 : Shape := ⟨4, ![8, 4, 256, 256]⟩
abbrev S_ : Shape := ⟨0, ![]⟩
abbrev S8x4x256 : Shape := ⟨3, ![8, 4, 256]⟩
abbrev S8x4x256x1 : Shape := ⟨4, ![8, 4, 256, 1]⟩
abbrev S8x4x128x256 : Shape := ⟨4, ![8, 4, 128, 256]⟩
abbrev S8x2048x4x256 : Shape := ⟨4, ![8, 2048, 4, 256]⟩
abbrev S8x4x2048x2304 : Shape := ⟨4, ![8, 4, 2048, 2304]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S8x2048x4x128 : Shape := ⟨4, ![8, 2048, 4, 128]⟩

abbrev nBuf : Space → Nat
  | .hbm => 56
  | .vmem => 0
  | .smem => 0
  | _ => 0

abbrev bufTy : (tb : Table) → Fin (tcTables nBuf tb) → BufTy
  | .hbm, ⟨0, _⟩ => ⟨S8x2304x1024, .bf16⟩
  | .hbm, ⟨1, _⟩ => ⟨S8x2304x1024, .bf16⟩
  | .hbm, ⟨2, _⟩ => ⟨S8x2304x512, .bf16⟩
  | .hbm, ⟨3, _⟩ => ⟨S8x2304x1024, .f32⟩
  | .hbm, ⟨4, _⟩ => ⟨S8x2304x4x256, .f32⟩
  | .hbm, ⟨5, _⟩ => ⟨S8x2304x1024, .f32⟩
  | .hbm, ⟨6, _⟩ => ⟨S8x2304x4x256, .f32⟩
  | .hbm, ⟨7, _⟩ => ⟨S8x2304x512, .f32⟩
  | .hbm, ⟨8, _⟩ => ⟨S8x2304x4x128, .f32⟩
  | .hbm, ⟨9, _⟩ => ⟨S8x256x4x256, .f32⟩
  | .hbm, ⟨10, _⟩ => ⟨S8x256x4x256, .f32⟩
  | .hbm, ⟨11, _⟩ => ⟨S8x256x4x128, .f32⟩
  | .hbm, ⟨12, _⟩ => ⟨S8x4x256x256, .f32⟩
  | .hbm, ⟨13, _⟩ => ⟨S_, .f32⟩
  | .hbm, ⟨14, _⟩ => ⟨S8x4x256x256, .f32⟩
  | .hbm, ⟨15, _⟩ => ⟨S8x4x256x256, .f32⟩
  | .hbm, ⟨16, _⟩ => ⟨S_, .f32⟩
  | .hbm, ⟨17, _⟩ => ⟨S8x4x256, .f32⟩
  | .hbm, ⟨18, _⟩ => ⟨S_, .f32⟩
  | .hbm, ⟨19, _⟩ => ⟨S8x4x256, .f32⟩
  | .hbm, ⟨20, _⟩ => ⟨S8x4x256, .f32⟩
  | .hbm, ⟨21, _⟩ => ⟨S8x4x256x1, .f32⟩
  | .hbm, ⟨22, _⟩ => ⟨S8x4x256x256, .f32⟩
  | .hbm, ⟨23, _⟩ => ⟨S8x4x256x256, .f32⟩
  | .hbm, ⟨24, _⟩ => ⟨S8x4x256x256, .f32⟩
  | .hbm, ⟨25, _⟩ => ⟨S_, .f32⟩
  | .hbm, ⟨26, _⟩ => ⟨S8x4x256, .f32⟩
  | .hbm, ⟨27, _⟩ => ⟨S8x4x256x1, .f32⟩
  | .hbm, ⟨28, _⟩ => ⟨S8x4x256x256, .f32⟩
  | .hbm, ⟨29, _⟩ => ⟨S8x4x256x256, .f32⟩
  | .hbm, ⟨30, _⟩ => ⟨S8x4x128x256, .f32⟩
  | .hbm, ⟨31, _⟩ => ⟨S8x256x4x128, .f32⟩
  | .hbm, ⟨32, _⟩ => ⟨S8x2048x4x256, .f32⟩
  | .hbm, ⟨33, _⟩ => ⟨S8x4x2048x2304, .f32⟩
  | .hbm, ⟨34, _⟩ => ⟨S_, .f32⟩
  | .hbm, ⟨35, _⟩ => ⟨S8x4x2048x2304, .f32⟩
  | .hbm, ⟨36, _⟩ => ⟨S8x4x2048x2304, .f32⟩
  | .hbm, ⟨37, _⟩ => ⟨S_, .f32⟩
  | .hbm, ⟨38, _⟩ => ⟨S8x4x2048, .f32⟩
  | .hbm, ⟨39, _⟩ => ⟨S_, .f32⟩
  | .hbm, ⟨40, _⟩ => ⟨S8x4x2048, .f32⟩
  | .hbm, ⟨41, _⟩ => ⟨S8x4x2048, .f32⟩
  | .hbm, ⟨42, _⟩ => ⟨S8x4x2048x1, .f32⟩
  | .hbm, ⟨43, _⟩ => ⟨S8x4x2048x2304, .f32⟩
  | .hbm, ⟨44, _⟩ => ⟨S8x4x2048x2304, .f32⟩
  | .hbm, ⟨45, _⟩ => ⟨S8x4x2048x2304, .f32⟩
  | .hbm, ⟨46, _⟩ => ⟨S_, .f32⟩
  | .hbm, ⟨47, _⟩ => ⟨S8x4x2048, .f32⟩
  | .hbm, ⟨48, _⟩ => ⟨S8x4x2048x1, .f32⟩
  | .hbm, ⟨49, _⟩ => ⟨S8x4x2048x2304, .f32⟩
  | .hbm, ⟨50, _⟩ => ⟨S8x4x2048x2304, .f32⟩
  | .hbm, ⟨51, _⟩ => ⟨S8x4x128x2048, .f32⟩
  | .hbm, ⟨52, _⟩ => ⟨S8x2048x4x128, .f32⟩
  | .hbm, ⟨53, _⟩ => ⟨S8x2304x4x128, .f32⟩
  | .hbm, ⟨54, _⟩ => ⟨S8x2304x512, .f32⟩
  | .hbm, ⟨55, _⟩ => ⟨S8x2304x512, .bf16⟩
  | _, _ => ⟨S8x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== OutProj.lean ====
abbrev S8x2304x512 : Shape := ⟨3, ![8, 2304, 512]⟩
abbrev S8x2304x1024 : Shape := ⟨3, ![8, 2304, 1024]⟩
abbrev S9x6x1024 : Shape := ⟨3, ![9, 6, 1024]⟩
abbrev S1024x1024 : Shape := ⟨2, ![1024, 1024]⟩
abbrev S1024 : Shape := ⟨1, ![1024]⟩
abbrev S1024x16 : Shape := ⟨2, ![1024, 16]⟩
abbrev S1x6x1024 : Shape := ⟨3, ![1, 6, 1024]⟩
abbrev S8x6x1024 : Shape := ⟨3, ![8, 6, 1024]⟩
abbrev S8x1x6x1024 : Shape := ⟨4, ![8, 1, 6, 1024]⟩
abbrev S8x2x6x1024 : Shape := ⟨4, ![8, 2, 6, 1024]⟩
abbrev S6x8x2x1024 : Shape := ⟨4, ![6, 8, 2, 1024]⟩
abbrev S6x8x2x1x1024 : Shape := ⟨5, ![6, 8, 2, 1, 1024]⟩
abbrev S1x8x2x1x1024 : Shape := ⟨5, ![1, 8, 2, 1, 1024]⟩
abbrev S8x2x1x1024 : Shape := ⟨4, ![8, 2, 1, 1024]⟩
abbrev S16x1024 : Shape := ⟨2, ![16, 1024]⟩
abbrev S18432x512 : Shape := ⟨2, ![18432, 512]⟩
abbrev S18432x1024 : Shape := ⟨2, ![18432, 1024]⟩
abbrev S1x1024 : Shape := ⟨2, ![1, 1024]⟩
abbrev S8x16x2304 : Shape := ⟨3, ![8, 16, 2304]⟩
abbrev S256x512 : Shape := ⟨2, ![256, 512]⟩
abbrev S256x1024 : Shape := ⟨2, ![256, 1024]⟩
abbrev S1x1x1x1024 : Shape := ⟨4, ![1, 1, 1, 1024]⟩
abbrev S1x16x256 : Shape := ⟨3, ![1, 16, 256]⟩
abbrev S512x1024 : Shape := ⟨2, ![512, 1024]⟩
abbrev S256 : Shape := ⟨1, ![256]⟩
abbrev S256x1 : Shape := ⟨2, ![256, 1]⟩
abbrev S16x256 : Shape := ⟨2, ![16, 256]⟩
abbrev S1x256 : Shape := ⟨2, ![1, 256]⟩

abbrev nBuf : Space → Nat
  | .hbm => 31
  | .vmem => 20
  | .smem => 0
  | _ => 0

abbrev bufTy : (tb : Table) → Fin (tcTables nBuf tb) → BufTy
  | .hbm, ⟨0, _⟩ => ⟨S8x2304x512, .bf16⟩
  | .hbm, ⟨1, _⟩ => ⟨S8x2304x512, .bf16⟩
  | .hbm, ⟨2, _⟩ => ⟨S8x2304x1024, .f32⟩
  | .hbm, ⟨3, _⟩ => ⟨S9x6x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x16, .f32⟩
  | .hbm, ⟨8, _⟩ => ⟨S1x6x1024, .f32⟩
  | .hbm, ⟨9, _⟩ => ⟨S8x6x1024, .f32⟩
  | .hbm, ⟨10, _⟩ => ⟨S8x6x1024, .f32⟩
  | .hbm, ⟨11, _⟩ => ⟨S8x1x6x1024, .f32⟩
  | .hbm, ⟨12, _⟩ => ⟨S8x1x6x1024, .f32⟩
  | .hbm, ⟨13, _⟩ => ⟨S8x2x6x1024, .f32⟩
  | .hbm, ⟨14, _⟩ => ⟨S6x8x2x1024, .f32⟩
  | .hbm, ⟨15, _⟩ => ⟨S6x8x2x1x1024, .f32⟩
  | .hbm, ⟨16, _⟩ => ⟨S1024x1024, .bf16⟩
  | .hbm, ⟨17, _⟩ => ⟨S1x8x2x1x1024, .f32⟩
  | .hbm, ⟨18, _⟩ => ⟨S8x2x1x1024, .f32⟩
  | .hbm, ⟨19, _⟩ => ⟨S1x8x2x1x1024, .f32⟩
  | .hbm, ⟨20, _⟩ => ⟨S8x2x1x1024, .f32⟩
  | .hbm, ⟨21, _⟩ => ⟨S1x8x2x1x1024, .f32⟩
  | .hbm, ⟨22, _⟩ => ⟨S8x2x1x1024, .f32⟩
  | .hbm, ⟨23, _⟩ => ⟨S16x1024, .f32⟩
  | .hbm, ⟨24, _⟩ => ⟨S18432x512, .bf16⟩
  | .hbm, ⟨25, _⟩ => ⟨S18432x512, .bf16⟩
  | .hbm, ⟨26, _⟩ => ⟨S18432x1024, .f32⟩
  | .hbm, ⟨27, _⟩ => ⟨S1x1024, .f32⟩
  | .hbm, ⟨28, _⟩ => ⟨S1x1024, .f32⟩
  | .hbm, ⟨29, _⟩ => ⟨S18432x1024, .f32⟩
  | .hbm, ⟨30, _⟩ => ⟨S8x16x2304, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1024, .f32⟩
  | .local _ .vmem, ⟨10, _⟩ => ⟨S1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S16x1024, .f32⟩
  | .local _ .vmem, ⟨16, _⟩ => ⟨S256x1024, .f32⟩
  | .local _ .vmem, ⟨17, _⟩ => ⟨S256x1024, .f32⟩
  | .local _ .vmem, ⟨18, _⟩ => ⟨S1x16x256, .f32⟩
  | .local _ .vmem, ⟨19, _⟩ => ⟨S1x16x256, .f32⟩
  | _, _ => ⟨S8x2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21_0 : Ref sig .tc := ⟨.hbm, 29, rfl⟩
abbrev main_v21_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 1 := Scalar.cmpi .sge v26 c1_i32_10
  let c1_i32_11 : BitVec 32 := 1#32
  let c0_i32_12 : BitVec 32 := 0#32
  let v28 : BitVec 32 := Scalar.select v27 c1_i32_11 c0_i32_12
  let c0_i32_13 : BitVec 32 := 0#32
  let c0_i32_14 : BitVec 32 := 0#32
  let c0_i32_15 : BitVec 32 := 0#32
  ![v16.toNat, v28.toNat, c0_i32_13.toNat, c0_i32_14.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 1 := Scalar.cmpi .sge v26 c1_i32_10
  let c1_i32_11 : BitVec 32 := 1#32
  let c0_i32_12 : BitVec 32 := 0#32
  let v28 : BitVec 32 := Scalar.select v27 c1_i32_11 c0_i32_12
  let c0_i32_13 : BitVec 32 := 0#32
  let c0_i32_14 : BitVec 32 := 0#32
  let c0_i32_15 : BitVec 32 := 0#32
  ![v16.toNat, v28.toNat, c0_i32_13.toNat, c0_i32_14.toNat]

def cc0_transform_8 (i : grid0.Coords) : Fin 4 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 1 := Scalar.cmpi .sge v26 c1_i32_10
  let c1_i32_11 : BitVec 32 := 1#32
  let c0_i32_12 : BitVec 32 := 0#32
  let v28 : BitVec 32 := Scalar.select v27 c1_i32_11 c0_i32_12
  let c0_i32_13 : BitVec 32 := 0#32
  let c0_i32_14 : BitVec 32 := 0#32
  let c0_i32_15 : BitVec 32 := 0#32
  ![v16.toNat, v28.toNat, c0_i32_13.toNat, c0_i32_14.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefOutProjIdeal.lean ====
abbrev S8x2304x512 : Shape := ⟨3, ![8, 2304, 512]⟩
abbrev S8x2304x1024 : Shape := ⟨3, ![8, 2304, 1024]⟩
abbrev S9x6x1024 : Shape := ⟨3, ![9, 6, 1024]⟩
abbrev S1024x1024 : Shape := ⟨2, ![1024, 1024]⟩
abbrev S1024 : Shape := ⟨1, ![1024]⟩
abbrev S1024x16 : Shape := ⟨2, ![1024, 16]⟩
abbrev S1x6x1024 : Shape := ⟨3, ![1, 6, 1024]⟩
abbrev S6x1024 : Shape := ⟨2, ![6, 1024]⟩
abbrev S8x256x6x1024 : Shape := ⟨4, ![8, 256, 6, 1024]⟩
abbrev S8x6x1024 : Shape := ⟨3, ![8, 6, 1024]⟩
abbrev S8x1x6x1024 : Shape := ⟨4, ![8, 1, 6, 1024]⟩
abbrev S8x2048x6x1024 : Shape := ⟨4, ![8, 2048, 6, 1024]⟩
abbrev S8x2304x6x1024 : Shape := ⟨4, ![8, 2304, 6, 1024]⟩
abbrev S_ : Shape := ⟨0, ![]⟩
abbrev S8x2304x1x1024 : Shape := ⟨4, ![8, 2304, 1, 1024]⟩
abbrev S8x2304 : Shape := ⟨2, ![8, 2304]⟩
abbrev S8x2304x1 : Shape := ⟨3, ![8, 2304, 1]⟩
abbrev S1x1x1024 : Shape := ⟨3, ![1, 1, 1024]⟩
abbrev S8x2304x16 : Shape := ⟨3, ![8, 2304, 16]⟩
abbrev S18432x1024 : Shape := ⟨2, ![18432, 1024]⟩
abbrev S8x16x2304 : Shape := ⟨3, ![8, 16, 2304]⟩

abbrev nBuf : Space → Nat
  | .hbm => 78
  | .vmem => 0
  | .smem => 0
  | _ => 0

abbrev bufTy : (tb : Table) → Fin (tcTables nBuf tb) → BufTy
  | .hbm, ⟨0, _⟩ => ⟨S8x2304x512, .bf16⟩
  | .hbm, ⟨1, _⟩ => ⟨S8x2304x512, .bf16⟩
  | .hbm, ⟨2, _⟩ => ⟨S8x2304x1024, .f32⟩
  | .hbm, ⟨3, _⟩ => ⟨S9x6x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x16, .f32⟩
  | .hbm, ⟨8, _⟩ => ⟨S1x6x1024, .f32⟩
  | .hbm, ⟨9, _⟩ => ⟨S6x1024, .f32⟩
  | .hbm, ⟨10, _⟩ => ⟨S8x256x6x1024, .f32⟩
  | .hbm, ⟨11, _⟩ => ⟨S8x6x1024, .f32⟩
  | .hbm, ⟨12, _⟩ => ⟨S8x1x6x1024, .f32⟩
  | .hbm, ⟨13, _⟩ => ⟨S8x2048x6x1024, .f32⟩
  | .hbm, ⟨14, _⟩ => ⟨S8x2304x6x1024, .f32⟩
  | .hbm, ⟨15, _⟩ => ⟨S8x2304x1024, .bf16⟩
  | .hbm, ⟨16, _⟩ => ⟨S8x2304x1024, .f32⟩
  | .hbm, ⟨17, _⟩ => ⟨S8x2304x1024, .f32⟩
  | .hbm, ⟨18, _⟩ => ⟨S_, .f32⟩
  | .hbm, ⟨19, _⟩ => ⟨S8x2304x1024, .f32⟩
  | .hbm, ⟨20, _⟩ => ⟨S8x2304x1024, .f32⟩
  | .hbm, ⟨21, _⟩ => ⟨S8x2304x1x1024, .f32⟩
  | .hbm, ⟨22, _⟩ => ⟨S8x2304x1024, .f32⟩
  | .hbm, ⟨23, _⟩ => ⟨S8x2304x1024, .f32⟩
  | .hbm, ⟨24, _⟩ => ⟨S8x2304x1024, .f32⟩
  | .hbm, ⟨25, _⟩ => ⟨S_, .f32⟩
  | .hbm, ⟨26, _⟩ => ⟨S8x2304, .f32⟩
  | .hbm, ⟨27, _⟩ => ⟨S8x2304x1, .f32⟩
  | .hbm, ⟨28, _⟩ => ⟨S_, .f32⟩
  | .hbm, ⟨29, _⟩ => ⟨S8x2304x1, .f32⟩
  | .hbm, ⟨30, _⟩ => ⟨S8x2304x1, .f32⟩
  | .hbm, ⟨31, _⟩ => ⟨S8x2304x1024, .f32⟩
  | .hbm, ⟨32, _⟩ => ⟨S8x2304x1024, .f32⟩
  | .hbm, ⟨33, _⟩ => ⟨S8x2304x1024, .f32⟩
  | .hbm, ⟨34, _⟩ => ⟨S_, .f32⟩
  | .hbm, ⟨35, _⟩ => ⟨S8x2304, .f32⟩
  | .hbm, ⟨36, _⟩ => ⟨S8x2304x1, .f32⟩
  | .hbm, ⟨37, _⟩ => ⟨S_, .f32⟩
  | .hbm, ⟨38, _⟩ => ⟨S8x2304x1, .f32⟩
  | .hbm, ⟨39, _⟩ => ⟨S8x2304x1, .f32⟩
  | .hbm, ⟨40, _⟩ => ⟨S_, .f32⟩
  | .hbm, ⟨41, _⟩ => ⟨S8x2304x1, .f32⟩
  | .hbm, ⟨42, _⟩ => ⟨S8x2304x1, .f32⟩
  | .hbm, ⟨43, _⟩ => ⟨S8x2304x1, .f32⟩
  | .hbm, ⟨44, _⟩ => ⟨S8x2304x1024, .f32⟩
  | .hbm, ⟨45, _⟩ => ⟨S8x2304x1024, .f32⟩
  | .hbm, ⟨46, _⟩ => ⟨S1x1x1024, .f32⟩
  | .hbm, ⟨47, _⟩ => ⟨S8x2304x1024, .f32⟩
  | .hbm, ⟨48, _⟩ => ⟨S8x2304x1024, .f32⟩
  | .hbm, ⟨49, _⟩ => ⟨S1x1x1024, .f32⟩
  | .hbm, ⟨50, _⟩ => ⟨S8x2304x1024, .f32⟩
  | .hbm, ⟨51, _⟩ => ⟨S8x2304x1024, .f32⟩
  | .hbm, ⟨52, _⟩ => ⟨S8x2304x1x1024, .f32⟩
  | .hbm, ⟨53, _⟩ => ⟨S8x2304x1024, .f32⟩
  | .hbm, ⟨54, _⟩ => ⟨S_, .f32⟩
  | .hbm, ⟨55, _⟩ => ⟨S8x2304x1024, .f32⟩
  | .hbm, ⟨56, _⟩ => ⟨S8x2304x1024, .f32⟩
  | .hbm, ⟨57, _⟩ => ⟨S8x2304x1024, .f32⟩
  | .hbm, ⟨58, _⟩ => ⟨S8x2304x1x1024, .f32⟩
  | .hbm, ⟨59, _⟩ => ⟨S8x2304x1024, .f32⟩
  | .hbm, ⟨60, _⟩ => ⟨S8x2304x1024, .f32⟩
  | .hbm, ⟨61, _⟩ => ⟨S8x2304x16, .f32⟩
  | .hbm, ⟨62, _⟩ => ⟨S_, .f32⟩
  | .hbm, ⟨63, _⟩ => ⟨S8x2304, .f32⟩
  | .hbm, ⟨64, _⟩ => ⟨S_, .f32⟩
  | .hbm, ⟨65, _⟩ => ⟨S8x2304, .f32⟩
  | .hbm, ⟨66, _⟩ => ⟨S8x2304, .f32⟩
  | .hbm, ⟨67, _⟩ => ⟨S8x2304x1, .f32⟩
  | .hbm, ⟨68, _⟩ => ⟨S8x2304x16, .f32⟩
  | .hbm, ⟨69, _⟩ => ⟨S8x2304x16, .f32⟩
  | .hbm, ⟨70, _⟩ => ⟨S8x2304x16, .f32⟩
  | .hbm, ⟨71, _⟩ => ⟨S_, .f32⟩
  | .hbm, ⟨72, _⟩ => ⟨S8x2304, .f32⟩
  | .hbm, ⟨73, _⟩ => ⟨S8x2304x1, .f32⟩
  | .hbm, ⟨74, _⟩ => ⟨S8x2304x16, .f32⟩
  | .hbm, ⟨75, _⟩ => ⟨S8x2304x16, .f32⟩
  | .hbm, ⟨76, _⟩ => ⟨S18432x1024, .f32⟩
  | .hbm, ⟨77, _⟩ => ⟨S8x16x2304, .f32⟩
  | _, _ => ⟨S8x2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Proof.ExpertsBlock.lean ====
/- The experts: the block a grid point writes, read at an entry. -/
module

public import proofs.«01_k».proof.Proof.Gen.ExpertsIdeal.Value
public import Idealize.ShloMosaic.Lib.Pointwise

@[expose] public section

set_option maxRecDepth 16384

noncomputable section

namespace Cert.ExpertsIdeal.Block

open Idealize.ShloMosaic Idealize.ShloMosaic.TcCoe
open Cert.ExpertsIdeal Cert.ExpertsIdeal.Gen

/-- One hidden entry of an expert: the gate's product under silu, times the other product. -/
def hid (x : Fin 1024 → EReal) (g u : Fin 1024 → EReal) : EReal :=
  (∑ k : Fin 1024, x k * g k) * Ideal.logistic (∑ k : Fin 1024, x k * g k) * ∑ k : Fin 1024, x k * u k

/-- One entry of the expert's result: the hidden row against a column of the last matrix. -/
def row (x : Fin 1024 → EReal) (G U D : Fin 1024 → Fin 1024 → EReal) (d : Fin 1024) : EReal :=
  ∑ f : Fin 1024, hid x (fun k => G k f) (fun k => U k f) * D f d

/-- What a grid point stores, at an entry. -/
theorem pay_at (x : Vec Ideal S1x768x1024 .bf16) (g u w : Vec Ideal S1x1x1024x1024 .f32) (r : Fin 768) (d : Fin 1024) :
    k0_pay1 x g u w (ix3 0 r d)
      = row (fun k => x (ix3 0 r k)) (fun k f => g (ix4 0 0 k f)) (fun k f => u (ix4 0 0 k f)) (fun k f => w (ix4 0 0 k f)) d := by
  pointwise [k0_pay1]
  rfl

theorem off3 : (![0, 0, 0] : Fin 3 → Nat) = fun _ => 0 := by decide
theorem off4 : (![0, 0, 0, 0] : Fin 4 → Nat) = fun _ => 0 := by decide

/-- The result buffer after a grid point, at an entry. -/
theorem out_at (x : Vec Ideal S1x768x1024 .bf16) (g u w : Vec Ideal S1x1x1024x1024 .f32) (r : Fin 768) (d : Fin 1024) :
    out0_4 x g u w (ix3 0 r d)
      = row (fun k => x (ix3 0 r k)) (fun k f => g (ix4 0 0 k f)) (fun k f => u (ix4 0 0 k f)) (fun k f => w (ix4 0 0 k f)) d := by
  unfold out0_4
  rw [View.canon_unit_zero off3, View.ld_unit_zero off3, View.ld_unit_zero off4, View.ld_unit_zero off4, View.ld_unit_zero off4]
  exact pay_at x g u w r d

end Cert.ExpertsIdeal.Block

end
-- ==== Proof.ExpertsRef.lean ====
/- The experts' reference, read at an entry. -/
module

public import proofs.«01_k».proof.Proof.Gen.RefExpertsIdeal.Run
public import proofs.«01_k».proof.Proof.ExpertsBlock
public import Idealize.ShloMosaic.Lib.Pointwise
public import Idealize.ShloMosaic.Lib.Pipeline.Value

@[expose] public section

set_option maxRecDepth 16384

noncomputable section

namespace Cert.RefExpertsIdeal.Ref

open Idealize.ShloMosaic Idealize.ShloMosaic.TcCoe Idealize.SL.Sem
open Cert.ExpertsIdeal.Block (hid row)
open Cert.RefExpertsIdeal Cert.RefExpertsIdeal.Gen

/-- A product of every expert's rows with that expert's matrix. -/
abbrev pr (x : FVec Ideal S16x8x288x1024 .f32) (w : FVec Ideal S16x1024x1024 .f32) : FVec Ideal S16x8x288x1024 .f32 :=
  Host.dotGeneral dot_S16x8x288x1024_S16x1024x1024_S16x8x288x1024_3_1_12_2_0_0 none x w
/-- The layer's matrices. -/
abbrev lay (w : FVec Ideal S4x16x1024x1024 .f32) : FVec Ideal S16x1024x1024 .f32 :=
  shapeCast S16x1024x1024 (extractStridedSlice S1x16x1024x1024 ![0, 0, 0, 0] w slices_S4x16x1024x1024_S1x16x1024x1024_0_0_0_0) shapeCasts_S1x16x1024x1024_S16x1024x1024
/-- The constant one, everywhere. -/
abbrev one : FVec Ideal S16x8x288x1024 .f32 := broadcastInDim S16x8x288x1024 ![] bcast_S_S16x8x288x1024 (constant S_ .f32 0x3F800000#32)
/-- silu. -/
abbrev sil (x : FVec Ideal S16x8x288x1024 .f32) : FVec Ideal S16x8x288x1024 .f32 :=
  mulf x (Host.divf one (addf one (Host.exp (Host.negf x))))

/-- The reference's array. -/
def val (x : FVec Ideal S16x8x288x1024 .bf16) (g u w : FVec Ideal S4x16x1024x1024 .f32) : FVec Ideal S16x2304x1024 .f32 :=
  shapeCast S16x2304x1024 (pr (mulf (sil (pr (extf .f32 x bitsLt_bf16_f32) (lay g))) (pr (extf .f32 x bitsLt_bf16_f32) (lay u))) (lay w)) shapeCasts_S16x8x288x1024_S16x2304x1024

theorem pr_at (x : FVec Ideal S16x8x288x1024 .f32) (w : FVec Ideal S16x1024x1024 .f32) (e : Fin 16) (b : Fin 8) (r : Fin 288) (d : Fin 1024) :
    pr x w (ix4 e b r d) = ∑ k : Fin 1024, x (ix4 e b r k) * w (ix3 e k d) := by
  pointwise

theorem lay_at (w : FVec Ideal S4x16x1024x1024 .f32) (e : Fin 16) (k d : Fin 1024) :
    lay w (ix3 e k d) = w (ix4 0 e k d) := by
  pointwise

theorem sil_at (x : FVec Ideal S16x8x288x1024 .f32) (e : Fin 16) (b : Fin 8) (r : Fin 288) (d : Fin 1024) :
    sil x (ix4 e b r d) = x (ix4 e b r d) * Ideal.logistic (x (ix4 e b r d)) := by
  pointwise
  rfl

theorem ext_at (x : FVec Ideal S16x8x288x1024 .bf16) (e : Fin 16) (b : Fin 8) (r : Fin 288) (d : Fin 1024) :
    extf .f32 x bitsLt_bf16_f32 (ix4 e b r d) = x (ix4 e b r d) := by
  pointwise

theorem cast_at {α : Type} (x : S16x8x288x1024.Idx → α) (e : Fin 16) (b : Fin 8) (r : Fin 288) (d : Fin 1024) :
    shapeCast S16x2304x1024 x shapeCasts_S16x8x288x1024_S16x2304x1024 (ix3 e ⟨b.val * 288 + r.val, by omega⟩ d) = x (ix4 e b r d) := by
  refine shapeCast_apply x _ _ _ ?_
  rw [Shape.rowMajor_val_four, Shape.rowMajor_val_three]
  show ((e.val * 8 + b.val) * 288 + r.val) * 1024 + d.val = (e.val * 2304 + (b.val * 288 + r.val)) * 1024 + d.val
  omega

/-- The reference's array, at an entry. -/
theorem val_at (x : FVec Ideal S16x8x288x1024 .bf16) (g u w : FVec Ideal S4x16x1024x1024 .f32) (e : Fin 16) (b : Fin 8) (r : Fin 288) (d : Fin 1024) :
    val x g u w (ix3 e ⟨b.val * 288 + r.val, by omega⟩ d)
      = row (fun k => x (ix4 e b r k)) (fun k f => g (ix4 0 e k f)) (fun k f => u (ix4 0 e k f)) (fun k f => w (ix4 0 e k f)) d := by
  unfold val
  rw [cast_at, pr_at]
  refine Finset.sum_congr rfl fun f _ => ?_
  rw [lay_at]
  refine congrArg (· * w (ix4 0 e f d)) ?_
  have p (v : FVec Ideal S4x16x1024x1024 .f32) : pr (extf .f32 x bitsLt_bf16_f32) (lay v) (ix4 e b r f) = ∑ k : Fin 1024, x (ix4 e b r k) * v (ix4 0 e k f) := by
    rw [pr_at]
    exact Finset.sum_congr rfl fun k _ => by rw [ext_at, lay_at]
  show sil (pr (extf .f32 x bitsLt_bf16_f32) (lay g)) (ix4 e b r f) * pr (extf .f32 x bitsLt_bf16_f32) (lay u) (ix4 e b r f) = _
  rw [sil_at, p, p]
  rfl

end Cert.RefExpertsIdeal.Ref

end
-- ==== Proof.ExpertsWhole.lean ====
/- The experts: the kernel's array, entry by entry, and that it is the reference's. -/
module

public import proofs.«01_k».proof.Proof.ExpertsRef

@[expose] public section

set_option maxRecDepth 16384

noncomputable section

namespace Cert.ExpertsIdeal.Block

open Idealize.ShloMosaic Idealize.ShloMosaic.TcCoe Idealize.SL.Sem
open Cert.ExpertsIdeal Cert.ExpertsIdeal.Gen

variable (m : (ℓ : Loc nD τ sig) → Buf (Elt Ideal) ℓ) (c : Dev nD)

/-- The grid point of an expert's block of rows. -/
def pt (e : Fin 16) (j : Fin 3) : Fin cfg0.N := ⟨e.val * 3 + j.val, lt_of_lt_of_eq (by omega) (by decide : 48 = cfg0.N)⟩

theorem idx0 : ∀ t : Fin cfg0.N, win0_0.index t 0 = t.val / 3 ∧ win0_0.index t 1 = t.val % 3 ∧ win0_0.index t 2 = 0 := by decide +kernel
theorem idx1 : ∀ t : Fin cfg0.N, win0_1.index t 0 = 0 ∧ win0_1.index t 1 = t.val / 3 ∧ win0_1.index t 2 = 0 ∧ win0_1.index t 3 = 0 := by decide +kernel
theorem idx2 : ∀ t : Fin cfg0.N, win0_2.index t 0 = 0 ∧ win0_2.index t 1 = t.val / 3 ∧ win0_2.index t 2 = 0 ∧ win0_2.index t 3 = 0 := by decide +kernel
theorem idx3 : ∀ t : Fin cfg0.N, win0_3.index t 0 = 0 ∧ win0_3.index t 1 = t.val / 3 ∧ win0_3.index t 2 = 0 ∧ win0_3.index t 3 = 0 := by decide +kernel
theorem idx4 : ∀ t : Fin cfg0.N, win0_4.index t 0 = t.val / 3 ∧ win0_4.index t 1 = t.val % 3 ∧ win0_4.index t 2 = 0 := by decide +kernel
theorem flush4 : ∀ t : Fin cfg0.N, win0_4.flush t = true := by decide +kernel

/-- The host's relaid rows. -/
theorem V_v0 : V m c main_v0 = shapeCast S16x2304x1024 (m ((c : Thread nD τ).loc main_arg0)) shapeCasts_S16x8x288x1024_S16x2304x1024 := rfl

/-- The block of rows, position by position. -/
theorem iblk0 (e : Fin 16) (j : Fin 3) (r : Fin 768) (k : Fin 1024) (b : Fin 8) (s : Fin 288) (hr : b.val * 288 + s.val = j.val * 768 + r.val) :
    (iblk m c 0 (pt e j) : Vec Ideal S1x768x1024 .bf16) (ix3 0 r k) = m ((c : Thread nD τ).loc main_arg0) (ix4 e b s k) := by
  refine Eq.trans ?_ (Cert.RefExpertsIdeal.Ref.cast_at (m ((c : Thread nD τ).loc main_arg0)) e b s k)
  refine Eq.trans ?_ (congrFun (V_v0 m c) _)
  show V m c main_v0 ((win0_0.rect (pt e j)).emb (ix3 0 r k)) = _
  obtain ⟨e0, e1, e2⟩ := idx0 (pt e j)
  have hv : (pt e j).val = e.val * 3 + j.val := rfl
  congr 1
  funext a
  match a with
  | ⟨0, _⟩ => apply Fin.ext; show win0_0.index (pt e j) 0 * 1 + 1 * 0 = e.val; omega
  | ⟨1, _⟩ => apply Fin.ext; show win0_0.index (pt e j) 1 * 768 + 1 * r.val = b.val * 288 + s.val; omega
  | ⟨2, _⟩ => apply Fin.ext; show win0_0.index (pt e j) 2 * 1024 + 1 * k.val = k.val; omega

/-- The expert's matrices, position by position. -/
theorem iblk1 (e : Fin 16) (j : Fin 3) (k f : Fin 1024) :
    (iblk m c 1 (pt e j) : Vec Ideal S1x1x1024x1024 .f32) (ix4 0 0 k f) = m ((c : Thread nD τ).loc main_arg1) (ix4 0 e k f) := by
  rw [← V_main_arg1 m c]
  show V m c main_arg1 ((win0_1.rect (pt e j)).emb (ix4 0 0 k f)) = _
  obtain ⟨e0, e1, e2, e3⟩ := idx1 (pt e j)
  have hv : (pt e j).val = e.val * 3 + j.val := rfl
  congr 1
  funext a
  match a with
  | ⟨0, _⟩ => apply Fin.ext; show win0_1.index (pt e j) 0 * 1 + 1 * 0 = 0; omega
  | ⟨1, _⟩ => apply Fin.ext; show win0_1.index (pt e j) 1 * 1 + 1 * 0 = e.val; omega
  | ⟨2, _⟩ => apply Fin.ext; show win0_1.index (pt e j) 2 * 1024 + 1 * k.val = k.val; omega
  | ⟨3, _⟩ => apply Fin.ext; show win0_1.index (pt e j) 3 * 1024 + 1 * f.val = f.val; omega
theorem iblk2 (e : Fin 16) (j : Fin 3) (k f : Fin 1024) :
    (iblk m c 2 (pt e j) : Vec Ideal S1x1x1024x1024 .f32) (ix4 0 0 k f) = m ((c : Thread nD τ).loc main_arg2) (ix4 0 e k f) := by
  rw [← V_main_arg2 m c]
  show V m c main_arg2 ((win0_2.rect (pt e j)).emb (ix4 0 0 k f)) = _
  obtain ⟨e0, e1, e2, e3⟩ := idx2 (pt e j)
  have hv : (pt e j).val = e.val * 3 + j.val := rfl
  congr 1
  funext a
  match a with
  | ⟨0, _⟩ => apply Fin.ext; show win0_2.index (pt e j) 0 * 1 + 1 * 0 = 0; omega
  | ⟨1, _⟩ => apply Fin.ext; show win0_2.index (pt e j) 1 * 1 + 1 * 0 = e.val; omega
  | ⟨2, _⟩ => apply Fin.ext; show win0_2.index (pt e j) 2 * 1024 + 1 * k.val = k.val; omega
  | ⟨3, _⟩ => apply Fin.ext; show win0_2.index (pt e j) 3 * 1024 + 1 * f.val = f.val; omega
theorem iblk3 (e : Fin 16) (j : Fin 3) (k f : Fin 1024) :
    (iblk m c 3 (pt e j) : Vec Ideal S1x1x1024x1024 .f32) (ix4 0 0 k f) = m ((c : Thread nD τ).loc main_arg3) (ix4 0 e k f) := by
  rw [← V_main_arg3 m c]
  show V m c main_arg3 ((win0_3.rect (pt e j)).emb (ix4 0 0 k f)) = _
  obtain ⟨e0, e1, e2, e3⟩ := idx3 (pt e j)
  have hv : (pt e j).val = e.val * 3 + j.val := rfl
  congr 1
  funext a
  match a with
  | ⟨0, _⟩ => apply Fin.ext; show win0_3.index (pt e j) 0 * 1 + 1 * 0 = 0; omega
  | ⟨1, _⟩ => apply Fin.ext; show win0_3.index (pt e j) 1 * 1 + 1 * 0 = e.val; omega
  | ⟨2, _⟩ => apply Fin.ext; show win0_3.index (pt e j) 2 * 1024 + 1 * k.val = k.val; omega
  | ⟨3, _⟩ => apply Fin.ext; show win0_3.index (pt e j) 3 * 1024 + 1 * f.val = f.val; omega

/-- An entry of the final array, given as an entry of the block its point writes. -/
theorem arr_at (e : Fin 16) (j : Fin 3) (r : Fin 768) (d : Fin 1024) (p : Fin 2304) (hp : p.val = j.val * 768 + r.val) :
    ((dats m 0 c).arrAt 4 cfg0.N : FVec Ideal S16x2304x1024 .f32) (ix3 e p d)
      = out0_4 (iblk m c 0 (pt e j)) (iblk m c 1 (pt e j)) (iblk m c 2 (pt e j)) (iblk m c 3 (pt e j)) (ix3 0 r d) := by
  have h := congrFun ((Value.blocks4 m c (pt e j) (flush4 _)).trans (Value.flushed4 m c (pt e j))) (ix3 0 r d)
  refine Eq.trans ?_ h
  show _ = ((dats m 0 c).arrAt 4 cfg0.N : FVec Ideal S16x2304x1024 .f32) ((win0_4.rect (pt e j)).emb (ix3 0 r d))
  obtain ⟨e0, e1, e2⟩ := idx4 (pt e j)
  have hv : (pt e j).val = e.val * 3 + j.val := rfl
  refine congrArg _ (funext fun a => ?_)
  match a with
  | ⟨0, _⟩ => apply Fin.ext; show e.val = win0_4.index (pt e j) 0 * 1 + 1 * 0; omega
  | ⟨1, _⟩ => apply Fin.ext; show p.val = win0_4.index (pt e j) 1 * 768 + 1 * r.val; omega
  | ⟨2, _⟩ => apply Fin.ext; show d.val = win0_4.index (pt e j) 2 * 1024 + 1 * d.val; omega

/-- The reference's array of the same arguments. -/
abbrev want : FVec Ideal S16x2304x1024 .f32 :=
  Cert.RefExpertsIdeal.Ref.val (m ((c : Thread nD τ).loc main_arg0)) (m ((c : Thread nD τ).loc main_arg1)) (m ((c : Thread nD τ).loc main_arg2)) (m ((c : Thread nD τ).loc main_arg3))

/-- The two arrays agree at an entry. -/
theorem entry_eq (e : Fin 16) (p : Fin 2304) (d : Fin 1024) :
    ((dats m 0 c).arrAt 4 cfg0.N : FVec Ideal S16x2304x1024 .f32) (ix3 e p d) = want m c (ix3 e p d) := by
  have hw := Cert.RefExpertsIdeal.Ref.val_at (m ((c : Thread nD τ).loc main_arg0)) (m ((c : Thread nD τ).loc main_arg1)) (m ((c : Thread nD τ).loc main_arg2)) (m ((c : Thread nD τ).loc main_arg3))
    e ⟨p.val / 288, by omega⟩ ⟨p.val % 288, by omega⟩ d
  have hq : (⟨p.val / 288 * 288 + p.val % 288, by omega⟩ : Fin 2304) = p := Fin.ext (by show p.val / 288 * 288 + p.val % 288 = p.val; omega)
  refine (arr_at m c e ⟨p.val / 768, by omega⟩ ⟨p.val % 768, by omega⟩ d p (by show p.val = p.val / 768 * 768 + p.val % 768; omega)).trans ?_
  refine (out_at _ _ _ _ _ _).trans ?_
  refine Eq.trans ?_ (hw.symm.trans (congrArg (fun q => want m c (ix3 e q d)) hq))
  refine congr (congr (congr (congr (congrArg row (funext fun k => ?_)) (funext fun k => funext fun f => ?_)) (funext fun k => funext fun f => ?_)) (funext fun k => funext fun f => ?_)) rfl
  · exact iblk0 m c e _ _ k _ _ (by show p.val / 288 * 288 + p.val % 288 = p.val / 768 * 768 + p.val % 768; omega)
  · exact iblk1 m c e _ k f
  · exact iblk2 m c e _ k f
  · exact iblk3 m c e _ k f

/-- THE TWO ARRAYS AGREE. -/
theorem result_eq : (dats m 0 c).arrAt 4 cfg0.N = want m c := by
  have H := entry_eq m c
  generalize want m c = R at H ⊢
  funext i
  have hi : i = ix3 (i 0) (i 1) (i 2) := by
    funext a
    match a with
    | 0 => rfl
    | 1 => rfl
    | 2 => rfl
  rw [hi]
  exact H (i 0) (i 1) (i 2)

/-- The run, read: the result at the reference's array. -/
theorem run (ρ : Dev nD → PrngReg) : θ_run defs (onTc (τ := τ) (main (F := Ideal))) ⟨m, fun _ => 0, ρ⟩ fun r => ∀ c : Dev nD,
      r.2.mem ((c.tc : Thread nD τ).loc main_v1) = want m c :=
  (θ_run defs _ _).mono (fun _ h c => (h c).1.trans (result_eq m c)) (Value.run_blocks m ρ)

end Cert.ExpertsIdeal.Block

end
-- ==== Proof.OddInBlock.lean ====
/- The odd layers' input projection: the block a grid point writes and the host's arrays, read at an entry. -/
module

public import proofs.«01_k».proof.Proof.Gen.OddInIdeal.Value
public import Idealize.ShloMosaic.Lib.Pointwise

@[expose] public section

set_option maxRecDepth 16384

noncomputable section

namespace Cert.OddInIdeal.Block

open Idealize.ShloMosaic Idealize.ShloMosaic.TcCoe
open Cert.OddInIdeal Cert.OddInIdeal.Gen

/-- One entry of the projection: the row scaled and shifted, against a column. -/
def row (x s h w : Fin 1024 → EReal) : EReal := ∑ k : Fin 1024, (x k * (1 + s k) + h k) * w k

/-- What a grid point stores, at an entry. -/
theorem pay_at (x : Vec Ideal S256x1024 .f32) (s h : Vec Ideal S1x1x1x1024 .f32) (w : Vec Ideal S1024x4096 .bf16) (r : Fin 256) (n : Fin 4096) :
    k0_pay1 x s h w (ix2 r n)
      = row (fun k => x (ix2 r k)) (fun k => s (ix4 0 0 0 k)) (fun k => h (ix4 0 0 0 k)) (fun k => w (ix2 k n)) := by
  pointwise [k0_pay1]
  rfl

theorem off2 : (![0, 0] : Fin 2 → Nat) = fun _ => 0 := by decide
theorem off4 : (![0, 0, 0, 0] : Fin 4 → Nat) = fun _ => 0 := by decide

/-- The result buffer after a grid point, at an entry. -/
theorem out_at (x : Vec Ideal S256x1024 .f32) (h s : Vec Ideal S1x1x1x1024 .f32) (w : Vec Ideal S1024x4096 .bf16) (r : Fin 256) (n : Fin 4096) :
    out0_4 x h s w (ix2 r n)
      = row (fun k => x (ix2 r k)) (fun k => s (ix4 0 0 0 k)) (fun k => h (ix4 0 0 0 k)) (fun k => w (ix2 k n)) := by
  unfold out0_4
  rw [View.canon_unit_zero off2, View.ld_unit_zero off2, View.ld_unit_zero off4, View.ld_unit_zero off4, View.ld_unit_zero off2]
  exact pay_at x s h w r n

/-- The rows: the context's first, then the latents', batch by batch. -/
def rows (x : FVec Ideal S8x2048x1024 .f32) (t : FVec Ideal S8x256x1024 .f32) : FVec Ideal S18432x1024 .f32 :=
  shapeCast S18432x1024 (concatenate S8x2304x1024 1 [⟨S8x256x1024, t⟩, ⟨S8x2048x1024, x⟩] concatenates_S8x256x1024_S8x2048x1024_S8x2304x1024_d1) shapeCasts_S8x2304x1024_S18432x1024

theorem flat_at (v : FVec Ideal S8x2304x1024 .f32) (b : Fin 8) (q : Fin 2304) (k : Fin 1024) :
    shapeCast S18432x1024 v shapeCasts_S8x2304x1024_S18432x1024 (ix2 ⟨b.val * 2304 + q.val, by omega⟩ k) = v (ix3 b q k) := by
  refine shapeCast_apply v _ _ _ ?_
  rw [Shape.rowMajor_val_three, Shape.rowMajor_val_two]
  rfl

/-- A row of the context, -/
theorem rows_ctx (x : FVec Ideal S8x2048x1024 .f32) (t : FVec Ideal S8x256x1024 .f32) (b : Fin 8) (r : Fin 256) (k : Fin 1024) :
    rows x t (ix2 ⟨b.val * 2304 + r.val, by omega⟩ k) = t (ix3 b r k) := by
  refine (flat_at _ b ⟨r.val, by omega⟩ k).trans ?_
  refine concatenate_pair_apply_left (t := S8x2304x1024) 1 t x _ _ rfl (ix3 b r k) fun a => ?_
  match a with
  | 0 => rfl
  | 1 => rfl
  | 2 => rfl
/-- and one of the latents. -/
theorem rows_lat (x : FVec Ideal S8x2048x1024 .f32) (t : FVec Ideal S8x256x1024 .f32) (b : Fin 8) (r : Fin 2048) (k : Fin 1024) :
    rows x t (ix2 ⟨b.val * 2304 + (256 + r.val), by omega⟩ k) = x (ix3 b r k) := by
  refine (flat_at _ b ⟨256 + r.val, by omega⟩ k).trans ?_
  refine concatenate_pair_apply_right (t := S8x2304x1024) 1 t x _ _ rfl rfl (ix3 b r k) (fun a ha => ?_) (Nat.add_comm r.val 256)
  match a with
  | 0 => rfl
  | 1 => exact absurd rfl ha
  | 2 => rfl

/-- The table of modulations: for each batch the context's and the batch's own. -/
def tabs (q : FVec Ideal S9x6x1024 .f32) : FVec Ideal S6x8x2x1x1024 .f32 :=
  broadcastInDim S6x8x2x1x1024 ![0, 1, 2, 4] bcast_S6x8x2x1024_S6x8x2x1x1024_0_1_2_4
    (transpose S6x8x2x1024 [2, 0, 1, 3]
      (concatenate S8x2x6x1024 1
        [⟨S8x1x6x1024, broadcastInDim S8x1x6x1024 ![0, 2, 3] bcast_S8x6x1024_S8x1x6x1024_0_2_3
            (broadcastInDim S8x6x1024 ![0, 1, 2] bcast_S1x6x1024_S8x6x1024_0_1_2 (extractStridedSlice S1x6x1024 ![8, 0, 0] q slices_S9x6x1024_S1x6x1024_8_0_0))⟩,
         ⟨S8x1x6x1024, broadcastInDim S8x1x6x1024 ![0, 2, 3] bcast_S8x6x1024_S8x1x6x1024_0_2_3
            (extractStridedSlice S8x6x1024 ![0, 0, 0] q slices_S9x6x1024_S8x6x1024_0_0_0)⟩]
        concatenates_S8x1x6x1024_S8x1x6x1024_S8x2x6x1024_d1)
      transposes_S8x2x6x1024_S6x8x2x1024_2_0_1_3)

/-- The shifts -/
def shifts (q : FVec Ideal S9x6x1024 .f32) : FVec Ideal S8x2x1x1024 .f32 :=
  shapeCast S8x2x1x1024 (extractStridedSlice S1x8x2x1x1024 ![0, 0, 0, 0, 0] (tabs q) slices_S6x8x2x1x1024_S1x8x2x1x1024_0_0_0_0_0) shapeCasts_S1x8x2x1x1024_S8x2x1x1024
/-- and the scales. -/
def scales (q : FVec Ideal S9x6x1024 .f32) : FVec Ideal S8x2x1x1024 .f32 :=
  shapeCast S8x2x1x1024 (extractStridedSlice S1x8x2x1x1024 ![1, 0, 0, 0, 0] (tabs q) slices_S6x8x2x1x1024_S1x8x2x1x1024_1_0_0_0_0) shapeCasts_S1x8x2x1x1024_S8x2x1x1024

theorem tabs_ctx (q : FVec Ideal S9x6x1024 .f32) (j : Fin 6) (b : Fin 8) (k : Fin 1024) : tabs q (ix5 j b 0 0 k) = q (ix3 8 j k) := by
  pointwise [tabs]
theorem tabs_lat (q : FVec Ideal S9x6x1024 .f32) (j : Fin 6) (b : Fin 8) (k : Fin 1024) : tabs q (ix5 j b 1 0 k) = q (ix3 ⟨b.val, by omega⟩ j k) := by
  pointwise [tabs]

theorem shifts_at (q : FVec Ideal S9x6x1024 .f32) (b : Fin 8) (z : Fin 2) (k : Fin 1024) : shifts q (ix4 b z 0 k) = tabs q (ix5 0 b z 0 k) := by
  pointwise [shifts]
theorem scales_at (q : FVec Ideal S9x6x1024 .f32) (b : Fin 8) (z : Fin 2) (k : Fin 1024) : scales q (ix4 b z 0 k) = tabs q (ix5 1 b z 0 k) := by
  pointwise [scales]

variable (m : (ℓ : Loc nD τ sig) → Buf (Elt Ideal) ℓ) (c : Dev nD)

theorem V_v14 : V m c main_v14 = rows (m ((c : Thread nD τ).loc main_arg0)) (m ((c : Thread nD τ).loc main_arg1)) := rfl
theorem V_v10 : V m c main_v10 = shifts (m ((c : Thread nD τ).loc main_arg2)) := rfl
theorem V_v12 : V m c main_v12 = scales (m ((c : Thread nD τ).loc main_arg2)) := rfl
theorem V_v13 (k : Fin 1024) (n : Fin 4096) : (V m c main_v13 : Vec Ideal S1024x4096 .bf16) (ix2 k n) = (m ((c : Thread nD τ).loc main_arg3) : Vec Ideal S1024x4096 .f32) (ix2 k n) := rfl

end Cert.OddInIdeal.Block

end
-- ==== Proof.OddInRef.lean ====
/- The odd layers' input projection's reference, read at an entry. -/
module

public import proofs.«01_k».proof.Proof.Gen.RefOddInIdeal.Run
public import proofs.«01_k».proof.Proof.OddInBlock
public import Idealize.ShloMosaic.Lib.Pointwise
public import Idealize.ShloMosaic.Lib.Pipeline.Value

@[expose] public section

set_option maxRecDepth 16384

noncomputable section

namespace Cert.RefOddInIdeal.Ref

open Idealize.ShloMosaic Idealize.ShloMosaic.TcCoe Idealize.SL.Sem
open Cert.OddInIdeal.Block (row)
open Cert.RefOddInIdeal Cert.RefOddInIdeal.Gen

/-- The context's row of modulations, -/
def own (q : FVec Ideal S9x6x1024 .f32) : FVec Ideal S6x1024 .f32 :=
  shapeCast S6x1024 (extractStridedSlice S1x6x1024 ![8, 0, 0] q slices_S9x6x1024_S1x6x1024_8_0_0) shapeCasts_S1x6x1024_S6x1024
/-- its rows modulated -/
def uctx (t : FVec Ideal S8x256x1024 .f32) (o : FVec Ideal S6x1024 .f32) : FVec Ideal S8x256x1024 .f32 :=
  addf (mulf t (broadcastInDim S8x256x1024 ![0, 1, 2] bcast_S1x1x1024_S8x256x1024_0_1_2 (broadcastInDim S1x1x1024 ![2] bcast_S1024_S1x1x1024_2
      (addf (broadcastInDim S1024 ![] bcast_S_S1024 (constant S_ .f32 0x3F800000#32)) (shapeCast S1024 (extractStridedSlice S1x1024 ![1, 0] o slices_S6x1024_S1x1024_1_0) shapeCasts_S1x1024_S1024)))))
    (broadcastInDim S8x256x1024 ![0, 1, 2] bcast_S1x1x1024_S8x256x1024_0_1_2 (broadcastInDim S1x1x1024 ![2] bcast_S1024_S1x1x1024_2
      (shapeCast S1024 (extractStridedSlice S1x1024 ![0, 0] o slices_S6x1024_S1x1024_0_0) shapeCasts_S1x1024_S1024)))
/-- and the latents' rows modulated. -/
def ulat (x : FVec Ideal S8x2048x1024 .f32) (q : FVec Ideal S9x6x1024 .f32) : FVec Ideal S8x2048x1024 .f32 :=
  addf (mulf x (broadcastInDim S8x2048x1024 ![0, 1, 2] bcast_S8x1x1024_S8x2048x1024_0_1_2
      (addf (broadcastInDim S8x1x1024 ![] bcast_S_S8x1x1024 (constant S_ .f32 0x3F800000#32)) (broadcastInDim S8x1x1024 ![0, 2] bcast_S8x1024_S8x1x1024_0_2
        (shapeCast S8x1024 (extractStridedSlice S8x1x1024 ![0, 1, 0] (extractStridedSlice S8x6x1024 ![0, 0, 0] q slices_S9x6x1024_S8x6x1024_0_0_0) slices_S8x6x1024_S8x1x1024_0_1_0) shapeCasts_S8x1x1024_S8x1024)))))
    (broadcastInDim S8x2048x1024 ![0, 1, 2] bcast_S8x1x1024_S8x2048x1024_0_1_2 (broadcastInDim S8x1x1024 ![0, 2] bcast_S8x1024_S8x1x1024_0_2
        (shapeCast S8x1024 (extractStridedSlice S8x1x1024 ![0, 0, 0] (extractStridedSlice S8x6x1024 ![0, 0, 0] q slices_S9x6x1024_S8x6x1024_0_0_0) slices_S8x6x1024_S8x1x1024_0_0_0) shapeCasts_S8x1x1024_S8x1024)))

/-- The reference's array. -/
def val (x : FVec Ideal S8x2048x1024 .f32) (t : FVec Ideal S8x256x1024 .f32) (q : FVec Ideal S9x6x1024 .f32) (w : FVec Ideal S1024x4096 .f32) : FVec Ideal S18432x4096 .f32 :=
  shapeCast S18432x4096 (concatenate S8x2304x4096 1
    [⟨S8x256x4096, Host.dotGeneral dot_S8x256x1024_S1024x4096_S8x256x4096_2_0_01_1_n_n none (uctx t (own q)) w⟩,
     ⟨S8x2048x4096, Host.dotGeneral dot_S8x2048x1024_S1024x4096_S8x2048x4096_2_0_01_1_n_n none (ulat x q) w⟩]
    concatenates_S8x256x4096_S8x2048x4096_S8x2304x4096_d1) shapeCasts_S8x2304x4096_S18432x4096

theorem own_at (q : FVec Ideal S9x6x1024 .f32) (j : Fin 6) (k : Fin 1024) : own q (ix2 j k) = q (ix3 8 j k) := by
  pointwise [own]
theorem uctx_at (t : FVec Ideal S8x256x1024 .f32) (o : FVec Ideal S6x1024 .f32) (b : Fin 8) (r : Fin 256) (k : Fin 1024) :
    uctx t o (ix3 b r k) = t (ix3 b r k) * (1 + o (ix2 1 k)) + o (ix2 0 k) := by
  pointwise [uctx]
theorem ulat_at (x : FVec Ideal S8x2048x1024 .f32) (q : FVec Ideal S9x6x1024 .f32) (b : Fin 8) (r : Fin 2048) (k : Fin 1024) :
    ulat x q (ix3 b r k) = x (ix3 b r k) * (1 + q (ix3 ⟨b.val, by omega⟩ 1 k)) + q (ix3 ⟨b.val, by omega⟩ 0 k) := by
  pointwise [ulat]

theorem dotC_at (x : FVec Ideal S8x256x1024 .f32) (w : FVec Ideal S1024x4096 .f32) (b : Fin 8) (r : Fin 256) (n : Fin 4096) :
    Host.dotGeneral dot_S8x256x1024_S1024x4096_S8x256x4096_2_0_01_1_n_n none x w (ix3 b r n) = ∑ k : Fin 1024, x (ix3 b r k) * w (ix2 k n) := by
  pointwise
theorem dotL_at (x : FVec Ideal S8x2048x1024 .f32) (w : FVec Ideal S1024x4096 .f32) (b : Fin 8) (r : Fin 2048) (n : Fin 4096) :
    Host.dotGeneral dot_S8x2048x1024_S1024x4096_S8x2048x4096_2_0_01_1_n_n none x w (ix3 b r n) = ∑ k : Fin 1024, x (ix3 b r k) * w (ix2 k n) := by
  pointwise

theorem flat_at (v : FVec Ideal S8x2304x4096 .f32) (b : Fin 8) (p : Fin 2304) (k : Fin 4096) :
    shapeCast S18432x4096 v shapeCasts_S8x2304x4096_S18432x4096 (ix2 ⟨b.val * 2304 + p.val, by omega⟩ k) = v (ix3 b p k) := by
  refine shapeCast_apply v _ _ _ ?_
  rw [Shape.rowMajor_val_three, Shape.rowMajor_val_two]
  rfl

/-- A row of the context, -/
theorem val_ctx (x : FVec Ideal S8x2048x1024 .f32) (t : FVec Ideal S8x256x1024 .f32) (q : FVec Ideal S9x6x1024 .f32) (w : FVec Ideal S1024x4096 .f32)
    (b : Fin 8) (r : Fin 256) (n : Fin 4096) :
    val x t q w (ix2 ⟨b.val * 2304 + r.val, by omega⟩ n)
      = row (fun k => t (ix3 b r k)) (fun k => q (ix3 8 1 k)) (fun k => q (ix3 8 0 k)) (fun k => w (ix2 k n)) := by
  refine (flat_at _ b ⟨r.val, by omega⟩ n).trans ?_
  refine (concatenate_pair_apply_left (t := S8x2304x4096) (s₁ := S8x256x4096) (s₂ := S8x2048x4096) 1 _ _ _ _ rfl (ix3 b r n) fun a => ?_).trans ?_
  · match a with
    | 0 => rfl
    | 1 => rfl
    | 2 => rfl
  · rw [dotC_at]
    exact Finset.sum_congr rfl fun k _ => by rw [uctx_at, own_at, own_at]
/-- and one of the latents. -/
theorem val_lat (x : FVec Ideal S8x2048x1024 .f32) (t : FVec Ideal S8x256x1024 .f32) (q : FVec Ideal S9x6x1024 .f32) (w : FVec Ideal S1024x4096 .f32)
    (b : Fin 8) (r : Fin 2048) (n : Fin 4096) :
    val x t q w (ix2 ⟨b.val * 2304 + (256 + r.val), by omega⟩ n)
      = row (fun k => x (ix3 b r k)) (fun k => q (ix3 ⟨b.val, by omega⟩ 1 k)) (fun k => q (ix3 ⟨b.val, by omega⟩ 0 k)) (fun k => w (ix2 k n)) := by
  refine (flat_at _ b ⟨256 + r.val, by omega⟩ n).trans ?_
  refine (concatenate_pair_apply_right (t := S8x2304x4096) (s₁ := S8x256x4096) (s₂ := S8x2048x4096) 1 _ _ _ _ rfl rfl (ix3 b r n) (fun a ha => ?_) ?_).trans ?_
  · match a with
    | 0 => rfl
    | 1 => exact absurd rfl ha
    | 2 => rfl
  · exact Nat.add_comm r.val 256
  · rw [dotL_at]
    exact Finset.sum_congr rfl fun k _ => by rw [ulat_at]

end Cert.RefOddInIdeal.Ref

end
-- ==== Proof.OddInWhole.lean ====
/- The odd layers' input projection: the kernel's array, entry by entry, and that it is the reference's. -/
module

public import proofs.«01_k».proof.Proof.OddInRef

@[expose] public section

set_option maxRecDepth 16384

noncomputable section

namespace Cert.OddInIdeal.Block

open Idealize.ShloMosaic Idealize.ShloMosaic.TcCoe Idealize.SL.Sem
open Cert.OddInIdeal Cert.OddInIdeal.Gen

variable (m : (ℓ : Loc nD τ sig) → Buf (Elt Ideal) ℓ) (c : Dev nD)

/-- The grid point of a block of rows: nine to a batch, the first the context's. -/
def pt (b : Fin 8) (j : Fin 9) : Fin cfg0.N := ⟨b.val * 9 + j.val, lt_of_lt_of_eq (by omega) (by decide : 72 = cfg0.N)⟩

/-- The context's block or a latents' block. -/
def kind (j : Fin 9) : Fin 2 := if j.val = 0 then 0 else 1

theorem idx0 : ∀ t : Fin cfg0.N, win0_0.index t 0 = t.val ∧ win0_0.index t 1 = 0 := by decide +kernel
theorem idx1 : ∀ t : Fin cfg0.N, win0_1.index t 0 = t.val / 9 ∧ win0_1.index t 1 = (if t.val % 9 = 0 then 0 else 1) ∧ win0_1.index t 2 = 0 ∧ win0_1.index t 3 = 0 := by decide +kernel
theorem idx2 : ∀ t : Fin cfg0.N, win0_2.index t 0 = t.val / 9 ∧ win0_2.index t 1 = (if t.val % 9 = 0 then 0 else 1) ∧ win0_2.index t 2 = 0 ∧ win0_2.index t 3 = 0 := by decide +kernel
theorem idx3 : ∀ t : Fin cfg0.N, win0_3.index t 0 = 0 ∧ win0_3.index t 1 = 0 := by decide +kernel
theorem idx4 : ∀ t : Fin cfg0.N, win0_4.index t 0 = t.val ∧ win0_4.index t 1 = 0 := by decide +kernel
theorem flush4 : ∀ t : Fin cfg0.N, win0_4.flush t = true := by decide +kernel

/-- The block of rows, position by position. -/
theorem iblk0 (b : Fin 8) (j : Fin 9) (r : Fin 256) (k : Fin 1024) (p : Fin 18432) (hp : p.val = b.val * 2304 + (j.val * 256 + r.val)) :
    (iblk m c 0 (pt b j) : Vec Ideal S256x1024 .f32) (ix2 r k) = rows (m ((c : Thread nD τ).loc main_arg0)) (m ((c : Thread nD τ).loc main_arg1)) (ix2 p k) := by
  refine Eq.trans ?_ (congrFun (V_v14 m c) _)
  show V m c main_v14 ((win0_0.rect (pt b j)).emb (ix2 r k)) = _
  obtain ⟨e0, e1⟩ := idx0 (pt b j)
  have hv : (pt b j).val = b.val * 9 + j.val := rfl
  congr 1
  funext a
  match a with
  | ⟨0, _⟩ => apply Fin.ext; show win0_0.index (pt b j) 0 * 256 + 1 * r.val = p.val; omega
  | ⟨1, _⟩ => apply Fin.ext; show win0_0.index (pt b j) 1 * 1024 + 1 * k.val = k.val; omega

theorem kind_val (b : Fin 8) (j : Fin 9) : (if (pt b j).val % 9 = 0 then 0 else 1) = (kind j).val := by
  have hv : (pt b j).val = b.val * 9 + j.val := rfl
  unfold kind
  by_cases h : j.val = 0
  · rw [if_pos h, if_pos (by omega)]; rfl
  · rw [if_neg h, if_neg (by omega)]; rfl

/-- The block's shift, -/
theorem iblk1 (b : Fin 8) (j : Fin 9) (k : Fin 1024) :
    (iblk m c 1 (pt b j) : Vec Ideal S1x1x1x1024 .f32) (ix4 0 0 0 k) = tabs (m ((c : Thread nD τ).loc main_arg2)) (ix5 0 b (kind j) 0 k) := by
  rw [← shifts_at]
  refine Eq.trans ?_ (congrFun (V_v10 m c) _)
  show V m c main_v10 ((win0_1.rect (pt b j)).emb (ix4 0 0 0 k)) = _
  obtain ⟨e0, e1, e2, e3⟩ := idx1 (pt b j)
  have hk := kind_val b j
  have hv : (pt b j).val = b.val * 9 + j.val := rfl
  congr 1
  funext a
  match a with
  | ⟨0, _⟩ => apply Fin.ext; show win0_1.index (pt b j) 0 * 1 + 1 * 0 = b.val; omega
  | ⟨1, _⟩ => apply Fin.ext; show win0_1.index (pt b j) 1 * 1 + 1 * 0 = (kind j).val; omega
  | ⟨2, _⟩ => apply Fin.ext; show win0_1.index (pt b j) 2 * 1 + 1 * 0 = 0; omega
  | ⟨3, _⟩ => apply Fin.ext; show win0_1.index (pt b j) 3 * 1024 + 1 * k.val = k.val; omega
/-- its scale -/
theorem iblk2 (b : Fin 8) (j : Fin 9) (k : Fin 1024) :
    (iblk m c 2 (pt b j) : Vec Ideal S1x1x1x1024 .f32) (ix4 0 0 0 k) = tabs (m ((c : Thread nD τ).loc main_arg2)) (ix5 1 b (kind j) 0 k) := by
  rw [← scales_at]
  refine Eq.trans ?_ (congrFun (V_v12 m c) _)
  show V m c main_v12 ((win0_2.rect (pt b j)).emb (ix4 0 0 0 k)) = _
  obtain ⟨e0, e1, e2, e3⟩ := idx2 (pt b j)
  have hk := kind_val b j
  have hv : (pt b j).val = b.val * 9 + j.val := rfl
  congr 1
  funext a
  match a with
  | ⟨0, _⟩ => apply Fin.ext; show win0_2.index (pt b j) 0 * 1 + 1 * 0 = b.val; omega
  | ⟨1, _⟩ => apply Fin.ext; show win0_2.index (pt b j) 1 * 1 + 1 * 0 = (kind j).val; omega
  | ⟨2, _⟩ => apply Fin.ext; show win0_2.index (pt b j) 2 * 1 + 1 * 0 = 0; omega
  | ⟨3, _⟩ => apply Fin.ext; show win0_2.index (pt b j) 3 * 1024 + 1 * k.val = k.val; omega
/-- and the matrix. -/
theorem iblk3 (b : Fin 8) (j : Fin 9) (k : Fin 1024) (n : Fin 4096) :
    (iblk m c 3 (pt b j) : Vec Ideal S1024x4096 .bf16) (ix2 k n) = (m ((c : Thread nD τ).loc main_arg3) : Vec Ideal S1024x4096 .f32) (ix2 k n) := by
  refine Eq.trans ?_ (V_v13 m c k n)
  show V m c main_v13 ((win0_3.rect (pt b j)).emb (ix2 k n)) = _
  obtain ⟨e0, e1⟩ := idx3 (pt b j)
  congr 1
  funext a
  match a with
  | ⟨0, _⟩ => apply Fin.ext; show win0_3.index (pt b j) 0 * 1024 + 1 * k.val = k.val; omega
  | ⟨1, _⟩ => apply Fin.ext; show win0_3.index (pt b j) 1 * 4096 + 1 * n.val = n.val; omega

/-- An entry of the final array, given as an entry of the block its point writes. -/
theorem arr_at (b : Fin 8) (j : Fin 9) (r : Fin 256) (n : Fin 4096) (p : Fin 18432) (hp : p.val = b.val * 2304 + (j.val * 256 + r.val)) :
    ((dats m 0 c).arrAt 4 cfg0.N : FVec Ideal S18432x4096 .f32) (ix2 p n)
      = out0_4 (iblk m c 0 (pt b j)) (iblk m c 1 (pt b j)) (iblk m c 2 (pt b j)) (iblk m c 3 (pt b j)) (ix2 r n) := by
  have h := congrFun ((Value.blocks4 m c (pt b j) (flush4 _)).trans (Value.flushed4 m c (pt b j))) (ix2 r n)
  refine Eq.trans ?_ h
  show _ = ((dats m 0 c).arrAt 4 cfg0.N : FVec Ideal S18432x4096 .f32) ((win0_4.rect (pt b j)).emb (ix2 r n))
  obtain ⟨e0, e1⟩ := idx4 (pt b j)
  have hv : (pt b j).val = b.val * 9 + j.val := rfl
  refine congrArg _ (funext fun a => ?_)
  match a with
  | ⟨0, _⟩ => apply Fin.ext; show p.val = win0_4.index (pt b j) 0 * 256 + 1 * r.val; omega
  | ⟨1, _⟩ => apply Fin.ext; show n.val = win0_4.index (pt b j) 1 * 4096 + 1 * n.val; omega

/-- The reference's array of the same arguments. -/
abbrev want : FVec Ideal S18432x4096 .f32 :=
  Cert.RefOddInIdeal.Ref.val (m ((c : Thread nD τ).loc main_arg0)) (m ((c : Thread nD τ).loc main_arg1)) (m ((c : Thread nD τ).loc main_arg2)) (m ((c : Thread nD τ).loc main_arg3))

/-- The kernel's array at an entry, over the host's arrays. -/
theorem arr_row (b : Fin 8) (j : Fin 9) (r : Fin 256) (n : Fin 4096) (p : Fin 18432) (hp : p.val = b.val * 2304 + (j.val * 256 + r.val)) :
    ((dats m 0 c).arrAt 4 cfg0.N : FVec Ideal S18432x4096 .f32) (ix2 p n)
      = row (fun k => rows (m ((c : Thread nD τ).loc main_arg0)) (m ((c : Thread nD τ).loc main_arg1)) (ix2 p k))
          (fun k => tabs (m ((c : Thread nD τ).loc main_arg2)) (ix5 1 b (kind j) 0 k)) (fun k => tabs (m ((c : Thread nD τ).loc main_arg2)) (ix5 0 b (kind j) 0 k))
          (fun k => (m ((c : Thread nD τ).loc main_arg3) : Vec Ideal S1024x4096 .f32) (ix2 k n)) := by
  refine (arr_at m c b j r n p hp).trans ((out_at _ _ _ _ _ _).trans ?_)
  refine congr (congr (congr (congrArg row (funext fun k => ?_)) (funext fun k => ?_)) (funext fun k => ?_)) (funext fun k => ?_)
  · exact iblk0 m c b j r k p hp
  · exact iblk2 m c b j k
  · exact iblk1 m c b j k
  · exact iblk3 m c b j k n

/-- The two arrays agree in a row of the context -/
theorem entry_ctx (b : Fin 8) (r : Fin 256) (n : Fin 4096) (p : Fin 18432) (hp : p.val = b.val * 2304 + r.val) :
    ((dats m 0 c).arrAt 4 cfg0.N : FVec Ideal S18432x4096 .f32) (ix2 p n) = want m c (ix2 p n) := by
  have hq : p = ⟨b.val * 2304 + r.val, by omega⟩ := Fin.ext hp
  rw [hq]
  refine (arr_row m c b 0 r n _ (by show b.val * 2304 + r.val = b.val * 2304 + (0 * 256 + r.val); omega)).trans ?_
  refine Eq.trans ?_ (Cert.RefOddInIdeal.Ref.val_ctx _ _ _ _ b r n).symm
  refine congr (congr (congr (congrArg row (funext fun k => ?_)) (funext fun k => ?_)) (funext fun k => ?_)) rfl
  · exact rows_ctx _ _ b r k
  · exact tabs_ctx _ 1 b k
  · exact tabs_ctx _ 0 b k
/-- and in a row of the latents. -/
theorem entry_lat (b : Fin 8) (r : Fin 2048) (n : Fin 4096) (p : Fin 18432) (hp : p.val = b.val * 2304 + (256 + r.val)) :
    ((dats m 0 c).arrAt 4 cfg0.N : FVec Ideal S18432x4096 .f32) (ix2 p n) = want m c (ix2 p n) := by
  have hq : p = ⟨b.val * 2304 + (256 + r.val), by omega⟩ := Fin.ext hp
  rw [hq]
  refine (arr_row m c b ⟨r.val / 256 + 1, by omega⟩ ⟨r.val % 256, by omega⟩ n _ (by show b.val * 2304 + (256 + r.val) = b.val * 2304 + ((r.val / 256 + 1) * 256 + r.val % 256); omega)).trans ?_
  have hk : kind ⟨r.val / 256 + 1, by omega⟩ = 1 := if_neg (Nat.succ_ne_zero _)
  rw [hk]
  refine Eq.trans ?_ (Cert.RefOddInIdeal.Ref.val_lat _ _ _ _ b r n).symm
  refine congr (congr (congr (congrArg row (funext fun k => ?_)) (funext fun k => ?_)) (funext fun k => ?_)) rfl
  · exact rows_lat _ _ b r k
  · exact tabs_lat _ 1 b k
  · exact tabs_lat _ 0 b k

/-- THE TWO ARRAYS AGREE. -/
theorem result_eq : (dats m 0 c).arrAt 4 cfg0.N = want m c := by
  have H (p : Fin 18432) (n : Fin 4096) : ((dats m 0 c).arrAt 4 cfg0.N : FVec Ideal S18432x4096 .f32) (ix2 p n) = want m c (ix2 p n) := by
    by_cases h : p.val % 2304 < 256
    · exact entry_ctx m c ⟨p.val / 2304, by omega⟩ ⟨p.val % 2304, h⟩ n p (by show p.val = p.val / 2304 * 2304 + p.val % 2304; omega)
    · exact entry_lat m c ⟨p.val / 2304, by omega⟩ ⟨p.val % 2304 - 256, by omega⟩ n p (by show p.val = p.val / 2304 * 2304 + (256 + (p.val % 2304 - 256)); omega)
  generalize want m c = R at H ⊢
  funext i
  have hi : i = ix2 (i 0) (i 1) := by
    funext a
    match a with
    | 0 => rfl
    | 1 => rfl
  rw [hi]
  exact H (i 0) (i 1)

/-- The run, read: the result at the reference's array. -/
theorem run (ρ : Dev nD → PrngReg) : θ_run defs (onTc (τ := τ) (main (F := Ideal))) ⟨m, fun _ => 0, ρ⟩ fun r => ∀ c : Dev nD,
      r.2.mem ((c.tc : Thread nD τ).loc main_v15) = want m c :=
  (θ_run defs _ _).mono (fun _ h c => (h c).1.trans (result_eq m c)) (Value.run_blocks m ρ)

end Cert.OddInIdeal.Block

end
-- ==== Proof.EvenInBlock.lean ====
/- The even layers' input projection: the block a grid point writes and the host's arrays, read at an entry. -/
module

public import proofs.«01_k».proof.Proof.Gen.EvenInIdeal.Value
public import Idealize.ShloMosaic.Lib.Pointwise

@[expose] public section

set_option maxRecDepth 16384

noncomputable section

namespace Cert.EvenInIdeal.Block

open Idealize.ShloMosaic Idealize.ShloMosaic.TcCoe
open Cert.EvenInIdeal Cert.EvenInIdeal.Gen

/-- One entry of the projection: the row scaled and shifted, against a column. -/
def row (x s h w : Fin 1024 → EReal) : EReal := ∑ k : Fin 1024, (x k * (1 + s k) + h k) * w k

/-- What a grid point stores, at an entry. -/
theorem pay_at (x : Vec Ideal S256x1024 .f32) (s h : Vec Ideal S1x1x1x1024 .f32) (w : Vec Ideal S1024x2816 .bf16) (r : Fin 256) (n : Fin 2816) :
    k0_pay1 x s h w (ix2 r n)
      = row (fun k => x (ix2 r k)) (fun k => s (ix4 0 0 0 k)) (fun k => h (ix4 0 0 0 k)) (fun k => w (ix2 k n)) := by
  pointwise [k0_pay1]
  rfl

theorem off2 : (![0, 0] : Fin 2 → Nat) = fun _ => 0 := by decide
theorem off4 : (![0, 0, 0, 0] : Fin 4 → Nat) = fun _ => 0 := by decide

/-- The result buffer after a grid point, at an entry. -/
theorem out_at (x : Vec Ideal S256x1024 .f32) (h s : Vec Ideal S1x1x1x1024 .f32) (w : Vec Ideal S1024x2816 .bf16) (r : Fin 256) (n : Fin 2816) :
    out0_4 x h s w (ix2 r n)
      = row (fun k => x (ix2 r k)) (fun k => s (ix4 0 0 0 k)) (fun k => h (ix4 0 0 0 k)) (fun k => w (ix2 k n)) := by
  unfold out0_4
  rw [View.canon_unit_zero off2, View.ld_unit_zero off2, View.ld_unit_zero off4, View.ld_unit_zero off4, View.ld_unit_zero off2]
  exact pay_at x s h w r n

/-- The rows: the context's first, then the latents', batch by batch. -/
def rows (x : FVec Ideal S8x2048x1024 .f32) (t : FVec Ideal S8x256x1024 .f32) : FVec Ideal S18432x1024 .f32 :=
  shapeCast S18432x1024 (concatenate S8x2304x1024 1 [⟨S8x256x1024, t⟩, ⟨S8x2048x1024, x⟩] concatenates_S8x256x1024_S8x2048x1024_S8x2304x1024_d1) shapeCasts_S8x2304x1024_S18432x1024

theorem flat_at (v : FVec Ideal S8x2304x1024 .f32) (b : Fin 8) (q : Fin 2304) (k : Fin 1024) :
    shapeCast S18432x1024 v shapeCasts_S8x2304x1024_S18432x1024 (ix2 ⟨b.val * 2304 + q.val, by omega⟩ k) = v (ix3 b q k) := by
  refine shapeCast_apply v _ _ _ ?_
  rw [Shape.rowMajor_val_three, Shape.rowMajor_val_two]
  rfl

/-- A row of the context, -/
theorem rows_ctx (x : FVec Ideal S8x2048x1024 .f32) (t : FVec Ideal S8x256x1024 .f32) (b : Fin 8) (r : Fin 256) (k : Fin 1024) :
    rows x t (ix2 ⟨b.val * 2304 + r.val, by omega⟩ k) = t (ix3 b r k) := by
  refine (flat_at _ b ⟨r.val, by omega⟩ k).trans ?_
  refine concatenate_pair_apply_left (t := S8x2304x1024) 1 t x _ _ rfl (ix3 b r k) fun a => ?_
  match a with
  | 0 => rfl
  | 1 => rfl
  | 2 => rfl
/-- and one of the latents. -/
theorem rows_lat (x : FVec Ideal S8x2048x1024 .f32) (t : FVec Ideal S8x256x1024 .f32) (b : Fin 8) (r : Fin 2048) (k : Fin 1024) :
    rows x t (ix2 ⟨b.val * 2304 + (256 + r.val), by omega⟩ k) = x (ix3 b r k) := by
  refine (flat_at _ b ⟨256 + r.val, by omega⟩ k).trans ?_
  refine concatenate_pair_apply_right (t := S8x2304x1024) 1 t x _ _ rfl rfl (ix3 b r k) (fun a ha => ?_) (Nat.add_comm r.val 256)
  match a with
  | 0 => rfl
  | 1 => exact absurd rfl ha
  | 2 => rfl

/-- The table of modulations: for each batch the context's and the batch's own. -/
def tabs (q : FVec Ideal S9x6x1024 .f32) : FVec Ideal S6x8x2x1x1024 .f32 :=
  broadcastInDim S6x8x2x1x1024 ![0, 1, 2, 4] bcast_S6x8x2x1024_S6x8x2x1x1024_0_1_2_4
    (transpose S6x8x2x1024 [2, 0, 1, 3]
      (concatenate S8x2x6x1024 1
        [⟨S8x1x6x1024, broadcastInDim S8x1x6x1024 ![0, 2, 3] bcast_S8x6x1024_S8x1x6x1024_0_2_3
            (broadcastInDim S8x6x1024 ![0, 1, 2] bcast_S1x6x1024_S8x6x1024_0_1_2 (extractStridedSlice S1x6x1024 ![8, 0, 0] q slices_S9x6x1024_S1x6x1024_8_0_0))⟩,
         ⟨S8x1x6x1024, broadcastInDim S8x1x6x1024 ![0, 2, 3] bcast_S8x6x1024_S8x1x6x1024_0_2_3
            (extractStridedSlice S8x6x1024 ![0, 0, 0] q slices_S9x6x1024_S8x6x1024_0_0_0)⟩]
        concatenates_S8x1x6x1024_S8x1x6x1024_S8x2x6x1024_d1)
      transposes_S8x2x6x1024_S6x8x2x1024_2_0_1_3)

/-- The shifts -/
def shifts (q : FVec Ideal S9x6x1024 .f32) : FVec Ideal S8x2x1x1024 .f32 :=
  shapeCast S8x2x1x1024 (extractStridedSlice S1x8x2x1x1024 ![0, 0, 0, 0, 0] (tabs q) slices_S6x8x2x1x1024_S1x8x2x1x1024_0_0_0_0_0) shapeCasts_S1x8x2x1x1024_S8x2x1x1024
/-- and the scales. -/
def scales (q : FVec Ideal S9x6x1024 .f32) : FVec Ideal S8x2x1x1024 .f32 :=
  shapeCast S8x2x1x1024 (extractStridedSlice S1x8x2x1x1024 ![1, 0, 0, 0, 0] (tabs q) slices_S6x8x2x1x1024_S1x8x2x1x1024_1_0_0_0_0) shapeCasts_S1x8x2x1x1024_S8x2x1x1024

theorem tabs_ctx (q : FVec Ideal S9x6x1024 .f32) (j : Fin 6) (b : Fin 8) (k : Fin 1024) : tabs q (ix5 j b 0 0 k) = q (ix3 8 j k) := by
  pointwise [tabs]
theorem tabs_lat (q : FVec Ideal S9x6x1024 .f32) (j : Fin 6) (b : Fin 8) (k : Fin 1024) : tabs q (ix5 j b 1 0 k) = q (ix3 ⟨b.val, by omega⟩ j k) := by
  pointwise [tabs]

theorem shifts_at (q : FVec Ideal S9x6x1024 .f32) (b : Fin 8) (z : Fin 2) (k : Fin 1024) : shifts q (ix4 b z 0 k) = tabs q (ix5 0 b z 0 k) := by
  pointwise [shifts]
theorem scales_at (q : FVec Ideal S9x6x1024 .f32) (b : Fin 8) (z : Fin 2) (k : Fin 1024) : scales q (ix4 b z 0 k) = tabs q (ix5 1 b z 0 k) := by
  pointwise [scales]

/-- The rotary key's columns a quarter turn on, -/
def turn (w : FVec Ideal S1024x64 .f32) : FVec Ideal S1024x64 .f32 :=
  concatenate S1024x64 1
    [⟨S1024x16, Host.negf (extractStridedSlice S1024x16 ![0, 16] w slices_S1024x64_S1024x16_0_16)⟩,
     ⟨S1024x16, extractStridedSlice S1024x16 ![0, 0] w slices_S1024x64_S1024x16_0_0⟩,
     ⟨S1024x16, Host.negf (extractStridedSlice S1024x16 ![0, 48] w slices_S1024x64_S1024x16_0_48)⟩,
     ⟨S1024x16, extractStridedSlice S1024x16 ![0, 32] w slices_S1024x64_S1024x16_0_32⟩]
    concatenates_S1024x16_S1024x16_S1024x16_S1024x16_S1024x64_d1
/-- and the matrix with its columns laid out as the version has them. -/
def wide (w : FVec Ideal S1024x2640 .f32) : FVec Ideal S1024x2816 .f32 :=
  concatenate S1024x2816 1
    [⟨S1024x2048, extractStridedSlice S1024x2048 ![0, 0] w slices_S1024x2640_S1024x2048_0_0⟩,
     ⟨S1024x512, extractStridedSlice S1024x512 ![0, 2064] w slices_S1024x2640_S1024x512_0_2064⟩,
     ⟨S1024x64, extractStridedSlice S1024x64 ![0, 2576] w slices_S1024x2640_S1024x64_0_2576⟩,
     ⟨S1024x64, turn (extractStridedSlice S1024x64 ![0, 2576] w slices_S1024x2640_S1024x64_0_2576)⟩,
     ⟨S1024x16, extractStridedSlice S1024x16 ![0, 2048] w slices_S1024x2640_S1024x16_0_2048⟩,
     ⟨S1024x112, broadcastInDim S1024x112 ![] bcast_S_S1024x112 (constant S_ .f32 0x00000000#32)⟩]
    concatenates_S1024x2048_S1024x512_S1024x64_S1024x64_S1024x16_S1024x112_S1024x2816_d1

variable (m : (ℓ : Loc nD τ sig) → Buf (Elt Ideal) ℓ) (c : Dev nD)

theorem V_v27 : V m c main_v27 = rows (m ((c : Thread nD τ).loc main_arg0)) (m ((c : Thread nD τ).loc main_arg1)) := rfl
theorem V_v10 : V m c main_v10 = shifts (m ((c : Thread nD τ).loc main_arg2)) := rfl
theorem V_v12 : V m c main_v12 = scales (m ((c : Thread nD τ).loc main_arg2)) := rfl
theorem V_v26 (k : Fin 1024) (n : Fin 2816) : (V m c main_v26 : Vec Ideal S1024x2816 .bf16) (ix2 k n) = wide (m ((c : Thread nD τ).loc main_arg3)) (ix2 k n) := rfl

end Cert.EvenInIdeal.Block

end
-- ==== Proof.EvenInRef.lean ====
/- The even layers' input projection's reference, read at an entry. -/
module

public import proofs.«01_k».proof.Proof.Gen.RefEvenInIdeal.Run
public import proofs.«01_k».proof.Proof.EvenInBlock
public import Idealize.ShloMosaic.Lib.Pointwise
public import Idealize.ShloMosaic.Lib.Pipeline.Value

@[expose] public section

set_option maxRecDepth 16384

noncomputable section

namespace Cert.RefEvenInIdeal.Ref

open Idealize.ShloMosaic Idealize.ShloMosaic.TcCoe Idealize.SL.Sem
open Cert.EvenInIdeal.Block (row)
open Cert.RefEvenInIdeal Cert.RefEvenInIdeal.Gen

/-- The context's row of modulations, -/
def own (q : FVec Ideal S9x6x1024 .f32) : FVec Ideal S6x1024 .f32 :=
  shapeCast S6x1024 (extractStridedSlice S1x6x1024 ![8, 0, 0] q slices_S9x6x1024_S1x6x1024_8_0_0) shapeCasts_S1x6x1024_S6x1024
/-- its rows modulated -/
def uctx (t : FVec Ideal S8x256x1024 .f32) (o : FVec Ideal S6x1024 .f32) : FVec Ideal S8x256x1024 .f32 :=
  addf (mulf t (broadcastInDim S8x256x1024 ![0, 1, 2] bcast_S1x1x1024_S8x256x1024_0_1_2 (broadcastInDim S1x1x1024 ![2] bcast_S1024_S1x1x1024_2
      (addf (broadcastInDim S1024 ![] bcast_S_S1024 (constant S_ .f32 0x3F800000#32)) (shapeCast S1024 (extractStridedSlice S1x1024 ![1, 0] o slices_S6x1024_S1x1024_1_0) shapeCasts_S1x1024_S1024)))))
    (broadcastInDim S8x256x1024 ![0, 1, 2] bcast_S1x1x1024_S8x256x1024_0_1_2 (broadcastInDim S1x1x1024 ![2] bcast_S1024_S1x1x1024_2
      (shapeCast S1024 (extractStridedSlice S1x1024 ![0, 0] o slices_S6x1024_S1x1024_0_0) shapeCasts_S1x1024_S1024)))
/-- and the latents' rows modulated. -/
def ulat (x : FVec Ideal S8x2048x1024 .f32) (q : FVec Ideal S9x6x1024 .f32) : FVec Ideal S8x2048x1024 .f32 :=
  addf (mulf x (broadcastInDim S8x2048x1024 ![0, 1, 2] bcast_S8x1x1024_S8x2048x1024_0_1_2
      (addf (broadcastInDim S8x1x1024 ![] bcast_S_S8x1x1024 (constant S_ .f32 0x3F800000#32)) (broadcastInDim S8x1x1024 ![0, 2] bcast_S8x1024_S8x1x1024_0_2
        (shapeCast S8x1024 (extractStridedSlice S8x1x1024 ![0, 1, 0] (extractStridedSlice S8x6x1024 ![0, 0, 0] q slices_S9x6x1024_S8x6x1024_0_0_0) slices_S8x6x1024_S8x1x1024_0_1_0) shapeCasts_S8x1x1024_S8x1024)))))
    (broadcastInDim S8x2048x1024 ![0, 1, 2] bcast_S8x1x1024_S8x2048x1024_0_1_2 (broadcastInDim S8x1x1024 ![0, 2] bcast_S8x1024_S8x1x1024_0_2
        (shapeCast S8x1024 (extractStridedSlice S8x1x1024 ![0, 0, 0] (extractStridedSlice S8x6x1024 ![0, 0, 0] q slices_S9x6x1024_S8x6x1024_0_0_0) slices_S8x6x1024_S8x1x1024_0_0_0) shapeCasts_S8x1x1024_S8x1024)))

/-- The reference's array. -/
def val (x : FVec Ideal S8x2048x1024 .f32) (t : FVec Ideal S8x256x1024 .f32) (q : FVec Ideal S9x6x1024 .f32) (w : FVec Ideal S1024x2816 .f32) : FVec Ideal S18432x2816 .f32 :=
  shapeCast S18432x2816 (concatenate S8x2304x2816 1
    [⟨S8x256x2816, Host.dotGeneral dot_S8x256x1024_S1024x2816_S8x256x2816_2_0_01_1_n_n none (uctx t (own q)) w⟩,
     ⟨S8x2048x2816, Host.dotGeneral dot_S8x2048x1024_S1024x2816_S8x2048x2816_2_0_01_1_n_n none (ulat x q) w⟩]
    concatenates_S8x256x2816_S8x2048x2816_S8x2304x2816_d1) shapeCasts_S8x2304x2816_S18432x2816

theorem own_at (q : FVec Ideal S9x6x1024 .f32) (j : Fin 6) (k : Fin 1024) : own q (ix2 j k) = q (ix3 8 j k) := by
  pointwise [own]
theorem uctx_at (t : FVec Ideal S8x256x1024 .f32) (o : FVec Ideal S6x1024 .f32) (b : Fin 8) (r : Fin 256) (k : Fin 1024) :
    uctx t o (ix3 b r k) = t (ix3 b r k) * (1 + o (ix2 1 k)) + o (ix2 0 k) := by
  pointwise [uctx]
theorem ulat_at (x : FVec Ideal S8x2048x1024 .f32) (q : FVec Ideal S9x6x1024 .f32) (b : Fin 8) (r : Fin 2048) (k : Fin 1024) :
    ulat x q (ix3 b r k) = x (ix3 b r k) * (1 + q (ix3 ⟨b.val, by omega⟩ 1 k)) + q (ix3 ⟨b.val, by omega⟩ 0 k) := by
  pointwise [ulat]

theorem dotC_at (x : FVec Ideal S8x256x1024 .f32) (w : FVec Ideal S1024x2816 .f32) (b : Fin 8) (r : Fin 256) (n : Fin 2816) :
    Host.dotGeneral dot_S8x256x1024_S1024x2816_S8x256x2816_2_0_01_1_n_n none x w (ix3 b r n) = ∑ k : Fin 1024, x (ix3 b r k) * w (ix2 k n) := by
  pointwise
theorem dotL_at (x : FVec Ideal S8x2048x1024 .f32) (w : FVec Ideal S1024x2816 .f32) (b : Fin 8) (r : Fin 2048) (n : Fin 2816) :
    Host.dotGeneral dot_S8x2048x1024_S1024x2816_S8x2048x2816_2_0_01_1_n_n none x w (ix3 b r n) = ∑ k : Fin 1024, x (ix3 b r k) * w (ix2 k n) := by
  pointwise

theorem flat_at (v : FVec Ideal S8x2304x2816 .f32) (b : Fin 8) (p : Fin 2304) (k : Fin 2816) :
    shapeCast S18432x2816 v shapeCasts_S8x2304x2816_S18432x2816 (ix2 ⟨b.val * 2304 + p.val, by omega⟩ k) = v (ix3 b p k) := by
  refine shapeCast_apply v _ _ _ ?_
  rw [Shape.rowMajor_val_three, Shape.rowMajor_val_two]
  rfl

/-- A row of the context, -/
theorem val_ctx (x : FVec Ideal S8x2048x1024 .f32) (t : FVec Ideal S8x256x1024 .f32) (q : FVec Ideal S9x6x1024 .f32) (w : FVec Ideal S1024x2816 .f32)
    (b : Fin 8) (r : Fin 256) (n : Fin 2816) :
    val x t q w (ix2 ⟨b.val * 2304 + r.val, by omega⟩ n)
      = row (fun k => t (ix3 b r k)) (fun k => q (ix3 8 1 k)) (fun k => q (ix3 8 0 k)) (fun k => w (ix2 k n)) := by
  refine (flat_at _ b ⟨r.val, by omega⟩ n).trans ?_
  refine (concatenate_pair_apply_left (t := S8x2304x2816) (s₁ := S8x256x2816) (s₂ := S8x2048x2816) 1 _ _ _ _ rfl (ix3 b r n) fun a => ?_).trans ?_
  · match a with
    | 0 => rfl
    | 1 => rfl
    | 2 => rfl
  · rw [dotC_at]
    exact Finset.sum_congr rfl fun k _ => by rw [uctx_at, own_at, own_at]
/-- and one of the latents. -/
theorem val_lat (x : FVec Ideal S8x2048x1024 .f32) (t : FVec Ideal S8x256x1024 .f32) (q : FVec Ideal S9x6x1024 .f32) (w : FVec Ideal S1024x2816 .f32)
    (b : Fin 8) (r : Fin 2048) (n : Fin 2816) :
    val x t q w (ix2 ⟨b.val * 2304 + (256 + r.val), by omega⟩ n)
      = row (fun k => x (ix3 b r k)) (fun k => q (ix3 ⟨b.val, by omega⟩ 1 k)) (fun k => q (ix3 ⟨b.val, by omega⟩ 0 k)) (fun k => w (ix2 k n)) := by
  refine (flat_at _ b ⟨256 + r.val, by omega⟩ n).trans ?_
  refine (concatenate_pair_apply_right (t := S8x2304x2816) (s₁ := S8x256x2816) (s₂ := S8x2048x2816) 1 _ _ _ _ rfl rfl (ix3 b r n) (fun a ha => ?_) ?_).trans ?_
  · match a with
    | 0 => rfl
    | 1 => exact absurd rfl ha
    | 2 => rfl
  · exact Nat.add_comm r.val 256
  · rw [dotL_at]
    exact Finset.sum_congr rfl fun k _ => by rw [ulat_at]

end Cert.RefEvenInIdeal.Ref

end
-- ==== Proof.EvenInWhole.lean ====
/- The even layers' input projection: the kernel's array, entry by entry, and that it is the reference's. -/
module

public import proofs.«01_k».proof.Proof.EvenInRef

@[expose] public section

set_option maxRecDepth 16384

noncomputable section

namespace Cert.EvenInIdeal.Block

open Idealize.ShloMosaic Idealize.ShloMosaic.TcCoe Idealize.SL.Sem
open Cert.EvenInIdeal Cert.EvenInIdeal.Gen

variable (m : (ℓ : Loc nD τ sig) → Buf (Elt Ideal) ℓ) (c : Dev nD)

/-- The grid point of a block of rows: nine to a batch, the first the context's. -/
def pt (b : Fin 8) (j : Fin 9) : Fin cfg0.N := ⟨b.val * 9 + j.val, lt_of_lt_of_eq (by omega) (by decide : 72 = cfg0.N)⟩

/-- The context's block or a latents' block. -/
def kind (j : Fin 9) : Fin 2 := if j.val = 0 then 0 else 1

theorem idx0 : ∀ t : Fin cfg0.N, win0_0.index t 0 = t.val ∧ win0_0.index t 1 = 0 := by decide +kernel
theorem idx1 : ∀ t : Fin cfg0.N, win0_1.index t 0 = t.val / 9 ∧ win0_1.index t 1 = (if t.val % 9 = 0 then 0 else 1) ∧ win0_1.index t 2 = 0 ∧ win0_1.index t 3 = 0 := by decide +kernel
theorem idx2 : ∀ t : Fin cfg0.N, win0_2.index t 0 = t.val / 9 ∧ win0_2.index t 1 = (if t.val % 9 = 0 then 0 else 1) ∧ win0_2.index t 2 = 0 ∧ win0_2.index t 3 = 0 := by decide +kernel
theorem idx3 : ∀ t : Fin cfg0.N, win0_3.index t 0 = 0 ∧ win0_3.index t 1 = 0 := by decide +kernel
theorem idx4 : ∀ t : Fin cfg0.N, win0_4.index t 0 = t.val ∧ win0_4.index t 1 = 0 := by decide +kernel
theorem flush4 : ∀ t : Fin cfg0.N, win0_4.flush t = true := by decide +kernel

/-- The block of rows, position by position. -/
theorem iblk0 (b : Fin 8) (j : Fin 9) (r : Fin 256) (k : Fin 1024) (p : Fin 18432) (hp : p.val = b.val * 2304 + (j.val * 256 + r.val)) :
    (iblk m c 0 (pt b j) : Vec Ideal S256x1024 .f32) (ix2 r k) = rows (m ((c : Thread nD τ).loc main_arg0)) (m ((c : Thread nD τ).loc main_arg1)) (ix2 p k) := by
  refine Eq.trans ?_ (congrFun (V_v27 m c) _)
  show V m c main_v27 ((win0_0.rect (pt b j)).emb (ix2 r k)) = _
  obtain ⟨e0, e1⟩ := idx0 (pt b j)
  have hv : (pt b j).val = b.val * 9 + j.val := rfl
  congr 1
  funext a
  match a with
  | ⟨0, _⟩ => apply Fin.ext; show win0_0.index (pt b j) 0 * 256 + 1 * r.val = p.val; omega
  | ⟨1, _⟩ => apply Fin.ext; show win0_0.index (pt b j) 1 * 1024 + 1 * k.val = k.val; omega

theorem kind_val (b : Fin 8) (j : Fin 9) : (if (pt b j).val % 9 = 0 then 0 else 1) = (kind j).val := by
  have hv : (pt b j).val = b.val * 9 + j.val := rfl
  unfold kind
  by_cases h : j.val = 0
  · rw [if_pos h, if_pos (by omega)]; rfl
  · rw [if_neg h, if_neg (by omega)]; rfl

/-- The block's shift, -/
theorem iblk1 (b : Fin 8) (j : Fin 9) (k : Fin 1024) :
    (iblk m c 1 (pt b j) : Vec Ideal S1x1x1x1024 .f32) (ix4 0 0 0 k) = tabs (m ((c : Thread nD τ).loc main_arg2)) (ix5 0 b (kind j) 0 k) := by
  rw [← shifts_at]
  refine Eq.trans ?_ (congrFun (V_v10 m c) _)
  show V m c main_v10 ((win0_1.rect (pt b j)).emb (ix4 0 0 0 k)) = _
  obtain ⟨e0, e1, e2, e3⟩ := idx1 (pt b j)
  have hk := kind_val b j
  have hv : (pt b j).val = b.val * 9 + j.val := rfl
  congr 1
  funext a
  match a with
  | ⟨0, _⟩ => apply Fin.ext; show win0_1.index (pt b j) 0 * 1 + 1 * 0 = b.val; omega
  | ⟨1, _⟩ => apply Fin.ext; show win0_1.index (pt b j) 1 * 1 + 1 * 0 = (kind j).val; omega
  | ⟨2, _⟩ => apply Fin.ext; show win0_1.index (pt b j) 2 * 1 + 1 * 0 = 0; omega
  | ⟨3, _⟩ => apply Fin.ext; show win0_1.index (pt b j) 3 * 1024 + 1 * k.val = k.val; omega
/-- its scale -/
theorem iblk2 (b : Fin 8) (j : Fin 9) (k : Fin 1024) :
    (iblk m c 2 (pt b j) : Vec Ideal S1x1x1x1024 .f32) (ix4 0 0 0 k) = tabs (m ((c : Thread nD τ).loc main_arg2)) (ix5 1 b (kind j) 0 k) := by
  rw [← scales_at]
  refine Eq.trans ?_ (congrFun (V_v12 m c) _)
  show V m c main_v12 ((win0_2.rect (pt b j)).emb (ix4 0 0 0 k)) = _
  obtain ⟨e0, e1, e2, e3⟩ := idx2 (pt b j)
  have hk := kind_val b j
  have hv : (pt b j).val = b.val * 9 + j.val := rfl
  congr 1
  funext a
  match a with
  | ⟨0, _⟩ => apply Fin.ext; show win0_2.index (pt b j) 0 * 1 + 1 * 0 = b.val; omega
  | ⟨1, _⟩ => apply Fin.ext; show win0_2.index (pt b j) 1 * 1 + 1 * 0 = (kind j).val; omega
  | ⟨2, _⟩ => apply Fin.ext; show win0_2.index (pt b j) 2 * 1 + 1 * 0 = 0; omega
  | ⟨3, _⟩ => apply Fin.ext; show win0_2.index (pt b j) 3 * 1024 + 1 * k.val = k.val; omega
/-- and the matrix. -/
theorem iblk3 (b : Fin 8) (j : Fin 9) (k : Fin 1024) (n : Fin 2816) :
    (iblk m c 3 (pt b j) : Vec Ideal S1024x2816 .bf16) (ix2 k n) = wide (m ((c : Thread nD τ).loc main_arg3)) (ix2 k n) := by
  refine Eq.trans ?_ (V_v26 m c k n)
  show V m c main_v26 ((win0_3.rect (pt b j)).emb (ix2 k n)) = _
  obtain ⟨e0, e1⟩ := idx3 (pt b j)
  congr 1
  funext a
  match a with
  | ⟨0, _⟩ => apply Fin.ext; show win0_3.index (pt b j) 0 * 1024 + 1 * k.val = k.val; omega
  | ⟨1, _⟩ => apply Fin.ext; show win0_3.index (pt b j) 1 * 2816 + 1 * n.val = n.val; omega

/-- An entry of the final array, given as an entry of the block its point writes. -/
theorem arr_at (b : Fin 8) (j : Fin 9) (r : Fin 256) (n : Fin 2816) (p : Fin 18432) (hp : p.val = b.val * 2304 + (j.val * 256 + r.val)) :
    ((dats m 0 c).arrAt 4 cfg0.N : FVec Ideal S18432x2816 .f32) (ix2 p n)
      = out0_4 (iblk m c 0 (pt b j)) (iblk m c 1 (pt b j)) (iblk m c 2 (pt b j)) (iblk m c 3 (pt b j)) (ix2 r n) := by
  have h := congrFun ((Value.blocks4 m c (pt b j) (flush4 _)).trans (Value.flushed4 m c (pt b j))) (ix2 r n)
  refine Eq.trans ?_ h
  show _ = ((dats m 0 c).arrAt 4 cfg0.N : FVec Ideal S18432x2816 .f32) ((win0_4.rect (pt b j)).emb (ix2 r n))
  obtain ⟨e0, e1⟩ := idx4 (pt b j)
  have hv : (pt b j).val = b.val * 9 + j.val := rfl
  refine congrArg _ (funext fun a => ?_)
  match a with
  | ⟨0, _⟩ => apply Fin.ext; show p.val = win0_4.index (pt b j) 0 * 256 + 1 * r.val; omega
  | ⟨1, _⟩ => apply Fin.ext; show n.val = win0_4.index (pt b j) 1 * 2816 + 1 * n.val; omega

/-- The reference's array of the same arguments. -/
abbrev want : FVec Ideal S18432x2816 .f32 :=
  Cert.RefEvenInIdeal.Ref.val (m ((c : Thread nD τ).loc main_arg0)) (m ((c : Thread nD τ).loc main_arg1)) (m ((c : Thread nD τ).loc main_arg2)) (wide (m ((c : Thread nD τ).loc main_arg3)))

/-- The kernel's array at an entry, over the host's arrays. -/
theorem arr_row (b : Fin 8) (j : Fin 9) (r : Fin 256) (n : Fin 2816) (p : Fin 18432) (hp : p.val = b.val * 2304 + (j.val * 256 + r.val)) :
    ((dats m 0 c).arrAt 4 cfg0.N : FVec Ideal S18432x2816 .f32) (ix2 p n)
      = row (fun k => rows (m ((c : Thread nD τ).loc main_arg0)) (m ((c : Thread nD τ).loc main_arg1)) (ix2 p k))
          (fun k => tabs (m ((c : Thread nD τ).loc main_arg2)) (ix5 1 b (kind j) 0 k)) (fun k => tabs (m ((c : Thread nD τ).loc main_arg2)) (ix5 0 b (kind j) 0 k))
          (fun k => wide (m ((c : Thread nD τ).loc main_arg3)) (ix2 k n)) := by
  refine (arr_at m c b j r n p hp).trans ((out_at _ _ _ _ _ _).trans ?_)
  refine congr (congr (congr (congrArg row (funext fun k => ?_)) (funext fun k => ?_)) (funext fun k => ?_)) (funext fun k => ?_)
  · exact iblk0 m c b j r k p hp
  · exact iblk2 m c b j k
  · exact iblk1 m c b j k
  · exact iblk3 m c b j k n

/-- The two arrays agree in a row of the context -/
theorem entry_ctx (b : Fin 8) (r : Fin 256) (n : Fin 2816) (p : Fin 18432) (hp : p.val = b.val * 2304 + r.val) :
    ((dats m 0 c).arrAt 4 cfg0.N : FVec Ideal S18432x2816 .f32) (ix2 p n) = want m c (ix2 p n) := by
  have hq : p = ⟨b.val * 2304 + r.val, by omega⟩ := Fin.ext hp
  rw [hq]
  refine (arr_row m c b 0 r n _ (by show b.val * 2304 + r.val = b.val * 2304 + (0 * 256 + r.val); omega)).trans ?_
  refine Eq.trans ?_ (Cert.RefEvenInIdeal.Ref.val_ctx _ _ _ _ b r n).symm
  refine congr (congr (congr (congrArg row (funext fun k => ?_)) (funext fun k => ?_)) (funext fun k => ?_)) rfl
  · exact rows_ctx _ _ b r k
  · exact tabs_ctx _ 1 b k
  · exact tabs_ctx _ 0 b k
/-- and in a row of the latents. -/
theorem entry_lat (b : Fin 8) (r : Fin 2048) (n : Fin 2816) (p : Fin 18432) (hp : p.val = b.val * 2304 + (256 + r.val)) :
    ((dats m 0 c).arrAt 4 cfg0.N : FVec Ideal S18432x2816 .f32) (ix2 p n) = want m c (ix2 p n) := by
  have hq : p = ⟨b.val * 2304 + (256 + r.val), by omega⟩ := Fin.ext hp
  rw [hq]
  refine (arr_row m c b ⟨r.val / 256 + 1, by omega⟩ ⟨r.val % 256, by omega⟩ n _ (by show b.val * 2304 + (256 + r.val) = b.val * 2304 + ((r.val / 256 + 1) * 256 + r.val % 256); omega)).trans ?_
  have hk : kind ⟨r.val / 256 + 1, by omega⟩ = 1 := if_neg (Nat.succ_ne_zero _)
  rw [hk]
  refine Eq.trans ?_ (Cert.RefEvenInIdeal.Ref.val_lat _ _ _ _ b r n).symm
  refine congr (congr (congr (congrArg row (funext fun k => ?_)) (funext fun k => ?_)) (funext fun k => ?_)) rfl
  · exact rows_lat _ _ b r k
  · exact tabs_lat _ 1 b k
  · exact tabs_lat _ 0 b k

/-- THE TWO ARRAYS AGREE. -/
theorem result_eq : (dats m 0 c).arrAt 4 cfg0.N = want m c := by
  have H (p : Fin 18432) (n : Fin 2816) : ((dats m 0 c).arrAt 4 cfg0.N : FVec Ideal S18432x2816 .f32) (ix2 p n) = want m c (ix2 p n) := by
    by_cases h : p.val % 2304 < 256
    · exact entry_ctx m c ⟨p.val / 2304, by omega⟩ ⟨p.val % 2304, h⟩ n p (by show p.val = p.val / 2304 * 2304 + p.val % 2304; omega)
    · exact entry_lat m c ⟨p.val / 2304, by omega⟩ ⟨p.val % 2304 - 256, by omega⟩ n p (by show p.val = p.val / 2304 * 2304 + (256 + (p.val % 2304 - 256)); omega)
  generalize want m c = R at H ⊢
  funext i
  have hi : i = ix2 (i 0) (i 1) := by
    funext a
    match a with
    | 0 => rfl
    | 1 => rfl
  rw [hi]
  exact H (i 0) (i 1)

/-- The run, read: the result at the reference's array. -/
theorem run (ρ : Dev nD → PrngReg) : θ_run defs (onTc (τ := τ) (main (F := Ideal))) ⟨m, fun _ => 0, ρ⟩ fun r => ∀ c : Dev nD,
      r.2.mem ((c.tc : Thread nD τ).loc main_v28) = want m c :=
  (θ_run defs _ _).mono (fun _ h c => (h c).1.trans (result_eq m c)) (Value.run_blocks m ρ)

end Cert.EvenInIdeal.Block

end
-- ==== Proof.MlaBlock.lean ====
/- The latent attention: the block a grid point writes, read at an entry. -/
module

public import proofs.«01_k».proof.Proof.Gen.MlaIdeal.Value
public import Idealize.ShloMosaic.Lib.Pointwise

@[expose] public section

set_option maxRecDepth 16384

noncomputable section

namespace Cert.MlaIdeal.Block

open Idealize.ShloMosaic Idealize.ShloMosaic.TcCoe
open Cert.MlaIdeal Cert.MlaIdeal.Gen

/-- The score of a key. -/
def score {n : ℕ} (q : Fin 256 → EReal) (k : Fin n → Fin 256 → EReal) (j : Fin n) : EReal := (∑ d : Fin 256, q d * k j d) * Ideal.ofBits FTy.f32 1033096506#32
/-- Its weight, before they are made to sum to one. -/
def weight {n : ℕ} (q : Fin 256 → EReal) (k : Fin n → Fin 256 → EReal) (j : Fin n) : EReal :=
  Ideal.exp (score q k j - Finset.fold max (Ideal.ofBits FTy.f32 4286578688#32) (fun x => score q k x) Finset.univ)
/-- The least number is no bound. -/
theorem low_max (x : EReal) : max (Ideal.ofBits FTy.f32 4286578688#32) x = x :=
  max_eq_right (bot_le (α := EReal))
/-- The weighted sum of the values over the sum of the weights. -/
def attend {n : ℕ} (q : Fin 256 → EReal) (k : Fin n → Fin 256 → EReal) (v : Fin n → EReal) : EReal :=
  Ideal.div (∑ j : Fin n, weight q k j * v j) (∑ j : Fin n, weight q k j)

/-- What a grid point of the context stores, at an entry, -/
theorem pay2_at (q k : Vec Ideal S1x256x256 .bf16) (v : Vec Ideal S1x256x128 .bf16) (r : Fin 256) (e : Fin 128) :
    k0_pay2 q k v (ix3 0 r e) = attend (fun d => q (ix3 0 r d)) (fun j d => k (ix3 0 j d)) (fun j => v (ix3 0 j e)) := by
  pointwise [k0_pay2, k0_pay1]
  rfl
/-- and one of the latents. -/
theorem pay3_at (q : Vec Ideal S1x256x256 .bf16) (k : Vec Ideal S1x2304x256 .bf16) (v : Vec Ideal S1x2304x128 .bf16) (r : Fin 256) (e : Fin 128) :
    k0_pay3 q k v (ix3 0 r e) = attend (fun d => q (ix3 0 r d)) (fun j d => k (ix3 0 j d)) (fun j => v (ix3 0 j e)) := by
  pointwise [k0_pay3, k0_pay1]
  rfl

theorem off3 : (![0, 0, 0] : Fin 3 → Nat) = fun _ => 0 := by decide

/-- The first 256 keys of a block, -/
theorem keys_at (x : Vec Ideal S1x2304x256 .bf16) (j : Fin 256) (d : Fin 256) :
    View.ld x (Rect.unit (s := S1x2304x256) ![0, 0, 0] S1x256x256.size inb_S1x2304x256_S1x256x256_0_0_0) (ix3 0 j d) = x (ix3 0 ⟨j.val, by omega⟩ d) := by
  show x _ = x _
  congr 1
  funext a
  match a with
  | ⟨0, _⟩ => rfl
  | ⟨1, _⟩ => apply Fin.ext; show 0 + 1 * j.val = j.val; omega
  | ⟨2, _⟩ => apply Fin.ext; show 0 + 1 * d.val = d.val; omega
/-- and their values. -/
theorem values_at (x : Vec Ideal S1x2304x128 .bf16) (j : Fin 256) (d : Fin 128) :
    View.ld x (Rect.unit (s := S1x2304x128) ![0, 0, 0] S1x256x128.size inb_S1x2304x128_S1x256x128_0_0_0) (ix3 0 j d) = x (ix3 0 ⟨j.val, by omega⟩ d) := by
  show x _ = x _
  congr 1
  funext a
  match a with
  | ⟨0, _⟩ => rfl
  | ⟨1, _⟩ => apply Fin.ext; show 0 + 1 * j.val = j.val; omega
  | ⟨2, _⟩ => apply Fin.ext; show 0 + 1 * d.val = d.val; omega

/-- The result buffer after a grid point of the context, at an entry: its queries see the first 256 keys; -/
theorem out_A (c : Dev nD) (i : grid0.Coords) (arg3 : Memref sig .tc .vmem S1x256x256 .bf16) (harg3 : arg3.IsWhole) (arg4 : Memref sig .tc .vmem S1x2304x256 .bf16) (harg4 : arg4.IsWhole) (arg5 : Memref sig .tc .vmem S1x2304x128 .bf16) (harg5 : arg5.IsWhole) (arg6 : Memref sig .tc .vmem S1x256x128 .bf16) (harg6 : arg6.IsWhole) (hc0 : cond0_0 i) (hc1 : ¬cond0_1 i)
    (x0 : Vec Ideal S1x256x256 .bf16) (x1 : Vec Ideal S1x2304x256 .bf16) (x2 : Vec Ideal S1x2304x128 .bf16) (r : Fin 256) (e : Fin 128) :
    out0_A_3 c i arg3 harg3 arg4 harg4 arg5 harg5 arg6 harg6 hc0 hc1 x0 x1 x2 (ix3 0 r e)
      = attend (fun d => x0 (ix3 0 r d)) (fun (j : Fin 256) d => x1 (ix3 0 ⟨j.val, by omega⟩ d)) (fun j => x2 (ix3 0 ⟨j.val, by omega⟩ e)) := by
  unfold out0_A_3 kernelRun0_A
  rw [View.read_writes_junk_eq_canon]
  dsimp only
  rw [View.canon_unit_zero off3, View.readAt_eq_ld, View.readAt_eq_ld, View.readAt_eq_ld, Memref.IsWhole.read_unread, Memref.IsWhole.read_unread, Memref.IsWhole.read_unread, View.ld_unit_zero off3]
  refine (pay2_at _ _ _ r e).trans (congr (congrArg (attend _) (funext fun j => funext fun d => ?_)) (funext fun j => ?_))
  · exact keys_at x1 j d
  · exact values_at x2 j e
/-- and after one of the latents, whose queries see them all. -/
theorem out_B (c : Dev nD) (i : grid0.Coords) (arg3 : Memref sig .tc .vmem S1x256x256 .bf16) (harg3 : arg3.IsWhole) (arg4 : Memref sig .tc .vmem S1x2304x256 .bf16) (harg4 : arg4.IsWhole) (arg5 : Memref sig .tc .vmem S1x2304x128 .bf16) (harg5 : arg5.IsWhole) (arg6 : Memref sig .tc .vmem S1x256x128 .bf16) (harg6 : arg6.IsWhole) (hc0 : ¬cond0_0 i) (hc1 : cond0_1 i)
    (x0 : Vec Ideal S1x256x256 .bf16) (x1 : Vec Ideal S1x2304x256 .bf16) (x2 : Vec Ideal S1x2304x128 .bf16) (r : Fin 256) (e : Fin 128) :
    out0_B_3 c i arg3 harg3 arg4 harg4 arg5 harg5 arg6 harg6 hc0 hc1 x0 x1 x2 (ix3 0 r e)
      = attend (fun d => x0 (ix3 0 r d)) (fun j d => x1 (ix3 0 j d)) (fun j => x2 (ix3 0 j e)) := by
  unfold out0_B_3 kernelRun0_B
  rw [View.read_writes_junk_eq_canon]
  dsimp only
  rw [View.canon_unit_zero off3, View.readAt_eq_ld, View.readAt_eq_ld, View.readAt_eq_ld, Memref.IsWhole.read_unread, Memref.IsWhole.read_unread, Memref.IsWhole.read_unread, View.ld_unit_zero off3, View.ld_unit_zero off3, View.ld_unit_zero off3]
  exact pay3_at x0 x1 x2 r e

end Cert.MlaIdeal.Block

end
-- ==== Proof.MlaRef.lean ====
/- The latent attention's reference, read at an entry. -/
module

public import proofs.«01_k».proof.Proof.Gen.RefMlaIdeal.Run
public import proofs.«01_k».proof.Proof.MlaBlock
public import Idealize.ShloMosaic.Lib.Pointwise
public import Idealize.ShloMosaic.Lib.Pipeline.Value

@[expose] public section

set_option maxRecDepth 16384

noncomputable section

namespace Cert.RefMlaIdeal.Ref

open Idealize.ShloMosaic Idealize.ShloMosaic.TcCoe Idealize.SL.Sem
open Cert.MlaIdeal.Block (score weight)
open Cert.RefMlaIdeal Cert.RefMlaIdeal.Gen

/-- The queries or keys, head by head, -/
def heads (x : FVec Ideal S8x2304x1024 .bf16) : FVec Ideal S8x2304x4x256 .f32 :=
  shapeCast S8x2304x4x256 (extf .f32 x bitsLt_bf16_f32) shapeCasts_S8x2304x1024_S8x2304x4x256
/-- and the values. -/
def vheads (x : FVec Ideal S8x2304x512 .bf16) : FVec Ideal S8x2304x4x128 .f32 :=
  shapeCast S8x2304x4x128 (extf .f32 x bitsLt_bf16_f32) shapeCasts_S8x2304x512_S8x2304x4x128

theorem heads_at (x : FVec Ideal S8x2304x1024 .bf16) (b : Fin 8) (p : Fin 2304) (h : Fin 4) (d : Fin 256) :
    heads x (ix4 b p h d) = x (ix3 b p ⟨h.val * 256 + d.val, by omega⟩) := by
  refine (shapeCast_apply (extf .f32 x bitsLt_bf16_f32) _ _ (ix3 b p ⟨h.val * 256 + d.val, by omega⟩) ?_).trans rfl
  rw [Shape.rowMajor_val_three, Shape.rowMajor_val_four]
  show (b.val * 2304 + p.val) * 1024 + (h.val * 256 + d.val) = ((b.val * 2304 + p.val) * 4 + h.val) * 256 + d.val
  omega
theorem vheads_at (x : FVec Ideal S8x2304x512 .bf16) (b : Fin 8) (p : Fin 2304) (h : Fin 4) (d : Fin 128) :
    vheads x (ix4 b p h d) = x (ix3 b p ⟨h.val * 128 + d.val, by omega⟩) := by
  refine (shapeCast_apply (extf .f32 x bitsLt_bf16_f32) _ _ (ix3 b p ⟨h.val * 128 + d.val, by omega⟩) ?_).trans rfl
  rw [Shape.rowMajor_val_three, Shape.rowMajor_val_four]
  show (b.val * 2304 + p.val) * 512 + (h.val * 128 + d.val) = ((b.val * 2304 + p.val) * 4 + h.val) * 128 + d.val
  omega

/-- The attention as the reference has it: each weight over their sum, then the weighted sum of the values. -/
def attend {n : ℕ} (q : Fin 256 → EReal) (k : Fin n → Fin 256 → EReal) (v : Fin n → EReal) : EReal :=
  ∑ j : Fin n, v j * Ideal.div (weight q k j) (∑ j : Fin n, weight q k j)

/-- The scores of the context's queries -/
def scoresC (q : FVec Ideal S8x256x4x256 .f32) (k : FVec Ideal S8x256x4x256 .f32) : FVec Ideal S8x4x256x256 .f32 :=
  mulf (Host.dotGeneral dot_S8x256x4x256_S8x256x4x256_S8x4x256x256_3_3_1_1_02_02 none q k) (broadcastInDim S8x4x256x256 ![] bcast_S_S8x4x256x256 (constant S_ .f32 0x3D93CD3A#32))
/-- and their weights, -/
def weightsC (s : FVec Ideal S8x4x256x256 .f32) : FVec Ideal S8x4x256x256 .f32 :=
  Host.exp (subf s (broadcastInDim S8x4x256x256 ![0, 1, 2, 3] bcast_S8x4x256x1_S8x4x256x256_0_1_2_3 (broadcastInDim S8x4x256x1 ![0, 1, 2] bcast_S8x4x256_S8x4x256x1_0_1_2
    (maximumf (broadcastInDim S8x4x256 ![] bcast_S_S8x4x256 (constant S_ .f32 0xFF800000#32)) (Host.reduce FloatOps.maximumf s (constant S_ .f32 0xFF800000#32) reducesTo_S8x4x256x256_S8x4x256_d3 h_S_)))))
/-- made to sum to one. -/
def sharesC (w : FVec Ideal S8x4x256x256 .f32) : FVec Ideal S8x4x256x256 .f32 :=
  Host.divf w (broadcastInDim S8x4x256x256 ![0, 1, 2, 3] bcast_S8x4x256x1_S8x4x256x256_0_1_2_3 (broadcastInDim S8x4x256x1 ![0, 1, 2] bcast_S8x4x256_S8x4x256x1_0_1_2
    (Host.reduceAdd w (constant S_ .f32 0x00000000#32) reducesTo_S8x4x256x256_S8x4x256_d3 h_S_)))
/-- The read-out of the context. -/
def outC (q : FVec Ideal S8x256x4x256 .f32) (k : FVec Ideal S8x256x4x256 .f32) (v : FVec Ideal S8x256x4x128 .f32) : FVec Ideal S8x256x4x128 .f32 :=
  transpose S8x256x4x128 [0, 3, 1, 2] (Host.dotGeneral dot_S8x256x4x128_S8x4x256x256_S8x4x128x256_1_3_3_2_02_01 none v (sharesC (weightsC (scoresC q k)))) transposes_S8x4x128x256_S8x256x4x128_0_3_1_2

theorem scoresC_at (q : FVec Ideal S8x256x4x256 .f32) (k : FVec Ideal S8x256x4x256 .f32) (b : Fin 8) (h : Fin 4) (r : Fin 256) (j : Fin 256) :
    scoresC q k (ix4 b h r j) = score (fun d => q (ix4 b r h d)) (fun (j : Fin 256) d => k (ix4 b j h d)) j := by
  pointwise [scoresC]
  rfl
theorem weightsC_at (s : FVec Ideal S8x4x256x256 .f32) (b : Fin 8) (h : Fin 4) (r : Fin 256) (j : Fin 256) :
    weightsC s (ix4 b h r j) = Ideal.exp (s (ix4 b h r j) - max (Ideal.ofBits FTy.f32 4286578688#32) (Finset.fold max (Ideal.ofBits FTy.f32 4286578688#32) (fun x : Fin 256 => s (ix4 b h r x)) Finset.univ)) := by
  pointwise [weightsC]
theorem sharesC_at (w : FVec Ideal S8x4x256x256 .f32) (b : Fin 8) (h : Fin 4) (r : Fin 256) (j : Fin 256) :
    sharesC w (ix4 b h r j) = Ideal.div (w (ix4 b h r j)) (∑ x : Fin 256, w (ix4 b h r x)) := by
  pointwise [sharesC]
theorem outC_at (q : FVec Ideal S8x256x4x256 .f32) (k : FVec Ideal S8x256x4x256 .f32) (v : FVec Ideal S8x256x4x128 .f32) (b : Fin 8) (r : Fin 256) (h : Fin 4) (e : Fin 128) :
    outC q k v (ix4 b r h e) = attend (fun d => q (ix4 b r h d)) (fun (j : Fin 256) d => k (ix4 b j h d)) (fun (j : Fin 256) => v (ix4 b j h e)) := by
  have e0 : outC q k v (ix4 b r h e) = ∑ j : Fin 256, v (ix4 b j h e) * sharesC (weightsC (scoresC q k)) (ix4 b h r j) := by
    pointwise [outC]
  have ew (j : Fin 256) : weightsC (scoresC q k) (ix4 b h r j) = weight (fun d => q (ix4 b r h d)) (fun (j : Fin 256) d => k (ix4 b j h d)) j := by
    rw [weightsC_at]
    simp only [scoresC_at]
    rw [Cert.MlaIdeal.Block.low_max]
    rfl
  rw [e0]
  simp only [sharesC_at, ew]
  rfl

/-- The scores of the latents' queries -/
def scoresL (q : FVec Ideal S8x2048x4x256 .f32) (k : FVec Ideal S8x2304x4x256 .f32) : FVec Ideal S8x4x2048x2304 .f32 :=
  mulf (Host.dotGeneral dot_S8x2048x4x256_S8x2304x4x256_S8x4x2048x2304_3_3_1_1_02_02 none q k) (broadcastInDim S8x4x2048x2304 ![] bcast_S_S8x4x2048x2304 (constant S_ .f32 0x3D93CD3A#32))
/-- and their weights, -/
def weightsL (s : FVec Ideal S8x4x2048x2304 .f32) : FVec Ideal S8x4x2048x2304 .f32 :=
  Host.exp (subf s (broadcastInDim S8x4x2048x2304 ![0, 1, 2, 3] bcast_S8x4x2048x1_S8x4x2048x2304_0_1_2_3 (broadcastInDim S8x4x2048x1 ![0, 1, 2] bcast_S8x4x2048_S8x4x2048x1_0_1_2
    (maximumf (broadcastInDim S8x4x2048 ![] bcast_S_S8x4x2048 (constant S_ .f32 0xFF800000#32)) (Host.reduce FloatOps.maximumf s (constant S_ .f32 0xFF800000#32) reducesTo_S8x4x2048x2304_S8x4x2048_d3 h_S_)))))
/-- made to sum to one. -/
def sharesL (w : FVec Ideal S8x4x2048x2304 .f32) : FVec Ideal S8x4x2048x2304 .f32 :=
  Host.divf w (broadcastInDim S8x4x2048x2304 ![0, 1, 2, 3] bcast_S8x4x2048x1_S8x4x2048x2304_0_1_2_3 (broadcastInDim S8x4x2048x1 ![0, 1, 2] bcast_S8x4x2048_S8x4x2048x1_0_1_2
    (Host.reduceAdd w (constant S_ .f32 0x00000000#32) reducesTo_S8x4x2048x2304_S8x4x2048_d3 h_S_)))
/-- The read-out of the latents. -/
def outL (q : FVec Ideal S8x2048x4x256 .f32) (k : FVec Ideal S8x2304x4x256 .f32) (v : FVec Ideal S8x2304x4x128 .f32) : FVec Ideal S8x2048x4x128 .f32 :=
  transpose S8x2048x4x128 [0, 3, 1, 2] (Host.dotGeneral dot_S8x2304x4x128_S8x4x2048x2304_S8x4x128x2048_1_3_3_2_02_01 none v (sharesL (weightsL (scoresL q k)))) transposes_S8x4x128x2048_S8x2048x4x128_0_3_1_2

theorem scoresL_at (q : FVec Ideal S8x2048x4x256 .f32) (k : FVec Ideal S8x2304x4x256 .f32) (b : Fin 8) (h : Fin 4) (r : Fin 2048) (j : Fin 2304) :
    scoresL q k (ix4 b h r j) = score (fun d => q (ix4 b r h d)) (fun (j : Fin 2304) d => k (ix4 b j h d)) j := by
  pointwise [scoresL]
  rfl
/-- A row's largest score. -/
theorem row_max {n0 n1 n2 n3 : ℕ} (s : (⟨4, ![n0, n1, n2, n3]⟩ : Shape).Idx → EReal) (init : S_.Idx → EReal)
    (h : (⟨4, ![n0, n1, n2, n3]⟩ : Shape).ReducesTo [3] ⟨3, ![n0, n1, n2]⟩) (hu : 0 < S_.numel) (a : Fin n0) (b : Fin n1) (r : Fin n2) :
    Host.reduce (max : EReal → EReal → EReal) s init h hu (ix3 a b r) = Finset.fold max (init (Shape.Idx.first hu)) (fun x : Fin n3 => s (ix4 a b r x)) Finset.univ :=
  (Host.reduce_eq_fold _ s init h hu _).trans (h.fold_fiber_r4_a3 _ _ _ s)
/-- The exponentials of the scores less an array's. -/
def centred (s : FVec Ideal S8x4x2048x2304 .f32) (M : FVec Ideal S8x4x2048 .f32) : FVec Ideal S8x4x2048x2304 .f32 :=
  Host.exp (subf s (broadcastInDim S8x4x2048x2304 ![0, 1, 2, 3] bcast_S8x4x2048x1_S8x4x2048x2304_0_1_2_3 (broadcastInDim S8x4x2048x1 ![0, 1, 2] bcast_S8x4x2048_S8x4x2048x1_0_1_2 M)))
theorem centred_at (s : FVec Ideal S8x4x2048x2304 .f32) (M : FVec Ideal S8x4x2048 .f32) (b : Fin 8) (h : Fin 4) (r : Fin 2048) (j : Fin 2304) :
    centred s M (ix4 b h r j) = Ideal.exp (s (ix4 b h r j) - M (ix3 b h r)) := by
  pointwise [centred]
theorem top_at (M : FVec Ideal S8x4x2048 .f32) (b : Fin 8) (h : Fin 4) (r : Fin 2048) :
    maximumf (broadcastInDim S8x4x2048 ![] bcast_S_S8x4x2048 (constant S_ .f32 0xFF800000#32)) M (ix3 b h r) = max (Ideal.ofBits FTy.f32 4286578688#32) (M (ix3 b h r)) := by
  pointwise
theorem weightsL_at (s : FVec Ideal S8x4x2048x2304 .f32) (b : Fin 8) (h : Fin 4) (r : Fin 2048) (j : Fin 2304) :
    weightsL s (ix4 b h r j) = Ideal.exp (s (ix4 b h r j) - max (Ideal.ofBits FTy.f32 4286578688#32) (Finset.fold max (Ideal.ofBits FTy.f32 4286578688#32) (fun x : Fin 2304 => s (ix4 b h r x)) Finset.univ)) := by
  have e := row_max s (constant (F := Ideal) S_ .f32 0xFF800000#32) reducesTo_S8x4x2048x2304_S8x4x2048_d3 h_S_ b h r
  rw [show (Finset.fold max (Ideal.ofBits FTy.f32 4286578688#32) (fun x : Fin 2304 => s (ix4 b h r x)) Finset.univ) = _ from e.symm]
  unfold weightsL
  generalize Host.reduce max s (constant (F := Ideal) S_ .f32 0xFF800000#32) reducesTo_S8x4x2048x2304_S8x4x2048_d3 h_S_ = M
  refine (centred_at s _ b h r j).trans ?_
  rw [top_at]
theorem sharesL_at (w : FVec Ideal S8x4x2048x2304 .f32) (b : Fin 8) (h : Fin 4) (r : Fin 2048) (j : Fin 2304) :
    sharesL w (ix4 b h r j) = Ideal.div (w (ix4 b h r j)) (∑ x : Fin 2304, w (ix4 b h r x)) := by
  pointwise [sharesL]
theorem outL_at (q : FVec Ideal S8x2048x4x256 .f32) (k : FVec Ideal S8x2304x4x256 .f32) (v : FVec Ideal S8x2304x4x128 .f32) (b : Fin 8) (r : Fin 2048) (h : Fin 4) (e : Fin 128) :
    outL q k v (ix4 b r h e) = attend (fun d => q (ix4 b r h d)) (fun (j : Fin 2304) d => k (ix4 b j h d)) (fun (j : Fin 2304) => v (ix4 b j h e)) := by
  have e0 : outL q k v (ix4 b r h e) = ∑ j : Fin 2304, v (ix4 b j h e) * sharesL (weightsL (scoresL q k)) (ix4 b h r j) := by
    pointwise [outL]
  have ew (j : Fin 2304) : weightsL (scoresL q k) (ix4 b h r j) = weight (fun d => q (ix4 b r h d)) (fun (j : Fin 2304) d => k (ix4 b j h d)) j := by
    rw [weightsL_at]
    simp only [scoresL_at]
    rw [Cert.MlaIdeal.Block.low_max]
    rfl
  rw [e0]
  simp only [sharesL_at, ew]
  rfl

/-- The reference's array. -/
def val (q k : FVec Ideal S8x2304x1024 .bf16) (v : FVec Ideal S8x2304x512 .bf16) : FVec Ideal S8x2304x512 .bf16 :=
  truncf .bf16 (shapeCast S8x2304x512 (concatenate S8x2304x4x128 1
    [⟨S8x256x4x128, outC (extractStridedSlice S8x256x4x256 ![0, 0, 0, 0] (heads q) slices_S8x2304x4x256_S8x256x4x256_0_0_0_0)
        (extractStridedSlice S8x256x4x256 ![0, 0, 0, 0] (heads k) slices_S8x2304x4x256_S8x256x4x256_0_0_0_0)
        (extractStridedSlice S8x256x4x128 ![0, 0, 0, 0] (vheads v) slices_S8x2304x4x128_S8x256x4x128_0_0_0_0)⟩,
     ⟨S8x2048x4x128, outL (extractStridedSlice S8x2048x4x256 ![0, 256, 0, 0] (heads q) slices_S8x2304x4x256_S8x2048x4x256_0_256_0_0) (heads k) (vheads v)⟩]
    concatenates_S8x256x4x128_S8x2048x4x128_S8x2304x4x128_d1) shapeCasts_S8x2304x4x128_S8x2304x512) bitsLt_bf16_f32

theorem flat_at (x : FVec Ideal S8x2304x4x128 .f32) (b : Fin 8) (p : Fin 2304) (h : Fin 4) (e : Fin 128) (n : Fin 512) (hn : n.val = h.val * 128 + e.val) :
    (truncf .bf16 (shapeCast S8x2304x512 x shapeCasts_S8x2304x4x128_S8x2304x512) bitsLt_bf16_f32 : FVec Ideal S8x2304x512 .bf16) (ix3 b p n) = x (ix4 b p h e) := by
  show shapeCast S8x2304x512 x shapeCasts_S8x2304x4x128_S8x2304x512 (ix3 b p n) = x (ix4 b p h e)
  refine shapeCast_apply x _ _ _ ?_
  rw [Shape.rowMajor_val_three, Shape.rowMajor_val_four]
  show ((b.val * 2304 + p.val) * 4 + h.val) * 128 + e.val = (b.val * 2304 + p.val) * 512 + n.val
  omega

/-- An entry of the context's, over the first 256 keys, -/
theorem val_ctx (q k : FVec Ideal S8x2304x1024 .bf16) (v : FVec Ideal S8x2304x512 .bf16) (b : Fin 8) (r : Fin 256) (h : Fin 4) (e : Fin 128) (n : Fin 512) (hn : n.val = h.val * 128 + e.val) :
    val q k v (ix3 b ⟨r.val, by omega⟩ n)
      = attend (fun d : Fin 256 => q (ix3 b ⟨r.val, by omega⟩ ⟨h.val * 256 + d.val, by omega⟩)) (fun (j : Fin 256) (d : Fin 256) => k (ix3 b ⟨j.val, by omega⟩ ⟨h.val * 256 + d.val, by omega⟩))
          (fun j : Fin 256 => v (ix3 b ⟨j.val, by omega⟩ ⟨h.val * 128 + e.val, by omega⟩)) := by
  refine (flat_at _ b _ h e n hn).trans ?_
  refine (concatenate_pair_apply_left (t := S8x2304x4x128) (s₁ := S8x256x4x128) (s₂ := S8x2048x4x128) 1 _ _ _ _ rfl (ix4 b r h e) fun a => ?_).trans ?_
  · match a with
    | 0 => rfl
    | 1 => rfl
    | 2 => rfl
    | 3 => rfl
  · rw [outC_at]
    have sl (x : FVec Ideal S8x2304x1024 .bf16) (j : Fin 256) (d : Fin 256) :
        extractStridedSlice S8x256x4x256 ![0, 0, 0, 0] (heads x) slices_S8x2304x4x256_S8x256x4x256_0_0_0_0 (ix4 b j h d) = x (ix3 b ⟨j.val, by omega⟩ ⟨h.val * 256 + d.val, by omega⟩) := by
      refine Eq.trans ?_ (heads_at x b ⟨j.val, by omega⟩ h d)
      pointwise
    have sv (j : Fin 256) :
        extractStridedSlice S8x256x4x128 ![0, 0, 0, 0] (vheads v) slices_S8x2304x4x128_S8x256x4x128_0_0_0_0 (ix4 b j h e) = v (ix3 b ⟨j.val, by omega⟩ ⟨h.val * 128 + e.val, by omega⟩) := by
      refine Eq.trans ?_ (vheads_at v b ⟨j.val, by omega⟩ h e)
      pointwise
    simp only [sl, sv]
/-- and one of the latents', over them all. -/
theorem val_lat (q k : FVec Ideal S8x2304x1024 .bf16) (v : FVec Ideal S8x2304x512 .bf16) (b : Fin 8) (r : Fin 2048) (h : Fin 4) (e : Fin 128) (n : Fin 512) (hn : n.val = h.val * 128 + e.val) :
    val q k v (ix3 b ⟨256 + r.val, by omega⟩ n)
      = attend (fun d : Fin 256 => q (ix3 b ⟨256 + r.val, by omega⟩ ⟨h.val * 256 + d.val, by omega⟩)) (fun (j : Fin 2304) (d : Fin 256) => k (ix3 b j ⟨h.val * 256 + d.val, by omega⟩))
          (fun j : Fin 2304 => v (ix3 b j ⟨h.val * 128 + e.val, by omega⟩)) := by
  refine (flat_at _ b _ h e n hn).trans ?_
  refine (concatenate_pair_apply_right (t := S8x2304x4x128) (s₁ := S8x256x4x128) (s₂ := S8x2048x4x128) 1 _ _ _ _ rfl rfl (ix4 b r h e) (fun a ha => ?_) ?_).trans ?_
  · match a with
    | 0 => rfl
    | 1 => exact absurd rfl ha
    | 2 => rfl
    | 3 => rfl
  · exact Nat.add_comm r.val 256
  · rw [outL_at]
    have sl (d : Fin 256) :
        extractStridedSlice S8x2048x4x256 ![0, 256, 0, 0] (heads q) slices_S8x2304x4x256_S8x2048x4x256_0_256_0_0 (ix4 b r h d) = q (ix3 b ⟨256 + r.val, by omega⟩ ⟨h.val * 256 + d.val, by omega⟩) := by
      refine Eq.trans ?_ (heads_at q b ⟨256 + r.val, by omega⟩ h d)
      pointwise
    simp only [sl, heads_at, vheads_at]

end Cert.RefMlaIdeal.Ref

end
-- ==== Proof.MlaMath.lean ====
/- The latent attention: dividing the weighted sum of the values by the weights' sum is weighing the values by the quotients, the queries and
   the keys being finite. -/
module

public import proofs.«01_k».proof.Proof.MlaBlock

@[expose] public section

noncomputable section

namespace Cert.MlaIdeal.Block

open Idealize.ShloMosaic

/-- A real number. -/
def IsReal (x : EReal) : Prop := ∃ r : ℝ, x = (r : EReal)

theorem isReal_of_ne {x : EReal} (h : x ≠ ⊥ ∧ x ≠ ⊤) : IsReal x := ⟨x.toReal, (EReal.coe_toReal h.2 h.1).symm⟩

/-- Products of real numbers are real, -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩
/-- and their sums. -/
theorem IsReal.sum {n : ℕ} (f : Fin n → EReal) (h : ∀ j, IsReal (f j)) (s : Finset (Fin n)) : IsReal (∑ j ∈ s, f j) := by
  classical
  induction s using Finset.induction_on with
  | empty => exact ⟨0, by simp⟩
  | insert a s ha ih =>
    obtain ⟨x, hx⟩ := h a
    obtain ⟨y, hy⟩ := ih
    exact ⟨x + y, by rw [Finset.sum_insert ha, hx, hy, EReal.coe_add]⟩

/-- The scale of the scores is a real number. -/
theorem scale_real : IsReal (Ideal.ofBits FTy.f32 1033096506#32) := by
  unfold IsReal
  simp [Ideal.ofBits, Ideal.ieee, -EReal.coe_mul]

/-- A finite factor that is not negative goes into a sum, whatever the terms. -/
theorem sum_mul_coe {n : ℕ} (f : Fin n → EReal) (c : EReal) (h0 : 0 ≤ c) (ht : c ≠ ⊤) (s : Finset (Fin n)) : (∑ j ∈ s, f j) * c = ∑ j ∈ s, f j * c := by
  classical
  induction s using Finset.induction_on with
  | empty => simp
  | insert a s ha ih => rw [Finset.sum_insert ha, Finset.sum_insert ha, ← ih, EReal.right_distrib_of_nonneg_of_ne_top h0 ht]

/-- The weights' sum is a positive real number. -/
theorem total_pos {n : ℕ} (hn : 0 < n) (q : Fin 256 → EReal) (k : Fin n → Fin 256 → EReal) (hq : ∀ d, q d ≠ ⊥ ∧ q d ≠ ⊤) (hk : ∀ j d, k j d ≠ ⊥ ∧ k j d ≠ ⊤) :
    ∃ l : ℝ, 0 < l ∧ ∑ j : Fin n, weight q k j = (l : EReal) := by
  classical
  have hs (j : Fin n) : IsReal (score q k j) := (IsReal.sum _ (fun d => (isReal_of_ne (hq d)).mul (isReal_of_ne (hk j d))) _).mul scale_real
  have hb : Ideal.ofBits FTy.f32 4286578688#32 = (⊥ : EReal) := rfl
  have hM : IsReal (Finset.fold max (Ideal.ofBits FTy.f32 4286578688#32) (fun x => score q k x) Finset.univ) := by
    refine isReal_of_ne ⟨?_, ?_⟩
    · refine ne_of_gt ((Finset.lt_fold_max _).2 (Or.inr ⟨⟨0, hn⟩, Finset.mem_univ _, ?_⟩))
      obtain ⟨r, hr⟩ := hs ⟨0, hn⟩
      rw [hr]
      exact EReal.bot_lt_coe r
    · refine ne_of_lt ((Finset.fold_max_lt _).2 ⟨?_, fun x _ => ?_⟩)
      · rw [hb]
        exact bot_lt_top
      · obtain ⟨r, hr⟩ := hs x
        rw [hr]
        exact EReal.coe_lt_top r
  have hw (j : Fin n) : ∃ w : ℝ, 0 < w ∧ weight q k j = (w : EReal) := by
    obtain ⟨a, ha⟩ := hs j
    obtain ⟨b, hb⟩ := hM
    refine ⟨Real.exp (a - b), Real.exp_pos _, ?_⟩
    unfold weight
    rw [ha, hb, ← EReal.coe_sub, Ideal.exp_coe]
  choose w hw0 hw1 using hw
  have sums (s : Finset (Fin n)) : ∑ j ∈ s, weight q k j = ((∑ j ∈ s, w j : ℝ) : EReal) := by
    induction s using Finset.induction_on with
    | empty => simp
    | insert a s ha ih => rw [Finset.sum_insert ha, Finset.sum_insert ha, ih, hw1, EReal.coe_add]
  exact ⟨_, Finset.sum_pos (fun j _ => hw0 j) ⟨⟨0, hn⟩, Finset.mem_univ _⟩, sums _⟩

/-- The weighted sum of the values, each weight divided first. -/
def spread {n : ℕ} (q : Fin 256 → EReal) (k : Fin n → Fin 256 → EReal) (v : Fin n → EReal) : EReal :=
  ∑ j : Fin n, v j * Ideal.div (weight q k j) (∑ j : Fin n, weight q k j)

/-- THE TWO FORMS AGREE. -/
theorem attend_eq {n : ℕ} (hn : 0 < n) (q : Fin 256 → EReal) (k : Fin n → Fin 256 → EReal) (v : Fin n → EReal) (hq : ∀ d, q d ≠ ⊥ ∧ q d ≠ ⊤) (hk : ∀ j d, k j d ≠ ⊥ ∧ k j d ≠ ⊤) :
    attend q k v = spread q k v := by
  obtain ⟨l, hl, e⟩ := total_pos hn q k hq hk
  unfold attend spread
  rw [e]
  have hne : (l : EReal) ≠ 0 := by
    rw [← EReal.coe_zero]
    exact fun h => hl.ne' (EReal.coe_injective h)
  unfold Ideal.div
  simp only [if_neg hne]
  rw [← EReal.coe_inv, sum_mul_coe _ _ (EReal.coe_nonneg.2 (inv_nonneg.2 hl.le)) (EReal.coe_ne_top _)]
  refine Finset.sum_congr rfl fun j _ => ?_
  rw [mul_comm (weight q k j) (v j), mul_assoc]

end Cert.MlaIdeal.Block

end
-- ==== Proof.MlaWhole.lean ====
/- The latent attention: the kernel's array, entry by entry, and that it is the reference's when the queries and keys are finite. -/
module

public import proofs.«01_k».proof.Proof.MlaRef
public import proofs.«01_k».proof.Proof.MlaMath

@[expose] public section

set_option maxRecDepth 16384

noncomputable section

namespace Cert.MlaIdeal.Block

open Idealize.ShloMosaic Idealize.ShloMosaic.TcCoe Idealize.SL.Sem
open Cert.MlaIdeal Cert.MlaIdeal.Gen

variable (m : (ℓ : Loc nD τ sig) → Buf (Elt Ideal) ℓ) (c : Dev nD)

/-- The grid point of a block of queries: nine to a head, the first the context's. -/
def pt (b : Fin 8) (h : Fin 4) (i : Fin 9) : Fin cfg0.N := ⟨(b.val * 4 + h.val) * 9 + i.val, lt_of_lt_of_eq (by omega) (by decide : 288 = cfg0.N)⟩

theorem idx0 : ∀ t : Fin cfg0.N, win0_0.index t 0 = t.val / 36 ∧ win0_0.index t 1 = t.val % 9 ∧ win0_0.index t 2 = t.val / 9 % 4 := by decide +kernel
theorem idx1 : ∀ t : Fin cfg0.N, win0_1.index t 0 = t.val / 36 ∧ win0_1.index t 1 = 0 ∧ win0_1.index t 2 = t.val / 9 % 4 := by decide +kernel
theorem idx2 : ∀ t : Fin cfg0.N, win0_2.index t 0 = t.val / 36 ∧ win0_2.index t 1 = 0 ∧ win0_2.index t 2 = t.val / 9 % 4 := by decide +kernel
theorem idx3 : ∀ t : Fin cfg0.N, win0_3.index t 0 = t.val / 36 ∧ win0_3.index t 1 = t.val % 9 ∧ win0_3.index t 2 = t.val / 9 % 4 := by decide +kernel

/-- No two points write the same block. -/
theorem idx_inj (t t' : Fin cfg0.N) (h : win0_3.index t = win0_3.index t') : t = t' := by
  obtain ⟨e0, e1, e2⟩ := idx3 t
  obtain ⟨f0, f1, f2⟩ := idx3 t'
  have g0 := congrFun h 0
  have g1 := congrFun h 1
  have g2 := congrFun h 2
  rw [e0, f0] at g0
  rw [e1, f1] at g1
  rw [e2, f2] at g2
  exact Fin.ext (by omega)

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj t t' h)

/-- The queries of a block, -/
theorem iblk0 (b : Fin 8) (h : Fin 4) (i : Fin 9) (r : Fin 256) (d : Fin 256) (p : Fin 2304) (hp : p.val = i.val * 256 + r.val) :
    (iblk m c 0 (pt b h i) : Vec Ideal S1x256x256 .bf16) (ix3 0 r d) = (m ((c : Thread nD τ).loc main_arg0) : FVec Ideal S8x2304x1024 .bf16) (ix3 b p ⟨h.val * 256 + d.val, by omega⟩) := by
  refine Eq.trans ?_ (congrFun (V_main_arg0 m c) _)
  show V m c main_arg0 ((win0_0.rect (pt b h i)).emb (ix3 0 r d)) = _
  obtain ⟨e0, e1, e2⟩ := idx0 (pt b h i)
  have hv : (pt b h i).val = (b.val * 4 + h.val) * 9 + i.val := rfl
  congr 1
  funext a
  match a with
  | ⟨0, _⟩ => apply Fin.ext; show win0_0.index (pt b h i) 0 * 1 + 1 * 0 = b.val; omega
  | ⟨1, _⟩ => apply Fin.ext; show win0_0.index (pt b h i) 1 * 256 + 1 * r.val = p.val; omega
  | ⟨2, _⟩ => apply Fin.ext; show win0_0.index (pt b h i) 2 * 256 + 1 * d.val = h.val * 256 + d.val; omega
/-- its keys -/
theorem iblk1 (b : Fin 8) (h : Fin 4) (i : Fin 9) (j : Fin 2304) (d : Fin 256) :
    (iblk m c 1 (pt b h i) : Vec Ideal S1x2304x256 .bf16) (ix3 0 j d) = (m ((c : Thread nD τ).loc main_arg1) : FVec Ideal S8x2304x1024 .bf16) (ix3 b j ⟨h.val * 256 + d.val, by omega⟩) := by
  refine Eq.trans ?_ (congrFun (V_main_arg1 m c) _)
  show V m c main_arg1 ((win0_1.rect (pt b h i)).emb (ix3 0 j d)) = _
  obtain ⟨e0, e1, e2⟩ := idx1 (pt b h i)
  have hv : (pt b h i).val = (b.val * 4 + h.val) * 9 + i.val := rfl
  congr 1
  funext a
  match a with
  | ⟨0, _⟩ => apply Fin.ext; show win0_1.index (pt b h i) 0 * 1 + 1 * 0 = b.val; omega
  | ⟨1, _⟩ => apply Fin.ext; show win0_1.index (pt b h i) 1 * 2304 + 1 * j.val = j.val; omega
  | ⟨2, _⟩ => apply Fin.ext; show win0_1.index (pt b h i) 2 * 256 + 1 * d.val = h.val * 256 + d.val; omega
/-- and its values. -/
theorem iblk2 (b : Fin 8) (h : Fin 4) (i : Fin 9) (j : Fin 2304) (e : Fin 128) :
    (iblk m c 2 (pt b h i) : Vec Ideal S1x2304x128 .bf16) (ix3 0 j e) = (m ((c : Thread nD τ).loc main_arg2) : FVec Ideal S8x2304x512 .bf16) (ix3 b j ⟨h.val * 128 + e.val, by omega⟩) := by
  refine Eq.trans ?_ (congrFun (V_main_arg2 m c) _)
  show V m c main_arg2 ((win0_2.rect (pt b h i)).emb (ix3 0 j e)) = _
  obtain ⟨e0, e1, e2⟩ := idx2 (pt b h i)
  have hv : (pt b h i).val = (b.val * 4 + h.val) * 9 + i.val := rfl
  congr 1
  funext a
  match a with
  | ⟨0, _⟩ => apply Fin.ext; show win0_2.index (pt b h i) 0 * 1 + 1 * 0 = b.val; omega
  | ⟨1, _⟩ => apply Fin.ext; show win0_2.index (pt b h i) 1 * 2304 + 1 * j.val = j.val; omega
  | ⟨2, _⟩ => apply Fin.ext; show win0_2.index (pt b h i) 2 * 128 + 1 * e.val = h.val * 128 + e.val; omega

/-- An entry of the final array, given as an entry of the block its point writes. -/
theorem arr_at (b : Fin 8) (h : Fin 4) (i : Fin 9) (r : Fin 256) (e : Fin 128) (p : Fin 2304) (hp : p.val = i.val * 256 + r.val) (n : Fin 512) (hn : n.val = h.val * 128 + e.val)
    (x : Vec Ideal S1x256x128 .bf16) (hx : (dats m 0 c).flushed 3 (pt b h i) = (cfg0.win 3).cut (grid0.coords (pt b h i)) x) :
    ((dats m 0 c).arrAt 3 cfg0.N : FVec Ideal S8x2304x512 .bf16) (ix3 b p n) = x (ix3 0 r e) := by
  have hh := congrFun (((dats m 0 c).read_blk_arrAt_eq_flushed 3 disjoint3 cfg0.N (pt b h i) (pt b h i).isLt (flush0_3 _)).trans hx) (ix3 0 r e)
  refine Eq.trans ?_ hh
  show _ = ((dats m 0 c).arrAt 3 cfg0.N : FVec Ideal S8x2304x512 .bf16) ((win0_3.rect (pt b h i)).emb (ix3 0 r e))
  obtain ⟨e0, e1, e2⟩ := idx3 (pt b h i)
  have hv : (pt b h i).val = (b.val * 4 + h.val) * 9 + i.val := rfl
  refine congrArg _ (funext fun a => ?_)
  match a with
  | ⟨0, _⟩ => apply Fin.ext; show b.val = win0_3.index (pt b h i) 0 * 1 + 1 * 0; omega
  | ⟨1, _⟩ => apply Fin.ext; show p.val = win0_3.index (pt b h i) 1 * 256 + 1 * r.val; omega
  | ⟨2, _⟩ => apply Fin.ext; show n.val = win0_3.index (pt b h i) 2 * 128 + 1 * e.val; omega

/-- The reference's array of the kernel's arguments. -/
def want : FVec Ideal S8x2304x512 .bf16 :=
  Cert.RefMlaIdeal.Ref.val (m ((c : Thread nD τ).loc main_arg0)) (m ((c : Thread nD τ).loc main_arg1)) (m ((c : Thread nD τ).loc main_arg2))

section
variable (hq : ∀ i, (m ((c : Thread nD τ).loc main_arg0) : FVec Ideal S8x2304x1024 .bf16) i ≠ (⊥ : EReal) ∧ (m ((c : Thread nD τ).loc main_arg0) : FVec Ideal S8x2304x1024 .bf16) i ≠ (⊤ : EReal))
  (hk : ∀ i, (m ((c : Thread nD τ).loc main_arg1) : FVec Ideal S8x2304x1024 .bf16) i ≠ (⊥ : EReal) ∧ (m ((c : Thread nD τ).loc main_arg1) : FVec Ideal S8x2304x1024 .bf16) i ≠ (⊤ : EReal))
include hq hk

/-- The two arrays agree in a row of the context -/
theorem entry_ctx (b : Fin 8) (h : Fin 4) (r : Fin 256) (e : Fin 128) (n : Fin 512) (hn : n.val = h.val * 128 + e.val) :
    ((dats m 0 c).arrAt 3 cfg0.N : FVec Ideal S8x2304x512 .bf16) (ix3 b ⟨r.val, by omega⟩ n) = want m c (ix3 b ⟨r.val, by omega⟩ n) := by
  have hv : (pt b h 0).val = (b.val * 4 + h.val) * 9 + 0 := rfl
  refine (arr_at m c b h 0 r e _ (by show r.val = 0 * 256 + r.val; omega) n hn _ (Value.flushed3_A m c (pt b h 0) (by omega) (by omega))).trans ?_
  refine (out_A c _ _ _ _ _ _ _ _ _ _ _ _ _ _ r e).trans ?_
  refine Eq.trans ?_ (Cert.RefMlaIdeal.Ref.val_ctx _ _ _ b r h e n hn).symm
  refine Eq.trans ?_ (attend_eq (by omega) _ _ _ (fun d => hq _) (fun j d => hk _))
  refine congr (congr (congrArg attend (funext fun d => ?_)) (funext fun j => funext fun d => ?_)) (funext fun j => ?_)
  · exact iblk0 m c b h 0 r d _ (by show r.val = 0 * 256 + r.val; omega)
  · exact iblk1 m c b h 0 _ d
  · exact iblk2 m c b h 0 _ e
/-- and in a row of the latents. -/
theorem entry_lat (b : Fin 8) (h : Fin 4) (r : Fin 2048) (e : Fin 128) (n : Fin 512) (hn : n.val = h.val * 128 + e.val) :
    ((dats m 0 c).arrAt 3 cfg0.N : FVec Ideal S8x2304x512 .bf16) (ix3 b ⟨256 + r.val, by omega⟩ n) = want m c (ix3 b ⟨256 + r.val, by omega⟩ n) := by
  have hv : (pt b h ⟨r.val / 256 + 1, by omega⟩).val = (b.val * 4 + h.val) * 9 + (r.val / 256 + 1) := rfl
  have hp : 256 + r.val = (r.val / 256 + 1) * 256 + r.val % 256 := by omega
  refine (arr_at m c b h ⟨r.val / 256 + 1, by omega⟩ ⟨r.val % 256, by omega⟩ e _ hp n hn _ (Value.flushed3_B m c (pt b h ⟨r.val / 256 + 1, by omega⟩) (by omega) (by omega))).trans ?_
  refine (out_B c _ _ _ _ _ _ _ _ _ _ _ _ _ _ ⟨r.val % 256, by omega⟩ e).trans ?_
  refine Eq.trans ?_ (Cert.RefMlaIdeal.Ref.val_lat _ _ _ b r h e n hn).symm
  refine Eq.trans ?_ (attend_eq (by omega) _ _ _ (fun d => hq _) (fun j d => hk _))
  refine congr (congr (congrArg attend (funext fun d => ?_)) (funext fun j => funext fun d => ?_)) (funext fun j => ?_)
  · exact iblk0 m c b h _ _ d _ hp
  · exact iblk1 m c b h _ j d
  · exact iblk2 m c b h _ j e

/-- THE TWO ARRAYS AGREE. -/
theorem result_eq : (dats m 0 c).arrAt 3 cfg0.N = want m c := by
  have H (b : Fin 8) (p : Fin 2304) (n : Fin 512) : ((dats m 0 c).arrAt 3 cfg0.N : FVec Ideal S8x2304x512 .bf16) (ix3 b p n) = want m c (ix3 b p n) := by
    by_cases h : p.val < 256
    · exact entry_ctx m c hq hk b ⟨n.val / 128, by omega⟩ ⟨p.val, h⟩ ⟨n.val % 128, by omega⟩ n (by show n.val = n.val / 128 * 128 + n.val % 128; omega)
    · have hp : p = ⟨256 + (p.val - 256), by omega⟩ := Fin.ext (by show p.val = 256 + (p.val - 256); omega)
      rw [hp]
      exact entry_lat m c hq hk b ⟨n.val / 128, by omega⟩ ⟨p.val - 256, by omega⟩ ⟨n.val % 128, by omega⟩ n (by show n.val = n.val / 128 * 128 + n.val % 128; omega)
  generalize want m c = R at H ⊢
  funext i
  have hi : i = ix3 (i 0) (i 1) (i 2) := by
    funext a
    match a with
    | 0 => rfl
    | 1 => rfl
    | 2 => rfl
  rw [hi]
  exact H (i 0) (i 1) (i 2)
end

/-- The run, read: the result at the reference's array. -/
theorem run (hq : ∀ (c : Dev nD) i, (m ((c : Thread nD τ).loc main_arg0) : FVec Ideal S8x2304x1024 .bf16) i ≠ (⊥ : EReal) ∧ (m ((c : Thread nD τ).loc main_arg0) : FVec Ideal S8x2304x1024 .bf16) i ≠ (⊤ : EReal))
    (hk : ∀ (c : Dev nD) i, (m ((c : Thread nD τ).loc main_arg1) : FVec Ideal S8x2304x1024 .bf16) i ≠ (⊥ : EReal) ∧ (m ((c : Thread nD τ).loc main_arg1) : FVec Ideal S8x2304x1024 .bf16) i ≠ (⊤ : EReal))
    (ρ : Dev nD → PrngReg) : θ_run defs (onTc (τ := τ) (main (F := Ideal))) ⟨m, fun _ => 0, ρ⟩ fun r => ∀ c : Dev nD,
      r.2.mem ((c.tc : Thread nD τ).loc main_v0) = want m c :=
  (θ_run defs _ _).mono (fun _ h c => (h c).1.trans (result_eq m c (hq c) (hk c))) (Value.run_blocks m ρ)

end Cert.MlaIdeal.Block

end
-- ==== Proof.MlaFinite.lean ====
/- What the precondition says: every entry of the queries and keys is finite. -/
module

public import proofs.«01_k».proof.Pre_scores_finite
public import Idealize.ShloMosaic.Lib.ReduceAll
public import Idealize.ShloMosaic.Lib.Pointwise

@[expose] public section

set_option maxRecDepth 16384

noncomputable section

namespace Cert.Pre_scores_finite

open Idealize.ShloMosaic

/-- The shape relations the precondition's operations take. -/
theorem facts : Facts := by
  constructor <;> decide

/-- A bit made of a truth value is 1 exactly when it is true. -/
theorem ofBool_one (b : Bool) : BitVec.ofBool b = 1#1 ↔ b = true := by cases b <;> decide

/-- The queries and the keys are finite. -/
theorem decode [Facts] (q k : FVec Ideal S8x2304x1024 .bf16) (v : FVec Ideal S8x2304x512 .bf16)
    (h : fn (F := Ideal) q k v = fun _ => 1#1) :
    (∀ i, q i ≠ ⊥ ∧ q i ≠ ⊤) ∧ ∀ i, k i ≠ ⊥ ∧ k i ≠ ⊤ := by
  haveI : Subsingleton S_.Idx := ⟨fun x y => funext fun k => k.elim0⟩
  have hh := congrFun h (Shape.Idx.first Facts.h_S_)
  unfold fn at hh
  obtain ⟨h1, h2⟩ := IntOp.andi_eq_one.1 hh
  have one (x : EReal) (y : BitVec 1) (e1 : Ideal.cmp .ogt x (Ideal.ofBits .bf16 0xFF80#16) = 1#1) (e2 : Ideal.cmp .olt x (Ideal.ofBits .bf16 0x7F80#16) = 1#1) : x ≠ ⊥ ∧ x ≠ ⊤ := by
    have c1 : decide (Ideal.ofBits .bf16 0xFF80#16 < x) = true := (ofBool_one _).1 e1
    have c2 : decide (x < Ideal.ofBits .bf16 0x7F80#16) = true := (ofBool_one _).1 e2
    exact ⟨fun e => not_lt_bot (e ▸ of_decide_eq_true c1), fun e => not_top_lt (e ▸ of_decide_eq_true c2)⟩
  refine ⟨fun i => ?_, fun i => ?_⟩
  · have hi := Host.reduce_andi_all _ _ _ _ _ h1 i
    obtain ⟨ha, hb⟩ := IntOp.andi_eq_one.1 hi
    exact one _ 0 ha hb
  · have hi := Host.reduce_andi_all _ _ _ _ _ h2 i
    obtain ⟨ha, hb⟩ := IntOp.andi_eq_one.1 hi
    exact one _ 0 ha hb

end Cert.Pre_scores_finite

end
-- ==== Proof.OutProjBlock.lean ====
/- The output projection with its layer norm and router: what a grid point writes and the host's arrays, read at an entry. -/
module

public import proofs.«01_k».proof.Proof.Gen.OutProjIdeal.Value
public import Idealize.ShloMosaic.Lib.Pointwise

@[expose] public section

set_option maxRecDepth 16384

noncomputable section

namespace Cert.OutProjIdeal.Block

open Idealize.ShloMosaic Idealize.ShloMosaic.TcCoe
open Cert.OutProjIdeal Cert.OutProjIdeal.Gen

/-- The residual scaled, and the projection gated. -/
def mix (x g d : Fin 1024 → EReal) (k : Fin 1024) : EReal := Ideal.ofBits FTy.f32 0x3FD744FD#32 * x k + g k * d k
/-- A row less its mean, -/
def centre (u : Fin 1024 → EReal) (k : Fin 1024) : EReal := u k - Ideal.div (∑ l : Fin 1024, u l) (Ideal.ofBits FTy.f32 0x44800000#32)
/-- and a centred row over its deviation, with gain and bias. -/
def scaled (z gain bias : Fin 1024 → EReal) (k : Fin 1024) : EReal :=
  z k * Ideal.rsqrt (Ideal.div (∑ l : Fin 1024, z l * z l) (Ideal.ofBits FTy.f32 0x44800000#32) + Ideal.ofBits FTy.f32 0x358637BD#32) * gain k + bias k
/-- The layer norm of a row. -/
def norm (u gain bias : Fin 1024 → EReal) : Fin 1024 → EReal := scaled (centre u) gain bias
/-- An expert's logit of a row modulated. -/
def logit (y s h : Fin 1024 → EReal) (w : Fin 16 → Fin 1024 → EReal) (e : Fin 16) : EReal := ∑ k : Fin 1024, w e k * (y k * (1 + s k) + h k)
/-- The weight of a logit, before they are made to sum to one, -/
def weight (l : Fin 16 → EReal) (e : Fin 16) : EReal := Ideal.exp (l e - Finset.fold max (Ideal.ofBits FTy.f32 4286578688#32) (fun x => l x) Finset.univ)
/-- and after. -/
def share (l : Fin 16 → EReal) (e : Fin 16) : EReal := Ideal.div (weight l e) (∑ x : Fin 16, weight l x)

/-- The centred row a grid point computes, at an entry. -/
theorem pay3_at (a : Vec Ideal S256x512 .bf16) (w : Vec Ideal S512x1024 .bf16) (b : Vec Ideal S256x512 .bf16) (v : Vec Ideal S512x1024 .bf16)
    (x : Vec Ideal S256x1024 .f32) (g : Vec Ideal S1x1x1x1024 .f32) (r : Fin 256) (n : Fin 1024) :
    k0_pay3 a w b v x g (ix2 r n)
      = centre (mix (fun k => x (ix2 r k)) (fun k => g (ix4 0 0 0 k))
          (fun k => (∑ l : Fin 512, a (ix2 r l) * w (ix2 l k)) + ∑ l : Fin 512, b (ix2 r l) * v (ix2 l k))) n := by
  pointwise [k0_pay3]
  rfl

/-- The normed row, from the centred one. -/
theorem pay6_at (g b : FVec Ideal S1x1024 .f32) (z : FVec Ideal S256x1024 .f32) (q p : FVec Ideal S256x1 .f32) (r : Fin 256) (n : Fin 1024) :
    k0_pay6 g b z q p (ix2 r n)
      = z (ix2 r n) * Ideal.rsqrt (Ideal.div (q (ix2 r 0)) (p (ix2 r 0)) + Ideal.ofBits FTy.f32 0x358637BD#32) * g (ix2 0 n) + b (ix2 0 n) := by
  pointwise [k0_pay6]
theorem pay4_at (a : Vec Ideal S256x512 .bf16) (w : Vec Ideal S512x1024 .bf16) (b : Vec Ideal S256x512 .bf16) (v : Vec Ideal S512x1024 .bf16)
    (x : Vec Ideal S256x1024 .f32) (g : Vec Ideal S1x1x1x1024 .f32) (r : Fin 256) :
    k0_pay4 a w b v x g (ix2 r 0) = ∑ l : Fin 1024, k0_pay3 a w b v x g (ix2 r l) * k0_pay3 a w b v x g (ix2 r l) := by
  unfold k0_pay4
  generalize k0_pay3 a w b v x g = z
  pointwise
theorem pay5_at (r : Fin 256) : k0_pay5 (F := Ideal) (ix2 r 0) = Ideal.ofBits FTy.f32 0x44800000#32 := rfl
theorem pay1_at (g : Vec Ideal S1x1024 .f32) (n : Fin 1024) : k0_pay1 g (ix2 0 n) = g (ix2 0 n) := by
  pointwise [k0_pay1]
theorem pay2_at (g : Vec Ideal S1x1024 .f32) (n : Fin 1024) : k0_pay2 g (ix2 0 n) = g (ix2 0 n) := by
  pointwise [k0_pay2]

/-- The experts' shares of a row, from the normed one. -/
theorem pay7_at (g b : FVec Ideal S1x1024 .f32) (z : FVec Ideal S256x1024 .f32) (q p : FVec Ideal S256x1 .f32)
    (s h : Vec Ideal S1x1x1x1024 .f32) (w : Vec Ideal S16x1024 .f32) (e : Fin 16) (r : Fin 256) :
    k0_pay7 g b z q p s h w (ix3 0 e r)
      = share (logit (fun k => k0_pay6 g b z q p (ix2 r k)) (fun k => s (ix4 0 0 0 k)) (fun k => h (ix4 0 0 0 k)) (fun e k => w (ix2 e k))) e := by
  unfold k0_pay7
  generalize k0_pay6 g b z q p = y
  pointwise
  rfl

theorem off2 : (![0, 0] : Fin 2 → Nat) = fun _ => 0 := by decide
theorem off3 : (![0, 0, 0] : Fin 3 → Nat) = fun _ => 0 := by decide
theorem off4 : (![0, 0, 0, 0] : Fin 4 → Nat) = fun _ => 0 := by decide

/-- The matrix's first 512 rows -/
theorem top_at (x : Vec Ideal S1024x1024 .bf16) (l : Fin 512) (k : Fin 1024) : View.ld x r0_1 (ix2 l k) = x (ix2 ⟨l.val, by omega⟩ k) := by
  show x _ = x _
  congr 1
  funext a
  match a with
  | ⟨0, _⟩ => apply Fin.ext; show 0 + 1 * l.val = l.val; omega
  | ⟨1, _⟩ => apply Fin.ext; show 0 + 1 * k.val = k.val; omega
/-- and its last. -/
theorem low_at (x : Vec Ideal S1024x1024 .bf16) (l : Fin 512) (k : Fin 1024) : View.ld x r0_2 (ix2 l k) = x (ix2 ⟨512 + l.val, by omega⟩ k) := by
  show x _ = x _
  congr 1
  funext a
  match a with
  | ⟨0, _⟩ => apply Fin.ext; show 512 + 1 * l.val = 512 + l.val; omega
  | ⟨1, _⟩ => apply Fin.ext; show 0 + 1 * k.val = k.val; omega

/-- The gated sum of the blocks' row -/
def blend (x0 x1 : Vec Ideal S256x512 .bf16) (x2 : Vec Ideal S1024x1024 .bf16) (x3 : Vec Ideal S256x1024 .f32) (x4 : Vec Ideal S1x1x1x1024 .f32) (r : Fin 256) : Fin 1024 → EReal :=
  mix (fun k => x3 (ix2 r k)) (fun k => x4 (ix4 0 0 0 k))
    (fun k => (∑ l : Fin 512, x0 (ix2 r l) * x2 (ix2 ⟨l.val, by omega⟩ k)) + ∑ l : Fin 512, x1 (ix2 r l) * x2 (ix2 ⟨512 + l.val, by omega⟩ k))
theorem blend_at (x0 x1 : Vec Ideal S256x512 .bf16) (x2 : Vec Ideal S1024x1024 .bf16) (x3 : Vec Ideal S256x1024 .f32) (x4 : Vec Ideal S1x1x1x1024 .f32) (r : Fin 256) (n : Fin 1024) :
    k0_pay3 x0 (View.ld x2 r0_1) x1 (View.ld x2 r0_2) x3 x4 (ix2 r n) = centre (blend x0 x1 x2 x3 x4 r) n := by
  refine (pay3_at _ _ _ _ _ _ r n).trans (congrFun (congrArg centre (congrArg (mix _ _) (funext fun k => ?_))) n)
  exact congrArg₂ (· + ·) (Finset.sum_congr rfl fun l _ => congrArg (x0 (ix2 r l) * ·) (top_at x2 l k))
    (Finset.sum_congr rfl fun l _ => congrArg (x1 (ix2 r l) * ·) (low_at x2 l k))
/-- and the same normed. -/
def line (x0 x1 : Vec Ideal S256x512 .bf16) (x2 : Vec Ideal S1024x1024 .bf16) (x3 : Vec Ideal S256x1024 .f32) (x4 : Vec Ideal S1x1x1x1024 .f32)
    (x5 x6 : Vec Ideal S1x1024 .f32) (r : Fin 256) : Fin 1024 → EReal :=
  norm (blend x0 x1 x2 x3 x4 r) (fun k => x5 (ix2 0 k)) (fun k => x6 (ix2 0 k))

theorem six_at (x0 x1 : Vec Ideal S256x512 .bf16) (x2 : Vec Ideal S1024x1024 .bf16) (x3 : Vec Ideal S256x1024 .f32) (x4 : Vec Ideal S1x1x1x1024 .f32)
    (x5 x6 : Vec Ideal S1x1024 .f32) (x7 x8 : Vec Ideal S1x1x1x1024 .f32) (x9 : Vec Ideal S16x1024 .f32) (r : Fin 256) (n : Fin 1024) :
    k0_pay6 (k0_pay8 x0 x1 x2 x3 x4 x5 x6 x7 x8 x9) (k0_pay9 x0 x1 x2 x3 x4 x5 x6 x7 x8 x9) (k0_pay10 x0 x1 x2 x3 x4 x5 x6 x7 x8 x9) (k0_pay11 x0 x1 x2 x3 x4 x5 x6 x7 x8 x9) (k0_pay12 x0 x1 x2 x3 x4 x5 x6 x7 x8 x9) (ix2 r n)
      = line x0 x1 x2 x3 x4 x5 x6 r n := by
  rw [pay6_at]
  unfold k0_pay8 k0_pay9 k0_pay10 k0_pay11 k0_pay12
  rw [pay1_at, pay2_at, pay5_at, pay4_at]
  rw [show View.ld x0 r0_0 = x0 from View.ld_unit_zero off2 .., show View.ld x1 r0_0 = x1 from View.ld_unit_zero off2 .., show View.ld x3 r0_3 = x3 from View.ld_unit_zero off2 ..,
    show View.ld x4 r0_4 = x4 from View.ld_unit_zero off4 .., show View.ld x5 r0_5 = x5 from View.ld_unit_zero off2 .., show View.ld x6 r0_5 = x6 from View.ld_unit_zero off2 ..]
  simp only [blend_at]
  rfl

/-- The first result's buffer after a grid point, at an entry, -/
theorem out10_at (x0 x1 : Vec Ideal S256x512 .bf16) (x2 : Vec Ideal S1024x1024 .bf16) (x3 : Vec Ideal S256x1024 .f32) (x4 : Vec Ideal S1x1x1x1024 .f32)
    (x5 x6 : Vec Ideal S1x1024 .f32) (x7 x8 : Vec Ideal S1x1x1x1024 .f32) (x9 : Vec Ideal S16x1024 .f32) (r : Fin 256) (n : Fin 1024) :
    out0_10 x0 x1 x2 x3 x4 x5 x6 x7 x8 x9 (ix2 r n) = line x0 x1 x2 x3 x4 x5 x6 r n := by
  unfold out0_10
  rw [View.canon_unit_zero off2]
  exact six_at x0 x1 x2 x3 x4 x5 x6 x7 x8 x9 r n
/-- and the second's. -/
theorem out11_at (x0 x1 : Vec Ideal S256x512 .bf16) (x2 : Vec Ideal S1024x1024 .bf16) (x3 : Vec Ideal S256x1024 .f32) (x4 : Vec Ideal S1x1x1x1024 .f32)
    (x5 x6 : Vec Ideal S1x1024 .f32) (x7 x8 : Vec Ideal S1x1x1x1024 .f32) (x9 : Vec Ideal S16x1024 .f32) (e : Fin 16) (r : Fin 256) :
    out0_11 x0 x1 x2 x3 x4 x5 x6 x7 x8 x9 (ix3 0 e r)
      = share (logit (line x0 x1 x2 x3 x4 x5 x6 r) (fun k => x8 (ix4 0 0 0 k)) (fun k => x7 (ix4 0 0 0 k)) (fun e k => x9 (ix2 e k))) e := by
  unfold out0_11
  rw [View.canon_unit_zero off3, pay7_at, View.ld_unit_zero off4, View.ld_unit_zero off4, View.ld_unit_zero off2]
  rw [show (fun k => k0_pay6 (k0_pay8 x0 x1 x2 x3 x4 x5 x6 x7 x8 x9) (k0_pay9 x0 x1 x2 x3 x4 x5 x6 x7 x8 x9) (k0_pay10 x0 x1 x2 x3 x4 x5 x6 x7 x8 x9) (k0_pay11 x0 x1 x2 x3 x4 x5 x6 x7 x8 x9) (k0_pay12 x0 x1 x2 x3 x4 x5 x6 x7 x8 x9) (ix2 r k)) = line x0 x1 x2 x3 x4 x5 x6 r from
    funext fun k => six_at x0 x1 x2 x3 x4 x5 x6 x7 x8 x9 r k]

/-- The table of modulations: for each batch the context's and the batch's own, -/
def tabs (q : FVec Ideal S9x6x1024 .f32) : FVec Ideal S6x8x2x1x1024 .f32 :=
  broadcastInDim S6x8x2x1x1024 ![0, 1, 2, 4] bcast_S6x8x2x1024_S6x8x2x1x1024_0_1_2_4
    (transpose S6x8x2x1024 [2, 0, 1, 3]
      (concatenate S8x2x6x1024 1
        [⟨S8x1x6x1024, broadcastInDim S8x1x6x1024 ![0, 2, 3] bcast_S8x6x1024_S8x1x6x1024_0_2_3
            (broadcastInDim S8x6x1024 ![0, 1, 2] bcast_S1x6x1024_S8x6x1024_0_1_2 (extractStridedSlice S1x6x1024 ![8, 0, 0] q slices_S9x6x1024_S1x6x1024_8_0_0))⟩,
         ⟨S8x1x6x1024, broadcastInDim S8x1x6x1024 ![0, 2, 3] bcast_S8x6x1024_S8x1x6x1024_0_2_3
            (extractStridedSlice S8x6x1024 ![0, 0, 0] q slices_S9x6x1024_S8x6x1024_0_0_0)⟩]
        concatenates_S8x1x6x1024_S8x1x6x1024_S8x2x6x1024_d1)
      transposes_S8x2x6x1024_S6x8x2x1024_2_0_1_3)
/-- its gates, -/
def gates (q : FVec Ideal S9x6x1024 .f32) : FVec Ideal S8x2x1x1024 .f32 :=
  shapeCast S8x2x1x1024 (extractStridedSlice S1x8x2x1x1024 ![2, 0, 0, 0, 0] (tabs q) slices_S6x8x2x1x1024_S1x8x2x1x1024_2_0_0_0_0) shapeCasts_S1x8x2x1x1024_S8x2x1x1024
/-- its shifts -/
def shifts (q : FVec Ideal S9x6x1024 .f32) : FVec Ideal S8x2x1x1024 .f32 :=
  shapeCast S8x2x1x1024 (extractStridedSlice S1x8x2x1x1024 ![3, 0, 0, 0, 0] (tabs q) slices_S6x8x2x1x1024_S1x8x2x1x1024_3_0_0_0_0) shapeCasts_S1x8x2x1x1024_S8x2x1x1024
/-- and its scales. -/
def scales (q : FVec Ideal S9x6x1024 .f32) : FVec Ideal S8x2x1x1024 .f32 :=
  shapeCast S8x2x1x1024 (extractStridedSlice S1x8x2x1x1024 ![4, 0, 0, 0, 0] (tabs q) slices_S6x8x2x1x1024_S1x8x2x1x1024_4_0_0_0_0) shapeCasts_S1x8x2x1x1024_S8x2x1x1024

theorem tabs_ctx (q : FVec Ideal S9x6x1024 .f32) (j : Fin 6) (b : Fin 8) (k : Fin 1024) : tabs q (ix5 j b 0 0 k) = q (ix3 8 j k) := by
  pointwise [tabs]
theorem tabs_lat (q : FVec Ideal S9x6x1024 .f32) (j : Fin 6) (b : Fin 8) (k : Fin 1024) : tabs q (ix5 j b 1 0 k) = q (ix3 ⟨b.val, by omega⟩ j k) := by
  pointwise [tabs]
theorem gates_at (q : FVec Ideal S9x6x1024 .f32) (b : Fin 8) (z : Fin 2) (k : Fin 1024) : gates q (ix4 b z 0 k) = tabs q (ix5 2 b z 0 k) := by
  pointwise [gates]
theorem shifts_at (q : FVec Ideal S9x6x1024 .f32) (b : Fin 8) (z : Fin 2) (k : Fin 1024) : shifts q (ix4 b z 0 k) = tabs q (ix5 3 b z 0 k) := by
  pointwise [shifts]
theorem scales_at (q : FVec Ideal S9x6x1024 .f32) (b : Fin 8) (z : Fin 2) (k : Fin 1024) : scales q (ix4 b z 0 k) = tabs q (ix5 4 b z 0 k) := by
  pointwise [scales]

/-- The rows of the batches, one after the other. -/
theorem flat512 (v : FVec Ideal S8x2304x512 .bf16) (b : Fin 8) (p : Fin 2304) (k : Fin 512) (i : Fin 18432) (hi : i.val = b.val * 2304 + p.val) :
    shapeCast S18432x512 v shapeCasts_S8x2304x512_S18432x512 (ix2 i k) = v (ix3 b p k) := by
  refine shapeCast_apply v _ _ _ ?_
  rw [Shape.rowMajor_val_three, Shape.rowMajor_val_two]
  show (b.val * 2304 + p.val) * 512 + k.val = i.val * 512 + k.val
  omega
theorem flat1024 (v : FVec Ideal S8x2304x1024 .f32) (b : Fin 8) (p : Fin 2304) (k : Fin 1024) (i : Fin 18432) (hi : i.val = b.val * 2304 + p.val) :
    shapeCast S18432x1024 v shapeCasts_S8x2304x1024_S18432x1024 (ix2 i k) = v (ix3 b p k) := by
  refine shapeCast_apply v _ _ _ ?_
  rw [Shape.rowMajor_val_three, Shape.rowMajor_val_two]
  show (b.val * 2304 + p.val) * 1024 + k.val = i.val * 1024 + k.val
  omega
theorem vec_at (v : FVec Ideal S1024 .f32) (k : Fin 1024) : shapeCast S1x1024 v shapeCasts_S1024_S1x1024 (ix2 0 k) = v (ix1 k) := by
  pointwise
theorem turned_at (v : FVec Ideal S1024x16 .f32) (e : Fin 16) (k : Fin 1024) : transpose S16x1024 [1, 0] v transposes_S1024x16_S16x1024_1_0 (ix2 e k) = v (ix2 k e) := by
  pointwise

variable (m : (ℓ : Loc nD τ sig) → Buf (Elt Ideal) ℓ) (c : Dev nD)

theorem V_v16 : V m c main_v16 = shapeCast S18432x512 (m ((c : Thread nD τ).loc main_arg0)) shapeCasts_S8x2304x512_S18432x512 := rfl
theorem V_v17 : V m c main_v17 = shapeCast S18432x512 (m ((c : Thread nD τ).loc main_arg1)) shapeCasts_S8x2304x512_S18432x512 := rfl
theorem V_v8 (k n : Fin 1024) : (V m c main_v8 : Vec Ideal S1024x1024 .bf16) (ix2 k n) = (m ((c : Thread nD τ).loc main_arg4) : FVec Ideal S1024x1024 .f32) (ix2 k n) := rfl
theorem V_v18 : V m c main_v18 = shapeCast S18432x1024 (m ((c : Thread nD τ).loc main_arg2)) shapeCasts_S8x2304x1024_S18432x1024 := rfl
theorem V_v10 : V m c main_v10 = gates (m ((c : Thread nD τ).loc main_arg3)) := rfl
theorem V_v12 : V m c main_v12 = shifts (m ((c : Thread nD τ).loc main_arg3)) := rfl
theorem V_v14 : V m c main_v14 = scales (m ((c : Thread nD τ).loc main_arg3)) := rfl
theorem V_v19 : V m c main_v19 = shapeCast S1x1024 (m ((c : Thread nD τ).loc main_arg5)) shapeCasts_S1024_S1x1024 := rfl
theorem V_v20 : V m c main_v20 = shapeCast S1x1024 (m ((c : Thread nD τ).loc main_arg6)) shapeCasts_S1024_S1x1024 := rfl
theorem V_v15 : V m c main_v15 = transpose S16x1024 [1, 0] (m ((c : Thread nD τ).loc main_arg7)) transposes_S1024x16_S16x1024_1_0 := rfl

end Cert.OutProjIdeal.Block

end
-- ==== Proof.OutProjRef.lean ====
/- The output projection's reference, read at an entry. -/
module

public import proofs.«01_k».proof.Proof.Gen.RefOutProjIdeal.Run
public import proofs.«01_k».proof.Proof.OutProjBlock
public import Idealize.ShloMosaic.Lib.Pointwise
public import Idealize.ShloMosaic.Lib.Pipeline.Value

@[expose] public section

set_option maxRecDepth 16384

noncomputable section

namespace Cert.RefOutProjIdeal.Ref

open Idealize.ShloMosaic Idealize.ShloMosaic.TcCoe Idealize.SL.Sem
open Cert.OutProjIdeal.Block (mix centre scaled norm logit weight share)
open Cert.RefOutProjIdeal Cert.RefOutProjIdeal.Gen

/-- The modulations of every row: the context's rows have the last of the table, a batch's latents their own. -/
def mods (q : FVec Ideal S9x6x1024 .f32) : FVec Ideal S8x2304x6x1024 .f32 :=
  concatenate S8x2304x6x1024 1
    [⟨S8x256x6x1024, broadcastInDim S8x256x6x1024 ![2, 3] bcast_S6x1024_S8x256x6x1024_2_3 (shapeCast S6x1024 (extractStridedSlice S1x6x1024 ![8, 0, 0] q slices_S9x6x1024_S1x6x1024_8_0_0) shapeCasts_S1x6x1024_S6x1024)⟩,
     ⟨S8x2048x6x1024, broadcastInDim S8x2048x6x1024 ![0, 1, 2, 3] bcast_S8x1x6x1024_S8x2048x6x1024_0_1_2_3 (broadcastInDim S8x1x6x1024 ![0, 2, 3] bcast_S8x6x1024_S8x1x6x1024_0_2_3 (extractStridedSlice S8x6x1024 ![0, 0, 0] q slices_S9x6x1024_S8x6x1024_0_0_0))⟩]
    concatenates_S8x256x6x1024_S8x2048x6x1024_S8x2304x6x1024_d1
/-- The two halves of the rows side by side. -/
def cat (a b : FVec Ideal S8x2304x512 .bf16) : FVec Ideal S8x2304x1024 .f32 :=
  extf .f32 (concatenate S8x2304x1024 2 [⟨S8x2304x512, a⟩, ⟨S8x2304x512, b⟩] concatenates_S8x2304x512_S8x2304x512_S8x2304x1024_d2) bitsLt_bf16_f32
/-- The gated sum, -/
def blend (a : FVec Ideal S8x2304x1024 .f32) (x : FVec Ideal S8x2304x1024 .f32) (M : FVec Ideal S8x2304x6x1024 .f32) (w : FVec Ideal S1024x1024 .f32) : FVec Ideal S8x2304x1024 .f32 :=
  addf (mulf (broadcastInDim S8x2304x1024 ![] bcast_S_S8x2304x1024 (constant S_ .f32 0x3FD744FD#32)) x)
    (mulf (shapeCast S8x2304x1024 (extractStridedSlice S8x2304x1x1024 ![0, 0, 2, 0] M slices_S8x2304x6x1024_S8x2304x1x1024_0_0_2_0) shapeCasts_S8x2304x1x1024_S8x2304x1024)
      (Host.dotGeneral dot_S8x2304x1024_S1024x1024_S8x2304x1024_2_0_01_1_n_n none a w))
/-- centred, -/
def centred (u : FVec Ideal S8x2304x1024 .f32) : FVec Ideal S8x2304x1024 .f32 :=
  subf u (broadcastInDim S8x2304x1024 ![0, 1, 2] bcast_S8x2304x1_S8x2304x1024_0_1_2
    (Host.divf (broadcastInDim S8x2304x1 ![0, 1] bcast_S8x2304_S8x2304x1_0_1 (Host.reduceAdd u (constant S_ .f32 0x00000000#32) reducesTo_S8x2304x1024_S8x2304_d2 h_S_))
      (broadcastInDim S8x2304x1 ![] bcast_S_S8x2304x1 (constant S_ .f32 0x44800000#32))))
/-- and scaled. -/
def normed (z : FVec Ideal S8x2304x1024 .f32) (g b : FVec Ideal S1024 .f32) : FVec Ideal S8x2304x1024 .f32 :=
  addf (mulf (mulf z (broadcastInDim S8x2304x1024 ![0, 1, 2] bcast_S8x2304x1_S8x2304x1024_0_1_2
      (Host.rsqrt (addf (Host.divf (broadcastInDim S8x2304x1 ![0, 1] bcast_S8x2304_S8x2304x1_0_1 (Host.reduceAdd (mulf z z) (constant S_ .f32 0x00000000#32) reducesTo_S8x2304x1024_S8x2304_d2 h_S_))
        (broadcastInDim S8x2304x1 ![] bcast_S_S8x2304x1 (constant S_ .f32 0x44800000#32))) (broadcastInDim S8x2304x1 ![] bcast_S_S8x2304x1 (constant S_ .f32 0x358637BD#32))))))
      (broadcastInDim S8x2304x1024 ![0, 1, 2] bcast_S1x1x1024_S8x2304x1024_0_1_2 (broadcastInDim S1x1x1024 ![2] bcast_S1024_S1x1x1024_2 g)))
    (broadcastInDim S8x2304x1024 ![0, 1, 2] bcast_S1x1x1024_S8x2304x1024_0_1_2 (broadcastInDim S1x1x1024 ![2] bcast_S1024_S1x1x1024_2 b))
/-- The logits of the rows modulated, -/
def logits (y : FVec Ideal S8x2304x1024 .f32) (M : FVec Ideal S8x2304x6x1024 .f32) (w : FVec Ideal S1024x16 .f32) : FVec Ideal S8x2304x16 .f32 :=
  Host.dotGeneral dot_S8x2304x1024_S1024x16_S8x2304x16_2_0_01_1_n_n none
    (addf (mulf y (addf (broadcastInDim S8x2304x1024 ![] bcast_S_S8x2304x1024 (constant S_ .f32 0x3F800000#32))
        (shapeCast S8x2304x1024 (extractStridedSlice S8x2304x1x1024 ![0, 0, 4, 0] M slices_S8x2304x6x1024_S8x2304x1x1024_0_0_4_0) shapeCasts_S8x2304x1x1024_S8x2304x1024)))
      (shapeCast S8x2304x1024 (extractStridedSlice S8x2304x1x1024 ![0, 0, 3, 0] M slices_S8x2304x6x1024_S8x2304x1x1024_0_0_3_0) shapeCasts_S8x2304x1x1024_S8x2304x1024)) w
/-- their weights -/
def weights (l : FVec Ideal S8x2304x16 .f32) : FVec Ideal S8x2304x16 .f32 :=
  Host.exp (subf l (broadcastInDim S8x2304x16 ![0, 1, 2] bcast_S8x2304x1_S8x2304x16_0_1_2 (broadcastInDim S8x2304x1 ![0, 1] bcast_S8x2304_S8x2304x1_0_1
    (maximumf (broadcastInDim S8x2304 ![] bcast_S_S8x2304 (constant S_ .f32 0xFF800000#32)) (Host.reduce FloatOps.maximumf l (constant S_ .f32 0xFF800000#32) reducesTo_S8x2304x16_S8x2304_d2 h_S_)))))
/-- and these made to sum to one, expert by expert. -/
def shares (w : FVec Ideal S8x2304x16 .f32) : FVec Ideal S8x16x2304 .f32 :=
  transpose S8x16x2304 [0, 2, 1] (Host.divf w (broadcastInDim S8x2304x16 ![0, 1, 2] bcast_S8x2304x1_S8x2304x16_0_1_2 (broadcastInDim S8x2304x1 ![0, 1] bcast_S8x2304_S8x2304x1_0_1
    (Host.reduceAdd w (constant S_ .f32 0x00000000#32) reducesTo_S8x2304x16_S8x2304_d2 h_S_)))) transposes_S8x2304x16_S8x16x2304_0_2_1

/-- The reference's normed rows, -/
def rows (a b : FVec Ideal S8x2304x512 .bf16) (x : FVec Ideal S8x2304x1024 .f32) (q : FVec Ideal S9x6x1024 .f32) (w : FVec Ideal S1024x1024 .f32) (g d : FVec Ideal S1024 .f32) : FVec Ideal S8x2304x1024 .f32 :=
  normed (centred (blend (cat a b) x (mods q) w)) g d
/-- its first array -/
def val (a b : FVec Ideal S8x2304x512 .bf16) (x : FVec Ideal S8x2304x1024 .f32) (q : FVec Ideal S9x6x1024 .f32) (w : FVec Ideal S1024x1024 .f32) (g d : FVec Ideal S1024 .f32) : FVec Ideal S18432x1024 .f32 :=
  shapeCast S18432x1024 (rows a b x q w g d) shapeCasts_S8x2304x1024_S18432x1024
/-- and its second. -/
def aff (a b : FVec Ideal S8x2304x512 .bf16) (x : FVec Ideal S8x2304x1024 .f32) (q : FVec Ideal S9x6x1024 .f32) (w : FVec Ideal S1024x1024 .f32) (g d : FVec Ideal S1024 .f32) (e : FVec Ideal S1024x16 .f32) : FVec Ideal S8x16x2304 .f32 :=
  shares (weights (logits (rows a b x q w g d) (mods q) e))

/-- The modulations of a row of the context -/
theorem mods_ctx (q : FVec Ideal S9x6x1024 .f32) (b : Fin 8) (r : Fin 256) (j : Fin 6) (k : Fin 1024) : mods q (ix4 b ⟨r.val, by omega⟩ j k) = q (ix3 8 j k) := by
  refine (concatenate_pair_apply_left (t := S8x2304x6x1024) (s₁ := S8x256x6x1024) (s₂ := S8x2048x6x1024) 1 _ _ _ _ rfl (ix4 b r j k) fun a => ?_).trans ?_
  · match a with
    | 0 => rfl
    | 1 => rfl
    | 2 => rfl
    | 3 => rfl
  · pointwise
/-- and of one of the latents. -/
theorem mods_lat (q : FVec Ideal S9x6x1024 .f32) (b : Fin 8) (r : Fin 2048) (j : Fin 6) (k : Fin 1024) : mods q (ix4 b ⟨256 + r.val, by omega⟩ j k) = q (ix3 ⟨b.val, by omega⟩ j k) := by
  refine (concatenate_pair_apply_right (t := S8x2304x6x1024) (s₁ := S8x256x6x1024) (s₂ := S8x2048x6x1024) 1 _ _ _ _ rfl rfl (ix4 b r j k) (fun a ha => ?_) ?_).trans ?_
  · match a with
    | 0 => rfl
    | 1 => exact absurd rfl ha
    | 2 => rfl
    | 3 => rfl
  · exact Nat.add_comm r.val 256
  · pointwise

/-- The first half of a row -/
theorem cat_left (a b : FVec Ideal S8x2304x512 .bf16) (i : Fin 8) (p : Fin 2304) (l : Fin 512) : cat a b (ix3 i p ⟨l.val, by omega⟩) = a (ix3 i p l) := by
  refine concatenate_pair_apply_left (t := S8x2304x1024) (s₁ := S8x2304x512) (s₂ := S8x2304x512) 2 a b concatenates_S8x2304x512_S8x2304x512_S8x2304x1024_d2 _ rfl (ix3 i p l) fun a => ?_
  match a with
  | 0 => rfl
  | 1 => rfl
  | 2 => rfl
/-- and the second. -/
theorem cat_right (a b : FVec Ideal S8x2304x512 .bf16) (i : Fin 8) (p : Fin 2304) (l : Fin 512) : cat a b (ix3 i p ⟨512 + l.val, by omega⟩) = b (ix3 i p l) := by
  refine concatenate_pair_apply_right (t := S8x2304x1024) (s₁ := S8x2304x512) (s₂ := S8x2304x512) 2 a b concatenates_S8x2304x512_S8x2304x512_S8x2304x1024_d2 _ rfl rfl (ix3 i p l) (fun a ha => ?_) ?_
  · match a with
    | 0 => rfl
    | 1 => rfl
    | 2 => exact absurd rfl ha
  · exact Nat.add_comm l.val 512

/-- A sum over a row is the sum over its halves. -/
theorem sum_halves (f : Fin 1024 → EReal) : ∑ l : Fin 1024, f l = (∑ l : Fin 512, f ⟨l.val, by omega⟩) + ∑ l : Fin 512, f ⟨512 + l.val, by omega⟩ :=
  Fin.sum_univ_add (a := 512) (b := 512) f

theorem pick_at (M : FVec Ideal S8x2304x6x1024 .f32) (b : Fin 8) (p : Fin 2304) (k : Fin 1024) :
    shapeCast S8x2304x1024 (extractStridedSlice S8x2304x1x1024 ![0, 0, 2, 0] M slices_S8x2304x6x1024_S8x2304x1x1024_0_0_2_0) shapeCasts_S8x2304x1x1024_S8x2304x1024 (ix3 b p k) = M (ix4 b p 2 k) := by
  pointwise

theorem blend_at (a : FVec Ideal S8x2304x1024 .f32) (x : FVec Ideal S8x2304x1024 .f32) (M : FVec Ideal S8x2304x6x1024 .f32) (w : FVec Ideal S1024x1024 .f32) (b : Fin 8) (p : Fin 2304) (n : Fin 1024) :
    blend a x M w (ix3 b p n) = mix (fun k => x (ix3 b p k)) (fun k => M (ix4 b p 2 k)) (fun k => ∑ l : Fin 1024, a (ix3 b p l) * w (ix2 l k)) n := by
  pointwise [blend]
  rfl
theorem centred_at (u : FVec Ideal S8x2304x1024 .f32) (b : Fin 8) (p : Fin 2304) (n : Fin 1024) : centred u (ix3 b p n) = centre (fun k => u (ix3 b p k)) n := by
  pointwise [centred]
  rfl
theorem normed_at (z : FVec Ideal S8x2304x1024 .f32) (g d : FVec Ideal S1024 .f32) (b : Fin 8) (p : Fin 2304) (n : Fin 1024) :
    normed z g d (ix3 b p n) = scaled (fun k => z (ix3 b p k)) (fun k => g (ix1 k)) (fun k => d (ix1 k)) n := by
  pointwise [normed]
  rfl
theorem logits_at (y : FVec Ideal S8x2304x1024 .f32) (M : FVec Ideal S8x2304x6x1024 .f32) (w : FVec Ideal S1024x16 .f32) (b : Fin 8) (p : Fin 2304) (e : Fin 16) :
    logits y M w (ix3 b p e) = logit (fun k => y (ix3 b p k)) (fun k => M (ix4 b p 4 k)) (fun k => M (ix4 b p 3 k)) (fun e k => w (ix2 k e)) e := by
  have h : logits y M w (ix3 b p e) = ∑ k : Fin 1024, (y (ix3 b p k) * (1 + M (ix4 b p 4 k)) + M (ix4 b p 3 k)) * w (ix2 k e) := by
    pointwise [logits]
  exact h.trans (Finset.sum_congr rfl fun k _ => mul_comm _ _)
/-- The least number is no bound. -/
theorem low_max (x : EReal) : max (Ideal.ofBits FTy.f32 4286578688#32) x = x :=
  max_eq_right (bot_le (α := EReal))
theorem weights_at (l : FVec Ideal S8x2304x16 .f32) (b : Fin 8) (p : Fin 2304) (e : Fin 16) : weights l (ix3 b p e) = weight (fun e => l (ix3 b p e)) e := by
  have h : weights l (ix3 b p e) = Ideal.exp (l (ix3 b p e) - max (Ideal.ofBits FTy.f32 4286578688#32) (Finset.fold max (Ideal.ofBits FTy.f32 4286578688#32) (fun x : Fin 16 => l (ix3 b p x)) Finset.univ)) := by
    pointwise [weights]
  refine h.trans ?_
  rw [low_max]
  rfl
theorem shares_at (w : FVec Ideal S8x2304x16 .f32) (b : Fin 8) (e : Fin 16) (p : Fin 2304) : shares w (ix3 b e p) = Ideal.div (w (ix3 b p e)) (∑ x : Fin 16, w (ix3 b p x)) := by
  pointwise [shares]

/-- The reference's row. -/
def line (a b : FVec Ideal S8x2304x512 .bf16) (x : FVec Ideal S8x2304x1024 .f32) (q : FVec Ideal S9x6x1024 .f32) (w : FVec Ideal S1024x1024 .f32) (g d : FVec Ideal S1024 .f32) (i : Fin 8) (p : Fin 2304) : Fin 1024 → EReal :=
  norm (mix (fun k => x (ix3 i p k)) (fun k => mods q (ix4 i p 2 k))
      (fun k => (∑ l : Fin 512, a (ix3 i p l) * w (ix2 ⟨l.val, by omega⟩ k)) + ∑ l : Fin 512, b (ix3 i p l) * w (ix2 ⟨512 + l.val, by omega⟩ k)))
    (fun k => g (ix1 k)) (fun k => d (ix1 k))

theorem rows_at (a b : FVec Ideal S8x2304x512 .bf16) (x : FVec Ideal S8x2304x1024 .f32) (q : FVec Ideal S9x6x1024 .f32) (w : FVec Ideal S1024x1024 .f32) (g d : FVec Ideal S1024 .f32) (i : Fin 8) (p : Fin 2304) (n : Fin 1024) :
    rows a b x q w g d (ix3 i p n) = line a b x q w g d i p n := by
  refine (normed_at _ g d i p n).trans ?_
  unfold line Cert.OutProjIdeal.Block.norm
  refine congrFun (congrArg (fun z => scaled z _ _) (funext fun k => ?_)) n
  refine (centred_at _ i p k).trans ?_
  refine congrFun (congrArg centre (funext fun k => ?_)) k
  refine (blend_at _ x _ w i p k).trans ?_
  refine congrFun (congrArg (mix _ _) (funext fun k => ?_)) k
  refine (sum_halves _).trans ?_
  exact congrArg₂ (· + ·) (Finset.sum_congr rfl fun l _ => congrArg (· * w (ix2 ⟨l.val, by omega⟩ k)) (cat_left a b i p l))
    (Finset.sum_congr rfl fun l _ => congrArg (· * w (ix2 ⟨512 + l.val, by omega⟩ k)) (cat_right a b i p l))

/-- The first array at an entry -/
theorem val_at (a b : FVec Ideal S8x2304x512 .bf16) (x : FVec Ideal S8x2304x1024 .f32) (q : FVec Ideal S9x6x1024 .f32) (w : FVec Ideal S1024x1024 .f32) (g d : FVec Ideal S1024 .f32)
    (i : Fin 8) (p : Fin 2304) (n : Fin 1024) (s : Fin 18432) (hs : s.val = i.val * 2304 + p.val) :
    val a b x q w g d (ix2 s n) = line a b x q w g d i p n := by
  refine Eq.trans ?_ (rows_at a b x q w g d i p n)
  refine shapeCast_apply _ _ _ _ ?_
  rw [Shape.rowMajor_val_three, Shape.rowMajor_val_two]
  show (i.val * 2304 + p.val) * 1024 + n.val = s.val * 1024 + n.val
  omega
/-- and the second. -/
theorem aff_at (a b : FVec Ideal S8x2304x512 .bf16) (x : FVec Ideal S8x2304x1024 .f32) (q : FVec Ideal S9x6x1024 .f32) (w : FVec Ideal S1024x1024 .f32) (g d : FVec Ideal S1024 .f32) (f : FVec Ideal S1024x16 .f32)
    (i : Fin 8) (e : Fin 16) (p : Fin 2304) :
    aff a b x q w g d f (ix3 i e p)
      = share (logit (line a b x q w g d i p) (fun k => mods q (ix4 i p 4 k)) (fun k => mods q (ix4 i p 3 k)) (fun e k => f (ix2 k e))) e := by
  have hl : (fun e : Fin 16 => logits (rows a b x q w g d) (mods q) f (ix3 i p e))
      = logit (line a b x q w g d i p) (fun k => mods q (ix4 i p 4 k)) (fun k => mods q (ix4 i p 3 k)) (fun e k => f (ix2 k e)) :=
    funext fun e => (logits_at _ _ f i p e).trans (congrFun (congrArg (fun y => logit y _ _ _) (funext fun k => rows_at a b x q w g d i p k)) e)
  refine (shares_at _ i e p).trans ?_
  unfold share
  rw [← hl]
  exact congrArg₂ Ideal.div (weights_at _ i p e) (Finset.sum_congr rfl fun x _ => weights_at _ i p x)

end Cert.RefOutProjIdeal.Ref

end
-- ==== Proof.OutProjWhole.lean ====
/- The output projection with its layer norm and router: the kernel's arrays, entry by entry, and that they are the reference's. -/
module

public import proofs.«01_k».proof.Proof.OutProjRef

@[expose] public section

set_option maxRecDepth 16384

noncomputable section

namespace Cert.OutProjIdeal.Block

open Idealize.ShloMosaic Idealize.ShloMosaic.TcCoe Idealize.SL.Sem
open Cert.OutProjIdeal Cert.OutProjIdeal.Gen

variable (m : (ℓ : Loc nD τ sig) → Buf (Elt Ideal) ℓ) (c : Dev nD)

/-- The grid point of a block of rows: nine to a batch, the first the context's. -/
def pt (b : Fin 8) (j : Fin 9) : Fin cfg0.N := ⟨b.val * 9 + j.val, lt_of_lt_of_eq (by omega) (by decide : 72 = cfg0.N)⟩

/-- The context's block or a latents' block. -/
def kind (j : Fin 9) : Fin 2 := if j.val = 0 then 0 else 1

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val / 9 ∧ win0_4.index t 1 = (if t.val % 9 = 0 then 0 else 1) ∧ win0_4.index t 2 = 0 ∧ win0_4.index t 3 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = t.val / 9 ∧ win0_7.index t 1 = (if t.val % 9 = 0 then 0 else 1) ∧ win0_7.index t 2 = 0 ∧ win0_7.index t 3 = 0 := by decide +kernel
theorem idx8 : ∀ t : Fin cfg0.N, win0_8.index t 0 = t.val / 9 ∧ win0_8.index t 1 = (if t.val % 9 = 0 then 0 else 1) ∧ win0_8.index t 2 = 0 ∧ win0_8.index t 3 = 0 := by decide +kernel
theorem idx9 : ∀ t : Fin cfg0.N, win0_9.index t 0 = 0 ∧ win0_9.index t 1 = 0 := by decide +kernel
theorem idx10 : ∀ t : Fin cfg0.N, win0_10.index t 0 = t.val ∧ win0_10.index t 1 = 0 := by decide +kernel
theorem idx11 : ∀ t : Fin cfg0.N, win0_11.index t 0 = t.val / 9 ∧ win0_11.index t 1 = 0 ∧ win0_11.index t 2 = t.val % 9 := by decide +kernel
theorem flush10 : ∀ t : Fin cfg0.N, win0_10.flush t = true := by decide +kernel
theorem flush11 : ∀ t : Fin cfg0.N, win0_11.flush t = true := by decide +kernel

theorem kind_val (b : Fin 8) (j : Fin 9) : (if (pt b j).val % 9 = 0 then 0 else 1) = (kind j).val := by
  have hv : (pt b j).val = b.val * 9 + j.val := rfl
  unfold kind
  by_cases h : j.val = 0
  · rw [if_pos h, if_pos (by omega)]; rfl
  · rw [if_neg h, if_neg (by omega)]; rfl

/-- The block of the first half's rows, -/
theorem iblk0 (b : Fin 8) (j : Fin 9) (r : Fin 256) (k : Fin 512) (p : Fin 2304) (hp : p.val = j.val * 256 + r.val) :
    (iblk m c 0 (pt b j) : Vec Ideal S256x512 .bf16) (ix2 r k) = ((m ((c : Thread nD τ).loc main_arg0)) : FVec Ideal S8x2304x512 .bf16) (ix3 b p k) := by
  refine Eq.trans ?_ (flat512 _ b p k ⟨b.val * 2304 + p.val, by omega⟩ rfl)
  refine Eq.trans ?_ (congrFun (V_v16 m c) _)
  show V m c main_v16 ((win0_0.rect (pt b j)).emb (ix2 r k)) = _
  obtain ⟨e0, e1⟩ := idx0 (pt b j)
  have hv : (pt b j).val = b.val * 9 + j.val := rfl
  congr 1
  funext a
  match a with
  | ⟨0, _⟩ => apply Fin.ext; show win0_0.index (pt b j) 0 * 256 + 1 * r.val = b.val * 2304 + p.val; omega
  | ⟨1, _⟩ => apply Fin.ext; show win0_0.index (pt b j) 1 * 512 + 1 * k.val = k.val; omega
/-- of the second's, -/
theorem iblk1 (b : Fin 8) (j : Fin 9) (r : Fin 256) (k : Fin 512) (p : Fin 2304) (hp : p.val = j.val * 256 + r.val) :
    (iblk m c 1 (pt b j) : Vec Ideal S256x512 .bf16) (ix2 r k) = ((m ((c : Thread nD τ).loc main_arg1)) : FVec Ideal S8x2304x512 .bf16) (ix3 b p k) := by
  refine Eq.trans ?_ (flat512 _ b p k ⟨b.val * 2304 + p.val, by omega⟩ rfl)
  refine Eq.trans ?_ (congrFun (V_v17 m c) _)
  show V m c main_v17 ((win0_1.rect (pt b j)).emb (ix2 r k)) = _
  obtain ⟨e0, e1⟩ := idx1 (pt b j)
  have hv : (pt b j).val = b.val * 9 + j.val := rfl
  congr 1
  funext a
  match a with
  | ⟨0, _⟩ => apply Fin.ext; show win0_1.index (pt b j) 0 * 256 + 1 * r.val = b.val * 2304 + p.val; omega
  | ⟨1, _⟩ => apply Fin.ext; show win0_1.index (pt b j) 1 * 512 + 1 * k.val = k.val; omega
/-- the matrix, -/
theorem iblk2 (b : Fin 8) (j : Fin 9) (k n : Fin 1024) :
    (iblk m c 2 (pt b j) : Vec Ideal S1024x1024 .bf16) (ix2 k n) = ((m ((c : Thread nD τ).loc main_arg4)) : FVec Ideal S1024x1024 .f32) (ix2 k n) := by
  refine Eq.trans ?_ (V_v8 m c k n)
  show V m c main_v8 ((win0_2.rect (pt b j)).emb (ix2 k n)) = _
  obtain ⟨e0, e1⟩ := idx2 (pt b j)
  congr 1
  funext a
  match a with
  | ⟨0, _⟩ => apply Fin.ext; show win0_2.index (pt b j) 0 * 1024 + 1 * k.val = k.val; omega
  | ⟨1, _⟩ => apply Fin.ext; show win0_2.index (pt b j) 1 * 1024 + 1 * n.val = n.val; omega
/-- the block of the residual's rows, -/
theorem iblk3 (b : Fin 8) (j : Fin 9) (r : Fin 256) (k : Fin 1024) (p : Fin 2304) (hp : p.val = j.val * 256 + r.val) :
    (iblk m c 3 (pt b j) : Vec Ideal S256x1024 .f32) (ix2 r k) = ((m ((c : Thread nD τ).loc main_arg2)) : FVec Ideal S8x2304x1024 .f32) (ix3 b p k) := by
  refine Eq.trans ?_ (flat1024 _ b p k ⟨b.val * 2304 + p.val, by omega⟩ rfl)
  refine Eq.trans ?_ (congrFun (V_v18 m c) _)
  show V m c main_v18 ((win0_3.rect (pt b j)).emb (ix2 r k)) = _
  obtain ⟨e0, e1⟩ := idx3 (pt b j)
  have hv : (pt b j).val = b.val * 9 + j.val := rfl
  congr 1
  funext a
  match a with
  | ⟨0, _⟩ => apply Fin.ext; show win0_3.index (pt b j) 0 * 256 + 1 * r.val = b.val * 2304 + p.val; omega
  | ⟨1, _⟩ => apply Fin.ext; show win0_3.index (pt b j) 1 * 1024 + 1 * k.val = k.val; omega
/-- its gate, -/
theorem iblk4 (b : Fin 8) (j : Fin 9) (k : Fin 1024) :
    (iblk m c 4 (pt b j) : Vec Ideal S1x1x1x1024 .f32) (ix4 0 0 0 k) = tabs (m ((c : Thread nD τ).loc main_arg3)) (ix5 2 b (kind j) 0 k) := by
  rw [← gates_at]
  refine Eq.trans ?_ (congrFun (V_v10 m c) _)
  show V m c main_v10 ((win0_4.rect (pt b j)).emb (ix4 0 0 0 k)) = _
  obtain ⟨e0, e1, e2, e3⟩ := idx4 (pt b j)
  have hk := kind_val b j
  have hv : (pt b j).val = b.val * 9 + j.val := rfl
  congr 1
  funext a
  match a with
  | ⟨0, _⟩ => apply Fin.ext; show win0_4.index (pt b j) 0 * 1 + 1 * 0 = b.val; omega
  | ⟨1, _⟩ => apply Fin.ext; show win0_4.index (pt b j) 1 * 1 + 1 * 0 = (kind j).val; omega
  | ⟨2, _⟩ => apply Fin.ext; show win0_4.index (pt b j) 2 * 1 + 1 * 0 = 0; omega
  | ⟨3, _⟩ => apply Fin.ext; show win0_4.index (pt b j) 3 * 1024 + 1 * k.val = k.val; omega
/-- the gain, -/
theorem iblk5 (b : Fin 8) (j : Fin 9) (k : Fin 1024) :
    (iblk m c 5 (pt b j) : Vec Ideal S1x1024 .f32) (ix2 0 k) = ((m ((c : Thread nD τ).loc main_arg5)) : FVec Ideal S1024 .f32) (ix1 k) := by
  refine Eq.trans ?_ (vec_at _ k)
  refine Eq.trans ?_ (congrFun (V_v19 m c) _)
  show V m c main_v19 ((win0_5.rect (pt b j)).emb (ix2 0 k)) = _
  obtain ⟨e0, e1⟩ := idx5 (pt b j)
  congr 1
  funext a
  match a with
  | ⟨0, _⟩ => apply Fin.ext; show win0_5.index (pt b j) 0 * 1 + 1 * 0 = 0; omega
  | ⟨1, _⟩ => apply Fin.ext; show win0_5.index (pt b j) 1 * 1024 + 1 * k.val = k.val; omega
/-- the bias, -/
theorem iblk6 (b : Fin 8) (j : Fin 9) (k : Fin 1024) :
    (iblk m c 6 (pt b j) : Vec Ideal S1x1024 .f32) (ix2 0 k) = ((m ((c : Thread nD τ).loc main_arg6)) : FVec Ideal S1024 .f32) (ix1 k) := by
  refine Eq.trans ?_ (vec_at _ k)
  refine Eq.trans ?_ (congrFun (V_v20 m c) _)
  show V m c main_v20 ((win0_6.rect (pt b j)).emb (ix2 0 k)) = _
  obtain ⟨e0, e1⟩ := idx6 (pt b j)
  congr 1
  funext a
  match a with
  | ⟨0, _⟩ => apply Fin.ext; show win0_6.index (pt b j) 0 * 1 + 1 * 0 = 0; omega
  | ⟨1, _⟩ => apply Fin.ext; show win0_6.index (pt b j) 1 * 1024 + 1 * k.val = k.val; omega
/-- its shift, -/
theorem iblk7 (b : Fin 8) (j : Fin 9) (k : Fin 1024) :
    (iblk m c 7 (pt b j) : Vec Ideal S1x1x1x1024 .f32) (ix4 0 0 0 k) = tabs (m ((c : Thread nD τ).loc main_arg3)) (ix5 3 b (kind j) 0 k) := by
  rw [← shifts_at]
  refine Eq.trans ?_ (congrFun (V_v12 m c) _)
  show V m c main_v12 ((win0_7.rect (pt b j)).emb (ix4 0 0 0 k)) = _
  obtain ⟨e0, e1, e2, e3⟩ := idx7 (pt b j)
  have hk := kind_val b j
  have hv : (pt b j).val = b.val * 9 + j.val := rfl
  congr 1
  funext a
  match a with
  | ⟨0, _⟩ => apply Fin.ext; show win0_7.index (pt b j) 0 * 1 + 1 * 0 = b.val; omega
  | ⟨1, _⟩ => apply Fin.ext; show win0_7.index (pt b j) 1 * 1 + 1 * 0 = (kind j).val; omega
  | ⟨2, _⟩ => apply Fin.ext; show win0_7.index (pt b j) 2 * 1 + 1 * 0 = 0; omega
  | ⟨3, _⟩ => apply Fin.ext; show win0_7.index (pt b j) 3 * 1024 + 1 * k.val = k.val; omega
/-- its scale -/
theorem iblk8 (b : Fin 8) (j : Fin 9) (k : Fin 1024) :
    (iblk m c 8 (pt b j) : Vec Ideal S1x1x1x1024 .f32) (ix4 0 0 0 k) = tabs (m ((c : Thread nD τ).loc main_arg3)) (ix5 4 b (kind j) 0 k) := by
  rw [← scales_at]
  refine Eq.trans ?_ (congrFun (V_v14 m c) _)
  show V m c main_v14 ((win0_8.rect (pt b j)).emb (ix4 0 0 0 k)) = _
  obtain ⟨e0, e1, e2, e3⟩ := idx8 (pt b j)
  have hk := kind_val b j
  have hv : (pt b j).val = b.val * 9 + j.val := rfl
  congr 1
  funext a
  match a with
  | ⟨0, _⟩ => apply Fin.ext; show win0_8.index (pt b j) 0 * 1 + 1 * 0 = b.val; omega
  | ⟨1, _⟩ => apply Fin.ext; show win0_8.index (pt b j) 1 * 1 + 1 * 0 = (kind j).val; omega
  | ⟨2, _⟩ => apply Fin.ext; show win0_8.index (pt b j) 2 * 1 + 1 * 0 = 0; omega
  | ⟨3, _⟩ => apply Fin.ext; show win0_8.index (pt b j) 3 * 1024 + 1 * k.val = k.val; omega
/-- and the router's matrix. -/
theorem iblk9 (b : Fin 8) (j : Fin 9) (e : Fin 16) (k : Fin 1024) :
    (iblk m c 9 (pt b j) : Vec Ideal S16x1024 .f32) (ix2 e k) = ((m ((c : Thread nD τ).loc main_arg7)) : FVec Ideal S1024x16 .f32) (ix2 k e) := by
  refine Eq.trans ?_ (turned_at _ e k)
  refine Eq.trans ?_ (congrFun (V_v15 m c) _)
  show V m c main_v15 ((win0_9.rect (pt b j)).emb (ix2 e k)) = _
  obtain ⟨e0, e1⟩ := idx9 (pt b j)
  congr 1
  funext a
  match a with
  | ⟨0, _⟩ => apply Fin.ext; show win0_9.index (pt b j) 0 * 16 + 1 * e.val = e.val; omega
  | ⟨1, _⟩ => apply Fin.ext; show win0_9.index (pt b j) 1 * 1024 + 1 * k.val = k.val; omega

/-- A row's modulations are its block's. -/
theorem mods_eq (q : FVec Ideal S9x6x1024 .f32) (b : Fin 8) (j : Fin 9) (r : Fin 256) (z : Fin 6) (k : Fin 1024) (p : Fin 2304) (hp : p.val = j.val * 256 + r.val) :
    tabs q (ix5 z b (kind j) 0 k) = Cert.RefOutProjIdeal.Ref.mods q (ix4 b p z k) := by
  by_cases h : j.val = 0
  · have hk : kind j = 0 := if_pos h
    rw [hk, show p = ⟨r.val, by omega⟩ from Fin.ext (by show p.val = r.val; omega)]
    exact (tabs_ctx q z b k).trans (Cert.RefOutProjIdeal.Ref.mods_ctx q b r z k).symm
  · have hk : kind j = 1 := if_neg h
    rw [hk, show p = ⟨256 + (p.val - 256), by omega⟩ from Fin.ext (by show p.val = 256 + (p.val - 256); omega)]
    exact (tabs_lat q z b k).trans (Cert.RefOutProjIdeal.Ref.mods_lat q b ⟨p.val - 256, by omega⟩ z k).symm

/-- The blocks' row is the reference's. -/
theorem line_eq (b : Fin 8) (j : Fin 9) (r : Fin 256) (p : Fin 2304) (hp : p.val = j.val * 256 + r.val) :
    line (iblk m c 0 (pt b j)) (iblk m c 1 (pt b j)) (iblk m c 2 (pt b j)) (iblk m c 3 (pt b j)) (iblk m c 4 (pt b j)) (iblk m c 5 (pt b j)) (iblk m c 6 (pt b j)) r
      = Cert.RefOutProjIdeal.Ref.line (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b p := by
  unfold line Cert.RefOutProjIdeal.Ref.line blend
  refine congr (congr (congrArg Cert.OutProjIdeal.Block.norm (congr (congr (congrArg mix (funext fun k => ?_)) (funext fun k => ?_)) (funext fun k => ?_))) (funext fun k => ?_)) (funext fun k => ?_)
  · exact iblk3 m c b j r k p hp
  · exact (iblk4 m c b j k).trans (mods_eq _ b j r 2 k p hp)
  · exact congrArg₂ (· + ·) (Finset.sum_congr rfl fun l _ => congrArg₂ (· * ·) (iblk0 m c b j r l p hp) (iblk2 m c b j _ k))
      (Finset.sum_congr rfl fun l _ => congrArg₂ (· * ·) (iblk1 m c b j r l p hp) (iblk2 m c b j _ k))
  · exact iblk5 m c b j k
  · exact iblk6 m c b j k

/-- An entry of the first array, given as an entry of the block its point writes, -/
theorem arr10_at (b : Fin 8) (j : Fin 9) (r : Fin 256) (n : Fin 1024) (s : Fin 18432) (hs : s.val = b.val * 2304 + (j.val * 256 + r.val)) :
    ((dats m 0 c).arrAt 10 cfg0.N : FVec Ideal S18432x1024 .f32) (ix2 s n)
      = out0_10 (iblk m c 0 (pt b j)) (iblk m c 1 (pt b j)) (iblk m c 2 (pt b j)) (iblk m c 3 (pt b j)) (iblk m c 4 (pt b j)) (iblk m c 5 (pt b j)) (iblk m c 6 (pt b j)) (iblk m c 7 (pt b j)) (iblk m c 8 (pt b j)) (iblk m c 9 (pt b j)) (ix2 r n) := by
  have h := congrFun ((Value.blocks10 m c (pt b j) (flush10 _)).trans (Value.flushed10 m c (pt b j))) (ix2 r n)
  refine Eq.trans ?_ h
  show _ = ((dats m 0 c).arrAt 10 cfg0.N : FVec Ideal S18432x1024 .f32) ((win0_10.rect (pt b j)).emb (ix2 r n))
  obtain ⟨e0, e1⟩ := idx10 (pt b j)
  have hv : (pt b j).val = b.val * 9 + j.val := rfl
  refine congrArg _ (funext fun a => ?_)
  match a with
  | ⟨0, _⟩ => apply Fin.ext; show s.val = win0_10.index (pt b j) 0 * 256 + 1 * r.val; omega
  | ⟨1, _⟩ => apply Fin.ext; show n.val = win0_10.index (pt b j) 1 * 1024 + 1 * n.val; omega
/-- and of the second. -/
theorem arr11_at (b : Fin 8) (j : Fin 9) (r : Fin 256) (e : Fin 16) (p : Fin 2304) (hp : p.val = j.val * 256 + r.val) :
    ((dats m 0 c).arrAt 11 cfg0.N : FVec Ideal S8x16x2304 .f32) (ix3 b e p)
      = out0_11 (iblk m c 0 (pt b j)) (iblk m c 1 (pt b j)) (iblk m c 2 (pt b j)) (iblk m c 3 (pt b j)) (iblk m c 4 (pt b j)) (iblk m c 5 (pt b j)) (iblk m c 6 (pt b j)) (iblk m c 7 (pt b j)) (iblk m c 8 (pt b j)) (iblk m c 9 (pt b j)) (ix3 0 e r) := by
  have h := congrFun ((Value.blocks11 m c (pt b j) (flush11 _)).trans (Value.flushed11 m c (pt b j))) (ix3 0 e r)
  refine Eq.trans ?_ h
  show _ = ((dats m 0 c).arrAt 11 cfg0.N : FVec Ideal S8x16x2304 .f32) ((win0_11.rect (pt b j)).emb (ix3 0 e r))
  obtain ⟨e0, e1, e2⟩ := idx11 (pt b j)
  have hv : (pt b j).val = b.val * 9 + j.val := rfl
  refine congrArg _ (funext fun a => ?_)
  match a with
  | ⟨0, _⟩ => apply Fin.ext; show b.val = win0_11.index (pt b j) 0 * 1 + 1 * 0; omega
  | ⟨1, _⟩ => apply Fin.ext; show e.val = win0_11.index (pt b j) 1 * 16 + 1 * e.val; omega
  | ⟨2, _⟩ => apply Fin.ext; show p.val = win0_11.index (pt b j) 2 * 256 + 1 * r.val; omega

/-- The reference's first array of the same arguments -/
abbrev want0 : FVec Ideal S18432x1024 .f32 := Cert.RefOutProjIdeal.Ref.val (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- and its second. -/
abbrev want1 : FVec Ideal S8x16x2304 .f32 := Cert.RefOutProjIdeal.Ref.aff (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem entry0 (s : Fin 18432) (n : Fin 1024) : ((dats m 0 c).arrAt 10 cfg0.N : FVec Ideal S18432x1024 .f32) (ix2 s n) = want0 m c (ix2 s n) := by
  have hs : s.val = s.val / 2304 * 2304 + (s.val % 2304 / 256 * 256 + s.val % 256) := by omega
  have hp : s.val % 2304 = s.val % 2304 / 256 * 256 + s.val % 256 := by omega
  refine (arr10_at m c ⟨s.val / 2304, by omega⟩ ⟨s.val % 2304 / 256, by omega⟩ ⟨s.val % 256, by omega⟩ n s hs).trans ((out10_at _ _ _ _ _ _ _ _ _ _ _ _).trans ?_)
  refine (congrFun (line_eq m c ⟨s.val / 2304, by omega⟩ ⟨s.val % 2304 / 256, by omega⟩ ⟨s.val % 256, by omega⟩ ⟨s.val % 2304, by omega⟩ hp) n).trans ?_
  exact (Cert.RefOutProjIdeal.Ref.val_at _ _ _ _ _ _ _ ⟨s.val / 2304, by omega⟩ ⟨s.val % 2304, by omega⟩ n s (by show s.val = s.val / 2304 * 2304 + s.val % 2304; omega)).symm
theorem entry1 (b : Fin 8) (e : Fin 16) (p : Fin 2304) : ((dats m 0 c).arrAt 11 cfg0.N : FVec Ideal S8x16x2304 .f32) (ix3 b e p) = want1 m c (ix3 b e p) := by
  have hp : p.val = p.val / 256 * 256 + p.val % 256 := by omega
  refine (arr11_at m c b ⟨p.val / 256, by omega⟩ ⟨p.val % 256, by omega⟩ e p hp).trans ((out11_at _ _ _ _ _ _ _ _ _ _ _ _).trans ?_)
  refine Eq.trans ?_ (Cert.RefOutProjIdeal.Ref.aff_at _ _ _ _ _ _ _ _ b e p).symm
  refine congrFun (congrArg share (congr (congr (congr (congrArg logit ?_) (funext fun k => ?_)) (funext fun k => ?_)) (funext fun e => funext fun k => ?_))) e
  · exact line_eq m c b ⟨p.val / 256, by omega⟩ ⟨p.val % 256, by omega⟩ p hp
  · exact (iblk8 m c b _ k).trans (mods_eq _ b _ ⟨p.val % 256, by omega⟩ 4 k p hp)
  · exact (iblk7 m c b _ k).trans (mods_eq _ b _ ⟨p.val % 256, by omega⟩ 3 k p hp)
  · exact iblk9 m c b _ e k

/-- THE FIRST ARRAYS AGREE -/
theorem result0_eq : (dats m 0 c).arrAt 10 cfg0.N = want0 m c := by
  have H := entry0 m c
  generalize want0 m c = R at H ⊢
  funext i
  have hi : i = ix2 (i 0) (i 1) := by
    funext a
    match a with
    | 0 => rfl
    | 1 => rfl
  rw [hi]
  exact H (i 0) (i 1)
/-- AND THE SECOND. -/
theorem result1_eq : (dats m 0 c).arrAt 11 cfg0.N = want1 m c := by
  have H := entry1 m c
  generalize want1 m c = R at H ⊢
  funext i
  have hi : i = ix3 (i 0) (i 1) (i 2) := by
    funext a
    match a with
    | 0 => rfl
    | 1 => rfl
    | 2 => rfl
  rw [hi]
  exact H (i 0) (i 1) (i 2)

/-- The run, read: the results at the reference's arrays. -/
theorem run (ρ : Dev nD → PrngReg) : θ_run defs (onTc (τ := τ) (main (F := Ideal))) ⟨m, fun _ => 0, ρ⟩ fun r => ∀ c : Dev nD,
      r.2.mem ((c.tc : Thread nD τ).loc main_v21_0) = want0 m c ∧ r.2.mem ((c.tc : Thread nD τ).loc main_v21_1) = want1 m c :=
  (θ_run defs _ _).mono (fun _ h c => ⟨(h c).1.trans (result0_eq m c), (h c).2.1.trans (result1_eq m c)⟩) (Value.run_blocks m ρ)

end Cert.OutProjIdeal.Block

end
-- ==== Proof.RefHolds.lean ====
/- The reference's loop: a valuation that holds a state of the reference's step keeps holding the next one. -/
module

public import proofs.«01_k».proof.Proof.Gen.ReferenceIdeal.Run
public import proofs.«01_k».proof.Proof.Gen.ReferenceIdeal.Step

@[expose] public section

noncomputable section

namespace Cert.ReferenceIdeal.RefHolds

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v87_6) = s.main_v87_6
  f_7 : V0 (Proc.devRef .tc main_v87_7) = s.main_v87_7
  f_0 : V0 (Proc.devRef .tc main_v87_0) = s.main_v87_0
  f_1 : V0 (Proc.devRef .tc main_v87_1) = s.main_v87_1
  f_2 : V0 (Proc.devRef .tc main_v87_2) = s.main_v87_2
  f_3 : V0 (Proc.devRef .tc main_v87_3) = s.main_v87_3
  n_5 : V0 (Proc.devRef .tc main_v87_5) = constantI S_ 32 (BitVec.ofNat 32 j)
  k_4 : V0 (Proc.devRef .tc main_v87_4) = Cert.ReferenceIdeal.Step.K_main_v84 (F := F)

variable {V0 s j}

set_option maxRecDepth 8192 in
theorem al_0 (h : Holds V0 s j) : (constantI S_ 32 0#32 : (Proc.devRef .tc main_while0b_call9_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call9_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call9_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call9_c_2 : DevRef τ sig).ty.Contents (Elt F)) = Cert.ReferenceIdeal.Step.b3 j s := by
  unfold Cert.ReferenceIdeal.Step.b3
  rfl
set_option maxRecDepth 8192 in
theorem al_4 (h : Holds V0 s j) : (constantI S_ 32 0#32 : (Proc.devRef .tc main_while0b_call9_c_3 : DevRef τ sig).ty.Contents (Elt F)) = Cert.ReferenceIdeal.Step.b4 j s := by
  unfold Cert.ReferenceIdeal.Step.b4
  rfl
set_option maxRecDepth 8192 in
theorem al_5 (h : Holds V0 s j) : (Host.dynamicSlice S1x2x8x4x64x128 (V0 (Proc.devRef .tc main_v87_0)) (fun k => (((![V0 (Proc.devRef .tc main_v87_5), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S36x2x8x4x64x128_S1x2x8x4x64x128 : (Proc.devRef .tc main_while0b_call9_v0 : DevRef τ sig).ty.Contents (Elt F)) = Cert.ReferenceIdeal.Step.b5 j s := by
  unfold Cert.ReferenceIdeal.Step.b5
  rw [← al_0 h, ← al_1 h, ← al_2 h, ← al_3 h, ← al_4 h, h.f_0, h.n_5]
  try rfl
set_option maxRecDepth 8192 in
theorem al_6 (h : Holds V0 s j) : (res_main_while0b_v126 V0 : (Proc.devRef .tc main_while0b_v126 : DevRef τ sig).ty.Contents (Elt F)) = Cert.ReferenceIdeal.Step.b6 j s := by
  unfold res_main_while0b_v126 Cert.ReferenceIdeal.Step.b6
  rw [← al_5 h]
  try rfl
set_option maxRecDepth 8192 in
theorem al_7 (h : Holds V0 s j) : (constantI S_ 32 0#32 : (Proc.devRef .tc main_while0b_call10_c : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call10_c_0 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call10_c_1 : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call10_c_2 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call10_c_3 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x2x8x4x64x128 (V0 (Proc.devRef .tc main_v87_1)) (fun k => (((![V0 (Proc.devRef .tc main_v87_5), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S36x2x8x4x64x128_S1x2x8x4x64x128 : (Proc.devRef .tc main_while0b_call10_v0 : DevRef τ sig).ty.Contents (Elt F)) = Cert.ReferenceIdeal.Step.b12 j s := by
  unfold Cert.ReferenceIdeal.Step.b12
  rw [← al_7 h, ← al_8 h, ← al_9 h, ← al_10 h, ← al_11 h, h.f_1, h.n_5]
  try rfl
set_option maxRecDepth 8192 in
theorem al_13 (h : Holds V0 s j) : (res_main_while0b_v127 V0 : (Proc.devRef .tc main_while0b_v127 : DevRef τ sig).ty.Contents (Elt F)) = Cert.ReferenceIdeal.Step.b13 j s := by
  unfold res_main_while0b_v127 Cert.ReferenceIdeal.Step.b13
  rw [← al_12 h]
  try rfl
set_option maxRecDepth 8192 in
theorem al_14 (h : Holds V0 s j) : (constantI S_ 32 0#32 : (Proc.devRef .tc main_while0b_call11_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call11_c_0 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call11_c_1 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call11_c_2 : DevRef τ sig).ty.Contents (Elt F)) = Cert.ReferenceIdeal.Step.b17 j s := by
  unfold Cert.ReferenceIdeal.Step.b17
  rfl
set_option maxRecDepth 8192 in
theorem al_18 (h : Holds V0 s j) : (constantI S_ 32 0#32 : (Proc.devRef .tc main_while0b_call11_c_3 : DevRef τ sig).ty.Contents (Elt F)) = Cert.ReferenceIdeal.Step.b18 j s := by
  unfold Cert.ReferenceIdeal.Step.b18
  rfl
set_option maxRecDepth 8192 in
theorem al_19 (h : Holds V0 s j) : (Host.dynamicSlice S1x2x8x4x64x128 (V0 (Proc.devRef .tc main_v87_2)) (fun k => (((![V0 (Proc.devRef .tc main_v87_5), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S36x2x8x4x64x128_S1x2x8x4x64x128 : (Proc.devRef .tc main_while0b_call11_v0 : DevRef τ sig).ty.Contents (Elt F)) = Cert.ReferenceIdeal.Step.b19 j s := by
  unfold Cert.ReferenceIdeal.Step.b19
  rw [← al_14 h, ← al_15 h, ← al_16 h, ← al_17 h, ← al_18 h, h.f_2, h.n_5]
  try rfl
set_option maxRecDepth 8192 in
theorem al_20 (h : Holds V0 s j) : (res_main_while0b_v128 V0 : (Proc.devRef .tc main_while0b_v128 : DevRef τ sig).ty.Contents (Elt F)) = Cert.ReferenceIdeal.Step.b20 j s := by
  unfold res_main_while0b_v128 Cert.ReferenceIdeal.Step.b20
  rw [← al_19 h]
  try rfl
set_option maxRecDepth 8192 in
theorem al_21 (h : Holds V0 s j) : (constantI S_ 32 0#32 : (Proc.devRef .tc main_while0b_call12_c : DevRef τ sig).ty.Contents (Elt F)) = Cert.ReferenceIdeal.Step.b21 j s := by
  unfold Cert.ReferenceIdeal.Step.b21
  rfl
set_option maxRecDepth 8192 in
theorem al_22 (h : Holds V0 s j) : (constantI S_ 32 0#32 : (Proc.devRef .tc main_while0b_call12_c_0 : DevRef τ sig).ty.Contents (Elt F)) = Cert.ReferenceIdeal.Step.b22 j s := by
  unfold Cert.ReferenceIdeal.Step.b22
  rfl
set_option maxRecDepth 8192 in
theorem al_23 (h : Holds V0 s j) : (constantI S_ 32 0#32 : (Proc.devRef .tc main_while0b_call12_c_1 : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call12_c_2 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call12_c_3 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x2x8x4x64x128 (V0 (Proc.devRef .tc main_v87_3)) (fun k => (((![V0 (Proc.devRef .tc main_v87_5), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) sliceFits_S36x2x8x4x64x128_S1x2x8x4x64x128 : (Proc.devRef .tc main_while0b_call12_v0 : DevRef τ sig).ty.Contents (Elt F)) = Cert.ReferenceIdeal.Step.b26 j s := by
  unfold Cert.ReferenceIdeal.Step.b26
  rw [← al_21 h, ← al_22 h, ← al_23 h, ← al_24 h, ← al_25 h, h.f_3, h.n_5]
  try rfl
set_option maxRecDepth 8192 in
theorem al_27 (h : Holds V0 s j) : (res_main_while0b_v129 V0 : (Proc.devRef .tc main_while0b_v129 : DevRef τ sig).ty.Contents (Elt F)) = Cert.ReferenceIdeal.Step.b27 j s := by
  unfold res_main_while0b_v129 Cert.ReferenceIdeal.Step.b27
  rw [← al_26 h]
  try rfl
set_option maxRecDepth 8192 in
theorem al_28 (h : Holds V0 s j) : (broadcastInDim S2x8x4x64x1x128 ![0, 1, 2, 3, 5] bcast_S2x8x4x64x128_S2x8x4x64x1x128_0_1_2_3_5 (res_main_while0b_v129 V0) : (Proc.devRef .tc main_while0b_v130 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (broadcastInDim S2x8x4x1x64x128 ![0, 1, 2, 4, 5] bcast_S2x8x4x64x128_S2x8x4x1x64x128_0_1_2_4_5 (res_main_while0b_v129 V0) : (Proc.devRef .tc main_while0b_v131 : DevRef τ sig).ty.Contents (Elt F)) = Cert.ReferenceIdeal.Step.b29 j s := by
  unfold Cert.ReferenceIdeal.Step.b29
  rw [← al_27 h]
  try rfl
set_option maxRecDepth 8192 in
theorem al_30 (h : Holds V0 s j) : (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v129 V0)) : (Proc.devRef .tc main_while0b_v132 : DevRef τ sig).ty.Contents (Elt F)) = Cert.ReferenceIdeal.Step.b30 j s := by
  unfold Cert.ReferenceIdeal.Step.b30
  rw [← al_28 h]
  try rfl
set_option maxRecDepth 8192 in
theorem al_31 (h : Holds V0 s j) : (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v129 V0)) : (Proc.devRef .tc main_while0b_v133 : DevRef τ sig).ty.Contents (Elt F)) = Cert.ReferenceIdeal.Step.b31 j s := by
  unfold Cert.ReferenceIdeal.Step.b31
  rw [← al_29 h]
  try rfl
set_option maxRecDepth 8192 in
theorem al_32 (h : Holds V0 s j) : (subf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v129 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v129 V0))) : (Proc.devRef .tc main_while0b_v134 : DevRef τ sig).ty.Contents (Elt F)) = Cert.ReferenceIdeal.Step.b32 j s := by
  unfold Cert.ReferenceIdeal.Step.b32
  rw [← al_30 h, ← al_31 h]
  try rfl
set_option maxRecDepth 8192 in
theorem al_33 (h : Holds V0 s j) : (constant S_ .f32 0xFF800000#32 : (Proc.devRef .tc main_while0b_cst_19 : DevRef τ sig).ty.Contents (Elt F)) = Cert.ReferenceIdeal.Step.b33 j s := by
  unfold Cert.ReferenceIdeal.Step.b33
  rfl
set_option maxRecDepth 8192 in
theorem al_34 (h : Holds V0 s j) : (id (constant S_ .f32 0xFF800000#32) : (Proc.devRef .tc main_while0b_call13_v0 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (broadcastInDim S2x8x4x64x64x128 ![3, 4, 5] bcast_S64x64x1_S2x8x4x64x64x128_3_4_5 (V0 (Proc.devRef .tc main_v87_4)) : (Proc.devRef .tc main_while0b_call13_v1 : DevRef τ sig).ty.Contents (Elt F)) = Cert.ReferenceIdeal.Step.b35 j s := by
  unfold Cert.ReferenceIdeal.Step.b35
  rw [h.k_4]
  try rfl
set_option maxRecDepth 8192 in
theorem al_36 (h : Holds V0 s j) : (broadcastInDim S2x8x4x64x64x128 ![] bcast_S_S2x8x4x64x64x128 (id (constant S_ .f32 0xFF800000#32)) : (Proc.devRef .tc main_while0b_call13_v2 : DevRef τ sig).ty.Contents (Elt F)) = Cert.ReferenceIdeal.Step.b36 j s := by
  unfold Cert.ReferenceIdeal.Step.b36
  rw [← al_34 h]
  try rfl
set_option maxRecDepth 8192 in
theorem al_37 (h : Holds V0 s j) : (select (broadcastInDim S2x8x4x64x64x128 ![3, 4, 5] bcast_S64x64x1_S2x8x4x64x64x128_3_4_5 (V0 (Proc.devRef .tc main_v87_4))) (subf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v129 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v129 V0)))) (broadcastInDim S2x8x4x64x64x128 ![] bcast_S_S2x8x4x64x64x128 (id (constant S_ .f32 0xFF800000#32))) : (Proc.devRef .tc main_while0b_v135 : DevRef τ sig).ty.Contents (Elt F)) = Cert.ReferenceIdeal.Step.b37 j s := by
  unfold Cert.ReferenceIdeal.Step.b37
  rw [← al_35 h, ← al_32 h, ← al_36 h]
  try rfl
set_option maxRecDepth 8192 in
theorem al_38 (h : Holds V0 s j) : (Host.exp (select (broadcastInDim S2x8x4x64x64x128 ![3, 4, 5] bcast_S64x64x1_S2x8x4x64x64x128_3_4_5 (V0 (Proc.devRef .tc main_v87_4))) (subf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v129 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v129 V0)))) (broadcastInDim S2x8x4x64x64x128 ![] bcast_S_S2x8x4x64x64x128 (id (constant S_ .f32 0xFF800000#32)))) : (Proc.devRef .tc main_while0b_v136 : DevRef τ sig).ty.Contents (Elt F)) = Cert.ReferenceIdeal.Step.b38 j s := by
  unfold Cert.ReferenceIdeal.Step.b38
  rw [← al_37 h]
  try rfl
set_option maxRecDepth 8192 in
theorem al_39 (h : Holds V0 s j) : (broadcastInDim S2x8x4x64x1x128 ![0, 1, 2, 3, 5] bcast_S2x8x4x64x128_S2x8x4x64x1x128_0_1_2_3_5 (res_main_while0b_v126 V0) : (Proc.devRef .tc main_while0b_v137 : DevRef τ sig).ty.Contents (Elt F)) = Cert.ReferenceIdeal.Step.b39 j s := by
  unfold Cert.ReferenceIdeal.Step.b39
  rw [← al_6 h]
  try rfl
set_option maxRecDepth 8192 in
theorem al_40 (h : Holds V0 s j) : (broadcastInDim S2x8x4x1x64x128 ![0, 1, 2, 4, 5] bcast_S2x8x4x64x128_S2x8x4x1x64x128_0_1_2_4_5 (res_main_while0b_v127 V0) : (Proc.devRef .tc main_while0b_v138 : DevRef τ sig).ty.Contents (Elt F)) = Cert.ReferenceIdeal.Step.b40 j s := by
  unfold Cert.ReferenceIdeal.Step.b40
  rw [← al_13 h]
  try rfl
set_option maxRecDepth 8192 in
theorem al_41 (h : Holds V0 s j) : (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v126 V0)) : (Proc.devRef .tc main_while0b_v139 : DevRef τ sig).ty.Contents (Elt F)) = Cert.ReferenceIdeal.Step.b41 j s := by
  unfold Cert.ReferenceIdeal.Step.b41
  rw [← al_39 h]
  try rfl
set_option maxRecDepth 8192 in
theorem al_42 (h : Holds V0 s j) : (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v127 V0)) : (Proc.devRef .tc main_while0b_v140 : DevRef τ sig).ty.Contents (Elt F)) = Cert.ReferenceIdeal.Step.b42 j s := by
  unfold Cert.ReferenceIdeal.Step.b42
  rw [← al_40 h]
  try rfl
set_option maxRecDepth 8192 in
theorem al_43 (h : Holds V0 s j) : (mulf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v126 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v127 V0))) : (Proc.devRef .tc main_while0b_v141 : DevRef τ sig).ty.Contents (Elt F)) = Cert.ReferenceIdeal.Step.b43 j s := by
  unfold Cert.ReferenceIdeal.Step.b43
  rw [← al_41 h, ← al_42 h]
  try rfl
set_option maxRecDepth 8192 in
theorem al_44 (h : Holds V0 s j) : (mulf (mulf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v126 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v127 V0)))) (Host.exp (select (broadcastInDim S2x8x4x64x64x128 ![3, 4, 5] bcast_S64x64x1_S2x8x4x64x64x128_3_4_5 (V0 (Proc.devRef .tc main_v87_4))) (subf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v129 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v129 V0)))) (broadcastInDim S2x8x4x64x64x128 ![] bcast_S_S2x8x4x64x64x128 (id (constant S_ .f32 0xFF800000#32))))) : (Proc.devRef .tc main_while0b_v142 : DevRef τ sig).ty.Contents (Elt F)) = Cert.ReferenceIdeal.Step.b44 j s := by
  unfold Cert.ReferenceIdeal.Step.b44
  rw [← al_43 h, ← al_38 h]
  try rfl
set_option maxRecDepth 8192 in
theorem al_45 (h : Holds V0 s j) : (constant S_ .f32 0x00000000#32 : (Proc.devRef .tc main_while0b_cst_20 : DevRef τ sig).ty.Contents (Elt F)) = Cert.ReferenceIdeal.Step.b45 j s := by
  unfold Cert.ReferenceIdeal.Step.b45
  rfl
set_option maxRecDepth 8192 in
theorem al_46 (h : Holds V0 s j) : (Host.reduceAdd (mulf (mulf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v126 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v127 V0)))) (Host.exp (select (broadcastInDim S2x8x4x64x64x128 ![3, 4, 5] bcast_S64x64x1_S2x8x4x64x64x128_3_4_5 (V0 (Proc.devRef .tc main_v87_4))) (subf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v129 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v129 V0)))) (broadcastInDim S2x8x4x64x64x128 ![] bcast_S_S2x8x4x64x64x128 (id (constant S_ .f32 0xFF800000#32)))))) (constant S_ .f32 0x00000000#32) reducesTo_S2x8x4x64x64x128_S2x8x4x64x64_d5 h_S_ : (Proc.devRef .tc main_while0b_v143 : DevRef τ sig).ty.Contents (Elt F)) = Cert.ReferenceIdeal.Step.b46 j s := by
  unfold Cert.ReferenceIdeal.Step.b46
  rw [← al_44 h, ← al_45 h]
  try rfl
set_option maxRecDepth 8192 in
theorem al_47 (h : Holds V0 s j) : (Host.exp (res_main_while0b_v129 V0) : (Proc.devRef .tc main_while0b_v144 : DevRef τ sig).ty.Contents (Elt F)) = Cert.ReferenceIdeal.Step.b47 j s := by
  unfold Cert.ReferenceIdeal.Step.b47
  rw [← al_27 h]
  try rfl
set_option maxRecDepth 8192 in
theorem al_48 (h : Holds V0 s j) : (mulf (res_main_while0b_v126 V0) (Host.exp (res_main_while0b_v129 V0)) : (Proc.devRef .tc main_while0b_v145 : DevRef τ sig).ty.Contents (Elt F)) = Cert.ReferenceIdeal.Step.b48 j s := by
  unfold Cert.ReferenceIdeal.Step.b48
  rw [← al_6 h, ← al_47 h]
  try rfl
set_option maxRecDepth 8192 in
theorem al_49 (h : Holds V0 s j) : (Host.dotGeneral dot_S2x8x4x64x128_S2x8x4x128x128_S2x8x4x64x128_4_3_3_4_012_012 none (mulf (res_main_while0b_v126 V0) (Host.exp (res_main_while0b_v129 V0))) (V0 (Proc.devRef .tc main_v87_6)) : (Proc.devRef .tc main_while0b_v146 : DevRef τ sig).ty.Contents (Elt F)) = Cert.ReferenceIdeal.Step.b49 j s := by
  unfold Cert.ReferenceIdeal.Step.b49
  rw [← al_48 h, h.f_6]
  try rfl
set_option maxRecDepth 8192 in
theorem al_50 (h : Holds V0 s j) : (Host.dotGeneral dot_S2x8x4x64x64_S2x8x4x64x128_S2x8x4x64x128_4_3_3_4_012_012 none (Host.reduceAdd (mulf (mulf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v126 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v127 V0)))) (Host.exp (select (broadcastInDim S2x8x4x64x64x128 ![3, 4, 5] bcast_S64x64x1_S2x8x4x64x64x128_3_4_5 (V0 (Proc.devRef .tc main_v87_4))) (subf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v129 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v129 V0)))) (broadcastInDim S2x8x4x64x64x128 ![] bcast_S_S2x8x4x64x64x128 (id (constant S_ .f32 0xFF800000#32)))))) (constant S_ .f32 0x00000000#32) reducesTo_S2x8x4x64x64x128_S2x8x4x64x64_d5 h_S_) (res_main_while0b_v128 V0) : (Proc.devRef .tc main_while0b_v147 : DevRef τ sig).ty.Contents (Elt F)) = Cert.ReferenceIdeal.Step.b50 j s := by
  unfold Cert.ReferenceIdeal.Step.b50
  rw [← al_46 h, ← al_20 h]
  try rfl
set_option maxRecDepth 8192 in
theorem al_51 (h : Holds V0 s j) : (addf (Host.dotGeneral dot_S2x8x4x64x128_S2x8x4x128x128_S2x8x4x64x128_4_3_3_4_012_012 none (mulf (res_main_while0b_v126 V0) (Host.exp (res_main_while0b_v129 V0))) (V0 (Proc.devRef .tc main_v87_6))) (Host.dotGeneral dot_S2x8x4x64x64_S2x8x4x64x128_S2x8x4x64x128_4_3_3_4_012_012 none (Host.reduceAdd (mulf (mulf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v126 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v127 V0)))) (Host.exp (select (broadcastInDim S2x8x4x64x64x128 ![3, 4, 5] bcast_S64x64x1_S2x8x4x64x64x128_3_4_5 (V0 (Proc.devRef .tc main_v87_4))) (subf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v129 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v129 V0)))) (broadcastInDim S2x8x4x64x64x128 ![] bcast_S_S2x8x4x64x64x128 (id (constant S_ .f32 0xFF800000#32)))))) (constant S_ .f32 0x00000000#32) reducesTo_S2x8x4x64x64x128_S2x8x4x64x64_d5 h_S_) (res_main_while0b_v128 V0)) : (Proc.devRef .tc main_while0b_v148 : DevRef τ sig).ty.Contents (Elt F)) = Cert.ReferenceIdeal.Step.b51 j s := by
  unfold Cert.ReferenceIdeal.Step.b51
  rw [← al_49 h, ← al_50 h]
  try rfl
set_option maxRecDepth 8192 in
theorem al_52 (h : Holds V0 s j) : (extractStridedSlice S2x8x4x1x128 ![0, 0, 0, 63, 0] (res_main_while0b_v129 V0) slices_S2x8x4x64x128_S2x8x4x1x128_0_0_0_63_0 : (Proc.devRef .tc main_while0b_v149 : DevRef τ sig).ty.Contents (Elt F)) = Cert.ReferenceIdeal.Step.b52 j s := by
  unfold Cert.ReferenceIdeal.Step.b52
  rw [← al_27 h]
  try rfl
set_option maxRecDepth 8192 in
theorem al_53 (h : Holds V0 s j) : (res_main_while0b_v150 V0 : (Proc.devRef .tc main_while0b_v150 : DevRef τ sig).ty.Contents (Elt F)) = Cert.ReferenceIdeal.Step.b53 j s := by
  unfold res_main_while0b_v150 Cert.ReferenceIdeal.Step.b53
  rw [← al_52 h]
  try rfl
set_option maxRecDepth 8192 in
theorem al_54 (h : Holds V0 s j) : (Host.exp (res_main_while0b_v150 V0) : (Proc.devRef .tc main_while0b_v151 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (broadcastInDim S2x8x4x128x1 ![0, 1, 2, 3] bcast_S2x8x4x128_S2x8x4x128x1_0_1_2_3 (Host.exp (res_main_while0b_v150 V0)) : (Proc.devRef .tc main_while0b_v152 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (broadcastInDim S2x8x4x128x128 ![0, 1, 2, 3, 4] bcast_S2x8x4x128x1_S2x8x4x128x128_0_1_2_3_4 (broadcastInDim S2x8x4x128x1 ![0, 1, 2, 3] bcast_S2x8x4x128_S2x8x4x128x1_0_1_2_3 (Host.exp (res_main_while0b_v150 V0))) : (Proc.devRef .tc main_while0b_v153 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (mulf (broadcastInDim S2x8x4x128x128 ![0, 1, 2, 3, 4] bcast_S2x8x4x128x1_S2x8x4x128x128_0_1_2_3_4 (broadcastInDim S2x8x4x128x1 ![0, 1, 2, 3] bcast_S2x8x4x128_S2x8x4x128x1_0_1_2_3 (Host.exp (res_main_while0b_v150 V0)))) (V0 (Proc.devRef .tc main_v87_6)) : (Proc.devRef .tc main_while0b_v154 : DevRef τ sig).ty.Contents (Elt F)) = Cert.ReferenceIdeal.Step.b57 j s := by
  unfold Cert.ReferenceIdeal.Step.b57
  rw [← al_56 h, h.f_6]
  try rfl
set_option maxRecDepth 8192 in
theorem al_58 (h : Holds V0 s j) : (broadcastInDim S2x8x4x1x128 ![0, 1, 2, 4] bcast_S2x8x4x128_S2x8x4x1x128_0_1_2_4 (res_main_while0b_v150 V0) : (Proc.devRef .tc main_while0b_v155 : DevRef τ sig).ty.Contents (Elt F)) = Cert.ReferenceIdeal.Step.b58 j s := by
  unfold Cert.ReferenceIdeal.Step.b58
  rw [← al_53 h]
  try rfl
set_option maxRecDepth 8192 in
theorem al_59 (h : Holds V0 s j) : (broadcastInDim S2x8x4x64x128 ![0, 1, 2, 3, 4] bcast_S2x8x4x1x128_S2x8x4x64x128_0_1_2_3_4 (broadcastInDim S2x8x4x1x128 ![0, 1, 2, 4] bcast_S2x8x4x128_S2x8x4x1x128_0_1_2_4 (res_main_while0b_v150 V0)) : (Proc.devRef .tc main_while0b_v156 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (subf (broadcastInDim S2x8x4x64x128 ![0, 1, 2, 3, 4] bcast_S2x8x4x1x128_S2x8x4x64x128_0_1_2_3_4 (broadcastInDim S2x8x4x1x128 ![0, 1, 2, 4] bcast_S2x8x4x128_S2x8x4x1x128_0_1_2_4 (res_main_while0b_v150 V0))) (res_main_while0b_v129 V0) : (Proc.devRef .tc main_while0b_v157 : DevRef τ sig).ty.Contents (Elt F)) = Cert.ReferenceIdeal.Step.b60 j s := by
  unfold Cert.ReferenceIdeal.Step.b60
  rw [← al_59 h, ← al_27 h]
  try rfl
set_option maxRecDepth 8192 in
theorem al_61 (h : Holds V0 s j) : (Host.exp (subf (broadcastInDim S2x8x4x64x128 ![0, 1, 2, 3, 4] bcast_S2x8x4x1x128_S2x8x4x64x128_0_1_2_3_4 (broadcastInDim S2x8x4x1x128 ![0, 1, 2, 4] bcast_S2x8x4x128_S2x8x4x1x128_0_1_2_4 (res_main_while0b_v150 V0))) (res_main_while0b_v129 V0)) : (Proc.devRef .tc main_while0b_v158 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (mulf (res_main_while0b_v127 V0) (Host.exp (subf (broadcastInDim S2x8x4x64x128 ![0, 1, 2, 3, 4] bcast_S2x8x4x1x128_S2x8x4x64x128_0_1_2_3_4 (broadcastInDim S2x8x4x1x128 ![0, 1, 2, 4] bcast_S2x8x4x128_S2x8x4x1x128_0_1_2_4 (res_main_while0b_v150 V0))) (res_main_while0b_v129 V0))) : (Proc.devRef .tc main_while0b_v159 : DevRef τ sig).ty.Contents (Elt F)) = Cert.ReferenceIdeal.Step.b62 j s := by
  unfold Cert.ReferenceIdeal.Step.b62
  rw [← al_13 h, ← al_61 h]
  try rfl
set_option maxRecDepth 8192 in
theorem al_63 (h : Holds V0 s j) : (Host.dotGeneral dot_S2x8x4x64x128_S2x8x4x64x128_S2x8x4x128x128_3_3_4_4_012_012 none (mulf (res_main_while0b_v127 V0) (Host.exp (subf (broadcastInDim S2x8x4x64x128 ![0, 1, 2, 3, 4] bcast_S2x8x4x1x128_S2x8x4x64x128_0_1_2_3_4 (broadcastInDim S2x8x4x1x128 ![0, 1, 2, 4] bcast_S2x8x4x128_S2x8x4x1x128_0_1_2_4 (res_main_while0b_v150 V0))) (res_main_while0b_v129 V0)))) (res_main_while0b_v128 V0) : (Proc.devRef .tc main_while0b_v160 : DevRef τ sig).ty.Contents (Elt F)) = Cert.ReferenceIdeal.Step.b63 j s := by
  unfold Cert.ReferenceIdeal.Step.b63
  rw [← al_62 h, ← al_20 h]
  try rfl
set_option maxRecDepth 8192 in
theorem al_64 (h : Holds V0 s j) : (addf (mulf (broadcastInDim S2x8x4x128x128 ![0, 1, 2, 3, 4] bcast_S2x8x4x128x1_S2x8x4x128x128_0_1_2_3_4 (broadcastInDim S2x8x4x128x1 ![0, 1, 2, 3] bcast_S2x8x4x128_S2x8x4x128x1_0_1_2_3 (Host.exp (res_main_while0b_v150 V0)))) (V0 (Proc.devRef .tc main_v87_6))) (Host.dotGeneral dot_S2x8x4x64x128_S2x8x4x64x128_S2x8x4x128x128_3_3_4_4_012_012 none (mulf (res_main_while0b_v127 V0) (Host.exp (subf (broadcastInDim S2x8x4x64x128 ![0, 1, 2, 3, 4] bcast_S2x8x4x1x128_S2x8x4x64x128_0_1_2_3_4 (broadcastInDim S2x8x4x1x128 ![0, 1, 2, 4] bcast_S2x8x4x128_S2x8x4x1x128_0_1_2_4 (res_main_while0b_v150 V0))) (res_main_while0b_v129 V0)))) (res_main_while0b_v128 V0)) : (Proc.devRef .tc main_while0b_v161 : DevRef τ sig).ty.Contents (Elt F)) = Cert.ReferenceIdeal.Step.b64 j s := by
  unfold Cert.ReferenceIdeal.Step.b64
  rw [← al_57 h, ← al_63 h]
  try rfl
set_option maxRecDepth 8192 in
theorem al_65 (h : Holds V0 s j) : (broadcastInDim S1x2x8x4x64x128 ![1, 2, 3, 4, 5] bcast_S2x8x4x64x128_S1x2x8x4x64x128_1_2_3_4_5 (addf (Host.dotGeneral dot_S2x8x4x64x128_S2x8x4x128x128_S2x8x4x64x128_4_3_3_4_012_012 none (mulf (res_main_while0b_v126 V0) (Host.exp (res_main_while0b_v129 V0))) (V0 (Proc.devRef .tc main_v87_6))) (Host.dotGeneral dot_S2x8x4x64x64_S2x8x4x64x128_S2x8x4x64x128_4_3_3_4_012_012 none (Host.reduceAdd (mulf (mulf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v126 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v127 V0)))) (Host.exp (select (broadcastInDim S2x8x4x64x64x128 ![3, 4, 5] bcast_S64x64x1_S2x8x4x64x64x128_3_4_5 (V0 (Proc.devRef .tc main_v87_4))) (subf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v129 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v129 V0)))) (broadcastInDim S2x8x4x64x64x128 ![] bcast_S_S2x8x4x64x64x128 (id (constant S_ .f32 0xFF800000#32)))))) (constant S_ .f32 0x00000000#32) reducesTo_S2x8x4x64x64x128_S2x8x4x64x64_d5 h_S_) (res_main_while0b_v128 V0))) : (Proc.devRef .tc main_while0b_call14_v0 : DevRef τ sig).ty.Contents (Elt F)) = Cert.ReferenceIdeal.Step.b65 j s := by
  unfold Cert.ReferenceIdeal.Step.b65
  rw [← al_51 h]
  try rfl
set_option maxRecDepth 8192 in
theorem al_66 (h : Holds V0 s j) : (constantI S_ 32 0#32 : (Proc.devRef .tc main_while0b_call14_c : DevRef τ sig).ty.Contents (Elt F)) = Cert.ReferenceIdeal.Step.b66 j s := by
  unfold Cert.ReferenceIdeal.Step.b66
  rfl
set_option maxRecDepth 8192 in
theorem al_67 (h : Holds V0 s j) : (constantI S_ 32 0#32 : (Proc.devRef .tc main_while0b_call14_c_0 : DevRef τ sig).ty.Contents (Elt F)) = Cert.ReferenceIdeal.Step.b67 j s := by
  unfold Cert.ReferenceIdeal.Step.b67
  rfl
set_option maxRecDepth 8192 in
theorem al_68 (h : Holds V0 s j) : (constantI S_ 32 0#32 : (Proc.devRef .tc main_while0b_call14_c_1 : DevRef τ sig).ty.Contents (Elt F)) = Cert.ReferenceIdeal.Step.b68 j s := by
  unfold Cert.ReferenceIdeal.Step.b68
  rfl
set_option maxRecDepth 8192 in
theorem al_69 (h : Holds V0 s j) : (constantI S_ 32 0#32 : (Proc.devRef .tc main_while0b_call14_c_2 : DevRef τ sig).ty.Contents (Elt F)) = Cert.ReferenceIdeal.Step.b69 j s := by
  unfold Cert.ReferenceIdeal.Step.b69
  rfl
set_option maxRecDepth 8192 in
theorem al_70 (h : Holds V0 s j) : (constantI S_ 32 0#32 : (Proc.devRef .tc main_while0b_call14_c_3 : DevRef τ sig).ty.Contents (Elt F)) = Cert.ReferenceIdeal.Step.b70 j s := by
  unfold Cert.ReferenceIdeal.Step.b70
  rfl
set_option maxRecDepth 8192 in
theorem al_71 (h : Holds V0 s j) : (Host.dynamicUpdateSlice (V0 (Proc.devRef .tc main_v87_7)) (broadcastInDim S1x2x8x4x64x128 ![1, 2, 3, 4, 5] bcast_S2x8x4x64x128_S1x2x8x4x64x128_1_2_3_4_5 (addf (Host.dotGeneral dot_S2x8x4x64x128_S2x8x4x128x128_S2x8x4x64x128_4_3_3_4_012_012 none (mulf (res_main_while0b_v126 V0) (Host.exp (res_main_while0b_v129 V0))) (V0 (Proc.devRef .tc main_v87_6))) (Host.dotGeneral dot_S2x8x4x64x64_S2x8x4x64x128_S2x8x4x64x128_4_3_3_4_012_012 none (Host.reduceAdd (mulf (mulf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v126 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v127 V0)))) (Host.exp (select (broadcastInDim S2x8x4x64x64x128 ![3, 4, 5] bcast_S64x64x1_S2x8x4x64x64x128_3_4_5 (V0 (Proc.devRef .tc main_v87_4))) (subf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v129 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v129 V0)))) (broadcastInDim S2x8x4x64x64x128 ![] bcast_S_S2x8x4x64x64x128 (id (constant S_ .f32 0xFF800000#32)))))) (constant S_ .f32 0x00000000#32) reducesTo_S2x8x4x64x64x128_S2x8x4x64x64_d5 h_S_) (res_main_while0b_v128 V0)))) (fun k => (((![V0 (Proc.devRef .tc main_v87_5), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S36x2x8x4x64x128_S1x2x8x4x64x128 : (Proc.devRef .tc main_while0b_v162 : DevRef τ sig).ty.Contents (Elt F)) = Cert.ReferenceIdeal.Step.b71 j s := by
  unfold Cert.ReferenceIdeal.Step.b71
  rw [← al_65 h, ← al_66 h, ← al_67 h, ← al_68 h, ← al_69 h, ← al_70 h, h.f_7, h.n_5]
  try rfl

/-! One trip's step of the carried values is `step`, field by field; a counter steps to the next number. -/

theorem step_6 (h : Holds V0 s j) : step_main_v87_6 V0 = (step j s).main_v87_6 := by
  unfold step_main_v87_6 Cert.ReferenceIdeal.Step.step
  show id (addf (mulf (broadcastInDim S2x8x4x128x128 ![0, 1, 2, 3, 4] bcast_S2x8x4x128x1_S2x8x4x128x128_0_1_2_3_4 (broadcastInDim S2x8x4x128x1 ![0, 1, 2, 3] bcast_S2x8x4x128_S2x8x4x128x1_0_1_2_3 (Host.exp (res_main_while0b_v150 V0)))) (V0 (Proc.devRef .tc main_v87_6))) (Host.dotGeneral dot_S2x8x4x64x128_S2x8x4x64x128_S2x8x4x128x128_3_3_4_4_012_012 none (mulf (res_main_while0b_v127 V0) (Host.exp (subf (broadcastInDim S2x8x4x64x128 ![0, 1, 2, 3, 4] bcast_S2x8x4x1x128_S2x8x4x64x128_0_1_2_3_4 (broadcastInDim S2x8x4x1x128 ![0, 1, 2, 4] bcast_S2x8x4x128_S2x8x4x1x128_0_1_2_4 (res_main_while0b_v150 V0))) (res_main_while0b_v129 V0)))) (res_main_while0b_v128 V0))) = _
  rw [al_64 h]
  try rfl
theorem step_7 (h : Holds V0 s j) : step_main_v87_7 V0 = (step j s).main_v87_7 := by
  unfold step_main_v87_7 Cert.ReferenceIdeal.Step.step
  show id (Host.dynamicUpdateSlice (V0 (Proc.devRef .tc main_v87_7)) (broadcastInDim S1x2x8x4x64x128 ![1, 2, 3, 4, 5] bcast_S2x8x4x64x128_S1x2x8x4x64x128_1_2_3_4_5 (addf (Host.dotGeneral dot_S2x8x4x64x128_S2x8x4x128x128_S2x8x4x64x128_4_3_3_4_012_012 none (mulf (res_main_while0b_v126 V0) (Host.exp (res_main_while0b_v129 V0))) (V0 (Proc.devRef .tc main_v87_6))) (Host.dotGeneral dot_S2x8x4x64x64_S2x8x4x64x128_S2x8x4x64x128_4_3_3_4_012_012 none (Host.reduceAdd (mulf (mulf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v126 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v127 V0)))) (Host.exp (select (broadcastInDim S2x8x4x64x64x128 ![3, 4, 5] bcast_S64x64x1_S2x8x4x64x64x128_3_4_5 (V0 (Proc.devRef .tc main_v87_4))) (subf (broadcastInDim S2x8x4x64x64x128 ![0, 1, 2, 3, 4, 5] bcast_S2x8x4x64x1x128_S2x8x4x64x64x128_0_1_2_3_4_5 (broadcastInDim S2x8x4x64x1x128 ![0, 1, 2, 3, 5] bcast_S2x8x4x64x128_S2x8x4x64x1x128_0_1_2_3_5 (res_main_while0b_v129 V0))) (broadcastInDim S2x8x4x64x64x128 ![0, 1, 2, 3, 4, 5] bcast_S2x8x4x1x64x128_S2x8x4x64x64x128_0_1_2_3_4_5 (broadcastInDim S2x8x4x1x64x128 ![0, 1, 2, 4, 5] bcast_S2x8x4x64x128_S2x8x4x1x64x128_0_1_2_4_5 (res_main_while0b_v129 V0)))) (broadcastInDim S2x8x4x64x64x128 ![] bcast_S_S2x8x4x64x64x128 (id (constant S_ .f32 0xFF800000#32)))))) (constant S_ .f32 0x00000000#32) reducesTo_S2x8x4x64x64x128_S2x8x4x64x64_d5 h_S_) (res_main_while0b_v128 V0)))) (fun k => (((![V0 (Proc.devRef .tc main_v87_5), constantI S_ 32 0#32, constantI S_ 32 0#32, constantI S_ 32 0#32, constantI S_ 32 0#32, constantI S_ 32 0#32] : Fin 6 → (⟨S_, .i32⟩ : BufTy).Contents (Elt F))) k (Shape.Idx.first h_S_)).toInt) updateFits_S36x2x8x4x64x128_S1x2x8x4x64x128) = _
  exact al_71 h
theorem step_5 (h : Holds V0 s j) : step_main_v87_5 V0 = constantI S_ 32 (BitVec.ofNat 32 (j + 1)) := by
  unfold step_main_v87_5
  rw [h.n_5]
  funext i
  show BitVec.ofNat 32 j + 1#32 = BitVec.ofNat 32 (j + 1)
  simp only [BitVec.ofNat_add]

set_option maxRecDepth 8192 in
theorem out_main_v125_holds (h : Holds V0 s j) {x_main_arg0 : (⟨S8x2304x4096, .f32⟩ : BufTy).Contents (Elt F)} (h_main_arg0 : V0 (Proc.devRef .tc main_arg0) = x_main_arg0) {x_main_arg2 : (⟨S128, .f32⟩ : BufTy).Contents (Elt F)} (h_main_arg2 : V0 (Proc.devRef .tc main_arg2) = x_main_arg2) : out_main_v125 V0 = Cert.ReferenceIdeal.Step.R_main_v125 s x_main_arg0 x_main_arg2 := by
  unfold out_main_v125 Cert.ReferenceIdeal.Step.R_main_v125
  rw [h.f_7, h_main_arg0, h_main_arg2]
  try rfl

/-- One trip keeps the valuation holding: `step` of the state, the same set-up values, the next number. -/
theorem holds_step (h : Holds V0 s j) : Holds (STEP V0) (step j s) (j + 1) where
  f_6 := (STEP_main_v87_6 V0).trans (step_6 h)
  f_7 := (STEP_main_v87_7 V0).trans (step_7 h)
  n_5 := (STEP_main_v87_5 V0).trans (step_5 h)
  k_4 := (STEP_main_v87_4 V0).trans h.k_4
  f_0 := (STEP_main_v87_0 V0).trans h.f_0
  f_1 := (STEP_main_v87_1 V0).trans h.f_1
  f_2 := (STEP_main_v87_2 V0).trans h.f_2
  f_3 := (STEP_main_v87_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

end Cert.ReferenceIdeal.RefHolds

end
-- ==== Proof.RefEntry.lean ====
/- What the reference's operations before its loop leave, and the reference's run as the iterated step. -/
module

public import proofs.«01_k».proof.Proof.RefHolds

@[expose] public section

noncomputable section

namespace Cert.ReferenceIdeal.RefHolds

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

variable {F : FTy → Type} [FloatOps F]
variable (m : (ℓ : Loc nD τ sig) → Buf (Elt F) ℓ) (c : Dev nD)

set_option maxRecDepth 65536 in
set_option maxHeartbeats 1000000 in
/-- What the operations before the loop leave in this carried buffer. -/
theorem entry_6 : entryContents preI m c (Proc.devRef .tc main_v87_6) = (K_main_v85 (F := F)) := by
  simp only [entryContents, afterL_cons, afterL_nil]; after_reads_simp <;> rfl
set_option maxRecDepth 65536 in
set_option maxHeartbeats 1000000 in
/-- What the operations before the loop leave in this carried buffer. -/
theorem entry_7 : entryContents preI m c (Proc.devRef .tc main_v87_7) = (K_main_v86 (F := F)) := by
  simp only [entryContents, afterL_cons, afterL_nil]; after_reads_simp <;> rfl
set_option maxRecDepth 65536 in
set_option maxHeartbeats 1000000 in
/-- What the operations before the loop leave in this carried buffer. -/
theorem entry_5 : entryContents preI m c (Proc.devRef .tc main_v87_5) = constantI S_ 32 (BitVec.ofNat 32 0) := by
  simp only [entryContents, afterL_cons, afterL_nil]; after_reads_simp <;> rfl
set_option maxRecDepth 65536 in
set_option maxHeartbeats 1000000 in
/-- What the operations before the loop leave in this carried buffer. -/
theorem entry_4 : entryContents preI m c (Proc.devRef .tc main_v87_4) = K_main_v84 (F := F) := by
  simp only [entryContents, afterL_cons, afterL_nil]; after_reads_simp <;> rfl
set_option maxRecDepth 65536 in
set_option maxHeartbeats 1000000 in
/-- What the operations before the loop leave in this carried buffer. -/
theorem entry_0 : entryContents preI m c (Proc.devRef .tc main_v87_0) = A_main_v78 (m ((c.tc : Thread nD τ).loc main_arg0)) (m ((c.tc : Thread nD τ).loc main_arg1)) := by
  simp only [entryContents, afterL_cons, afterL_nil]; after_reads_simp <;> rfl
set_option maxRecDepth 65536 in
set_option maxHeartbeats 1000000 in
/-- What the operations before the loop leave in this carried buffer. -/
theorem entry_1 : entryContents preI m c (Proc.devRef .tc main_v87_1) = A_main_v79 (m ((c.tc : Thread nD τ).loc main_arg0)) (m ((c.tc : Thread nD τ).loc main_arg1)) := by
  simp only [entryContents, afterL_cons, afterL_nil]; after_reads_simp <;> rfl
set_option maxRecDepth 65536 in
set_option maxHeartbeats 1000000 in
/-- What the operations before the loop leave in this carried buffer. -/
theorem entry_2 : entryContents preI m c (Proc.devRef .tc main_v87_2) = A_main_v80 (m ((c.tc : Thread nD τ).loc main_arg0)) (m ((c.tc : Thread nD τ).loc main_arg1)) := by
  simp only [entryContents, afterL_cons, afterL_nil]; after_reads_simp <;> rfl
set_option maxRecDepth 65536 in
set_option maxHeartbeats 1000000 in
/-- What the operations before the loop leave in this carried buffer. -/
theorem entry_3 : entryContents preI m c (Proc.devRef .tc main_v87_3) = A_main_v81 (m ((c.tc : Thread nD τ).loc main_arg0)) (m ((c.tc : Thread nD τ).loc main_arg1)) := by
  simp only [entryContents, afterL_cons, afterL_nil]; after_reads_simp <;> rfl
/-- What the reference's operations before the loop leave: the set-up values, number 0, the initial state. -/
theorem entry_holds : Holds (entryContents preI m c) (initState m c) 0 where
  f_6 := entry_6 m c
  f_7 := entry_7 m c
  f_0 := entry_0 m c
  f_1 := entry_1 m c
  f_2 := entry_2 m c
  f_3 := entry_3 m c
  n_5 := entry_5 m c
  k_4 := entry_4 m c

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 36 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v125) = Cert.ReferenceIdeal.Step.R_main_v125 (it c 36) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 36
    ⟨(h c).1.trans (out_main_v125_holds hk (iter_main_arg0 m c 36) (iter_main_arg2 m c 36)), (h c).2.1, (h c).2.2.1, (h c).2.2.2⟩) (Value.run m ρ)

end Cert.ReferenceIdeal.RefHolds

end
-- ==== Proof.Parts.lean ====
module

public import proofs.«01_k».proof.Proof.Gen.KernelIdeal.Frame
public import proofs.«01_k».proof.Proof.Gen.KernelIdeal.Loops

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The trips of the kernel's first loop (one per chunk of 64 positions) and of its second. -/
abbrev T1 := Fin k0_t1_loop.trips
abbrev T2 := Fin k0_t2_loop.trips

/-- The row number of every entry of a chunk. -/
abbrev rI : IVec S64x128 32 := iota .tc S64x128 32 [0] iota_S64x128_d0_w32

/-- Chunk `n` of a block of 2304 positions. -/
def ldc (x : Vec F S1x2304x128 .f32) (n : T1) : Vec F S1x64x128 .f32 :=
  View.ld x (Rect.unit (s := S1x2304x128) (k0_off1 n) S1x64x128.size (k0_off1_inb n))
/-- The two rows of a block that holds one row per direction. -/
def row0 (x : Vec F S2x128 .f32) : Vec F S1x128 .f32 :=
  View.ld x (Rect.unit (s := S2x128) ![0, 0] S1x128.size inb_S2x128_S1x128_0_0)
def row1 (x : Vec F S2x128 .f32) : Vec F S1x128 .f32 :=
  View.ld x (Rect.unit (s := S2x128) ![1, 0] S1x128.size inb_S2x128_S1x128_1_0)

/-! ## What one trip of the first loop computes from a chunk, forward direction -/

/-- The prefix sums of the log gates after the rolls by 1 to 16, -/
def g126 (z : Vec F S1x64x128 .f32) (l m : Vec F S1x128 .f32) : FVec F S64x128 .f32 := k0_pay9 rI (k0_pay7 z l m)
/-- and whole; -/
def gF (z : Vec F S1x64x128 .f32) (l m : Vec F S1x128 .f32) : FVec F S64x128 .f32 := k0_pay11 rI (g126 z l m) k0_pay10
/-- the key, -/
def kF (z : Vec F S1x64x128 .f32) (o : Vec F S1x128 .f32) : FVec F S64x128 .f32 := k0_pay8 (k0_pay5 z) (k0_pay6 z) o
/-- the chunk's total, -/
def totF (z : Vec F S1x64x128 .f32) (l m : Vec F S1x128 .f32) : FVec F S1x128 .f32 := k0_pay12 rI (g126 z l m) k0_pay10
/-- the scores, from the diagonal down to the half of size 4, -/
def a15 (q z : Vec F S1x64x128 .f32) (l m o : Vec F S1x128 .f32) : FVec F S64x64 .f32 :=
  k0_pay15 k0_pay44 (k0_pay2 q) (kF z o) (gF z l m)
    (k0_pay13 rI k0_pay42 k0_pay44 (k0_pay2 q) (kF z o) (g126 z l m) k0_pay10) (k0_pay14 rI (g126 z l m) k0_pay10)
/-- the output of the chunk's own positions, -/
def OI0 (q z v : Vec F S1x64x128 .f32) (l m o : Vec F S1x128 .f32) : FVec F S1x64x128 .f32 :=
  k0_pay19 rI k0_pay44 (k0_pay2 q) (k0_pay3 v) (kF z o) (gF z l m) (a15 q z l m o) (k0_pay17 rI (gF z l m)) (k0_pay18 rI) 1#32
/-- the decayed query, -/
def QG0 (q z : Vec F S1x64x128 .f32) (l m : Vec F S1x128 .f32) : FVec F S1x64x128 .bf16 :=
  k0_pay21 (k0_pay20 (k0_pay2 q) (gF z l m))
/-- the chunk's addition to the state, -/
def UT0 (z v : Vec F S1x64x128 .f32) (l m o : Vec F S1x128 .f32) : FVec F S1x128x128 .f32 :=
  k0_pay22 (k0_pay4 v) (kF z o) (gF z l m) (totF z l m)
/-- and the chunk's decay of the state. -/
def EL0 (z : Vec F S1x64x128 .f32) (l m : Vec F S1x128 .f32) : FVec F S1x8x128 .f32 := k0_pay23 (totF z l m)

/-! ## The same for the backward direction -/

def g352 (z : Vec F S1x64x128 .f32) (l m : Vec F S1x128 .f32) : FVec F S64x128 .f32 :=
  k0_pay30 rI (k0_pay26 l) (k0_pay27 z m) (k0_pay28 z l m)
def gB (z : Vec F S1x64x128 .f32) (l m : Vec F S1x128 .f32) : FVec F S64x128 .f32 := k0_pay32 rI (g352 z l m) (k0_pay31 rI) 56#32
def kB (z : Vec F S1x64x128 .f32) (o : Vec F S1x128 .f32) : FVec F S64x128 .f32 := k0_pay29 (k0_pay24 z) (k0_pay25 z) o
def totB (z : Vec F S1x64x128 .f32) (l m : Vec F S1x128 .f32) : FVec F S1x128 .f32 := k0_pay33 rI (g352 z l m) (k0_pay31 rI) 56#32
def a36 (q z : Vec F S1x64x128 .f32) (l m o : Vec F S1x128 .f32) : FVec F S64x64 .f32 :=
  k0_pay36 k0_pay45 (k0_pay2 q) (kB z o) (gB z l m)
    (k0_pay34 rI k0_pay42 k0_pay45 (k0_pay2 q) (kB z o) (g352 z l m) (k0_pay31 rI) 56#32)
    (k0_pay35 rI (g352 z l m) (k0_pay31 rI) 56#32)
def a38 (q z : Vec F S1x64x128 .f32) (l m o : Vec F S1x128 .f32) : FVec F S64x64 .bf16 :=
  k0_pay38 rI k0_pay45 (k0_pay2 q) (kB z o) (gB z l m) (a36 q z l m o) (k0_pay37 rI)
def OI1 (q z v : Vec F S1x64x128 .f32) (l m o : Vec F S1x128 .f32) : FVec F S1x64x128 .f32 :=
  k0_pay46 (k0_pay3 v) (a38 q z l m o)
def QG1 (q z : Vec F S1x64x128 .f32) (l m : Vec F S1x128 .f32) : FVec F S1x64x128 .bf16 := k0_pay47 (k0_pay2 q) (gB z l m)
def UT1 (z v : Vec F S1x64x128 .f32) (l m o : Vec F S1x128 .f32) : FVec F S1x128x128 .f32 :=
  k0_pay48 (k0_pay4 v) (kB z o) (gB z l m) (totB z l m)
def EL1 (z : Vec F S1x64x128 .f32) (l m : Vec F S1x128 .f32) : FVec F S1x8x128 .f32 := k0_pay49 (totB z l m)

/-! ## The pieces of a trip -/

section pieces
variable (x0 x1 x2 x3 : Vec F S1x2304x128 .f32) (x5 x6 x7 : Vec F S2x128 .f32)

/-- The pieces trip `n` of the first loop writes, by direction, into each of the four scratch buffers. -/
def pc12 (d : Fin 2) (n : T1) : View.Piece (Elt F) S2x2304x128 .bf16 := match d with
  | 0 => ⟨Rect.unit (s := S2x2304x128) (k0_off2 n) S1x64x128.size (k0_off2_inb n), QG0 (ldc x0 n) (ldc x1 n) (row0 x5) (row0 x6)⟩
  | 1 => ⟨Rect.unit (s := S2x2304x128) (k0_off5 n) S1x64x128.size (k0_off5_inb n), QG1 (ldc x0 n) (ldc x2 n) (row1 x5) (row1 x6)⟩
def pc14 (d : Fin 2) (n : T1) : View.Piece (Elt F) S2x2304x128 .f32 := match d with
  | 0 => ⟨Rect.unit (s := S2x2304x128) (k0_off2 n) S1x64x128.size (k0_off2_inb n), OI0 (ldc x0 n) (ldc x1 n) (ldc x3 n) (row0 x5) (row0 x6) (row0 x7)⟩
  | 1 => ⟨Rect.unit (s := S2x2304x128) (k0_off5 n) S1x64x128.size (k0_off5_inb n), OI1 (ldc x0 n) (ldc x2 n) (ldc x3 n) (row1 x5) (row1 x6) (row1 x7)⟩
def pc13 (d : Fin 2) (n : T1) : View.Piece (Elt F) S72x128x128 .f32 := match d with
  | 0 => ⟨Rect.unit (s := S72x128x128) (k0_off3 n 0#32) S1x128x128.size (k0_off3_inb n 0), UT0 (ldc x1 n) (ldc x3 n) (row0 x5) (row0 x6) (row0 x7)⟩
  | 1 => ⟨Rect.unit (s := S72x128x128) (k0_off3 n 36#32) S1x128x128.size (k0_off3_inb n 1), UT1 (ldc x2 n) (ldc x3 n) (row1 x5) (row1 x6) (row1 x7)⟩
def pc15 (d : Fin 2) (n : T1) : View.Piece (Elt F) S72x8x128 .f32 := match d with
  | 0 => ⟨Rect.unit (s := S72x8x128) (k0_off4 n 0#32) S1x8x128.size (k0_off4_inb n 0), EL0 (ldc x1 n) (row0 x5) (row0 x6)⟩
  | 1 => ⟨Rect.unit (s := S72x8x128) (k0_off4 n 36#32) S1x8x128.size (k0_off4_inb n 1), EL1 (ldc x2 n) (row1 x5) (row1 x6)⟩
end pieces

section trip
variable (𝒱 : Variants) (c : Dev nD) (bd : Option 𝒱.V) (i : grid0.Coords) (arg2 : Memref sig .tc .vmem S1x2304x128 .f32) (harg2 : arg2.IsWhole) (arg3 : Memref sig .tc .vmem S1x2304x128 .f32) (harg3 : arg3.IsWhole) (arg4 : Memref sig .tc .vmem S1x2304x128 .f32) (harg4 : arg4.IsWhole) (arg5 : Memref sig .tc .vmem S1x2304x128 .f32) (harg5 : arg5.IsWhole) (arg6 : Memref sig .tc .vmem S1x2304x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S1x128 .f32) (harg10 : arg10.IsWhole) (arg11 : Memref sig .tc .vmem S1x2304x128 .bf16) (harg11 : arg11.IsWhole) (arg12 : Memref sig .tc .vmem S2x2304x128 .bf16) (harg12 : arg12.IsWhole) (arg13 : Memref sig .tc .vmem S72x128x128 .f32) (harg13 : arg13.IsWhole) (arg14 : Memref sig .tc .vmem S2x2304x128 .f32) (harg14 : arg14.IsWhole) (arg15 : Memref sig .tc .vmem S72x8x128 .f32) (harg15 : arg15.IsWhole) (arg16 : Memref sig .tc .vmem S2304x128 .f32) (harg16 : arg16.IsWhole) (arg17 : Memref sig .tc .vmem S2304x128 .f32) (harg17 : arg17.IsWhole)

set_option maxHeartbeats 1000000 in
/-- One trip of the first loop writes those pieces. -/
theorem trip1_eq (x0 x1 x2 x3 : Vec F S1x2304x128 .f32) (x5 x6 x7 : Vec F S2x128 .f32) (k : T1) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rI (harg2.unread x0) (harg3.unread x1) (harg4.unread x2) (harg5.unread x3) (harg7.unread x5) (harg8.unread x6) (harg9.unread x7) k
      = ([pc12 x0 x1 x2 x5 x6 1 k, pc12 x0 x1 x2 x5 x6 0 k], [pc13 x1 x2 x3 x5 x6 x7 1 k, pc13 x1 x2 x3 x5 x6 x7 0 k],
         [pc14 x0 x1 x2 x3 x5 x6 x7 1 k, pc14 x0 x1 x2 x3 x5 x6 x7 0 k], [pc15 x1 x2 x5 x6 1 k, pc15 x1 x2 x5 x6 0 k]) := by
  unfold tripL_k0_t1 trip_k0_t1
  dsimp only
  obtain ⟨e0, h0⟩ : ∃ y, y = harg2.unread x0 := ⟨_, rfl⟩
  obtain ⟨e1, h1⟩ : ∃ y, y = harg3.unread x1 := ⟨_, rfl⟩
  obtain ⟨e2, h2⟩ : ∃ y, y = harg4.unread x2 := ⟨_, rfl⟩
  obtain ⟨e3, h3⟩ : ∃ y, y = harg5.unread x3 := ⟨_, rfl⟩
  obtain ⟨e5, h5⟩ : ∃ y, y = harg7.unread x5 := ⟨_, rfl⟩
  obtain ⟨e6, h6⟩ : ∃ y, y = harg8.unread x6 := ⟨_, rfl⟩
  obtain ⟨e7, h7⟩ : ∃ y, y = harg9.unread x7 := ⟨_, rfl⟩
  have r0 : arg2.view.read (Elt F) e0 = x0 := h0 ▸ harg2.read_unread _
  have r1 : arg3.view.read (Elt F) e1 = x1 := h1 ▸ harg3.read_unread _
  have r2 : arg4.view.read (Elt F) e2 = x2 := h2 ▸ harg4.read_unread _
  have r3 : arg5.view.read (Elt F) e3 = x3 := h3 ▸ harg5.read_unread _
  have r5 : arg7.view.read (Elt F) e5 = x5 := h5 ▸ harg7.read_unread _
  have r6 : arg8.view.read (Elt F) e6 = x6 := h6 ▸ harg8.read_unread _
  have r7 : arg9.view.read (Elt F) e7 = x7 := h7 ▸ harg9.read_unread _
  rw [← h0, ← h1, ← h2, ← h3, ← h5, ← h6, ← h7]
  subst r0 r1 r2 r3 r5 r6 r7
  clear h0 h1 h2 h3 h5 h6 h7
  have hc : ∀ {A : Type _} {a b a' b' : A}, a = a' → b = b' → [a, b] = [a', b'] := fun h h' => by rw [h, h']
  refine Prod.ext (hc ?_ ?_) (Prod.ext (hc ?_ ?_) (Prod.ext (hc ?_ ?_) (hc ?_ ?_)))
  all_goals simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, pc12, pc13, pc14, pc15, OI0, OI1, QG0, QG1, UT0, UT1, EL0, EL1, a36, a38, g126, gF, kF, totF, g352, gB, kB, totB, a15, ldc, row0, row1]
  all_goals simp only [← View.readAt_eq_ld]
  all_goals rfl

end trip

end Cert.KernelIdeal.Run

end
-- ==== Proof.Pieces.lean ====
module

public import proofs.«01_k».proof.Proof.Gen.KernelIdeal.Frame
public import proofs.«01_k».proof.Proof.Gen.KernelIdeal.Loops
public import proofs.«01_k».proof.Proof.Parts
public import Idealize.ShloMosaic.Lib.Pipeline.Value

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## Lists of pieces, trip by trip -/

/-- The pieces of the trips before `k`, the last trip's first. -/
def allP {α : Type} {N : ℕ} (P : Fin N → List α) : ℕ → List α
  | 0 => []
  | k + 1 => if h : k < N then P ⟨k, h⟩ ++ allP P k else allP P k

theorem allP_succ {α : Type} {N : ℕ} (P : Fin N → List α) (k : Fin N) : allP P (k.val + 1) = P k ++ allP P k.val := by
  show (if h : k.val < N then _ else _) = _
  rw [dif_pos k.isLt]

/-- What is in the list: the pieces of some earlier trip. -/
theorem mem_allP {α : Type} {N : ℕ} (P : Fin N → List α) (p : α) : ∀ K ≤ N, (p ∈ allP P K ↔ ∃ n : Fin N, n.val < K ∧ p ∈ P n)
  | 0, _ => by simp [allP]
  | K + 1, h => by
    have e := allP_succ P ⟨K, h⟩
    rw [show K + 1 = (⟨K, h⟩ : Fin N).val + 1 from rfl, e, List.mem_append, mem_allP P p K (by omega)]
    constructor
    · rintro (h' | ⟨n, hn, hp⟩)
      · exact ⟨⟨K, h⟩, Nat.lt_succ_self _, h'⟩
      · exact ⟨n, Nat.lt_succ_of_lt hn, hp⟩
    · rintro ⟨n, hn, hp⟩
      rcases Nat.lt_succ_iff_lt_or_eq.mp hn with h' | h'
      · exact .inr ⟨n, h', hp⟩
      · refine .inl ?_
        have : n = ⟨K, h⟩ := Fin.ext h'
        exact this ▸ hp

/-- Reading back what disjoint pieces were written: at a place of one of them, its payload. -/
theorem read_allP {sp : Space} {sh : Shape} {e : EltTy} (v : View sig .tc sp sh e) (f : v.ty.Contents (Elt F)) {N : ℕ}
    (P : Fin N → List (View.Piece (Elt F) sh e)) (n : Fin N) (p : View.Piece (Elt F) sh e) (hp : p ∈ P n)
    (hu : ∀ m, ∀ q ∈ P m, ∀ x, p.1.emb x ∈ q.1.set → q = p) (x : p.1.shape.Idx) :
    v.read (Elt F) (v.writes (Elt F) f (allP P N)) (p.1.emb x) = p.2 x :=
  View.read_writes_of_unique v f p x _ ((mem_allP P p N le_rfl).2 ⟨n, n.isLt, hp⟩) fun q hq hx => by
    obtain ⟨m, -, hm⟩ := (mem_allP P q N le_rfl).1 hq
    exact hu m q hm x hx

/-- A load through a unit rectangle depends on its offsets alone. -/
theorem ld_unit_congr {sh : Shape} {e : EltTy} (X : sh.Idx → Elt F e) {off off' size : Fin sh.rank → Nat} (h : off = off')
    (hi : ∀ a, off a + size a ≤ sh.size a) (hi' : ∀ a, off' a + size a ≤ sh.size a) :
    View.ld (Val := Elt F) (e' := e) X (Rect.unit off size hi) = View.ld (Val := Elt F) (e' := e) X (Rect.unit off' size hi') := by
  subst h; rfl

/-! ## The places of the pieces -/

theorem k0_t1_trips : k0_t1_loop.trips = 36 := by decide +kernel
theorem k0_t2_trips : k0_t2_loop.trips = 36 := by decide +kernel

/-- The chunk the second loop takes in the backward direction on trip `k`: the context's four last first, then the others. -/
def bwd (k : T2) : T1 := if h : k.val < 4 then ⟨3 - k.val, by have := k0_t1_trips; omega⟩ else ⟨39 - k.val, by have := k0_t1_trips; have := k.isLt; omega⟩
/-- and in the forward direction. -/
def fwd (k : T2) : T1 := ⟨k.val, by have := k0_t1_trips; have := k0_t2_trips; have := k.isLt; omega⟩

theorem bwd_val_lt (k : T2) (h : k.val < 4) : (bwd k).val = 3 - k.val := by unfold bwd; rw [dif_pos h]
theorem bwd_val_ge (k : T2) (h : ¬ k.val < 4) : (bwd k).val = 39 - k.val := by unfold bwd; rw [dif_neg h]
theorem bwd_inj (k k' : T2) (h : bwd k = bwd k') : k = k' := by
  have h := congrArg Fin.val h
  have h1 : k.val < 36 := lt_of_lt_of_eq k.isLt k0_t2_trips
  have h2 : k'.val < 36 := lt_of_lt_of_eq k'.isLt k0_t2_trips
  apply Fin.ext
  by_cases a : k.val < 4 <;> by_cases b : k'.val < 4
  · rw [bwd_val_lt k a, bwd_val_lt k' b] at h; omega
  · rw [bwd_val_lt k a, bwd_val_ge k' b] at h; omega
  · rw [bwd_val_ge k a, bwd_val_lt k' b] at h; omega
  · rw [bwd_val_ge k a, bwd_val_ge k' b] at h; omega
theorem off9_eq : ∀ k : T2, k0_off9 k = k0_off5 (bwd k) := by decide +kernel
theorem off6_eq : ∀ k : T2, k0_off6 k = k0_off2 (fwd k) := by decide +kernel
theorem off7_eq : ∀ k : T2, k0_off7 k = k0_off4 (fwd k) 0#32 := by decide +kernel
theorem off8_eq : ∀ k : T2, k0_off8 k = k0_off3 (fwd k) 0#32 := by decide +kernel
theorem off10_eq : ∀ k : T2, k0_off10 k = k0_off4 (bwd k) 36#32 := by decide +kernel
theorem off11_eq : ∀ k : T2, k0_off11 k = k0_off3 (bwd k) 36#32 := by decide +kernel
theorem off13_eq : ∀ k : T2, k0_off13 k = ![64 * (bwd k).val, 0] := by decide +kernel
theorem off3_0 (n : T1) : k0_off3 n 0#32 = ![n.val, 0, 0] := by
  have := k0_off3_eq n 0; simpa using this
theorem off3_1 (n : T1) : k0_off3 n 36#32 = ![36 + n.val, 0, 0] := by
  have := k0_off3_eq n 1; simpa using this
theorem off4_0 (n : T1) : k0_off4 n 0#32 = ![n.val, 0, 0] := by
  have := k0_off4_eq n 0; simpa using this
theorem off4_1 (n : T1) : k0_off4 n 36#32 = ![36 + n.val, 0, 0] := by
  have := k0_off4_eq n 1; simpa using this

/-- Two rectangles of stride one that meet overlap on every axis. -/
theorem meet_row {sh : Shape} (a : Fin sh.rank) (r r' : Rect sh) (x) (h : r.emb x ∈ r'.set)
    (hs : r.stride a = 1) (hs' : r'.stride a = 1) :
    r'.off a < r.off a + r.size a ∧ r.off a < r'.off a + r'.size a := by
  obtain ⟨j, hj, e⟩ := (LoadRect.mem_set _).1 h a
  have h2 : (r.emb x a : Nat) = r.off a + r.stride a * x a := rfl
  have h3 : (x a : Nat) < r.size a := (x a).isLt
  rw [hs, Nat.one_mul] at h2
  rw [hs', Nat.one_mul] at e
  omega

section uniq
variable (x0 x1 x2 x3 : Vec F S1x2304x128 .f32) (x5 x6 x7 : Vec F S2x128 .f32)

/-- A trip's pieces, per scratch buffer. -/
abbrev P12 (n : T1) : List (View.Piece (Elt F) S2x2304x128 .bf16) := [pc12 x0 x1 x2 x5 x6 1 n, pc12 x0 x1 x2 x5 x6 0 n]
abbrev P13 (n : T1) : List (View.Piece (Elt F) S72x128x128 .f32) := [pc13 x1 x2 x3 x5 x6 x7 1 n, pc13 x1 x2 x3 x5 x6 x7 0 n]
abbrev P14 (n : T1) : List (View.Piece (Elt F) S2x2304x128 .f32) := [pc14 x0 x1 x2 x3 x5 x6 x7 1 n, pc14 x0 x1 x2 x3 x5 x6 x7 0 n]
abbrev P15 (n : T1) : List (View.Piece (Elt F) S72x8x128 .f32) := [pc15 x1 x2 x5 x6 1 n, pc15 x1 x2 x5 x6 0 n]

theorem uniq12 (d d' : Fin 2) (n n' : T1) (x) (h : (pc12 x0 x1 x2 x5 x6 d n).1.emb x ∈ (pc12 x0 x1 x2 x5 x6 d' n').1.set) :
    pc12 x0 x1 x2 x5 x6 d' n' = pc12 x0 x1 x2 x5 x6 d n := by
  have key : d' = d ∧ n' = n := by
    fin_cases d <;> fin_cases d' <;>
    · have h0 := meet_row 0 _ _ x h rfl rfl
      have h1 := meet_row 1 _ _ x h rfl rfl
      simp only [Fin.zero_eta, Fin.mk_one, pc12, Rect.off_unit, Rect.size_unit, k0_off2_eq, k0_off5_eq] at h0 h1
      simp at h0 h1 ⊢
      all_goals first | exact Fin.ext (by omega) | omega
  rw [key.1, key.2]

theorem uniq14 (d d' : Fin 2) (n n' : T1) (x) (h : (pc14 x0 x1 x2 x3 x5 x6 x7 d n).1.emb x ∈ (pc14 x0 x1 x2 x3 x5 x6 x7 d' n').1.set) :
    pc14 x0 x1 x2 x3 x5 x6 x7 d' n' = pc14 x0 x1 x2 x3 x5 x6 x7 d n := by
  have key : d' = d ∧ n' = n := by
    fin_cases d <;> fin_cases d' <;>
    · have h0 := meet_row 0 _ _ x h rfl rfl
      have h1 := meet_row 1 _ _ x h rfl rfl
      simp only [Fin.zero_eta, Fin.mk_one, pc14, Rect.off_unit, Rect.size_unit, k0_off2_eq, k0_off5_eq] at h0 h1
      simp at h0 h1 ⊢
      all_goals first | exact Fin.ext (by omega) | omega
  rw [key.1, key.2]

theorem uniq13 (d d' : Fin 2) (n n' : T1) (x) (h : (pc13 x1 x2 x3 x5 x6 x7 d n).1.emb x ∈ (pc13 x1 x2 x3 x5 x6 x7 d' n').1.set) :
    pc13 x1 x2 x3 x5 x6 x7 d' n' = pc13 x1 x2 x3 x5 x6 x7 d n := by
  have key : d' = d ∧ n' = n := by
    have := n.isLt; have := n'.isLt; have := k0_t1_trips
    fin_cases d <;> fin_cases d' <;>
    · have h0 := meet_row 0 _ _ x h rfl rfl
      simp only [Fin.zero_eta, Fin.mk_one, pc13, Rect.off_unit, Rect.size_unit, off3_0, off3_1] at h0
      simp at h0 ⊢
      all_goals first | exact Fin.ext (by omega) | omega
  rw [key.1, key.2]

theorem uniq15 (d d' : Fin 2) (n n' : T1) (x) (h : (pc15 x1 x2 x5 x6 d n).1.emb x ∈ (pc15 x1 x2 x5 x6 d' n').1.set) :
    pc15 x1 x2 x5 x6 d' n' = pc15 x1 x2 x5 x6 d n := by
  have key : d' = d ∧ n' = n := by
    have := n.isLt; have := n'.isLt; have := k0_t1_trips
    fin_cases d <;> fin_cases d' <;>
    · have h0 := meet_row 0 _ _ x h rfl rfl
      simp only [Fin.zero_eta, Fin.mk_one, pc15, Rect.off_unit, Rect.size_unit, off4_0, off4_1] at h0
      simp at h0 ⊢
      all_goals first | exact Fin.ext (by omega) | omega
  rw [key.1, key.2]
end uniq

/-! ## The second loop -/

section second
variable (x0 x1 x2 x3 : Vec F S1x2304x128 .f32) (x5 x6 x7 : Vec F S2x128 .f32)

/-- The two states before trip `k`, each value by key. -/
def stF : ℕ → FVec F S128x128 .f32 × FVec F S128x128 .f32
  | 0 => (k0_pay50, k0_pay50)
  | k + 1 => if h : k < k0_t2_loop.trips then
      (k0_pay40 (stF k).1 (EL0 (ldc x1 (fwd ⟨k, h⟩)) (row0 x5) (row0 x6)) (UT0 (ldc x1 (fwd ⟨k, h⟩)) (ldc x3 (fwd ⟨k, h⟩)) (row0 x5) (row0 x6) (row0 x7)),
       k0_pay51 (stF k).2 (EL1 (ldc x2 (bwd ⟨k, h⟩)) (row1 x5) (row1 x6)) (UT1 (ldc x2 (bwd ⟨k, h⟩)) (ldc x3 (bwd ⟨k, h⟩)) (row1 x5) (row1 x6) (row1 x7)))
    else stF k

/-- What trip `k` stores for the forward chunk, and for the backward one. -/
def OF (k : T2) : FVec F S64x128 .f32 :=
  k0_pay52 (k0_pay39 (stF x1 x2 x3 x5 x6 x7 k.val).1 (QG0 (ldc x0 (fwd k)) (ldc x1 (fwd k)) (row0 x5) (row0 x6))
    (OI0 (ldc x0 (fwd k)) (ldc x1 (fwd k)) (ldc x3 (fwd k)) (row0 x5) (row0 x6) (row0 x7)))
def OB (k : T2) : FVec F S64x128 .f32 :=
  k0_pay53 (k0_pay41 (stF x1 x2 x3 x5 x6 x7 k.val).2 (QG1 (ldc x0 (bwd k)) (ldc x2 (bwd k)) (row1 x5) (row1 x6)))
    (OI1 (ldc x0 (bwd k)) (ldc x2 (bwd k)) (ldc x3 (bwd k)) (row1 x5) (row1 x6) (row1 x7))

def pc16 (k : T2) : View.Piece (Elt F) S2304x128 .f32 :=
  ⟨Rect.unit (s := S2304x128) (k0_off12 k) S64x128.size (k0_off12_inb k), OF x0 x1 x2 x3 x5 x6 x7 k⟩
def pc17 (k : T2) : View.Piece (Elt F) S2304x128 .f32 :=
  ⟨Rect.unit (s := S2304x128) (k0_off13 k) S64x128.size (k0_off13_inb k), OB x0 x1 x2 x3 x5 x6 x7 k⟩

theorem uniq16 (n n' : T2) (x) (h : (pc16 x0 x1 x2 x3 x5 x6 x7 n).1.emb x ∈ (pc16 x0 x1 x2 x3 x5 x6 x7 n').1.set) :
    pc16 x0 x1 x2 x3 x5 x6 x7 n' = pc16 x0 x1 x2 x3 x5 x6 x7 n := by
  have key : n' = n := by
    have h0 := meet_row 0 _ _ x h rfl rfl
    simp only [pc16, Rect.off_unit, Rect.size_unit, k0_off12_eq] at h0
    have h1' : 64 * _ < 64 * _ + 64 ∧ 64 * _ < 64 * _ + 64 := h0
    exact Fin.ext (by omega)
  rw [key]

theorem uniq17 (n n' : T2) (x) (h : (pc17 x0 x1 x2 x3 x5 x6 x7 n).1.emb x ∈ (pc17 x0 x1 x2 x3 x5 x6 x7 n').1.set) :
    pc17 x0 x1 x2 x3 x5 x6 x7 n' = pc17 x0 x1 x2 x3 x5 x6 x7 n := by
  have key : n' = n := by
    have h0 := meet_row 0 _ _ x h rfl rfl
    simp only [pc17, Rect.off_unit, Rect.size_unit, off13_eq] at h0
    have h1' : 64 * _ < 64 * _ + 64 ∧ 64 * _ < 64 * _ + 64 := h0
    exact bwd_inj _ _ (Fin.ext (by omega))
  rw [key]
end second

section trip
variable (𝒱 : Variants) (c : Dev nD) (bd : Option 𝒱.V) (i : grid0.Coords) (arg2 : Memref sig .tc .vmem S1x2304x128 .f32) (harg2 : arg2.IsWhole) (arg3 : Memref sig .tc .vmem S1x2304x128 .f32) (harg3 : arg3.IsWhole) (arg4 : Memref sig .tc .vmem S1x2304x128 .f32) (harg4 : arg4.IsWhole) (arg5 : Memref sig .tc .vmem S1x2304x128 .f32) (harg5 : arg5.IsWhole) (arg6 : Memref sig .tc .vmem S1x2304x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S1x128 .f32) (harg10 : arg10.IsWhole) (arg11 : Memref sig .tc .vmem S1x2304x128 .bf16) (harg11 : arg11.IsWhole) (arg12 : Memref sig .tc .vmem S2x2304x128 .bf16) (harg12 : arg12.IsWhole) (arg13 : Memref sig .tc .vmem S72x128x128 .f32) (harg13 : arg13.IsWhole) (arg14 : Memref sig .tc .vmem S2x2304x128 .f32) (harg14 : arg14.IsWhole) (arg15 : Memref sig .tc .vmem S72x8x128 .f32) (harg15 : arg15.IsWhole) (arg16 : Memref sig .tc .vmem S2304x128 .f32) (harg16 : arg16.IsWhole) (arg17 : Memref sig .tc .vmem S2304x128 .f32) (harg17 : arg17.IsWhole)

/-- The pieces of the first loop's trips before `K`. -/
theorem pb_eq (x0 x1 x2 x3 : Vec F S1x2304x128 .f32) (x5 x6 x7 : Vec F S2x128 .f32) : ∀ K ≤ k0_t1_loop.trips,
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rI (harg2.unread x0) (harg3.unread x1) (harg4.unread x2) (harg5.unread x3) (harg7.unread x5) (harg8.unread x6) (harg9.unread x7) K
      = (allP (P12 x0 x1 x2 x5 x6) K, allP (P13 x1 x2 x3 x5 x6 x7) K,
         allP (P14 x0 x1 x2 x3 x5 x6 x7) K, allP (P15 x1 x2 x5 x6) K)
  | 0, _ => rfl
  | K + 1, h => by
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rI (harg2.unread x0) (harg3.unread x1) (harg4.unread x2) (harg5.unread x3) (harg7.unread x5) (harg8.unread x6) (harg9.unread x7) ⟨K, h⟩
    rw [trip1_eq] at e
    rw [pb_eq x0 x1 x2 x3 x5 x6 x7 K (by omega)] at e
    refine e.trans ?_
    have hs {α : Type} (P : T1 → List α) : allP P (K + 1) = P ⟨K, h⟩ ++ allP P K := allP_succ P ⟨K, h⟩
    rw [hs (P12 x0 x1 x2 x5 x6), hs (P13 x1 x2 x3 x5 x6 x7), hs (P14 x0 x1 x2 x3 x5 x6 x7), hs (P15 x1 x2 x5 x6)]

set_option maxHeartbeats 1000000 in
/-- One trip of the second loop, over any contents. -/
theorem trip2_eq (Y12 : BufTy.Contents (Elt F) arg12.view.ty) (Y13 : BufTy.Contents (Elt F) arg13.view.ty) (Y14 : BufTy.Contents (Elt F) arg14.view.ty) (Y15 : BufTy.Contents (Elt F) arg15.view.ty) (k : T2) (acc : FVec F S128x128 .f32 × FVec F S128x128 .f32) :
    tripR_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y12 Y13 Y14 Y15 k acc
      = (k0_pay40 acc.1 (View.ld (arg15.view.read (Elt F) Y15) (Rect.unit (s := S72x8x128) (k0_off7 k) S1x8x128.size (k0_off7_inb k)))
          (View.ld (arg13.view.read (Elt F) Y13) (Rect.unit (s := S72x128x128) (k0_off8 k) S1x128x128.size (k0_off8_inb k))),
        k0_pay51 acc.2 (View.ld (arg15.view.read (Elt F) Y15) (Rect.unit (s := S72x8x128) (k0_off10 k) S1x8x128.size (k0_off10_inb k)))
          (View.ld (arg13.view.read (Elt F) Y13) (Rect.unit (s := S72x128x128) (k0_off11 k) S1x128x128.size (k0_off11_inb k))))
    ∧ tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 Y12 Y13 Y14 Y15 k acc
      = ([⟨Rect.unit (s := S2304x128) (k0_off12 k) S64x128.size (k0_off12_inb k), k0_pay52 (k0_pay39 acc.1
            (View.ld (arg12.view.read (Elt F) Y12) (Rect.unit (s := S2x2304x128) (k0_off6 k) S1x64x128.size (k0_off6_inb k)))
            (View.ld (arg14.view.read (Elt F) Y14) (Rect.unit (s := S2x2304x128) (k0_off6 k) S1x64x128.size (k0_off6_inb k))))⟩],
        [⟨Rect.unit (s := S2304x128) (k0_off13 k) S64x128.size (k0_off13_inb k), k0_pay53 (k0_pay41 acc.2
            (View.ld (arg12.view.read (Elt F) Y12) (Rect.unit (s := S2x2304x128) (k0_off9 k) S1x64x128.size (k0_off9_inb k))))
            (View.ld (arg14.view.read (Elt F) Y14) (Rect.unit (s := S2x2304x128) (k0_off9 k) S1x64x128.size (k0_off9_inb k)))⟩]) := by
  unfold tripL_k0_t2 tripR_k0_t2 trip_k0_t2
  dsimp only
  constructor <;> simp only [trip_k0_t2.sl.r, trip_k0_t2.sl.r_1, trip_k0_t2.sl.r_2, trip_k0_t2.sl.r_3, ← View.readAt_eq_ld]
  all_goals rfl

end trip

end Cert.KernelIdeal.Run

end
-- ==== Proof.Reads.lean ====
module

public import proofs.«01_k».proof.Proof.Gen.KernelIdeal.Frame
public import proofs.«01_k».proof.Proof.Gen.KernelIdeal.Loops
public import proofs.«01_k».proof.Proof.Pieces
public import Idealize.ShloMosaic.Lib.ValueIdx

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## What the second loop loads of what the first stored -/

section reads
variable (x0 x1 x2 x3 : Vec F S1x2304x128 .f32) (x5 x6 x7 : Vec F S2x128 .f32)

/-- Buffer 12 at the forward chunk of trip `k`. -/
theorem load12_0 {ar : Memref sig .tc .vmem S2x2304x128 .bf16} (f : BufTy.Contents (Elt F) ar.view.ty) (k : T2) :
    View.ld (Val := Elt F) (e' := .bf16) (ar.view.read (Elt F) (ar.view.writes (Elt F) f (allP (P12 x0 x1 x2 x5 x6) k0_t1_loop.trips)))
      (Rect.unit (s := S2x2304x128) (k0_off6 k) S1x64x128.size (k0_off6_inb k)) = (pc12 x0 x1 x2 x5 x6 0 (fwd k)).2 := by
  rw [ld_unit_congr _ (off6_eq k) _ (k0_off2_inb (fwd k))]
  funext x
  exact read_allP ar.view f (P12 x0 x1 x2 x5 x6) (fwd k) (pc12 x0 x1 x2 x5 x6 0 (fwd k)) (by simp [P12])
    (fun m q hq x hx => by
      rcases List.mem_cons.1 hq with rfl | hq
      · exact uniq12 x0 x1 x2 x5 x6 _ _ _ _ x hx
      · rw [List.mem_singleton.1 hq] at hx ⊢; exact uniq12 x0 x1 x2 x5 x6 _ _ _ _ x hx) x

/-- Buffer 14 at the forward chunk of trip `k`. -/
theorem load14_0 {ar : Memref sig .tc .vmem S2x2304x128 .f32} (f : BufTy.Contents (Elt F) ar.view.ty) (k : T2) :
    View.ld (Val := Elt F) (e' := .f32) (ar.view.read (Elt F) (ar.view.writes (Elt F) f (allP (P14 x0 x1 x2 x3 x5 x6 x7) k0_t1_loop.trips)))
      (Rect.unit (s := S2x2304x128) (k0_off6 k) S1x64x128.size (k0_off6_inb k)) = (pc14 x0 x1 x2 x3 x5 x6 x7 0 (fwd k)).2 := by
  rw [ld_unit_congr _ (off6_eq k) _ (k0_off2_inb (fwd k))]
  funext x
  exact read_allP ar.view f (P14 x0 x1 x2 x3 x5 x6 x7) (fwd k) (pc14 x0 x1 x2 x3 x5 x6 x7 0 (fwd k)) (by simp [P14])
    (fun m q hq x hx => by
      rcases List.mem_cons.1 hq with rfl | hq
      · exact uniq14 x0 x1 x2 x3 x5 x6 x7 _ _ _ _ x hx
      · rw [List.mem_singleton.1 hq] at hx ⊢; exact uniq14 x0 x1 x2 x3 x5 x6 x7 _ _ _ _ x hx) x

/-- Buffer 15 at the forward chunk of trip `k`. -/
theorem load15_0 {ar : Memref sig .tc .vmem S72x8x128 .f32} (f : BufTy.Contents (Elt F) ar.view.ty) (k : T2) :
    View.ld (Val := Elt F) (e' := .f32) (ar.view.read (Elt F) (ar.view.writes (Elt F) f (allP (P15 x1 x2 x5 x6) k0_t1_loop.trips)))
      (Rect.unit (s := S72x8x128) (k0_off7 k) S1x8x128.size (k0_off7_inb k)) = (pc15 x1 x2 x5 x6 0 (fwd k)).2 := by
  rw [ld_unit_congr _ (off7_eq k) _ (k0_off4_inb (fwd k) 0)]
  funext x
  exact read_allP ar.view f (P15 x1 x2 x5 x6) (fwd k) (pc15 x1 x2 x5 x6 0 (fwd k)) (by simp [P15])
    (fun m q hq x hx => by
      rcases List.mem_cons.1 hq with rfl | hq
      · exact uniq15 x1 x2 x5 x6 _ _ _ _ x hx
      · rw [List.mem_singleton.1 hq] at hx ⊢; exact uniq15 x1 x2 x5 x6 _ _ _ _ x hx) x

/-- Buffer 13 at the forward chunk of trip `k`. -/
theorem load13_0 {ar : Memref sig .tc .vmem S72x128x128 .f32} (f : BufTy.Contents (Elt F) ar.view.ty) (k : T2) :
    View.ld (Val := Elt F) (e' := .f32) (ar.view.read (Elt F) (ar.view.writes (Elt F) f (allP (P13 x1 x2 x3 x5 x6 x7) k0_t1_loop.trips)))
      (Rect.unit (s := S72x128x128) (k0_off8 k) S1x128x128.size (k0_off8_inb k)) = (pc13 x1 x2 x3 x5 x6 x7 0 (fwd k)).2 := by
  rw [ld_unit_congr _ (off8_eq k) _ (k0_off3_inb (fwd k) 0)]
  funext x
  exact read_allP ar.view f (P13 x1 x2 x3 x5 x6 x7) (fwd k) (pc13 x1 x2 x3 x5 x6 x7 0 (fwd k)) (by simp [P13])
    (fun m q hq x hx => by
      rcases List.mem_cons.1 hq with rfl | hq
      · exact uniq13 x1 x2 x3 x5 x6 x7 _ _ _ _ x hx
      · rw [List.mem_singleton.1 hq] at hx ⊢; exact uniq13 x1 x2 x3 x5 x6 x7 _ _ _ _ x hx) x

/-- Buffer 12 at the backward chunk of trip `k`. -/
theorem load12_1 {ar : Memref sig .tc .vmem S2x2304x128 .bf16} (f : BufTy.Contents (Elt F) ar.view.ty) (k : T2) :
    View.ld (Val := Elt F) (e' := .bf16) (ar.view.read (Elt F) (ar.view.writes (Elt F) f (allP (P12 x0 x1 x2 x5 x6) k0_t1_loop.trips)))
      (Rect.unit (s := S2x2304x128) (k0_off9 k) S1x64x128.size (k0_off9_inb k)) = (pc12 x0 x1 x2 x5 x6 1 (bwd k)).2 := by
  rw [ld_unit_congr _ (off9_eq k) _ (k0_off5_inb (bwd k))]
  funext x
  exact read_allP ar.view f (P12 x0 x1 x2 x5 x6) (bwd k) (pc12 x0 x1 x2 x5 x6 1 (bwd k)) (by simp [P12])
    (fun m q hq x hx => by
      rcases List.mem_cons.1 hq with rfl | hq
      · exact uniq12 x0 x1 x2 x5 x6 _ _ _ _ x hx
      · rw [List.mem_singleton.1 hq] at hx ⊢; exact uniq12 x0 x1 x2 x5 x6 _ _ _ _ x hx) x

/-- Buffer 14 at the backward chunk of trip `k`. -/
theorem load14_1 {ar : Memref sig .tc .vmem S2x2304x128 .f32} (f : BufTy.Contents (Elt F) ar.view.ty) (k : T2) :
    View.ld (Val := Elt F) (e' := .f32) (ar.view.read (Elt F) (ar.view.writes (Elt F) f (allP (P14 x0 x1 x2 x3 x5 x6 x7) k0_t1_loop.trips)))
      (Rect.unit (s := S2x2304x128) (k0_off9 k) S1x64x128.size (k0_off9_inb k)) = (pc14 x0 x1 x2 x3 x5 x6 x7 1 (bwd k)).2 := by
  rw [ld_unit_congr _ (off9_eq k) _ (k0_off5_inb (bwd k))]
  funext x
  exact read_allP ar.view f (P14 x0 x1 x2 x3 x5 x6 x7) (bwd k) (pc14 x0 x1 x2 x3 x5 x6 x7 1 (bwd k)) (by simp [P14])
    (fun m q hq x hx => by
      rcases List.mem_cons.1 hq with rfl | hq
      · exact uniq14 x0 x1 x2 x3 x5 x6 x7 _ _ _ _ x hx
      · rw [List.mem_singleton.1 hq] at hx ⊢; exact uniq14 x0 x1 x2 x3 x5 x6 x7 _ _ _ _ x hx) x

/-- Buffer 15 at the backward chunk of trip `k`. -/
theorem load15_1 {ar : Memref sig .tc .vmem S72x8x128 .f32} (f : BufTy.Contents (Elt F) ar.view.ty) (k : T2) :
    View.ld (Val := Elt F) (e' := .f32) (ar.view.read (Elt F) (ar.view.writes (Elt F) f (allP (P15 x1 x2 x5 x6) k0_t1_loop.trips)))
      (Rect.unit (s := S72x8x128) (k0_off10 k) S1x8x128.size (k0_off10_inb k)) = (pc15 x1 x2 x5 x6 1 (bwd k)).2 := by
  rw [ld_unit_congr _ (off10_eq k) _ (k0_off4_inb (bwd k) 1)]
  funext x
  exact read_allP ar.view f (P15 x1 x2 x5 x6) (bwd k) (pc15 x1 x2 x5 x6 1 (bwd k)) (by simp [P15])
    (fun m q hq x hx => by
      rcases List.mem_cons.1 hq with rfl | hq
      · exact uniq15 x1 x2 x5 x6 _ _ _ _ x hx
      · rw [List.mem_singleton.1 hq] at hx ⊢; exact uniq15 x1 x2 x5 x6 _ _ _ _ x hx) x

/-- Buffer 13 at the backward chunk of trip `k`. -/
theorem load13_1 {ar : Memref sig .tc .vmem S72x128x128 .f32} (f : BufTy.Contents (Elt F) ar.view.ty) (k : T2) :
    View.ld (Val := Elt F) (e' := .f32) (ar.view.read (Elt F) (ar.view.writes (Elt F) f (allP (P13 x1 x2 x3 x5 x6 x7) k0_t1_loop.trips)))
      (Rect.unit (s := S72x128x128) (k0_off11 k) S1x128x128.size (k0_off11_inb k)) = (pc13 x1 x2 x3 x5 x6 x7 1 (bwd k)).2 := by
  rw [ld_unit_congr _ (off11_eq k) _ (k0_off3_inb (bwd k) 1)]
  funext x
  exact read_allP ar.view f (P13 x1 x2 x3 x5 x6 x7) (bwd k) (pc13 x1 x2 x3 x5 x6 x7 1 (bwd k)) (by simp [P13])
    (fun m q hq x hx => by
      rcases List.mem_cons.1 hq with rfl | hq
      · exact uniq13 x1 x2 x3 x5 x6 x7 _ _ _ _ x hx
      · rw [List.mem_singleton.1 hq] at hx ⊢; exact uniq13 x1 x2 x3 x5 x6 x7 _ _ _ _ x hx) x

/-- One trip's step of the states. -/
theorem stF_succ (k : T2) : stF x1 x2 x3 x5 x6 x7 (k.val + 1)
    = (k0_pay40 (stF x1 x2 x3 x5 x6 x7 k.val).1 (EL0 (ldc x1 (fwd k)) (row0 x5) (row0 x6)) (UT0 (ldc x1 (fwd k)) (ldc x3 (fwd k)) (row0 x5) (row0 x6) (row0 x7)),
       k0_pay51 (stF x1 x2 x3 x5 x6 x7 k.val).2 (EL1 (ldc x2 (bwd k)) (row1 x5) (row1 x6)) (UT1 (ldc x2 (bwd k)) (ldc x3 (bwd k)) (row1 x5) (row1 x6) (row1 x7))) := by
  rw [stF]; exact dif_pos k.isLt

end reads

section trip
variable (𝒱 : Variants) (c : Dev nD) (bd : Option 𝒱.V) (i : grid0.Coords) (arg2 : Memref sig .tc .vmem S1x2304x128 .f32) (harg2 : arg2.IsWhole) (arg3 : Memref sig .tc .vmem S1x2304x128 .f32) (harg3 : arg3.IsWhole) (arg4 : Memref sig .tc .vmem S1x2304x128 .f32) (harg4 : arg4.IsWhole) (arg5 : Memref sig .tc .vmem S1x2304x128 .f32) (harg5 : arg5.IsWhole) (arg6 : Memref sig .tc .vmem S1x2304x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S1x128 .f32) (harg10 : arg10.IsWhole) (arg11 : Memref sig .tc .vmem S1x2304x128 .bf16) (harg11 : arg11.IsWhole) (arg12 : Memref sig .tc .vmem S2x2304x128 .bf16) (harg12 : arg12.IsWhole) (arg13 : Memref sig .tc .vmem S72x128x128 .f32) (harg13 : arg13.IsWhole) (arg14 : Memref sig .tc .vmem S2x2304x128 .f32) (harg14 : arg14.IsWhole) (arg15 : Memref sig .tc .vmem S72x8x128 .f32) (harg15 : arg15.IsWhole) (arg16 : Memref sig .tc .vmem S2304x128 .f32) (harg16 : arg16.IsWhole) (arg17 : Memref sig .tc .vmem S2304x128 .f32) (harg17 : arg17.IsWhole)

/-- The second loop's states and pieces before trip `K`, over what the first loop stored. -/
theorem st_eq (f12 : BufTy.Contents (Elt F) arg12.view.ty) (f13 : BufTy.Contents (Elt F) arg13.view.ty) (f14 : BufTy.Contents (Elt F) arg14.view.ty) (f15 : BufTy.Contents (Elt F) arg15.view.ty) (x0 x1 x2 x3 : Vec F S1x2304x128 .f32) (x5 x6 x7 : Vec F S2x128 .f32) : ∀ K ≤ k0_t2_loop.trips,
    st_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      (arg12.view.writes (Elt F) f12 (allP (P12 x0 x1 x2 x5 x6) k0_t1_loop.trips)) (arg13.view.writes (Elt F) f13 (allP (P13 x1 x2 x3 x5 x6 x7) k0_t1_loop.trips))
      (arg14.view.writes (Elt F) f14 (allP (P14 x0 x1 x2 x3 x5 x6 x7) k0_t1_loop.trips)) (arg15.view.writes (Elt F) f15 (allP (P15 x1 x2 x5 x6) k0_t1_loop.trips)) (k0_pay50, k0_pay50) K
      = (stF x1 x2 x3 x5 x6 x7 K, allP (fun k => [pc16 x0 x1 x2 x3 x5 x6 x7 k]) K, allP (fun k => [pc17 x0 x1 x2 x3 x5 x6 x7 k]) K)
  | 0, _ => rfl
  | K + 1, h => by
    have e := st_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      (arg12.view.writes (Elt F) f12 (allP (P12 x0 x1 x2 x5 x6) k0_t1_loop.trips)) (arg13.view.writes (Elt F) f13 (allP (P13 x1 x2 x3 x5 x6 x7) k0_t1_loop.trips))
      (arg14.view.writes (Elt F) f14 (allP (P14 x0 x1 x2 x3 x5 x6 x7) k0_t1_loop.trips)) (arg15.view.writes (Elt F) f15 (allP (P15 x1 x2 x5 x6) k0_t1_loop.trips)) (k0_pay50, k0_pay50) ⟨K, h⟩
    have t := trip2_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
      (arg12.view.writes (Elt F) f12 (allP (P12 x0 x1 x2 x5 x6) k0_t1_loop.trips)) (arg13.view.writes (Elt F) f13 (allP (P13 x1 x2 x3 x5 x6 x7) k0_t1_loop.trips))
      (arg14.view.writes (Elt F) f14 (allP (P14 x0 x1 x2 x3 x5 x6 x7) k0_t1_loop.trips)) (arg15.view.writes (Elt F) f15 (allP (P15 x1 x2 x5 x6) k0_t1_loop.trips)) ⟨K, h⟩ (stF x1 x2 x3 x5 x6 x7 K)
    rw [load12_0, load14_0, load15_0, load13_0, load12_1, load14_1, load15_1, load13_1] at t
    have ih := st_eq f12 f13 f14 f15 x0 x1 x2 x3 x5 x6 x7 K (by omega)
    refine e.trans ?_
    rw [show (⟨K, h⟩ : Fin k0_t2_loop.trips).val = K from rfl, ih, t.1, t.2]
    have hs {α : Type} (P : T2 → List α) : allP P (K + 1) = P ⟨K, h⟩ ++ allP P K := allP_succ P ⟨K, h⟩
    rw [hs, hs]
    refine Prod.ext ?_ (Prod.ext rfl rfl)
    exact (stF_succ x1 x2 x3 x5 x6 x7 ⟨K, h⟩).symm

end trip

open Idealize.ShloMosaic.ValueIdx

/-! ## The block the body leaves -/

section block
variable (x0 x1 x2 x3 x4 : Vec F S1x2304x128 .f32) (x5 x6 x7 : Vec F S2x128 .f32) (x8 : Vec F S1x128 .f32)

/-- The trip that stores position `t`: forward, and backward. -/
def tripF (t : Fin 2304) : T2 := ⟨t.val / 64, by have := k0_t2_trips; have := t.isLt; omega⟩
def tripB (t : Fin 2304) : T2 :=
  if h : t.val / 64 < 4 then ⟨3 - t.val / 64, by have := k0_t2_trips; omega⟩ else ⟨39 - t.val / 64, by have := k0_t2_trips; have := t.isLt; omega⟩

/-- The second loop's two outputs, position by position. -/
def W16 : Vec F S2304x128 .f32 := fun y => OF x0 x1 x2 x3 x5 x6 x7 (tripF (y 0)) (ix2 ⟨(y 0).val % 64, Nat.mod_lt _ (by decide)⟩ (y 1))
def W17 : Vec F S2304x128 .f32 := fun y => OB x0 x1 x2 x3 x5 x6 x7 (tripB (y 0)) (ix2 ⟨(y 0).val % 64, Nat.mod_lt _ (by decide)⟩ (y 1))

theorem bwd_tripB (t : Fin 2304) : (bwd (tripB t)).val = t.val / 64 := by
  have := t.isLt
  by_cases h : t.val / 64 < 4
  · have e : (tripB t).val = 3 - t.val / 64 := by unfold tripB; rw [dif_pos h]
    rw [bwd_val_lt _ (by omega), e]; omega
  · have e : (tripB t).val = 39 - t.val / 64 := by unfold tripB; rw [dif_neg h]
    rw [bwd_val_ge _ (by omega), e]; omega

theorem read16 {ar : Memref sig .tc .vmem S2304x128 .f32} (f : BufTy.Contents (Elt F) ar.view.ty) :
    ar.view.read (Elt F) (ar.view.writes (Elt F) f (allP (fun k => [pc16 x0 x1 x2 x3 x5 x6 x7 k]) k0_t2_loop.trips)) = W16 x0 x1 x2 x3 x5 x6 x7 := by
  funext y
  let k := tripF (y 0)
  let x : (pc16 x0 x1 x2 x3 x5 x6 x7 k).1.shape.Idx := ix2 ⟨(y 0).val % 64, Nat.mod_lt _ (by decide)⟩ (y 1)
  have hy : (pc16 x0 x1 x2 x3 x5 x6 x7 k).1.emb x = y := by
    funext a
    apply Fin.ext
    have e : ((pc16 x0 x1 x2 x3 x5 x6 x7 k).1.emb x a : Nat) = k0_off12 k a + 1 * (x a).val := rfl
    rw [e, k0_off12_eq]
    fin_cases a
    · show 64 * ((y 0).val / 64) + 1 * ((y 0).val % 64) = (y 0).val
      omega
    · show 0 + 1 * (y 1).val = (y 1).val
      omega
  have h := read_allP ar.view f (fun k => [pc16 x0 x1 x2 x3 x5 x6 x7 k]) k (pc16 x0 x1 x2 x3 x5 x6 x7 k) (List.mem_singleton.2 rfl)
    (fun m q hq x hx => by rw [List.mem_singleton.1 hq] at hx ⊢; exact uniq16 x0 x1 x2 x3 x5 x6 x7 _ _ x hx) x
  rw [hy] at h
  exact h

theorem read17 {ar : Memref sig .tc .vmem S2304x128 .f32} (f : BufTy.Contents (Elt F) ar.view.ty) :
    ar.view.read (Elt F) (ar.view.writes (Elt F) f (allP (fun k => [pc17 x0 x1 x2 x3 x5 x6 x7 k]) k0_t2_loop.trips)) = W17 x0 x1 x2 x3 x5 x6 x7 := by
  funext y
  let k := tripB (y 0)
  let x : (pc17 x0 x1 x2 x3 x5 x6 x7 k).1.shape.Idx := ix2 ⟨(y 0).val % 64, Nat.mod_lt _ (by decide)⟩ (y 1)
  have hy : (pc17 x0 x1 x2 x3 x5 x6 x7 k).1.emb x = y := by
    funext a
    apply Fin.ext
    have e : ((pc17 x0 x1 x2 x3 x5 x6 x7 k).1.emb x a : Nat) = k0_off13 k a + 1 * (x a).val := rfl
    rw [e, off13_eq]
    fin_cases a
    · have hb : (bwd k).val = (y 0).val / 64 := bwd_tripB (y 0)
      show 64 * (bwd k).val + 1 * ((y 0).val % 64) = (y 0).val
      rw [hb]
      omega
    · show 0 + 1 * (y 1).val = (y 1).val
      omega
  have h := read_allP ar.view f (fun k => [pc17 x0 x1 x2 x3 x5 x6 x7 k]) k (pc17 x0 x1 x2 x3 x5 x6 x7 k) (List.mem_singleton.2 rfl)
    (fun m q hq x hx => by rw [List.mem_singleton.1 hq] at hx ⊢; exact uniq17 x0 x1 x2 x3 x5 x6 x7 _ _ x hx) x
  rw [hy] at h
  exact h

/-- The output block: the sum of both directions normalised, scaled, and gated. -/
def OUT : Vec F S1x2304x128 .bf16 := k0_pay1 (k0_pay54 (W16 x0 x1 x2 x3 x5 x6 x7) (W17 x0 x1 x2 x3 x5 x6 x7) x8) x4

end block

end Cert.KernelIdeal.Run

end
-- ==== Proof.Run.lean ====
module

public import proofs.«01_k».proof.Proof.Gen.KernelIdeal.Frame
public import proofs.«01_k».proof.Proof.Gen.KernelIdeal.Loops
public import proofs.«01_k».proof.Proof.Reads

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- A whole-block store reads back as what was stored. -/
theorem read_whole {sp : Space} {sh : Shape} {e : EltTy} (v : View sig .tc sp sh e) (f : v.ty.Contents (Elt F)) {off : Fin sh.rank → Nat}
    (ho : off = fun _ => 0) (hi : ∀ a, off a + sh.size a ≤ sh.size a) (w : sh.Idx → Elt F e) :
    v.read (Elt F) (v.writes (Elt F) f [⟨Rect.unit off sh.size hi, w⟩]) = w := by
  subst ho
  funext x
  have h := View.read_writes_of_unique v f (⟨Rect.unit (fun _ => 0) sh.size hi, w⟩ : View.Piece (Elt F) sh e) x _ (List.mem_singleton.2 rfl)
    (fun q hq _ => List.mem_singleton.1 hq)
  have hx : (Rect.unit (fun _ => 0) sh.size hi).emb x = x := by
    funext a; apply Fin.ext
    show 0 + 1 * (x a).val = (x a).val
    omega
  exact (congrArg _ hx.symm).trans h

/-- What the body's last store leaves is the named block. -/
theorem out_eq (c : Dev nD) (i : grid0.Coords) (arg2 : Memref sig .tc .vmem S1x2304x128 .f32) (harg2 : arg2.IsWhole) (arg3 : Memref sig .tc .vmem S1x2304x128 .f32) (harg3 : arg3.IsWhole) (arg4 : Memref sig .tc .vmem S1x2304x128 .f32) (harg4 : arg4.IsWhole) (arg5 : Memref sig .tc .vmem S1x2304x128 .f32) (harg5 : arg5.IsWhole) (arg6 : Memref sig .tc .vmem S1x2304x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S1x128 .f32) (harg10 : arg10.IsWhole) (arg11 : Memref sig .tc .vmem S1x2304x128 .bf16) (harg11 : arg11.IsWhole) (arg12 : Memref sig .tc .vmem S2x2304x128 .bf16) (harg12 : arg12.IsWhole) (arg13 : Memref sig .tc .vmem S72x128x128 .f32) (harg13 : arg13.IsWhole) (arg14 : Memref sig .tc .vmem S2x2304x128 .f32) (harg14 : arg14.IsWhole) (arg15 : Memref sig .tc .vmem S72x8x128 .f32) (harg15 : arg15.IsWhole) (arg16 : Memref sig .tc .vmem S2304x128 .f32) (harg16 : arg16.IsWhole) (arg17 : Memref sig .tc .vmem S2304x128 .f32) (harg17 : arg17.IsWhole)
    (x0 x1 x2 x3 x4 : Vec F S1x2304x128 .f32) (x5 x6 x7 : Vec F S2x128 .f32) (x8 : Vec F S1x128 .f32)
    (f9 : BufTy.Contents (Elt F) arg11.view.ty) (fs0 : BufTy.Contents (Elt F) arg12.view.ty) (fs1 : BufTy.Contents (Elt F) arg13.view.ty)
    (fs2 : BufTy.Contents (Elt F) arg14.view.ty) (fs3 : BufTy.Contents (Elt F) arg15.view.ty) (fs4 : BufTy.Contents (Elt F) arg16.view.ty)
    (fs5 : BufTy.Contents (Elt F) arg17.view.ty) :
    arg11.view.read (Elt F) (arg11.view.writes (Elt F) f9 [⟨Rect.unit (s := S1x2304x128) ![0, 0, 0] S1x2304x128.size inb_S1x2304x128_S1x2304x128_0_0_0,
      k0_pay1 (k0_pay54
        (arg16.view.readAt (Elt F) (Rect.unit (s := S2304x128) ![0, 0] S2304x128.size inb_S2304x128_S2304x128_0_0).toLoadRect
          (arg16.view.writes (Elt F) fs4 (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg12.view.writes (Elt F) fs0 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rI (harg2.unread x0) (harg3.unread x1) (harg4.unread x2) (harg5.unread x3) (harg7.unread x5) (harg8.unread x6) (harg9.unread x7) k0_t1_loop.trips).1) (arg13.view.writes (Elt F) fs1 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rI (harg2.unread x0) (harg3.unread x1) (harg4.unread x2) (harg5.unread x3) (harg7.unread x5) (harg8.unread x6) (harg9.unread x7) k0_t1_loop.trips).2.1) (arg14.view.writes (Elt F) fs2 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rI (harg2.unread x0) (harg3.unread x1) (harg4.unread x2) (harg5.unread x3) (harg7.unread x5) (harg8.unread x6) (harg9.unread x7) k0_t1_loop.trips).2.2.1) (arg15.view.writes (Elt F) fs3 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rI (harg2.unread x0) (harg3.unread x1) (harg4.unread x2) (harg5.unread x3) (harg7.unread x5) (harg8.unread x6) (harg9.unread x7) k0_t1_loop.trips).2.2.2) (k0_pay50, k0_pay50) k0_t2_loop.trips).2.1))
        (arg17.view.readAt (Elt F) (Rect.unit (s := S2304x128) ![0, 0] S2304x128.size inb_S2304x128_S2304x128_0_0).toLoadRect
          (arg17.view.writes (Elt F) fs5 (st_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg12.view.writes (Elt F) fs0 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rI (harg2.unread x0) (harg3.unread x1) (harg4.unread x2) (harg5.unread x3) (harg7.unread x5) (harg8.unread x6) (harg9.unread x7) k0_t1_loop.trips).1) (arg13.view.writes (Elt F) fs1 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rI (harg2.unread x0) (harg3.unread x1) (harg4.unread x2) (harg5.unread x3) (harg7.unread x5) (harg8.unread x6) (harg9.unread x7) k0_t1_loop.trips).2.1) (arg14.view.writes (Elt F) fs2 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rI (harg2.unread x0) (harg3.unread x1) (harg4.unread x2) (harg5.unread x3) (harg7.unread x5) (harg8.unread x6) (harg9.unread x7) k0_t1_loop.trips).2.2.1) (arg15.view.writes (Elt F) fs3 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 rI (harg2.unread x0) (harg3.unread x1) (harg4.unread x2) (harg5.unread x3) (harg7.unread x5) (harg8.unread x6) (harg9.unread x7) k0_t1_loop.trips).2.2.2) (k0_pay50, k0_pay50) k0_t2_loop.trips).2.2))
        (arg10.view.readAt (Elt F) (Rect.unit (s := S1x128) ![0, 0] S1x128.size inb_S1x128_S1x128_0_0).toLoadRect (harg10.unread x8)))
        (arg6.view.readAt (Elt F) (Rect.unit (s := S1x2304x128) ![0, 0, 0] S1x2304x128.size inb_S1x2304x128_S1x2304x128_0_0_0).toLoadRect (harg6.unread x4))⟩])
      = OUT x0 x1 x2 x3 x4 x5 x6 x7 x8 := by
  refine (read_whole _ _ (by funext a; fin_cases a <;> rfl) _ _).trans ?_
  rw [View.readAt_eq_ld, View.readAt_eq_ld, View.readAt_eq_ld, View.readAt_eq_ld]
  rw [View.ld_unit_zero (by funext a; fin_cases a <;> rfl), View.ld_unit_zero (by funext a; fin_cases a <;> rfl),
    View.ld_unit_zero (by funext a; fin_cases a <;> rfl), View.ld_unit_zero (by funext a; fin_cases a <;> rfl)]
  rw [harg10.read_unread, harg6.read_unread]
  rw [pb_eq (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x5 x6 x7 _ le_rfl]
  rw [st_eq (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 fs0 fs1 fs2 fs3 x0 x1 x2 x3 x5 x6 x7 _ le_rfl]
  rw [read16, read17]
  rfl

local notation "𝕄" => MT nD τ sig Unit (Elt F) ℕ (UR sig nD τ) ℕ
set_option maxHeartbeats 1000000 in
theorem body_run (c : Dev nD) (i : grid0.Coords) (arg2 : Memref sig .tc .vmem S1x2304x128 .f32) (harg2 : arg2.IsWhole) (arg3 : Memref sig .tc .vmem S1x2304x128 .f32) (harg3 : arg3.IsWhole) (arg4 : Memref sig .tc .vmem S1x2304x128 .f32) (harg4 : arg4.IsWhole) (arg5 : Memref sig .tc .vmem S1x2304x128 .f32) (harg5 : arg5.IsWhole) (arg6 : Memref sig .tc .vmem S1x2304x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S1x128 .f32) (harg10 : arg10.IsWhole) (arg11 : Memref sig .tc .vmem S1x2304x128 .bf16) (harg11 : arg11.IsWhole) (arg12 : Memref sig .tc .vmem S2x2304x128 .bf16) (harg12 : arg12.IsWhole) (arg13 : Memref sig .tc .vmem S72x128x128 .f32) (harg13 : arg13.IsWhole) (arg14 : Memref sig .tc .vmem S2x2304x128 .f32) (harg14 : arg14.IsWhole) (arg15 : Memref sig .tc .vmem S72x8x128 .f32) (harg15 : arg15.IsWhole) (arg16 : Memref sig .tc .vmem S2304x128 .f32) (harg16 : arg16.IsWhole) (arg17 : Memref sig .tc .vmem S2304x128 .f32) (harg17 : arg17.IsWhole)
    (x0 : Vec F S1x2304x128 .f32) (x1 : Vec F S1x2304x128 .f32) (x2 : Vec F S1x2304x128 .f32) (x3 : Vec F S1x2304x128 .f32) (x4 : Vec F S1x2304x128 .f32) (x5 : Vec F S2x128 .f32) (x6 : Vec F S2x128 .f32) (x7 : Vec F S2x128 .f32) (x8 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (owns (c : Thread nD τ) arg11 fullShare (OUT x0 x1 x2 x3 x4 x5 x6 x7 x8)) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0__hgrn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0__hgrn_kernel_eq_skeleton]; unfold cc0__hgrn_kernel_skel
    simp only [k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro
      exact out_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 f9 fs0 fs1 fs2 fs3 fs4 fs5
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Run

end
-- ==== Proof.Whole.lean ====
module

public import proofs.«01_k».proof.Proof.Run
public import Idealize.ShloMosaic.Lib.Pipeline.FrameBody
public import Idealize.ShloMosaic.Lib.Pipeline.Value
public import Idealize.ShloMosaic.Lib.ValueIdx
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S1x2304x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2304x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2304x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2304x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2304x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2304x128 .bf16 := win0_9.stage (cfg0.slots t 9)
abbrev hs0_9 (t : Fin cfg0.N) : (ms0_9 t).IsWhole := hstage0_9 ((cfg0.slots t 9).cast nbuf0_9)
abbrev scM0_0 : Memref sig .tc .vmem S2x2304x128 .bf16 := Memref.whole cc0_scratch0
abbrev scM0_1 : Memref sig .tc .vmem S72x128x128 .f32 := Memref.whole cc0_scratch1
abbrev scM0_2 : Memref sig .tc .vmem S2x2304x128 .f32 := Memref.whole cc0_scratch2
abbrev scM0_3 : Memref sig .tc .vmem S72x8x128 .f32 := Memref.whole cc0_scratch3
abbrev scM0_4 : Memref sig .tc .vmem S2304x128 .f32 := Memref.whole cc0_scratch4
abbrev scM0_5 : Memref sig .tc .vmem S2304x128 .f32 := Memref.whole cc0_scratch5

/-- The invariant is the scratch buffers at some contents and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- What the body leaves in the output block at point `t`. -/
def outB (c : Dev nD) (t : Fin cfg0.N) : Vec F S1x2304x128 .bf16 := OUT (iblk m c 0 t) (iblk m c 1 t) (iblk m c 2 t) (iblk m c 3 t) (iblk m c 4 t) (iblk m c 5 t) (iblk m c 6 t) (iblk m c 7 t) (iblk m c 8 t)

/-- The proof data: each input at its block, the output at the named block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outB m c t
  Φ _ := Pipeline.ΦA spec0 c
  q w := Pipeline.shareOf spec0 w
  owed _ := 0

/-- The arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_9 (c : Dev nD) (t : Fin cfg0.N) : (dats m 0 c).after 9 t = outB m c t := by dsimp only [dats]
theorem after0_8 (c : Dev nD) (t : Fin cfg0.N) : (dats m 0 c).after 8 t = iblk m c 8 t := by dsimp only [dats]

/-- Each input buffer holds its block. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
/-- The body, at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((body_run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The row of the body table is the body. -/
theorem defs₀_row (t : Fin cfg0.N) :
    defs₀ (F := F) .tc cfg0.body (cfg0.bodyArgs t (cfg0.slots t)) = bodyAt0 t := by
  unfold defs₀; rw [Defs.onTc_tc]

/-- The obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array as the proof data say, and all counters zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged and all counters are zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

/-- The point of batch row `b` and head `h`. -/
def pt (b : Fin 8) (h : Fin 4) : Fin cfg0.N := ⟨b.val * 4 + h.val, lt_of_lt_of_eq (by omega) N_0.symm⟩

/-- The head of a lane. -/
def hd (d : Fin 512) : Fin 4 := ⟨d.val / 128, by omega⟩
/-- The lane within the head. -/
def ln (d : Fin 512) : Fin 128 := ⟨d.val % 128, Nat.mod_lt _ (by decide)⟩

/-- The array the kernel leaves, block by block. -/
def result (c : Dev nD) : Buf (Elt F) ((c : Thread nD τ).loc main_v6) :=
  fun i => outB m c (pt (i 0) (hd (i 2))) (ix3 0 (i 1) (ln (i 2)))

/-- Where the output block of point `t` sits. -/
theorem idx9 : ∀ t : Fin cfg0.N, win0_9.index t 0 = t.val / 4 ∧ win0_9.index t 1 = 0 ∧ win0_9.index t 2 = t.val % 4 := by decide +kernel

/-- Every write-back writes its block of the result. -/
theorem flushed_eq (c : Dev nD) (t : Fin cfg0.N) (hf : (cfg0.win 9).flush t = true) :
    (dats m 0 c).flushed 9 t = ((cfg0.win 9).blk t).view.read (Elt F) (result m c) := by
  show (cfg0.win 9).cut (grid0.coords t) ((dats m 0 c).after 9 t) = _
  rw [after0_9]
  funext y
  show outB m c t y = result m c ((win0_9.rect t).emb y)
  have hN : t.val < 32 := lt_of_lt_of_eq t.isLt N_0
  obtain ⟨e0, e1, e2⟩ := idx9 t
  have y0 : (y 0).val < 1 := (y 0).isLt
  have y1 : (y 1).val < 2304 := (y 1).isLt
  have y2 : (y 2).val < 128 := (y 2).isLt
  have i0 : ((win0_9.rect t).emb y 0).val = t.val / 4 := by
    show win0_9.index t 0 * 1 + 1 * (y 0).val = _
    omega
  have i1 : ((win0_9.rect t).emb y 1).val = (y 1).val := by
    show win0_9.index t 1 * 2304 + 1 * (y 1).val = _
    omega
  have i2 : ((win0_9.rect t).emb y 2).val = t.val % 4 * 128 + (y 2).val := by
    show win0_9.index t 2 * 128 + 1 * (y 2).val = _
    omega
  unfold result
  congr 1
  · apply Fin.ext
    show t.val = ((win0_9.rect t).emb y 0).val * 4 + ((win0_9.rect t).emb y 2).val / 128
    omega
  · funext a
    match a with
    | ⟨0, _⟩ => apply Fin.ext; show (y 0).val = 0; omega
    | ⟨1, _⟩ => apply Fin.ext; exact i1.symm
    | ⟨2, _⟩ => apply Fin.ext; show (y 2).val = ((win0_9.rect t).emb y 2).val % 128; omega

/-- The result array at the end. -/
theorem final_o (c : Dev nD) : (dats m 0 c).arrAt 9 cfg0.N = result m c :=
  (dats m 0 c).arrAt_eq_of_cover 9 (result m c) (flushed_eq m c) fun i =>
    ⟨pt (i 0) (hd (i 2)), flush0_9 _, by
      show i ∈ ((View.whole main_v6).slice (win0_9.rect (pt (i 0) (hd (i 2))))).set
      rw [View.set_slice_whole, Rect.mem_set_unit]
      intro a
      obtain ⟨e0, e1, e2⟩ := idx9 (pt (i 0) (hd (i 2)))
      have hv : (pt (i 0) (hd (i 2))).val = (i 0).val * 4 + (i 2).val / 128 := rfl
      have h0 : (i 0).val < 8 := (i 0).isLt
      have h1 : (i 1).val < 2304 := (i 1).isLt
      have h2 : (i 2).val < 512 := (i 2).isLt
      match a with
      | ⟨0, _⟩ => show win0_9.index (pt (i 0) (hd (i 2))) 0 * 1 ≤ (i 0).val ∧ (i 0).val < win0_9.index (pt (i 0) (hd (i 2))) 0 * 1 + 1
                  omega
      | ⟨1, _⟩ => show win0_9.index (pt (i 0) (hd (i 2))) 1 * 2304 ≤ (i 1).val ∧ (i 1).val < win0_9.index (pt (i 0) (hd (i 2))) 1 * 2304 + 2304
                  omega
      | ⟨2, _⟩ => show win0_9.index (pt (i 0) (hd (i 2))) 2 * 128 ≤ (i 2).val ∧ (i 2).val < win0_9.index (pt (i 0) (hd (i 2))) 2 * 128 + 128
                  omega⟩

/-- The run, read: the result array named, the arguments unchanged. -/
theorem run : θ_run defs (onTc (τ := τ) (main (F := F))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 9).trans (final_o m c), h.2.1 c⟩)
    (θ_run_and ((θ_run defs _ _).mono (fun _ h => h.1) (run_main_quiescent m ρ)) (frame m ρ))

/-! ## What the inputs' blocks hold -/

theorem idx0 : ∀ t : Fin cfg0.N, win0_0.index t 0 = t.val / 4 ∧ win0_0.index t 1 = 0 ∧ win0_0.index t 2 = 12 + t.val % 4 := by decide +kernel
/-- Input block 0, position by position. -/
theorem iblk0 (c : Dev nD) (b : Fin 8) (h : Fin 4) (s : Fin 2304) (d : Fin 128) :
    (iblk m c 0 (pt b h) : Vec F S1x2304x128 .f32) (ix3 0 s d) = m ((c : Thread nD τ).loc main_arg0) (ix3 b s ⟨1536 + 128 * h.val + d.val, by omega⟩) := by
  rw [← V_main_arg0 m c]
  show V m c main_arg0 ((win0_0.rect (pt b h)).emb (ix3 0 s d)) = _
  obtain ⟨e0, e1, e2⟩ := idx0 (pt b h)
  have hv : (pt b h).val = b.val * 4 + h.val := rfl
  congr 1
  funext a
  match a with
  | ⟨0, _⟩ => apply Fin.ext; show win0_0.index (pt b h) 0 * 1 + 1 * 0 = b.val; omega
  | ⟨1, _⟩ => apply Fin.ext; show win0_0.index (pt b h) 1 * 2304 + 1 * s.val = s.val; omega
  | ⟨2, _⟩ => apply Fin.ext; show win0_0.index (pt b h) 2 * 128 + 1 * d.val = 1536 + 128 * h.val + d.val; omega
theorem idx1 : ∀ t : Fin cfg0.N, win0_1.index t 0 = t.val / 4 ∧ win0_1.index t 1 = 0 ∧ win0_1.index t 2 = 16 + t.val % 4 := by decide +kernel
/-- Input block 1, position by position. -/
theorem iblk1 (c : Dev nD) (b : Fin 8) (h : Fin 4) (s : Fin 2304) (d : Fin 128) :
    (iblk m c 1 (pt b h) : Vec F S1x2304x128 .f32) (ix3 0 s d) = m ((c : Thread nD τ).loc main_arg0) (ix3 b s ⟨2048 + 128 * h.val + d.val, by omega⟩) := by
  rw [← V_main_arg0 m c]
  show V m c main_arg0 ((win0_1.rect (pt b h)).emb (ix3 0 s d)) = _
  obtain ⟨e0, e1, e2⟩ := idx1 (pt b h)
  have hv : (pt b h).val = b.val * 4 + h.val := rfl
  congr 1
  funext a
  match a with
  | ⟨0, _⟩ => apply Fin.ext; show win0_1.index (pt b h) 0 * 1 + 1 * 0 = b.val; omega
  | ⟨1, _⟩ => apply Fin.ext; show win0_1.index (pt b h) 1 * 2304 + 1 * s.val = s.val; omega
  | ⟨2, _⟩ => apply Fin.ext; show win0_1.index (pt b h) 2 * 128 + 1 * d.val = 2048 + 128 * h.val + d.val; omega
theorem idx2 : ∀ t : Fin cfg0.N, win0_2.index t 0 = t.val / 4 ∧ win0_2.index t 1 = 0 ∧ win0_2.index t 2 = 20 + t.val % 4 := by decide +kernel
/-- Input block 2, position by position. -/
theorem iblk2 (c : Dev nD) (b : Fin 8) (h : Fin 4) (s : Fin 2304) (d : Fin 128) :
    (iblk m c 2 (pt b h) : Vec F S1x2304x128 .f32) (ix3 0 s d) = m ((c : Thread nD τ).loc main_arg0) (ix3 b s ⟨2560 + 128 * h.val + d.val, by omega⟩) := by
  rw [← V_main_arg0 m c]
  show V m c main_arg0 ((win0_2.rect (pt b h)).emb (ix3 0 s d)) = _
  obtain ⟨e0, e1, e2⟩ := idx2 (pt b h)
  have hv : (pt b h).val = b.val * 4 + h.val := rfl
  congr 1
  funext a
  match a with
  | ⟨0, _⟩ => apply Fin.ext; show win0_2.index (pt b h) 0 * 1 + 1 * 0 = b.val; omega
  | ⟨1, _⟩ => apply Fin.ext; show win0_2.index (pt b h) 1 * 2304 + 1 * s.val = s.val; omega
  | ⟨2, _⟩ => apply Fin.ext; show win0_2.index (pt b h) 2 * 128 + 1 * d.val = 2560 + 128 * h.val + d.val; omega
theorem idx3 : ∀ t : Fin cfg0.N, win0_3.index t 0 = t.val / 4 ∧ win0_3.index t 1 = 0 ∧ win0_3.index t 2 = 24 + t.val % 4 := by decide +kernel
/-- Input block 3, position by position. -/
theorem iblk3 (c : Dev nD) (b : Fin 8) (h : Fin 4) (s : Fin 2304) (d : Fin 128) :
    (iblk m c 3 (pt b h) : Vec F S1x2304x128 .f32) (ix3 0 s d) = m ((c : Thread nD τ).loc main_arg0) (ix3 b s ⟨3072 + 128 * h.val + d.val, by omega⟩) := by
  rw [← V_main_arg0 m c]
  show V m c main_arg0 ((win0_3.rect (pt b h)).emb (ix3 0 s d)) = _
  obtain ⟨e0, e1, e2⟩ := idx3 (pt b h)
  have hv : (pt b h).val = b.val * 4 + h.val := rfl
  congr 1
  funext a
  match a with
  | ⟨0, _⟩ => apply Fin.ext; show win0_3.index (pt b h) 0 * 1 + 1 * 0 = b.val; omega
  | ⟨1, _⟩ => apply Fin.ext; show win0_3.index (pt b h) 1 * 2304 + 1 * s.val = s.val; omega
  | ⟨2, _⟩ => apply Fin.ext; show win0_3.index (pt b h) 2 * 128 + 1 * d.val = 3072 + 128 * h.val + d.val; omega
theorem idx4 : ∀ t : Fin cfg0.N, win0_4.index t 0 = t.val / 4 ∧ win0_4.index t 1 = 0 ∧ win0_4.index t 2 = 28 + t.val % 4 := by decide +kernel
/-- Input block 4, position by position. -/
theorem iblk4 (c : Dev nD) (b : Fin 8) (h : Fin 4) (s : Fin 2304) (d : Fin 128) :
    (iblk m c 4 (pt b h) : Vec F S1x2304x128 .f32) (ix3 0 s d) = m ((c : Thread nD τ).loc main_arg0) (ix3 b s ⟨3584 + 128 * h.val + d.val, by omega⟩) := by
  rw [← V_main_arg0 m c]
  show V m c main_arg0 ((win0_4.rect (pt b h)).emb (ix3 0 s d)) = _
  obtain ⟨e0, e1, e2⟩ := idx4 (pt b h)
  have hv : (pt b h).val = b.val * 4 + h.val := rfl
  congr 1
  funext a
  match a with
  | ⟨0, _⟩ => apply Fin.ext; show win0_4.index (pt b h) 0 * 1 + 1 * 0 = b.val; omega
  | ⟨1, _⟩ => apply Fin.ext; show win0_4.index (pt b h) 1 * 2304 + 1 * s.val = s.val; omega
  | ⟨2, _⟩ => apply Fin.ext; show win0_4.index (pt b h) 2 * 128 + 1 * d.val = 3584 + 128 * h.val + d.val; omega
theorem idx5 : ∀ t : Fin cfg0.N, win0_5.index t 0 = 0 ∧ win0_5.index t 1 = t.val % 4 := by decide +kernel
/-- Input block 5, position by position, at the array the host prefix leaves. -/
theorem iblk5 (c : Dev nD) (b : Fin 8) (h : Fin 4) (s : Fin 2) (d : Fin 128) :
    (iblk m c 5 (pt b h) : Vec F S2x128 .f32) (ix2 s d) = V m c main_v0 (ix2 s ⟨128 * h.val + d.val, by omega⟩) := by
  show V m c main_v0 ((win0_5.rect (pt b h)).emb (ix2 s d)) = _
  obtain ⟨e0, e1⟩ := idx5 (pt b h)
  have hv : (pt b h).val = b.val * 4 + h.val := rfl
  congr 1
  funext a
  match a with
  | ⟨0, _⟩ => apply Fin.ext; show win0_5.index (pt b h) 0 * 2 + 1 * s.val = s.val; omega
  | ⟨1, _⟩ => apply Fin.ext; show win0_5.index (pt b h) 1 * 128 + 1 * d.val = 128 * h.val + d.val; omega
theorem idx6 : ∀ t : Fin cfg0.N, win0_6.index t 0 = 0 ∧ win0_6.index t 1 = t.val % 4 := by decide +kernel
/-- Input block 6, position by position, at the array the host prefix leaves. -/
theorem iblk6 (c : Dev nD) (b : Fin 8) (h : Fin 4) (s : Fin 2) (d : Fin 128) :
    (iblk m c 6 (pt b h) : Vec F S2x128 .f32) (ix2 s d) = V m c main_v2 (ix2 s ⟨128 * h.val + d.val, by omega⟩) := by
  show V m c main_v2 ((win0_6.rect (pt b h)).emb (ix2 s d)) = _
  obtain ⟨e0, e1⟩ := idx6 (pt b h)
  have hv : (pt b h).val = b.val * 4 + h.val := rfl
  congr 1
  funext a
  match a with
  | ⟨0, _⟩ => apply Fin.ext; show win0_6.index (pt b h) 0 * 2 + 1 * s.val = s.val; omega
  | ⟨1, _⟩ => apply Fin.ext; show win0_6.index (pt b h) 1 * 128 + 1 * d.val = 128 * h.val + d.val; omega
theorem idx7 : ∀ t : Fin cfg0.N, win0_7.index t 0 = 0 ∧ win0_7.index t 1 = t.val % 4 := by decide +kernel
/-- Input block 7, position by position, at the array the host prefix leaves. -/
theorem iblk7 (c : Dev nD) (b : Fin 8) (h : Fin 4) (s : Fin 2) (d : Fin 128) :
    (iblk m c 7 (pt b h) : Vec F S2x128 .f32) (ix2 s d) = V m c main_v4 (ix2 s ⟨128 * h.val + d.val, by omega⟩) := by
  show V m c main_v4 ((win0_7.rect (pt b h)).emb (ix2 s d)) = _
  obtain ⟨e0, e1⟩ := idx7 (pt b h)
  have hv : (pt b h).val = b.val * 4 + h.val := rfl
  congr 1
  funext a
  match a with
  | ⟨0, _⟩ => apply Fin.ext; show win0_7.index (pt b h) 0 * 2 + 1 * s.val = s.val; omega
  | ⟨1, _⟩ => apply Fin.ext; show win0_7.index (pt b h) 1 * 128 + 1 * d.val = 128 * h.val + d.val; omega
theorem idx8 : ∀ t : Fin cfg0.N, win0_8.index t 0 = 0 ∧ win0_8.index t 1 = 0 := by decide +kernel
/-- Input block 8, position by position, at the array the host prefix leaves. -/
theorem iblk8 (c : Dev nD) (b : Fin 8) (h : Fin 4) (s : Fin 1) (d : Fin 128) :
    (iblk m c 8 (pt b h) : Vec F S1x128 .f32) (ix2 s d) = V m c main_v5 (ix2 s d) := by
  show V m c main_v5 ((win0_8.rect (pt b h)).emb (ix2 s d)) = _
  obtain ⟨e0, e1⟩ := idx8 (pt b h)
  congr 1
  funext a
  match a with
  | ⟨0, _⟩ => apply Fin.ext; show win0_8.index (pt b h) 0 * 1 + 1 * s.val = s.val; omega
  | ⟨1, _⟩ => apply Fin.ext; show win0_8.index (pt b h) 1 * 128 + 1 * d.val = d.val; omega

/-- The host prefix's arrays. -/
theorem V_v0 (c : Dev nD) : V m c main_v0 = Host.log (m ((c : Thread nD τ).loc main_arg1)) := rfl
theorem V_v2 (c : Dev nD) : V m c main_v2 = Host.log1p (Host.negf (m ((c : Thread nD τ).loc main_arg1))) := rfl
theorem V_v4 (c : Dev nD) : V m c main_v4 = subf (broadcastInDim S2x512 ![] bcast_S_S2x512 (constant S_ .f32 0x3F800000#32)) (m ((c : Thread nD τ).loc main_arg1)) := rfl
theorem V_v5 (c : Dev nD) : V m c main_v5 = shapeCast S1x128 (m ((c : Thread nD τ).loc main_arg2)) shapeCasts_S128_S1x128 := rfl

end Cert.KernelIdeal.Run

end
-- ==== Proof.Same.lean ====
/- The kernel printed for the machine's formats and the one printed for the extended reals are the same program. -/
module
public import proofs.«01_k».proof.Proof.Whole
public import proofs.«01_k».proof.Proof.Gen.Kernel
@[expose] public section
noncomputable section
namespace Cert.Same
open Idealize.ShloMosaic Idealize.ShloMosaic.TcCoe Idealize.SL.Sem
variable {F : FTy → Type} [FloatOps F]

/-- Their bodies are the same. -/
theorem cc (i : Kernel.grid0.Coords) (arg2 : Memref Kernel.sig .tc .vmem Kernel.S1x2304x128 .f32) (harg2 : arg2.IsWhole) (arg3 : Memref Kernel.sig .tc .vmem Kernel.S1x2304x128 .f32) (harg3 : arg3.IsWhole) (arg4 : Memref Kernel.sig .tc .vmem Kernel.S1x2304x128 .f32) (harg4 : arg4.IsWhole) (arg5 : Memref Kernel.sig .tc .vmem Kernel.S1x2304x128 .f32) (harg5 : arg5.IsWhole) (arg6 : Memref Kernel.sig .tc .vmem Kernel.S1x2304x128 .f32) (harg6 : arg6.IsWhole) (arg7 : Memref Kernel.sig .tc .vmem Kernel.S2x128 .f32) (harg7 : arg7.IsWhole) (arg8 : Memref Kernel.sig .tc .vmem Kernel.S2x128 .f32) (harg8 : arg8.IsWhole) (arg9 : Memref Kernel.sig .tc .vmem Kernel.S2x128 .f32) (harg9 : arg9.IsWhole) (arg10 : Memref Kernel.sig .tc .vmem Kernel.S1x128 .f32) (harg10 : arg10.IsWhole) (arg11 : Memref Kernel.sig .tc .vmem Kernel.S1x2304x128 .bf16) (harg11 : arg11.IsWhole) (arg12 : Memref Kernel.sig .tc .vmem Kernel.S2x2304x128 .bf16) (harg12 : arg12.IsWhole) (arg13 : Memref Kernel.sig .tc .vmem Kernel.S72x128x128 .f32) (harg13 : arg13.IsWhole) (arg14 : Memref Kernel.sig .tc .vmem Kernel.S2x2304x128 .f32) (harg14 : arg14.IsWhole) (arg15 : Memref Kernel.sig .tc .vmem Kernel.S72x8x128 .f32) (harg15 : arg15.IsWhole) (arg16 : Memref Kernel.sig .tc .vmem Kernel.S2304x128 .f32) (harg16 : arg16.IsWhole) (arg17 : Memref Kernel.sig .tc .vmem Kernel.S2304x128 .f32) (harg17 : arg17.IsWhole) : Cert.Kernel.cc0__hgrn_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = Cert.KernelIdeal.cc0__hgrn_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := rfl

/-- Their body tables are the same. -/
theorem d0 : (Cert.Kernel.defs₀ (F := F)) = (Cert.KernelIdeal.defs₀ (F := F)) := by
  unfold Cert.Kernel.defs₀ Cert.KernelIdeal.defs₀
  refine congrArg Defs.onTc (funext fun l => funext fun a => ?_)
  match l, a with
  | 0, (t, s) => exact cc _ _ _ _ _ _ _ _ _ _ _ _ _ _ _ _ _ _ _ _ _ _ _ _ _ _ _ _ _ _ _ _ _
/-- Their main programs are the same. -/
theorem mm : (Cert.Kernel.main (F := F)) = (Cert.KernelIdeal.main (F := F)) := rfl

/-- What the one's runs end in, the other's do. -/
theorem frame (m : (ℓ : Loc Kernel.nD Kernel.τ Kernel.sig) → Buf (Elt F) ℓ) (ρ : Dev Kernel.nD → PrngReg) :
    θ_run (Cert.Kernel.defs (F := F)) (onTc (τ := Kernel.τ) (Cert.Kernel.main (F := F))) ⟨m, fun _ => 0, ρ⟩ (fun r => (∀ c : Dev Kernel.nD,
      r.2.mem ((c.tc : Thread Kernel.nD Kernel.τ).loc Kernel.main_arg0) = m ((c.tc : Thread Kernel.nD Kernel.τ).loc Kernel.main_arg0)
      ∧ r.2.mem ((c.tc : Thread Kernel.nD Kernel.τ).loc Kernel.main_arg1) = m ((c.tc : Thread Kernel.nD Kernel.τ).loc Kernel.main_arg1)
      ∧ r.2.mem ((c.tc : Thread Kernel.nD Kernel.τ).loc Kernel.main_arg2) = m ((c.tc : Thread Kernel.nD Kernel.τ).loc Kernel.main_arg2))
      ∧ r.2.sem = fun _ => 0) := by
  unfold Cert.Kernel.defs
  rw [mm, d0]
  exact Cert.KernelIdeal.Run.frame m ρ

end Cert.Same

end
-- ==== Proof.MathReal.lean ====
/- The scalar mathematics: the log gate, the key's gate, and the decay between two positions, over the extended reals. -/
module

public import Idealize.ShloMosaic.PureOps
public import Idealize.ShloMosaic.Lib.Pointwise

@[expose] public section

noncomputable section

namespace Cert.Hgrn

open Idealize.ShloMosaic

/-- `log (1 + e^(-|z|))`. -/
def sp (z : EReal) : EReal := Ideal.log1p (Ideal.exp (0 - max z (-z)))

/-- The logarithm of the forget gate, from the logit and the logarithms of the lower bound and of its complement. -/
def lg (z l m : EReal) : EReal :=
  max l (m + (min z 0 - sp z)) + Ideal.log1p (Ideal.exp (0 - max (l - (m + (min z 0 - sp z))) (-(l - (m + (min z 0 - sp z))))))

/-- The key: one minus the forget gate, as the kernel computes it. -/
def ky (z o : EReal) : EReal :=
  o * Ideal.div (if 0 < z then Ideal.exp (0 - max z (-z)) else 1) (1 + Ideal.exp (0 - max z (-z)))

theorem log1p_coe {x : ℝ} (h : -1 < x) : Ideal.log1p (x : EReal) = ((Real.log (1 + x) : ℝ) : EReal) := by
  unfold Ideal.log1p
  rw [show (1 : EReal) + (x : EReal) = ((1 + x : ℝ) : EReal) by rw [EReal.coe_add]; rfl]
  show (if 1 + x ≤ 0 then (⊥ : EReal) else (Real.log (1 + x) : EReal)) = _
  rw [if_neg (by linarith)]

theorem log1p_zero : Ideal.log1p (0 : EReal) = 0 := by
  have h := log1p_coe (x := 0) (by norm_num)
  simpa using h

theorem coe_max' (a b : ℝ) : ((max a b : ℝ) : EReal) = max (a : EReal) (b : EReal) :=
  EReal.coe_strictMono.monotone.map_max

theorem coe_min' (a b : ℝ) : ((min a b : ℝ) : EReal) = min (a : EReal) (b : EReal) :=
  EReal.coe_strictMono.monotone.map_min

theorem max_neg_coe (r : ℝ) : max (r : EReal) (-(r : EReal)) = ((|r| : ℝ) : EReal) := by
  rw [← EReal.coe_neg, abs_eq_max_neg]
  exact (coe_max' r (-r)).symm

theorem zero_sub_coe (r : ℝ) : (0 : EReal) - (r : EReal) = ((-r : ℝ) : EReal) := by
  rw [zero_sub, EReal.coe_neg]

theorem sp_coe (r : ℝ) : sp (r : EReal) = ((Real.log (1 + Real.exp (-|r|)) : ℝ) : EReal) := by
  unfold sp
  rw [max_neg_coe, zero_sub_coe, Ideal.exp_coe, log1p_coe (by have := Real.exp_pos (-|r|); linarith)]

theorem sp_top : sp ⊤ = 0 := by
  unfold sp
  rw [show max (⊤ : EReal) (-⊤) = ⊤ from max_eq_left le_top, zero_sub, EReal.neg_top, Ideal.exp_bot, log1p_zero]

theorem sp_bot : sp ⊥ = 0 := by
  unfold sp
  rw [EReal.neg_bot, show max (⊥ : EReal) ⊤ = ⊤ from max_eq_right bot_le, zero_sub, EReal.neg_top, Ideal.exp_bot, log1p_zero]

/-- `log (1 + e^(-|z|))` is a nonnegative real at every `z`. -/
theorem sp_real (z : EReal) : ∃ r : ℝ, 0 ≤ r ∧ sp z = (r : EReal) := by
  induction z using EReal.rec with
  | bot => exact ⟨0, le_rfl, sp_bot⟩
  | top => exact ⟨0, le_rfl, sp_top⟩
  | coe r => exact ⟨_, Real.log_nonneg (by have := Real.exp_pos (-|r|); linarith), sp_coe r⟩

/-- The log of the sigmoid, two ways. -/
theorem logsig_eq (z : EReal) : min z 0 - sp z = -(max (-z) 0 + sp z) := by
  obtain ⟨r, -, h⟩ := sp_real z
  rw [h, EReal.neg_add (Or.inr (EReal.coe_ne_top r)) (Or.inr (EReal.coe_ne_bot r))]
  congr 1
  rcases le_total z 0 with hz | hz
  · rw [min_eq_left hz, max_eq_left (by rw [← neg_zero (G := EReal)]; exact EReal.neg_le_neg_iff.2 hz), neg_neg]
  · rw [min_eq_right hz, max_eq_right (by rw [← neg_zero (G := EReal)]; exact EReal.neg_le_neg_iff.2 hz), neg_zero]

/-- The absolute value does not see the sign. -/
theorem sp_neg (z : EReal) : sp (-z) = sp z := by
  unfold sp
  rw [neg_neg, max_comm]

/-- The log of the sigmoid is a real, at most zero, unless the logit is `-∞`. -/
theorem logsig_real {z : EReal} (hz : z ≠ ⊥) : ∃ s : ℝ, s ≤ 0 ∧ min z 0 - sp z = (s : EReal) := by
  induction z using EReal.rec with
  | bot => exact absurd rfl hz
  | top => exact ⟨0, le_rfl, by rw [sp_top, min_eq_right le_top]; simp⟩
  | coe r =>
    refine ⟨min r 0 - Real.log (1 + Real.exp (-|r|)), ?_, ?_⟩
    · have h1 := Real.log_nonneg (x := 1 + Real.exp (-|r|)) (by have := Real.exp_pos (-|r|); linarith)
      have h2 := min_le_right r 0
      linarith
    · rw [sp_coe, EReal.coe_sub, coe_min']
      rfl

/-- `max a b + log (1 + e^(-|a - b|)) = log (e^a + e^b)`. -/
theorem lse (a b : ℝ) : max a b + Real.log (1 + Real.exp (-|a - b|)) = Real.log (Real.exp a + Real.exp b) := by
  have key : ∀ x y : ℝ, y ≤ x → x + Real.log (1 + Real.exp (-|x - y|)) = Real.log (Real.exp x + Real.exp y) := by
    intro x y h
    rw [abs_of_nonneg (sub_nonneg.2 h)]
    have e : Real.exp x + Real.exp y = Real.exp x * (1 + Real.exp (-(x - y))) := by
      rw [mul_add, mul_one, ← Real.exp_add]; congr 2; ring
    rw [e, Real.log_mul (Real.exp_pos x).ne' (by have := Real.exp_pos (-(x - y)); linarith), Real.log_exp]
  rcases le_total b a with h | h
  · rw [max_eq_left h, key a b h]
  · rw [max_eq_right h, abs_sub_comm, key b a h, add_comm]

/-- THE LOG GATE IS A REAL AT MOST ZERO, for a lower bound in `[0, 1]` and a logit above `-∞`. -/
theorem lg_real {z b : EReal} (hz : z ≠ ⊥) (h0 : 0 ≤ b) (h1 : b ≤ 1) :
    ∃ r : ℝ, r ≤ 0 ∧ lg z (Ideal.log b) (Ideal.log1p (-b)) = (r : EReal) := by
  obtain ⟨s, hs, es⟩ := logsig_real hz
  unfold lg
  rw [es]
  lift b to ℝ using ⟨fun h => by rw [h] at h1; exact absurd h1 (by decide), fun h => by rw [h] at h0; exact absurd h0 (by decide)⟩
  have h0' : 0 ≤ b := by exact_mod_cast h0
  have h1' : b ≤ 1 := by exact_mod_cast h1
  rw [← EReal.coe_neg]
  rcases h0'.eq_or_lt with rfl | hb
  · refine ⟨s, hs, ?_⟩
    have hl : Ideal.log ((0 : ℝ) : EReal) = ⊥ := if_pos le_rfl
    rw [hl, neg_zero, log1p_coe (by norm_num)]
    simp only [add_zero, Real.log_one, EReal.coe_zero, zero_add]
    rw [max_eq_right bot_le, EReal.bot_sub, EReal.neg_bot, max_eq_right bot_le, zero_sub, EReal.neg_top, Ideal.exp_bot, log1p_zero, add_zero]
  rcases h1'.eq_or_lt with rfl | hb1
  · refine ⟨0, le_rfl, ?_⟩
    have hl : Ideal.log ((1 : ℝ) : EReal) = ((0 : ℝ) : EReal) := by
      show (if (1 : ℝ) ≤ 0 then (⊥ : EReal) else (Real.log 1 : EReal)) = _
      rw [if_neg (by norm_num), Real.log_one]
    have hm : Ideal.log1p ((-1 : ℝ) : EReal) = ⊥ := by
      unfold Ideal.log1p
      rw [show (1 : EReal) + ((-1 : ℝ) : EReal) = ((0 : ℝ) : EReal) by
        rw [show (1 : EReal) = ((1 : ℝ) : EReal) from rfl, ← EReal.coe_add]; norm_num]
      exact if_pos le_rfl
    rw [hl, hm, EReal.bot_add, max_eq_left bot_le, EReal.coe_zero, show (0 : EReal) - ⊥ = ⊤ by rw [zero_sub, EReal.neg_bot], max_eq_left le_top, zero_sub, EReal.neg_top,
      Ideal.exp_bot, log1p_zero, add_zero]
  · have hl : Ideal.log ((b : ℝ) : EReal) = ((Real.log b : ℝ) : EReal) := if_neg (not_le.2 hb)
    rw [hl, log1p_coe (by linarith), ← EReal.coe_add, ← EReal.coe_sub, max_neg_coe, zero_sub_coe, Ideal.exp_coe,
      log1p_coe (by have := Real.exp_pos (-|Real.log b - (Real.log (1 + -b) + s)|); linarith), ← coe_max', ← EReal.coe_add]
    refine ⟨_, ?_, rfl⟩
    rw [lse, Real.exp_add, Real.exp_log hb, Real.exp_log (by linarith)]
    have hexp : Real.exp s ≤ 1 := Real.exp_le_one_iff.2 hs
    have hpos := Real.exp_pos s
    refine Real.log_nonpos (by nlinarith) (by nlinarith)

/-- The key's gate: `1 / (1 + e^z)`, whichever sign the logit has. -/
theorem ky_eq (z o : EReal) : ky z o = o * Ideal.div 1 (1 + Ideal.exp z) := by
  unfold ky
  congr 1
  induction z using EReal.rec with
  | bot =>
    rw [if_neg (by decide), EReal.neg_bot, max_eq_right bot_le, zero_sub, EReal.neg_top]
  | top =>
    rw [if_pos (by decide), max_eq_left le_top, zero_sub, EReal.neg_top, Ideal.exp_bot, Ideal.exp_top, add_zero,
      show (1 : EReal) + ⊤ = ⊤ from EReal.add_top_of_ne_bot (EReal.coe_ne_bot 1)]
    simp [Ideal.div]
  | coe r =>
    rw [max_neg_coe, zero_sub_coe, Ideal.exp_coe, Ideal.exp_coe]
    have one : (1 : EReal) = ((1 : ℝ) : EReal) := rfl
    have hp := Real.exp_pos r
    have hn := Real.exp_pos (-|r|)
    have ne1 : ((1 + Real.exp (-|r|) : ℝ) : EReal) ≠ 0 := by
      rw [← EReal.coe_zero]; exact fun h => by have := EReal.coe_injective h; linarith
    have ne2 : ((1 + Real.exp r : ℝ) : EReal) ≠ 0 := by
      rw [← EReal.coe_zero]; exact fun h => by have := EReal.coe_injective h; linarith
    rw [one, ← EReal.coe_add, ← EReal.coe_add]
    unfold Ideal.div
    rw [if_neg ne1, if_neg ne2]
    by_cases h : 0 < r
    · rw [if_pos (by exact_mod_cast h), abs_of_pos h, ← EReal.coe_inv, ← EReal.coe_inv, ← EReal.coe_mul, ← EReal.coe_mul]
      congr 1
      rw [Real.exp_neg]
      field_simp
      ring
    · rw [if_neg (by exact_mod_cast h), abs_of_nonpos (not_lt.1 h), neg_neg]

/-- Two decays to a reference between them multiply to the decay from one to the other. -/
theorem dec_mul {a r b : ℝ} (h : a ≤ r) (h' : r ≤ b) :
    Ideal.exp (0 - max ((a : EReal) - (r : EReal)) (-((a : EReal) - (r : EReal)))) * Ideal.exp (0 - max ((b : EReal) - (r : EReal)) (-((b : EReal) - (r : EReal))))
      = Ideal.exp ((a : EReal) - (b : EReal)) := by
  rw [← EReal.coe_sub, ← EReal.coe_sub, ← EReal.coe_sub, max_neg_coe, max_neg_coe, zero_sub_coe, zero_sub_coe, Ideal.exp_coe, Ideal.exp_coe,
    Ideal.exp_coe, ← EReal.coe_mul, ← Real.exp_add, abs_of_nonpos (by linarith), abs_of_nonneg (by linarith)]
  congr 2
  ring

/-- The decay from a position to itself is one. -/
theorem dec_self (a : ℝ) : Ideal.exp ((a : EReal) - (a : EReal)) = 1 := by
  rw [← EReal.coe_sub, sub_self, Ideal.exp_coe, Real.exp_zero]; rfl

end Cert.Hgrn

end
-- ==== Proof.Gates.lean ====
/- The kernel's log gates, keys and running sums of the log gates, read at an entry. -/
module

public import proofs.«01_k».proof.Proof.Parts
public import proofs.«01_k».proof.Proof.MathReal
public import Idealize.ShloMosaic.Lib.Pointwise

@[expose] public section

set_option maxRecDepth 16384

noncomputable section

namespace Cert.KernelIdeal.Run

open Idealize.ShloMosaic
open Cert.KernelIdeal Cert.KernelIdeal.Gen Cert.Hgrn

/-- The forward log gate of position `t` of a chunk, lane `d`. -/
theorem gateF_at (z : Vec Ideal S1x64x128 .f32) (l m : Vec Ideal S1x128 .f32) (t : Fin 64) (d : Fin 128) :
    k0_pay7 z l m (ix2 t d) = lg (z (ix3 0 t d)) (l (ix2 0 d)) (m (ix2 0 d)) := by
  pointwise [k0_pay7, k0_pay5, k0_pay6]
  rw [if_neg (fun h => h rfl)]
  rfl

theorem keyF_at (z : Vec Ideal S1x64x128 .f32) (o : Vec Ideal S1x128 .f32) (t : Fin 64) (d : Fin 128) :
    kF z o (ix2 t d) = ky (z (ix3 0 t d)) (o (ix2 0 d)) := by
  pointwise [kF, k0_pay8, k0_pay5, k0_pay6]
  rfl

theorem keyB_at (z : Vec Ideal S1x64x128 .f32) (o : Vec Ideal S1x128 .f32) (t : Fin 64) (d : Fin 128) :
    kB z o (ix2 t d) = ky (z (ix3 0 t d)) (o (ix2 0 d)) := by
  pointwise [kB, k0_pay29, k0_pay24, k0_pay25]
  rfl

theorem qs_at (q : Vec Ideal S1x64x128 .f32) (t : Fin 64) (d : Fin 128) :
    k0_pay2 q (ix2 t d) = q (ix3 0 t d) * Ideal.logistic (q (ix3 0 t d)) := by
  pointwise [k0_pay2]

/-! ## Running sums by doubling -/

/-- The sum over the `k` positions that end at `t`. -/
def win (w : Fin 64 → EReal) (k t : ℕ) : EReal := ∑ u : Fin 64, if u.val ≤ t ∧ t < u.val + k then w u else 0

/-- The sum over the `k` positions that begin at `t`. -/
def wiu (w : Fin 64 → EReal) (k t : ℕ) : EReal := ∑ u : Fin 64, if t ≤ u.val ∧ u.val < t + k then w u else 0

theorem win_step (w : Fin 64 → EReal) (k k' t : ℕ) (hk : k' = k + k) :
    win w k' t = win w k t + if k ≤ t then win w k (t - k) else 0 := by
  subst hk
  unfold win
  by_cases h : k ≤ t
  · rw [if_pos h, ← Finset.sum_add_distrib]
    refine Finset.sum_congr rfl fun u _ => ?_
    by_cases h1 : u.val ≤ t ∧ t < u.val + k
    · rw [if_pos h1, if_pos (by omega), if_neg (by omega), add_zero]
    · rw [if_neg h1, zero_add]
      exact if_congr (by omega) rfl rfl
  · rw [if_neg h, add_zero]
    exact Finset.sum_congr rfl fun u _ => if_congr (by omega) rfl rfl

theorem wiu_step (w : Fin 64 → EReal) (k k' t : ℕ) (hk : k' = k + k) :
    wiu w k' t = wiu w k t + if t + k < 64 then wiu w k (t + k) else 0 := by
  subst hk
  unfold wiu
  by_cases h : t + k < 64
  · rw [if_pos h, ← Finset.sum_add_distrib]
    refine Finset.sum_congr rfl fun u _ => ?_
    by_cases h1 : t ≤ u.val ∧ u.val < t + k
    · rw [if_pos h1, if_pos (by omega), if_neg (by omega), add_zero]
    · rw [if_neg h1, zero_add]
      exact if_congr (by omega) rfl rfl
  · rw [if_neg h, add_zero]
    exact Finset.sum_congr rfl fun u _ => if_congr (by omega) rfl rfl

theorem win_one (w : Fin 64 → EReal) (t : Fin 64) : win w 1 t.val = w t := by
  unfold win
  rw [Finset.sum_eq_single t (fun u _ hu => if_neg (fun h => hu (Fin.ext (by omega)))) (fun h => absurd (Finset.mem_univ _) h),
    if_pos (by omega)]

theorem wiu_one (w : Fin 64 → EReal) (t : Fin 64) : wiu w 1 t.val = w t := by
  unfold wiu
  rw [Finset.sum_eq_single t (fun u _ hu => if_neg (fun h => hu (Fin.ext (by omega)))) (fun h => absurd (Finset.mem_univ _) h),
    if_pos (by omega)]

theorem win_all (w : Fin 64 → EReal) (t : Fin 64) : win w 64 t.val = ∑ u : Fin 64, if u ≤ t then w u else 0 :=
  Finset.sum_congr rfl fun u _ => if_congr (by rw [Fin.le_def]; omega) rfl rfl

theorem wiu_all (w : Fin 64 → EReal) (t : Fin 64) : wiu w 64 t.val = ∑ u : Fin 64, if t ≤ u then w u else 0 :=
  Finset.sum_congr rfl fun u _ => if_congr (by rw [Fin.le_def]; omega) rfl rfl

theorem sel_if {α : Type} (p : Prop) [Decidable p] (c : BitVec 1) (x y : α) (h : c = if p then 1#1 else 0#1) :
    Scalar.select c x y = if p then x else y := by
  subst h
  by_cases h : p
  · rw [if_pos h, if_pos h]; rfl
  · rw [if_neg h, if_neg h]; rfl

/-- One doubling of the running sum, forward by 1. -/
def up1 (x : FVec Ideal S64x128 .f32) : FVec Ideal S64x128 .f32 :=
  addf x (select (cmpi .sge rI (broadcast S64x128 1#32)) (dynamicRotate 0 1#32 none x rotates_S64x128_d0) (broadcast S64x128 (Scalar.ofBits .f32 0x00000000#32)))

theorem up1_at (x : FVec Ideal S64x128 .f32) (w : Fin 128 → Fin 64 → EReal) (hx : ∀ (t : Fin 64) (d : Fin 128), x (ix2 t d) = win (w d) 1 t.val)
    (t : Fin 64) (d : Fin 128) : up1 x (ix2 t d) = win (w d) 2 t.val := by
  have h : IntOp.cmpi .sge (BitVec.ofNat 32 t.val) 1#32 = if 1 ≤ t.val then 1#1 else 0#1 := by
    revert t; decide +kernel
  pointwise [up1]
  rw [sel_if _ _ _ _ h, hx, hx, win_step (w d) 1 2 t.val rfl]
  congr 1
  by_cases h' : 1 ≤ t.val
  · rw [if_pos h', if_pos h']
    congr 1
    show (t.val + 64 - 1) % 64 = _
    omega
  · rw [if_neg h', if_neg h']

/-- One doubling of the running sum, backward by 1. -/
def dn1 (x : FVec Ideal S64x128 .f32) : FVec Ideal S64x128 .f32 :=
  addf x (select (cmpi .slt rI (broadcast S64x128 63#32)) (dynamicRotate 0 63#32 none x rotates_S64x128_d0) (broadcast S64x128 (Scalar.ofBits .f32 0x00000000#32)))

theorem dn1_at (x : FVec Ideal S64x128 .f32) (w : Fin 128 → Fin 64 → EReal) (hx : ∀ (t : Fin 64) (d : Fin 128), x (ix2 t d) = wiu (w d) 1 t.val)
    (t : Fin 64) (d : Fin 128) : dn1 x (ix2 t d) = wiu (w d) 2 t.val := by
  have h : IntOp.cmpi .slt (BitVec.ofNat 32 t.val) 63#32 = if t.val + 1 < 64 then 1#1 else 0#1 := by
    revert t; decide +kernel
  pointwise [dn1]
  rw [sel_if _ _ _ _ h, hx, hx, wiu_step (w d) 1 2 t.val rfl]
  congr 1
  by_cases h' : t.val + 1 < 64
  · rw [if_pos h', if_pos h']
    congr 1
    show (t.val + 64 - 63) % 64 = _
    omega
  · rw [if_neg h', if_neg h']

/-- One doubling of the running sum, forward by 2. -/
def up2 (x : FVec Ideal S64x128 .f32) : FVec Ideal S64x128 .f32 :=
  addf x (select (cmpi .sge rI (broadcast S64x128 2#32)) (dynamicRotate 0 2#32 none x rotates_S64x128_d0) (broadcast S64x128 (Scalar.ofBits .f32 0x00000000#32)))

theorem up2_at (x : FVec Ideal S64x128 .f32) (w : Fin 128 → Fin 64 → EReal) (hx : ∀ (t : Fin 64) (d : Fin 128), x (ix2 t d) = win (w d) 2 t.val)
    (t : Fin 64) (d : Fin 128) : up2 x (ix2 t d) = win (w d) 4 t.val := by
  have h : IntOp.cmpi .sge (BitVec.ofNat 32 t.val) 2#32 = if 2 ≤ t.val then 1#1 else 0#1 := by
    revert t; decide +kernel
  pointwise [up2]
  rw [sel_if _ _ _ _ h, hx, hx, win_step (w d) 2 4 t.val rfl]
  congr 1
  by_cases h' : 2 ≤ t.val
  · rw [if_pos h', if_pos h']
    congr 1
    show (t.val + 64 - 2) % 64 = _
    omega
  · rw [if_neg h', if_neg h']

/-- One doubling of the running sum, backward by 2. -/
def dn2 (x : FVec Ideal S64x128 .f32) : FVec Ideal S64x128 .f32 :=
  addf x (select (cmpi .slt rI (broadcast S64x128 62#32)) (dynamicRotate 0 62#32 none x rotates_S64x128_d0) (broadcast S64x128 (Scalar.ofBits .f32 0x00000000#32)))

theorem dn2_at (x : FVec Ideal S64x128 .f32) (w : Fin 128 → Fin 64 → EReal) (hx : ∀ (t : Fin 64) (d : Fin 128), x (ix2 t d) = wiu (w d) 2 t.val)
    (t : Fin 64) (d : Fin 128) : dn2 x (ix2 t d) = wiu (w d) 4 t.val := by
  have h : IntOp.cmpi .slt (BitVec.ofNat 32 t.val) 62#32 = if t.val + 2 < 64 then 1#1 else 0#1 := by
    revert t; decide +kernel
  pointwise [dn2]
  rw [sel_if _ _ _ _ h, hx, hx, wiu_step (w d) 2 4 t.val rfl]
  congr 1
  by_cases h' : t.val + 2 < 64
  · rw [if_pos h', if_pos h']
    congr 1
    show (t.val + 64 - 62) % 64 = _
    omega
  · rw [if_neg h', if_neg h']

/-- One doubling of the running sum, forward by 4. -/
def up4 (x : FVec Ideal S64x128 .f32) : FVec Ideal S64x128 .f32 :=
  addf x (select (cmpi .sge rI (broadcast S64x128 4#32)) (dynamicRotate 0 4#32 none x rotates_S64x128_d0) (broadcast S64x128 (Scalar.ofBits .f32 0x00000000#32)))

theorem up4_at (x : FVec Ideal S64x128 .f32) (w : Fin 128 → Fin 64 → EReal) (hx : ∀ (t : Fin 64) (d : Fin 128), x (ix2 t d) = win (w d) 4 t.val)
    (t : Fin 64) (d : Fin 128) : up4 x (ix2 t d) = win (w d) 8 t.val := by
  have h : IntOp.cmpi .sge (BitVec.ofNat 32 t.val) 4#32 = if 4 ≤ t.val then 1#1 else 0#1 := by
    revert t; decide +kernel
  pointwise [up4]
  rw [sel_if _ _ _ _ h, hx, hx, win_step (w d) 4 8 t.val rfl]
  congr 1
  by_cases h' : 4 ≤ t.val
  · rw [if_pos h', if_pos h']
    congr 1
    show (t.val + 64 - 4) % 64 = _
    omega
  · rw [if_neg h', if_neg h']

/-- One doubling of the running sum, backward by 4. -/
def dn4 (x : FVec Ideal S64x128 .f32) : FVec Ideal S64x128 .f32 :=
  addf x (select (cmpi .slt rI (broadcast S64x128 60#32)) (dynamicRotate 0 60#32 none x rotates_S64x128_d0) (broadcast S64x128 (Scalar.ofBits .f32 0x00000000#32)))

theorem dn4_at (x : FVec Ideal S64x128 .f32) (w : Fin 128 → Fin 64 → EReal) (hx : ∀ (t : Fin 64) (d : Fin 128), x (ix2 t d) = wiu (w d) 4 t.val)
    (t : Fin 64) (d : Fin 128) : dn4 x (ix2 t d) = wiu (w d) 8 t.val := by
  have h : IntOp.cmpi .slt (BitVec.ofNat 32 t.val) 60#32 = if t.val + 4 < 64 then 1#1 else 0#1 := by
    revert t; decide +kernel
  pointwise [dn4]
  rw [sel_if _ _ _ _ h, hx, hx, wiu_step (w d) 4 8 t.val rfl]
  congr 1
  by_cases h' : t.val + 4 < 64
  · rw [if_pos h', if_pos h']
    congr 1
    show (t.val + 64 - 60) % 64 = _
    omega
  · rw [if_neg h', if_neg h']

/-- One doubling of the running sum, forward by 8. -/
def up8 (x : FVec Ideal S64x128 .f32) : FVec Ideal S64x128 .f32 :=
  addf x (select (cmpi .sge rI (broadcast S64x128 8#32)) (dynamicRotate 0 8#32 none x rotates_S64x128_d0) (broadcast S64x128 (Scalar.ofBits .f32 0x00000000#32)))

theorem up8_at (x : FVec Ideal S64x128 .f32) (w : Fin 128 → Fin 64 → EReal) (hx : ∀ (t : Fin 64) (d : Fin 128), x (ix2 t d) = win (w d) 8 t.val)
    (t : Fin 64) (d : Fin 128) : up8 x (ix2 t d) = win (w d) 16 t.val := by
  have h : IntOp.cmpi .sge (BitVec.ofNat 32 t.val) 8#32 = if 8 ≤ t.val then 1#1 else 0#1 := by
    revert t; decide +kernel
  pointwise [up8]
  rw [sel_if _ _ _ _ h, hx, hx, win_step (w d) 8 16 t.val rfl]
  congr 1
  by_cases h' : 8 ≤ t.val
  · rw [if_pos h', if_pos h']
    congr 1
    show (t.val + 64 - 8) % 64 = _
    omega
  · rw [if_neg h', if_neg h']

/-- One doubling of the running sum, backward by 8. -/
def dn8 (x : FVec Ideal S64x128 .f32) : FVec Ideal S64x128 .f32 :=
  addf x (select (cmpi .slt rI (broadcast S64x128 56#32)) (dynamicRotate 0 56#32 none x rotates_S64x128_d0) (broadcast S64x128 (Scalar.ofBits .f32 0x00000000#32)))

theorem dn8_at (x : FVec Ideal S64x128 .f32) (w : Fin 128 → Fin 64 → EReal) (hx : ∀ (t : Fin 64) (d : Fin 128), x (ix2 t d) = wiu (w d) 8 t.val)
    (t : Fin 64) (d : Fin 128) : dn8 x (ix2 t d) = wiu (w d) 16 t.val := by
  have h : IntOp.cmpi .slt (BitVec.ofNat 32 t.val) 56#32 = if t.val + 8 < 64 then 1#1 else 0#1 := by
    revert t; decide +kernel
  pointwise [dn8]
  rw [sel_if _ _ _ _ h, hx, hx, wiu_step (w d) 8 16 t.val rfl]
  congr 1
  by_cases h' : t.val + 8 < 64
  · rw [if_pos h', if_pos h']
    congr 1
    show (t.val + 64 - 56) % 64 = _
    omega
  · rw [if_neg h', if_neg h']

/-- One doubling of the running sum, forward by 16. -/
def up16 (x : FVec Ideal S64x128 .f32) : FVec Ideal S64x128 .f32 :=
  addf x (select (cmpi .sge rI (broadcast S64x128 16#32)) (dynamicRotate 0 16#32 none x rotates_S64x128_d0) (broadcast S64x128 (Scalar.ofBits .f32 0x00000000#32)))

theorem up16_at (x : FVec Ideal S64x128 .f32) (w : Fin 128 → Fin 64 → EReal) (hx : ∀ (t : Fin 64) (d : Fin 128), x (ix2 t d) = win (w d) 16 t.val)
    (t : Fin 64) (d : Fin 128) : up16 x (ix2 t d) = win (w d) 32 t.val := by
  have h : IntOp.cmpi .sge (BitVec.ofNat 32 t.val) 16#32 = if 16 ≤ t.val then 1#1 else 0#1 := by
    revert t; decide +kernel
  pointwise [up16]
  rw [sel_if _ _ _ _ h, hx, hx, win_step (w d) 16 32 t.val rfl]
  congr 1
  by_cases h' : 16 ≤ t.val
  · rw [if_pos h', if_pos h']
    congr 1
    show (t.val + 64 - 16) % 64 = _
    omega
  · rw [if_neg h', if_neg h']

/-- One doubling of the running sum, backward by 16. -/
def dn16 (x : FVec Ideal S64x128 .f32) : FVec Ideal S64x128 .f32 :=
  addf x (select (cmpi .slt rI (broadcast S64x128 48#32)) (dynamicRotate 0 48#32 none x rotates_S64x128_d0) (broadcast S64x128 (Scalar.ofBits .f32 0x00000000#32)))

theorem dn16_at (x : FVec Ideal S64x128 .f32) (w : Fin 128 → Fin 64 → EReal) (hx : ∀ (t : Fin 64) (d : Fin 128), x (ix2 t d) = wiu (w d) 16 t.val)
    (t : Fin 64) (d : Fin 128) : dn16 x (ix2 t d) = wiu (w d) 32 t.val := by
  have h : IntOp.cmpi .slt (BitVec.ofNat 32 t.val) 48#32 = if t.val + 16 < 64 then 1#1 else 0#1 := by
    revert t; decide +kernel
  pointwise [dn16]
  rw [sel_if _ _ _ _ h, hx, hx, wiu_step (w d) 16 32 t.val rfl]
  congr 1
  by_cases h' : t.val + 16 < 64
  · rw [if_pos h', if_pos h']
    congr 1
    show (t.val + 64 - 48) % 64 = _
    omega
  · rw [if_neg h', if_neg h']

/-- One doubling of the running sum, forward by 32. -/
def up32 (x : FVec Ideal S64x128 .f32) : FVec Ideal S64x128 .f32 :=
  addf x (select (cmpi .sge rI (broadcast S64x128 32#32)) (dynamicRotate 0 32#32 none x rotates_S64x128_d0) (broadcast S64x128 (Scalar.ofBits .f32 0x00000000#32)))

theorem up32_at (x : FVec Ideal S64x128 .f32) (w : Fin 128 → Fin 64 → EReal) (hx : ∀ (t : Fin 64) (d : Fin 128), x (ix2 t d) = win (w d) 32 t.val)
    (t : Fin 64) (d : Fin 128) : up32 x (ix2 t d) = win (w d) 64 t.val := by
  have h : IntOp.cmpi .sge (BitVec.ofNat 32 t.val) 32#32 = if 32 ≤ t.val then 1#1 else 0#1 := by
    revert t; decide +kernel
  pointwise [up32]
  rw [sel_if _ _ _ _ h, hx, hx, win_step (w d) 32 64 t.val rfl]
  congr 1
  by_cases h' : 32 ≤ t.val
  · rw [if_pos h', if_pos h']
    congr 1
    show (t.val + 64 - 32) % 64 = _
    omega
  · rw [if_neg h', if_neg h']

/-- One doubling of the running sum, backward by 32. -/
def dn32 (x : FVec Ideal S64x128 .f32) : FVec Ideal S64x128 .f32 :=
  addf x (select (cmpi .slt rI (broadcast S64x128 32#32)) (dynamicRotate 0 32#32 none x rotates_S64x128_d0) (broadcast S64x128 (Scalar.ofBits .f32 0x00000000#32)))

theorem dn32_at (x : FVec Ideal S64x128 .f32) (w : Fin 128 → Fin 64 → EReal) (hx : ∀ (t : Fin 64) (d : Fin 128), x (ix2 t d) = wiu (w d) 32 t.val)
    (t : Fin 64) (d : Fin 128) : dn32 x (ix2 t d) = wiu (w d) 64 t.val := by
  have h : IntOp.cmpi .slt (BitVec.ofNat 32 t.val) 32#32 = if t.val + 32 < 64 then 1#1 else 0#1 := by
    revert t; decide +kernel
  pointwise [dn32]
  rw [sel_if _ _ _ _ h, hx, hx, wiu_step (w d) 32 64 t.val rfl]
  congr 1
  by_cases h' : t.val + 32 < 64
  · rw [if_pos h', if_pos h']
    congr 1
    show (t.val + 64 - 32) % 64 = _
    omega
  · rw [if_neg h', if_neg h']

/-- The backward log gate, before the rolls. -/
def gate1 (z : Vec Ideal S1x64x128 .f32) (l m : Vec Ideal S1x128 .f32) : FVec Ideal S64x128 .f32 :=
  select (cmpf .one (subf (broadcastTo S64x128 (k0_pay26 l) broadcasts_S1x128_S64x128) (k0_pay27 z m)) (subf (broadcastTo S64x128 (k0_pay26 l) broadcasts_S1x128_S64x128) (k0_pay27 z m)))
    (addf (broadcastTo S64x128 (k0_pay26 l) broadcasts_S1x128_S64x128) (k0_pay27 z m))
    (addf (k0_pay28 z l m) (log1p (exp (subf (broadcast S64x128 (Scalar.ofBits .f32 0x00000000#32)) (absf (subf (broadcastTo S64x128 (k0_pay26 l) broadcasts_S1x128_S64x128) (k0_pay27 z m)))))))

theorem gate1_at (z : Vec Ideal S1x64x128 .f32) (l m : Vec Ideal S1x128 .f32) (t : Fin 64) (d : Fin 128) :
    gate1 z l m (ix2 t d) = lg (z (ix3 0 t d)) (l (ix2 0 d)) (m (ix2 0 d)) := by
  pointwise [gate1, k0_pay28, k0_pay27, k0_pay26, k0_pay25, k0_pay24]
  rw [if_neg (fun h => h rfl)]
  rfl

theorem gF_up (z : Vec Ideal S1x64x128 .f32) (l m : Vec Ideal S1x128 .f32) :
    gF z l m = up32 (up16 (up8 (up4 (up2 (up1 (k0_pay7 z l m)))))) := rfl

theorem gB_dn (z : Vec Ideal S1x64x128 .f32) (l m : Vec Ideal S1x128 .f32) :
    gB z l m = dn32 (dn16 (dn8 (dn4 (dn2 (dn1 (gate1 z l m)))))) := rfl

/-- The forward running sum: the gates up to and including `t`. -/
theorem gF_at (z : Vec Ideal S1x64x128 .f32) (l m : Vec Ideal S1x128 .f32) (t : Fin 64) (d : Fin 128) :
    gF z l m (ix2 t d) = ∑ u : Fin 64, if u ≤ t then lg (z (ix3 0 u d)) (l (ix2 0 d)) (m (ix2 0 d)) else 0 := by
  rw [gF_up, ← win_all (fun u => lg (z (ix3 0 u d)) (l (ix2 0 d)) (m (ix2 0 d)))]
  exact up32_at _ (fun d u => lg (z (ix3 0 u d)) (l (ix2 0 d)) (m (ix2 0 d))) (up16_at _ _ (up8_at _ _ (up4_at _ _ (up2_at _ _ (up1_at _ _
    (fun t d => by rw [win_one]; exact gateF_at z l m t d)))))) t d

/-- The backward running sum: the gates from `t` on. -/
theorem gB_at (z : Vec Ideal S1x64x128 .f32) (l m : Vec Ideal S1x128 .f32) (t : Fin 64) (d : Fin 128) :
    gB z l m (ix2 t d) = ∑ u : Fin 64, if t ≤ u then lg (z (ix3 0 u d)) (l (ix2 0 d)) (m (ix2 0 d)) else 0 := by
  rw [gB_dn, ← wiu_all (fun u => lg (z (ix3 0 u d)) (l (ix2 0 d)) (m (ix2 0 d)))]
  exact dn32_at _ (fun d u => lg (z (ix3 0 u d)) (l (ix2 0 d)) (m (ix2 0 d))) (dn16_at _ _ (dn8_at _ _ (dn4_at _ _ (dn2_at _ _ (dn1_at _ _
    (fun t d => by rw [wiu_one]; exact gate1_at z l m t d)))))) t d

end Cert.KernelIdeal.Run

end
-- ==== Proof.Levels.lean ====
/- The scores of a chunk, read at an entry: the product of query, key and decay on and before (forward) or after (backward) the diagonal. -/
module

public import proofs.«01_k».proof.Proof.Gates

@[expose] public section

set_option maxRecDepth 16384

noncomputable section

namespace Cert.KernelIdeal.Run

open Idealize.ShloMosaic
open Cert.KernelIdeal Cert.KernelIdeal.Gen Cert.Hgrn

local notation "V" => FVec Ideal S64x128 FTy.f32

/-- A score through the pivots `f`: the query and the key both decayed to their pivot. -/
def piv (Q K G : V) (f : Fin 64 → Fin 64) (t s : Fin 64) : EReal :=
  ∑ d : Fin 128, Q (ix2 t d) * Ideal.exp (0 - max (G (ix2 t d) - G (ix2 (f t) d)) (-(G (ix2 t d) - G (ix2 (f t) d))))
    * (K (ix2 s d) * Ideal.exp (0 - max (G (ix2 s d) - G (ix2 (f s) d)) (-(G (ix2 s d) - G (ix2 (f s) d)))))

/-- The score of position `t` against position `s`: query times key times the decay between them, summed over the lanes. -/
def sco (Q K G : V) (t s : Fin 64) : EReal :=
  ∑ d : Fin 128, Q (ix2 t d) * K (ix2 s d) * Ideal.exp (G (ix2 t d) - G (ix2 s d))

/-- Through a pivot between the two positions the score is the plain one. -/
theorem piv_eq (Q K G : V) (f : Fin 64 → Fin 64) (t s : Fin 64) (hr : ∀ (t : Fin 64) (d : Fin 128), ∃ r : ℝ, G (ix2 t d) = (r : EReal))
    (hf : f s = f t) (h1 : ∀ d : Fin 128, G (ix2 t d) ≤ G (ix2 (f t) d)) (h2 : ∀ d : Fin 128, G (ix2 (f t) d) ≤ G (ix2 s d)) :
    piv Q K G f t s = sco Q K G t s := by
  refine Finset.sum_congr rfl fun d _ => ?_
  rw [hf]
  have h1 := h1 d
  have h2 := h2 d
  obtain ⟨a, ha⟩ := hr t d
  obtain ⟨b, hb⟩ := hr s d
  obtain ⟨r, hr⟩ := hr (f t) d
  rw [ha, hr] at h1
  rw [hr, hb] at h2
  rw [ha, hb, hr, mul_mul_mul_comm, dec_mul (EReal.coe_le_coe_iff.1 h1) (EReal.coe_le_coe_iff.1 h2)]

theorem sco_self (Q K G : V) (t : Fin 64) (hr : ∀ (t : Fin 64) (d : Fin 128), ∃ r : ℝ, G (ix2 t d) = (r : EReal)) :
    sco Q K G t t = ∑ d : Fin 128, Q (ix2 t d) * K (ix2 t d) := by
  refine Finset.sum_congr rfl fun d _ => ?_
  obtain ⟨a, ha⟩ := hr t d
  rw [ha, dec_self, mul_one]

theorem eye_at (t s : Fin 64) : k0_pay42 (ix2 t s) = if t = s then 1#1 else 0#1 := by
  pointwise [k0_pay42]
  revert t s; decide +kernel

/-- The level of a pair of positions. -/
def levF (t s : Fin 64) : BitVec 32 :=
  Scalar.select (IntOp.cmpi CmpIPredicate.slt (BitVec.ofNat 32 s.val) (BitVec.ofNat 32 t.val))
    (IntOp.subi 31#32 (IntOp.ctlz (IntOp.xori (BitVec.ofNat 32 t.val) (BitVec.ofNat 32 s.val)))) 4294967295#32
def levB (t s : Fin 64) : BitVec 32 :=
  Scalar.select (IntOp.cmpi CmpIPredicate.sgt (BitVec.ofNat 32 s.val) (BitVec.ofNat 32 t.val))
    (IntOp.subi 31#32 (IntOp.ctlz (IntOp.xori (BitVec.ofNat 32 t.val) (BitVec.ofNat 32 s.val)))) 4294967295#32

theorem levF_at (t s : Fin 64) : k0_pay44 (ix2 t s) = levF t s := by
  pointwise [k0_pay44, k0_pay43]
  rfl
theorem levB_at (t s : Fin 64) : k0_pay45 (ix2 t s) = levB t s := by
  pointwise [k0_pay45, k0_pay43]
  rfl

/-- The count of leading zeros of the two positions' exclusive or finds the level 0: the pairs that part at bit 0. -/
theorem levF0 (t s : Fin 64) : IntOp.cmpi CmpIPredicate.eq (levF t s) 0#32
    = if s < t ∧ t.val / 2 = s.val / 2 ∧ t.val / 1 ≠ s.val / 1 then 1#1 else 0#1 := by
  revert t s; decide +kernel

/-- The count of leading zeros of the two positions' exclusive or finds the level 1: the pairs that part at bit 1. -/
theorem levF1 (t s : Fin 64) : IntOp.cmpi CmpIPredicate.eq (levF t s) 1#32
    = if s < t ∧ t.val / 4 = s.val / 4 ∧ t.val / 2 ≠ s.val / 2 then 1#1 else 0#1 := by
  revert t s; decide +kernel

/-- The count of leading zeros of the two positions' exclusive or finds the level 2: the pairs that part at bit 2. -/
theorem levF2 (t s : Fin 64) : IntOp.cmpi CmpIPredicate.eq (levF t s) 2#32
    = if s < t ∧ t.val / 8 = s.val / 8 ∧ t.val / 4 ≠ s.val / 4 then 1#1 else 0#1 := by
  revert t s; decide +kernel

/-- The count of leading zeros of the two positions' exclusive or finds the level 3: the pairs that part at bit 3. -/
theorem levF3 (t s : Fin 64) : IntOp.cmpi CmpIPredicate.eq (levF t s) 3#32
    = if s < t ∧ t.val / 16 = s.val / 16 ∧ t.val / 8 ≠ s.val / 8 then 1#1 else 0#1 := by
  revert t s; decide +kernel

/-- The count of leading zeros of the two positions' exclusive or finds the level 4: the pairs that part at bit 4. -/
theorem levF4 (t s : Fin 64) : IntOp.cmpi CmpIPredicate.eq (levF t s) 4#32
    = if s < t ∧ t.val / 32 = s.val / 32 ∧ t.val / 16 ≠ s.val / 16 then 1#1 else 0#1 := by
  revert t s; decide +kernel

/-- The count of leading zeros of the two positions' exclusive or finds the level 5: the pairs that part at bit 5. -/
theorem levF5 (t s : Fin 64) : IntOp.cmpi CmpIPredicate.eq (levF t s) 5#32
    = if s < t ∧ t.val / 64 = s.val / 64 ∧ t.val / 32 ≠ s.val / 32 then 1#1 else 0#1 := by
  revert t s; decide +kernel

/-- The count of leading zeros of the two positions' exclusive or finds the level 0: the pairs that part at bit 0. -/
theorem levB0 (t s : Fin 64) : IntOp.cmpi CmpIPredicate.eq (levB t s) 0#32
    = if t < s ∧ t.val / 2 = s.val / 2 ∧ t.val / 1 ≠ s.val / 1 then 1#1 else 0#1 := by
  revert t s; decide +kernel

/-- The count of leading zeros of the two positions' exclusive or finds the level 1: the pairs that part at bit 1. -/
theorem levB1 (t s : Fin 64) : IntOp.cmpi CmpIPredicate.eq (levB t s) 1#32
    = if t < s ∧ t.val / 4 = s.val / 4 ∧ t.val / 2 ≠ s.val / 2 then 1#1 else 0#1 := by
  revert t s; decide +kernel

/-- The count of leading zeros of the two positions' exclusive or finds the level 2: the pairs that part at bit 2. -/
theorem levB2 (t s : Fin 64) : IntOp.cmpi CmpIPredicate.eq (levB t s) 2#32
    = if t < s ∧ t.val / 8 = s.val / 8 ∧ t.val / 4 ≠ s.val / 4 then 1#1 else 0#1 := by
  revert t s; decide +kernel

/-- The count of leading zeros of the two positions' exclusive or finds the level 3: the pairs that part at bit 3. -/
theorem levB3 (t s : Fin 64) : IntOp.cmpi CmpIPredicate.eq (levB t s) 3#32
    = if t < s ∧ t.val / 16 = s.val / 16 ∧ t.val / 8 ≠ s.val / 8 then 1#1 else 0#1 := by
  revert t s; decide +kernel

/-- The count of leading zeros of the two positions' exclusive or finds the level 4: the pairs that part at bit 4. -/
theorem levB4 (t s : Fin 64) : IntOp.cmpi CmpIPredicate.eq (levB t s) 4#32
    = if t < s ∧ t.val / 32 = s.val / 32 ∧ t.val / 16 ≠ s.val / 16 then 1#1 else 0#1 := by
  revert t s; decide +kernel

/-- The count of leading zeros of the two positions' exclusive or finds the level 5: the pairs that part at bit 5. -/
theorem levB5 (t s : Fin 64) : IntOp.cmpi CmpIPredicate.eq (levB t s) 5#32
    = if t < s ∧ t.val / 64 = s.val / 64 ∧ t.val / 32 ≠ s.val / 32 then 1#1 else 0#1 := by
  revert t s; decide +kernel

/-- The pivots of level 0: the first row of the upper half, forward, and the last row of the lower half, backward. -/
def pF0 (t : Fin 64) : Fin 64 := ⟨t.val / 2 * 2 + 1, by omega⟩
def pB0 (t : Fin 64) : Fin 64 := ⟨t.val / 2 * 2 + 0, by omega⟩
/-- The pivots of level 1: the first row of the upper half, forward, and the last row of the lower half, backward. -/
def pF1 (t : Fin 64) : Fin 64 := ⟨t.val / 4 * 4 + 2, by omega⟩
def pB1 (t : Fin 64) : Fin 64 := ⟨t.val / 4 * 4 + 1, by omega⟩
/-- The pivots of level 2: the first row of the upper half, forward, and the last row of the lower half, backward. -/
def pF2 (t : Fin 64) : Fin 64 := ⟨t.val / 8 * 8 + 4, by omega⟩
def pB2 (t : Fin 64) : Fin 64 := ⟨t.val / 8 * 8 + 3, by omega⟩
/-- The pivots of level 3: the first row of the upper half, forward, and the last row of the lower half, backward. -/
def pF3 (t : Fin 64) : Fin 64 := ⟨t.val / 16 * 16 + 8, by omega⟩
def pB3 (t : Fin 64) : Fin 64 := ⟨t.val / 16 * 16 + 7, by omega⟩
/-- The pivots of level 4: the first row of the upper half, forward, and the last row of the lower half, backward. -/
def pF4 (t : Fin 64) : Fin 64 := ⟨t.val / 32 * 32 + 16, by omega⟩
def pB4 (t : Fin 64) : Fin 64 := ⟨t.val / 32 * 32 + 15, by omega⟩
/-- The pivots of level 5: the first row of the upper half, forward, and the last row of the lower half, backward. -/
def pF5 (t : Fin 64) : Fin 64 := ⟨t.val / 64 * 64 + 32, by omega⟩
def pB5 (t : Fin 64) : Fin 64 := ⟨t.val / 64 * 64 + 31, by omega⟩

end Cert.KernelIdeal.Run

end
-- ==== Proof.Scores.lean ====
/- The scores of a chunk as the kernel selects them, and the outputs of the chunk's own positions. -/
module

public import proofs.«01_k».proof.Proof.Levels

@[expose] public section

set_option maxRecDepth 16384

noncomputable section

namespace Cert.KernelIdeal.Run

open Idealize.ShloMosaic
open Cert.KernelIdeal Cert.KernelIdeal.Gen Cert.Hgrn

local notation "V" => FVec Ideal S64x128 FTy.f32

theorem rotF0 (t : Fin 64) (G : V) (d : Fin 128) : Scalar.select (IntOp.cmpi CmpIPredicate.eq (IntOp.andi (BitVec.ofNat 32 t.val) 1#32) 1#32)
    (G (ix2 t d)) (G (ix2 ⟨(t.val + 64 - 63) % 64, by omega⟩ d)) = G (ix2 (pF0 t) d) := by
  have h : IntOp.cmpi CmpIPredicate.eq (IntOp.andi (BitVec.ofNat 32 t.val) 1#32) 1#32 = if t.val % 2 = 1 then 1#1 else 0#1 := by
    revert t; decide +kernel
  rw [sel_if _ _ _ _ h]
  split_ifs with h1 <;> congr 2 <;> refine Fin.ext ?_ <;> simp only [pF0] <;> omega

theorem rotB0 (t : Fin 64) (G : V) (d : Fin 128) : Scalar.select (IntOp.cmpi CmpIPredicate.eq (IntOp.andi (BitVec.ofNat 32 t.val) 1#32) 1#32)
    (G (ix2 ⟨(t.val + 64 - 1) % 64, by omega⟩ d)) (G (ix2 t d)) = G (ix2 (pB0 t) d) := by
  have h : IntOp.cmpi CmpIPredicate.eq (IntOp.andi (BitVec.ofNat 32 t.val) 1#32) 1#32 = if t.val % 2 = 1 then 1#1 else 0#1 := by
    revert t; decide +kernel
  rw [sel_if _ _ _ _ h]
  split_ifs with h1 <;> congr 2 <;> refine Fin.ext ?_ <;> simp only [pB0] <;> omega

theorem low2 (t : Fin 64) : IntOp.cmpi CmpIPredicate.eq (IntOp.andi (BitVec.ofNat 32 t.val) 3#32) 1#32 = (if t.val % 4 = 1 then 1#1 else 0#1)
    ∧ IntOp.cmpi CmpIPredicate.eq (IntOp.andi (BitVec.ofNat 32 t.val) 3#32) 2#32 = (if t.val % 4 = 2 then 1#1 else 0#1)
    ∧ IntOp.cmpi CmpIPredicate.eq (IntOp.andi (BitVec.ofNat 32 t.val) 3#32) 3#32 = (if t.val % 4 = 3 then 1#1 else 0#1) := by
  revert t; decide +kernel

theorem rotF1 (t : Fin 64) (G : V) (d : Fin 128) : Scalar.select (IntOp.cmpi CmpIPredicate.eq (IntOp.andi (BitVec.ofNat 32 t.val) 3#32) 3#32)
    (G (ix2 ⟨(t.val + 64 - 1) % 64, by omega⟩ d)) (Scalar.select (IntOp.cmpi CmpIPredicate.eq (IntOp.andi (BitVec.ofNat 32 t.val) 3#32) 2#32)
    (G (ix2 t d)) (Scalar.select (IntOp.cmpi CmpIPredicate.eq (IntOp.andi (BitVec.ofNat 32 t.val) 3#32) 1#32)
    (G (ix2 ⟨(t.val + 64 - 63) % 64, by omega⟩ d)) (G (ix2 ⟨(t.val + 64 - 62) % 64, by omega⟩ d)))) = G (ix2 (pF1 t) d) := by
  rw [sel_if _ _ _ _ (low2 t).1, sel_if _ _ _ _ (low2 t).2.1, sel_if _ _ _ _ (low2 t).2.2]
  split_ifs with h1 h2 h3 <;> congr 2 <;> refine Fin.ext ?_ <;> simp only [pF1] <;> omega

theorem rotB1 (t : Fin 64) (G : V) (d : Fin 128) : Scalar.select (IntOp.cmpi CmpIPredicate.eq (IntOp.andi (BitVec.ofNat 32 t.val) 3#32) 3#32)
    (G (ix2 ⟨(t.val + 64 - 2) % 64, by omega⟩ d)) (Scalar.select (IntOp.cmpi CmpIPredicate.eq (IntOp.andi (BitVec.ofNat 32 t.val) 3#32) 2#32)
    (G (ix2 ⟨(t.val + 64 - 1) % 64, by omega⟩ d)) (Scalar.select (IntOp.cmpi CmpIPredicate.eq (IntOp.andi (BitVec.ofNat 32 t.val) 3#32) 1#32)
    (G (ix2 t d)) (G (ix2 ⟨(t.val + 64 - 63) % 64, by omega⟩ d)))) = G (ix2 (pB1 t) d) := by
  rw [sel_if _ _ _ _ (low2 t).1, sel_if _ _ _ _ (low2 t).2.1, sel_if _ _ _ _ (low2 t).2.2]
  split_ifs with h1 h2 h3 <;> congr 2 <;> refine Fin.ext ?_ <;> simp only [pB1] <;> omega

/-- The forward scores of the levels 2 to 5 and the diagonal. -/
theorem a15_at (q z : Vec Ideal S1x64x128 .f32) (l m o : Vec Ideal S1x128 .f32) (t s : Fin 64) :
    a15 q z l m o (ix2 t s) =
      Scalar.select (IntOp.cmpi CmpIPredicate.eq (levF t s) 2#32) (piv (k0_pay2 q) (kF z o) (gF z l m) pF2 t s)
      (Scalar.select (IntOp.cmpi CmpIPredicate.eq (levF t s) 3#32) (piv (k0_pay2 q) (kF z o) (gF z l m) pF3 t s)
      (Scalar.select (IntOp.cmpi CmpIPredicate.eq (levF t s) 4#32) (piv (k0_pay2 q) (kF z o) (gF z l m) pF4 t s)
      (Scalar.select (IntOp.cmpi CmpIPredicate.eq (levF t s) 5#32) (piv (k0_pay2 q) (kF z o) (gF z l m) pF5 t s)
      (Scalar.select (k0_pay42 (ix2 t s)) (∑ d : Fin 128, k0_pay2 q (ix2 t d) * kF z o (ix2 t d)) 0)))) := by
  unfold a15 k0_pay15 k0_pay13 k0_pay14
  simp only [show k0_pay11 rI (g126 z l m) k0_pay10 = gF z l m from rfl]
  obtain ⟨G, hG⟩ : ∃ x, x = gF z l m := ⟨_, rfl⟩
  obtain ⟨Q, hQ⟩ : ∃ x, x = k0_pay2 q := ⟨_, rfl⟩
  obtain ⟨K, hK⟩ : ∃ x, x = kF z o := ⟨_, rfl⟩
  obtain ⟨lev, hlev⟩ : ∃ x, x = k0_pay44 := ⟨_, rfl⟩
  obtain ⟨eye, heye⟩ : ∃ x, x = k0_pay42 := ⟨_, rfl⟩
  have hl : lev (ix2 t s) = levF t s := by rw [hlev, levF_at]
  rw [← hG, ← hQ, ← hK, ← hlev, ← heye]
  pointwise
  rw [hl]
  have e5 : ∀ t : Fin 64, pF5 t = ⟨32, by omega⟩ := fun t => Fin.ext (by simp only [pF5]; omega)
  unfold piv
  simp only [e5]
  rfl

/-- The backward scores of the levels 2 to 5 and the diagonal. -/
theorem a36_at (q z : Vec Ideal S1x64x128 .f32) (l m o : Vec Ideal S1x128 .f32) (t s : Fin 64) :
    a36 q z l m o (ix2 t s) =
      Scalar.select (IntOp.cmpi CmpIPredicate.eq (levB t s) 2#32) (piv (k0_pay2 q) (kB z o) (gB z l m) pB2 t s)
      (Scalar.select (IntOp.cmpi CmpIPredicate.eq (levB t s) 3#32) (piv (k0_pay2 q) (kB z o) (gB z l m) pB3 t s)
      (Scalar.select (IntOp.cmpi CmpIPredicate.eq (levB t s) 4#32) (piv (k0_pay2 q) (kB z o) (gB z l m) pB4 t s)
      (Scalar.select (IntOp.cmpi CmpIPredicate.eq (levB t s) 5#32) (piv (k0_pay2 q) (kB z o) (gB z l m) pB5 t s)
      (Scalar.select (k0_pay42 (ix2 t s)) (∑ d : Fin 128, k0_pay2 q (ix2 t d) * kB z o (ix2 t d)) 0)))) := by
  unfold a36 k0_pay36 k0_pay34 k0_pay35
  simp only [show k0_pay32 rI (g352 z l m) (k0_pay31 rI) 56#32 = gB z l m from rfl]
  obtain ⟨G, hG⟩ : ∃ x, x = gB z l m := ⟨_, rfl⟩
  obtain ⟨Q, hQ⟩ : ∃ x, x = k0_pay2 q := ⟨_, rfl⟩
  obtain ⟨K, hK⟩ : ∃ x, x = kB z o := ⟨_, rfl⟩
  obtain ⟨lev, hlev⟩ : ∃ x, x = k0_pay45 := ⟨_, rfl⟩
  obtain ⟨eye, heye⟩ : ∃ x, x = k0_pay42 := ⟨_, rfl⟩
  have hl : lev (ix2 t s) = levB t s := by rw [hlev, levB_at]
  rw [← hG, ← hQ, ← hK, ← hlev, ← heye]
  pointwise
  rw [hl]
  have e5 : ∀ t : Fin 64, pB5 t = ⟨31, by omega⟩ := fun t => Fin.ext (by simp only [pB5]; omega)
  unfold piv
  simp only [e5]
  rfl

/-- The forward scores, as the kernel selects them by level. -/
theorem OI0_at (q z v : Vec Ideal S1x64x128 .f32) (l m o : Vec Ideal S1x128 .f32) (t : Fin 64) (e : Fin 128) :
    OI0 q z v l m o (ix3 0 t e) = ∑ s : Fin 64,
      Scalar.select (IntOp.cmpi CmpIPredicate.eq (levF t s) 0#32) (piv (k0_pay2 q) (kF z o) (gF z l m) pF0 t s)
      (Scalar.select (IntOp.cmpi CmpIPredicate.eq (levF t s) 1#32) (piv (k0_pay2 q) (kF z o) (gF z l m) pF1 t s) (a15 q z l m o (ix2 t s)))
      * v (ix3 0 s e) := by
  unfold OI0 k0_pay19 k0_pay17 k0_pay18 k0_pay16
  obtain ⟨G, hG⟩ : ∃ x, x = gF z l m := ⟨_, rfl⟩
  obtain ⟨Q, hQ⟩ : ∃ x, x = k0_pay2 q := ⟨_, rfl⟩
  obtain ⟨K, hK⟩ : ∃ x, x = kF z o := ⟨_, rfl⟩
  obtain ⟨lev, hlev⟩ : ∃ x, x = k0_pay44 := ⟨_, rfl⟩
  obtain ⟨A, hA⟩ : ∃ x, x = a15 q z l m o := ⟨_, rfl⟩
  rw [← hG, ← hQ, ← hK, ← hlev, ← hA]
  have hl : ∀ s, lev (ix2 t s) = levF t s := fun s => by rw [hlev, levF_at]
  pointwise [k0_pay3]
  simp only [hl, rotF0, rotF1]
  rfl

/-- The backward scores, as the kernel selects them by level. -/
theorem OI1_at (q z v : Vec Ideal S1x64x128 .f32) (l m o : Vec Ideal S1x128 .f32) (t : Fin 64) (e : Fin 128) :
    OI1 q z v l m o (ix3 0 t e) = ∑ s : Fin 64,
      Scalar.select (IntOp.cmpi CmpIPredicate.eq (levB t s) 0#32) (piv (k0_pay2 q) (kB z o) (gB z l m) pB0 t s)
      (Scalar.select (IntOp.cmpi CmpIPredicate.eq (levB t s) 1#32) (piv (k0_pay2 q) (kB z o) (gB z l m) pB1 t s) (a36 q z l m o (ix2 t s)))
      * v (ix3 0 s e) := by
  unfold OI1 a38 k0_pay38 k0_pay46 k0_pay37
  obtain ⟨G, hG⟩ : ∃ x, x = gB z l m := ⟨_, rfl⟩
  obtain ⟨Q, hQ⟩ : ∃ x, x = k0_pay2 q := ⟨_, rfl⟩
  obtain ⟨K, hK⟩ : ∃ x, x = kB z o := ⟨_, rfl⟩
  obtain ⟨lev, hlev⟩ : ∃ x, x = k0_pay45 := ⟨_, rfl⟩
  obtain ⟨A, hA⟩ : ∃ x, x = a36 q z l m o := ⟨_, rfl⟩
  rw [← hG, ← hQ, ← hK, ← hlev, ← hA]
  have hl : ∀ s, lev (ix2 t s) = levB t s := fun s => by rw [hlev, levB_at]
  pointwise [k0_pay3]
  simp only [hl, rotB0, rotB1]
  rfl

/-- The selection by level gives the plain score on every pair. -/
theorem chainF (Q K G : V) (hr : ∀ (t : Fin 64) (d : Fin 128), ∃ r : ℝ, G (ix2 t d) = (r : EReal))
    (hm : ∀ (t r : Fin 64) (d : Fin 128), r ≤ t → G (ix2 t d) ≤ G (ix2 r d)) (t s : Fin 64) :
    Scalar.select (IntOp.cmpi CmpIPredicate.eq (levF t s) 0#32) (piv Q K G pF0 t s)
      (Scalar.select (IntOp.cmpi CmpIPredicate.eq (levF t s) 1#32) (piv Q K G pF1 t s)
      (Scalar.select (IntOp.cmpi CmpIPredicate.eq (levF t s) 2#32) (piv Q K G pF2 t s)
      (Scalar.select (IntOp.cmpi CmpIPredicate.eq (levF t s) 3#32) (piv Q K G pF3 t s)
      (Scalar.select (IntOp.cmpi CmpIPredicate.eq (levF t s) 4#32) (piv Q K G pF4 t s)
      (Scalar.select (IntOp.cmpi CmpIPredicate.eq (levF t s) 5#32) (piv Q K G pF5 t s)
      (Scalar.select (k0_pay42 (ix2 t s)) (∑ d : Fin 128, Q (ix2 t d) * K (ix2 t d)) 0))))))
      = if s ≤ t then sco Q K G t s else 0 := by
  rw [eye_at, sel_if _ _ _ _ (levF0 t s), sel_if _ _ _ _ (levF1 t s), sel_if _ _ _ _ (levF2 t s), sel_if _ _ _ _ (levF3 t s),
    sel_if _ _ _ _ (levF4 t s), sel_if _ _ _ _ (levF5 t s), sel_if (t = s) _ _ _ rfl]
  have ht := t.isLt
  have hs := s.isLt
  simp only [Fin.lt_def, Fin.le_def]
  by_cases c0 : s.val < t.val ∧ t.val / 2 = s.val / 2 ∧ t.val / 1 ≠ s.val / 1
  · rw [if_pos c0, if_pos (by omega)]
    exact piv_eq Q K G pF0 t s hr (Fin.ext (by simp only [pF0]; omega))
      (fun d => hm t _ d (Fin.le_def.2 (by simp only [pF0]; omega))) (fun d => hm _ s d (Fin.le_def.2 (by simp only [pF0]; omega)))
  rw [if_neg c0]
  by_cases c1 : s.val < t.val ∧ t.val / 4 = s.val / 4 ∧ t.val / 2 ≠ s.val / 2
  · rw [if_pos c1, if_pos (by omega)]
    exact piv_eq Q K G pF1 t s hr (Fin.ext (by simp only [pF1]; omega))
      (fun d => hm t _ d (Fin.le_def.2 (by simp only [pF1]; omega))) (fun d => hm _ s d (Fin.le_def.2 (by simp only [pF1]; omega)))
  rw [if_neg c1]
  by_cases c2 : s.val < t.val ∧ t.val / 8 = s.val / 8 ∧ t.val / 4 ≠ s.val / 4
  · rw [if_pos c2, if_pos (by omega)]
    exact piv_eq Q K G pF2 t s hr (Fin.ext (by simp only [pF2]; omega))
      (fun d => hm t _ d (Fin.le_def.2 (by simp only [pF2]; omega))) (fun d => hm _ s d (Fin.le_def.2 (by simp only [pF2]; omega)))
  rw [if_neg c2]
  by_cases c3 : s.val < t.val ∧ t.val / 16 = s.val / 16 ∧ t.val / 8 ≠ s.val / 8
  · rw [if_pos c3, if_pos (by omega)]
    exact piv_eq Q K G pF3 t s hr (Fin.ext (by simp only [pF3]; omega))
      (fun d => hm t _ d (Fin.le_def.2 (by simp only [pF3]; omega))) (fun d => hm _ s d (Fin.le_def.2 (by simp only [pF3]; omega)))
  rw [if_neg c3]
  by_cases c4 : s.val < t.val ∧ t.val / 32 = s.val / 32 ∧ t.val / 16 ≠ s.val / 16
  · rw [if_pos c4, if_pos (by omega)]
    exact piv_eq Q K G pF4 t s hr (Fin.ext (by simp only [pF4]; omega))
      (fun d => hm t _ d (Fin.le_def.2 (by simp only [pF4]; omega))) (fun d => hm _ s d (Fin.le_def.2 (by simp only [pF4]; omega)))
  rw [if_neg c4]
  by_cases c5 : s.val < t.val ∧ t.val / 64 = s.val / 64 ∧ t.val / 32 ≠ s.val / 32
  · rw [if_pos c5, if_pos (by omega)]
    exact piv_eq Q K G pF5 t s hr (Fin.ext (by simp only [pF5]; omega))
      (fun d => hm t _ d (Fin.le_def.2 (by simp only [pF5]; omega))) (fun d => hm _ s d (Fin.le_def.2 (by simp only [pF5]; omega)))
  rw [if_neg c5]
  by_cases he : t = s
  · subst he
    rw [if_pos rfl, if_pos le_rfl, sco_self Q K G t hr]
  · have he' : t.val ≠ s.val := fun h => he (Fin.ext h)
    rw [if_neg he, if_neg (by omega)]

/-- The output of a chunk's own positions: the scores against the values. -/
theorem OI0_val (q z v : Vec Ideal S1x64x128 .f32) (l m o : Vec Ideal S1x128 .f32)
    (hr : ∀ (t : Fin 64) (d : Fin 128), ∃ r : ℝ, gF z l m (ix2 t d) = (r : EReal))
    (hm : ∀ (t r : Fin 64) (d : Fin 128), r ≤ t → gF z l m (ix2 t d) ≤ gF z l m (ix2 r d)) (t : Fin 64) (e : Fin 128) :
    OI0 q z v l m o (ix3 0 t e) = ∑ s : Fin 64, (if s ≤ t then sco (k0_pay2 q) (kF z o) (gF z l m) t s else 0) * v (ix3 0 s e) := by
  rw [OI0_at]
  refine Finset.sum_congr rfl fun s _ => ?_
  rw [a15_at, chainF (k0_pay2 q) (kF z o) (gF z l m) hr hm t s]

/-- The selection by level gives the plain score on every pair. -/
theorem chainB (Q K G : V) (hr : ∀ (t : Fin 64) (d : Fin 128), ∃ r : ℝ, G (ix2 t d) = (r : EReal))
    (hm : ∀ (t r : Fin 64) (d : Fin 128), t ≤ r → G (ix2 t d) ≤ G (ix2 r d)) (t s : Fin 64) :
    Scalar.select (IntOp.cmpi CmpIPredicate.eq (levB t s) 0#32) (piv Q K G pB0 t s)
      (Scalar.select (IntOp.cmpi CmpIPredicate.eq (levB t s) 1#32) (piv Q K G pB1 t s)
      (Scalar.select (IntOp.cmpi CmpIPredicate.eq (levB t s) 2#32) (piv Q K G pB2 t s)
      (Scalar.select (IntOp.cmpi CmpIPredicate.eq (levB t s) 3#32) (piv Q K G pB3 t s)
      (Scalar.select (IntOp.cmpi CmpIPredicate.eq (levB t s) 4#32) (piv Q K G pB4 t s)
      (Scalar.select (IntOp.cmpi CmpIPredicate.eq (levB t s) 5#32) (piv Q K G pB5 t s)
      (Scalar.select (k0_pay42 (ix2 t s)) (∑ d : Fin 128, Q (ix2 t d) * K (ix2 t d)) 0))))))
      = if t ≤ s then sco Q K G t s else 0 := by
  rw [eye_at, sel_if _ _ _ _ (levB0 t s), sel_if _ _ _ _ (levB1 t s), sel_if _ _ _ _ (levB2 t s), sel_if _ _ _ _ (levB3 t s),
    sel_if _ _ _ _ (levB4 t s), sel_if _ _ _ _ (levB5 t s), sel_if (t = s) _ _ _ rfl]
  have ht := t.isLt
  have hs := s.isLt
  simp only [Fin.lt_def, Fin.le_def]
  by_cases c0 : t.val < s.val ∧ t.val / 2 = s.val / 2 ∧ t.val / 1 ≠ s.val / 1
  · rw [if_pos c0, if_pos (by omega)]
    exact piv_eq Q K G pB0 t s hr (Fin.ext (by simp only [pB0]; omega))
      (fun d => hm t _ d (Fin.le_def.2 (by simp only [pB0]; omega))) (fun d => hm _ s d (Fin.le_def.2 (by simp only [pB0]; omega)))
  rw [if_neg c0]
  by_cases c1 : t.val < s.val ∧ t.val / 4 = s.val / 4 ∧ t.val / 2 ≠ s.val / 2
  · rw [if_pos c1, if_pos (by omega)]
    exact piv_eq Q K G pB1 t s hr (Fin.ext (by simp only [pB1]; omega))
      (fun d => hm t _ d (Fin.le_def.2 (by simp only [pB1]; omega))) (fun d => hm _ s d (Fin.le_def.2 (by simp only [pB1]; omega)))
  rw [if_neg c1]
  by_cases c2 : t.val < s.val ∧ t.val / 8 = s.val / 8 ∧ t.val / 4 ≠ s.val / 4
  · rw [if_pos c2, if_pos (by omega)]
    exact piv_eq Q K G pB2 t s hr (Fin.ext (by simp only [pB2]; omega))
      (fun d => hm t _ d (Fin.le_def.2 (by simp only [pB2]; omega))) (fun d => hm _ s d (Fin.le_def.2 (by simp only [pB2]; omega)))
  rw [if_neg c2]
  by_cases c3 : t.val < s.val ∧ t.val / 16 = s.val / 16 ∧ t.val / 8 ≠ s.val / 8
  · rw [if_pos c3, if_pos (by omega)]
    exact piv_eq Q K G pB3 t s hr (Fin.ext (by simp only [pB3]; omega))
      (fun d => hm t _ d (Fin.le_def.2 (by simp only [pB3]; omega))) (fun d => hm _ s d (Fin.le_def.2 (by simp only [pB3]; omega)))
  rw [if_neg c3]
  by_cases c4 : t.val < s.val ∧ t.val / 32 = s.val / 32 ∧ t.val / 16 ≠ s.val / 16
  · rw [if_pos c4, if_pos (by omega)]
    exact piv_eq Q K G pB4 t s hr (Fin.ext (by simp only [pB4]; omega))
      (fun d => hm t _ d (Fin.le_def.2 (by simp only [pB4]; omega))) (fun d => hm _ s d (Fin.le_def.2 (by simp only [pB4]; omega)))
  rw [if_neg c4]
  by_cases c5 : t.val < s.val ∧ t.val / 64 = s.val / 64 ∧ t.val / 32 ≠ s.val / 32
  · rw [if_pos c5, if_pos (by omega)]
    exact piv_eq Q K G pB5 t s hr (Fin.ext (by simp only [pB5]; omega))
      (fun d => hm t _ d (Fin.le_def.2 (by simp only [pB5]; omega))) (fun d => hm _ s d (Fin.le_def.2 (by simp only [pB5]; omega)))
  rw [if_neg c5]
  by_cases he : t = s
  · subst he
    rw [if_pos rfl, if_pos le_rfl, sco_self Q K G t hr]
  · have he' : t.val ≠ s.val := fun h => he (Fin.ext h)
    rw [if_neg he, if_neg (by omega)]

/-- The output of a chunk's own positions: the scores against the values. -/
theorem OI1_val (q z v : Vec Ideal S1x64x128 .f32) (l m o : Vec Ideal S1x128 .f32)
    (hr : ∀ (t : Fin 64) (d : Fin 128), ∃ r : ℝ, gB z l m (ix2 t d) = (r : EReal))
    (hm : ∀ (t r : Fin 64) (d : Fin 128), t ≤ r → gB z l m (ix2 t d) ≤ gB z l m (ix2 r d)) (t : Fin 64) (e : Fin 128) :
    OI1 q z v l m o (ix3 0 t e) = ∑ s : Fin 64, (if t ≤ s then sco (k0_pay2 q) (kB z o) (gB z l m) t s else 0) * v (ix3 0 s e) := by
  rw [OI1_at]
  refine Finset.sum_congr rfl fun s _ => ?_
  rw [a36_at, chainB (k0_pay2 q) (kB z o) (gB z l m) hr hm t s]

end Cert.KernelIdeal.Run

end
-- ==== Proof.Mixer.lean ====
/- The gated linear recurrence of one head in one direction, over the extended reals, chunk by chunk. -/
module

public import proofs.«01_k».proof.Proof.MathReal

@[expose] public section

noncomputable section

namespace Cert.Hgrn

open Idealize.ShloMosaic

/-- The log gates up to and including `t`. -/
def cum (w : Fin 64 → Fin 128 → EReal) (t : Fin 64) (d : Fin 128) : EReal := ∑ u : Fin 64, if u ≤ t then w u d else 0

/-- The score of position `t` against `s` of a chunk. -/
def score (q k w : Fin 64 → Fin 128 → EReal) (t s : Fin 64) : EReal :=
  ∑ d : Fin 128, q t d * k s d * Ideal.exp (cum w t d - cum w s d)

section rec
variable (Q K W V : ℕ → Fin 64 → Fin 128 → EReal)

/-- The state before chunk `n`: decayed over the chunk, then the chunk's keys and values added. -/
def St : ℕ → Fin 128 → Fin 128 → EReal
  | 0 => fun _ _ => 0
  | n + 1 => fun d e => St n d e * Ideal.exp (cum (W n) 63 d)
      + ∑ s : Fin 64, V n s e * (K n s d * Ideal.exp (cum (W n) 63 d - cum (W n) s d))

/-- The output of position `t` of chunk `n`: the decayed query against the state, and the chunk's own scores against its values. -/
def Out (n : ℕ) (t : Fin 64) (e : Fin 128) : EReal :=
  (∑ d : Fin 128, Q n t d * Ideal.exp (cum (W n) t d) * St K W V n d e)
    + ∑ s : Fin 64, (if s ≤ t then score (Q n) (K n) (W n) t s else 0) * V n s e
end rec

/-- A partial sum of reals is a real. -/
theorem part_real {P : Fin 64 → Prop} [DecidablePred P] (w : Fin 64 → EReal) (hw : ∀ u, ∃ r : ℝ, r ≤ 0 ∧ w u = (r : EReal)) :
    ∃ r : ℝ, (∑ u : Fin 64, if P u then w u else 0) = (r : EReal) := by
  refine Finset.sum_induction _ (fun x : EReal => ∃ r : ℝ, x = (r : EReal)) ?_ ⟨0, rfl⟩ fun u _ => ?_
  · rintro a b ⟨x, rfl⟩ ⟨y, rfl⟩
    exact ⟨x + y, (EReal.coe_add x y).symm⟩
  · by_cases h : P u
    · obtain ⟨r, -, hr⟩ := hw u
      exact ⟨r, by rw [if_pos h, hr]⟩
    · exact ⟨0, by rw [if_neg h]; rfl⟩

/-- More terms, none above zero, make the sum no larger. -/
theorem part_le {P R : Fin 64 → Prop} [DecidablePred P] [DecidablePred R] (w : Fin 64 → EReal) (hw : ∀ u, ∃ r : ℝ, r ≤ 0 ∧ w u = (r : EReal))
    (h : ∀ u, R u → P u) : (∑ u : Fin 64, if P u then w u else 0) ≤ ∑ u : Fin 64, if R u then w u else 0 := by
  refine Finset.sum_le_sum fun u _ => ?_
  by_cases h2 : R u
  · rw [if_pos h2, if_pos (h u h2)]
  · rw [if_neg h2]
    by_cases h1 : P u
    · rw [if_pos h1]
      obtain ⟨r, hr, e⟩ := hw u
      rw [e]
      exact_mod_cast hr
    · rw [if_neg h1]

/-- A sum over the chunk, taken from its end. -/
theorem sum_rev {M : Type} [AddCommMonoid M] (f : Fin 64 → M) : ∑ s : Fin 64, f s = ∑ s : Fin 64, f s.rev :=
  (Equiv.sum_comp Fin.revPerm f).symm

end Cert.Hgrn

end
-- ==== Proof.State.lean ====
/- The kernel's state and outputs at an entry: the recurrence of the two directions. -/
module

public import proofs.«01_k».proof.Proof.Scores
public import proofs.«01_k».proof.Proof.Mixer
public import proofs.«01_k».proof.Proof.Reads

@[expose] public section

set_option maxRecDepth 16384

noncomputable section

namespace Cert.KernelIdeal.Run

open Idealize.ShloMosaic
open Cert.KernelIdeal Cert.KernelIdeal.Gen Cert.Hgrn

/-- Position `p` of a block, lane `d`. -/
def ap (x : Vec Ideal S1x2304x128 .f32) (p : ℕ) (d : Fin 128) : EReal := if h : p < 2304 then x (ix3 0 ⟨p, h⟩ d) else 0

/-- The position the backward direction takes at its step `p`: the context's positions from their end, then the others' from theirs. -/
def turn (p : ℕ) : ℕ := if p < 256 then 255 - p else 2559 - p

theorem totF_at (z : Vec Ideal S1x64x128 .f32) (l m : Vec Ideal S1x128 .f32) (d : Fin 128) : totF z l m (ix2 0 d) = gF z l m (ix2 63 d) := by
  unfold totF k0_pay12
  simp only [show k0_pay11 rI (g126 z l m) k0_pay10 = gF z l m from rfl]
  obtain ⟨G, hG⟩ : ∃ x, x = gF z l m := ⟨_, rfl⟩
  rw [← hG]
  pointwise

theorem totB_at (z : Vec Ideal S1x64x128 .f32) (l m : Vec Ideal S1x128 .f32) (d : Fin 128) : totB z l m (ix2 0 d) = gB z l m (ix2 0 d) := by
  unfold totB k0_pay33
  simp only [show k0_pay32 rI (g352 z l m) (k0_pay31 rI) 56#32 = gB z l m from rfl]
  obtain ⟨G, hG⟩ : ∃ x, x = gB z l m := ⟨_, rfl⟩
  rw [← hG]
  pointwise

/-- One step of the forward state. -/
theorem stepF_at (S : FVec Ideal S128x128 .f32) (z v : Vec Ideal S1x64x128 .f32) (l m o : Vec Ideal S1x128 .f32) (e d : Fin 128) :
    k0_pay40 S (EL0 z l m) (UT0 z v l m o) (ix2 e d) = S (ix2 e d) * Ideal.exp (gF z l m (ix2 63 d))
      + ∑ s : Fin 64, v (ix3 0 s e) * (kF z o (ix2 s d) * Ideal.exp (gF z l m (ix2 63 d) - gF z l m (ix2 s d))) := by
  rw [← totF_at]
  unfold EL0 UT0
  obtain ⟨G, hG⟩ : ∃ x, x = gF z l m := ⟨_, rfl⟩
  obtain ⟨T, hT⟩ : ∃ x, x = totF z l m := ⟨_, rfl⟩
  obtain ⟨K, hK⟩ : ∃ x, x = kF z o := ⟨_, rfl⟩
  rw [← hG, ← hT, ← hK]
  pointwise [k0_pay40, k0_pay22, k0_pay23, k0_pay4, k0_pay3]

theorem stepB_at (S : FVec Ideal S128x128 .f32) (z v : Vec Ideal S1x64x128 .f32) (l m o : Vec Ideal S1x128 .f32) (e d : Fin 128) :
    k0_pay51 S (EL1 z l m) (UT1 z v l m o) (ix2 e d) = S (ix2 e d) * Ideal.exp (gB z l m (ix2 0 d))
      + ∑ s : Fin 64, v (ix3 0 s e) * (kB z o (ix2 s d) * Ideal.exp (gB z l m (ix2 0 d) - gB z l m (ix2 s d))) := by
  rw [← totB_at]
  unfold EL1 UT1
  obtain ⟨G, hG⟩ : ∃ x, x = gB z l m := ⟨_, rfl⟩
  obtain ⟨T, hT⟩ : ∃ x, x = totB z l m := ⟨_, rfl⟩
  obtain ⟨K, hK⟩ : ∃ x, x = kB z o := ⟨_, rfl⟩
  rw [← hG, ← hT, ← hK]
  pointwise [k0_pay51, k0_pay48, k0_pay49, k0_pay4, k0_pay3]

/-- The forward output of a chunk, from the state. -/
theorem outF_at (S : FVec Ideal S128x128 .f32) (q z : Vec Ideal S1x64x128 .f32) (l m : Vec Ideal S1x128 .f32) (y : FVec Ideal S1x64x128 .f32) (t : Fin 64) (e : Fin 128) :
    k0_pay52 (k0_pay39 S (QG0 q z l m) y) (ix2 t e) = (∑ d : Fin 128, k0_pay2 q (ix2 t d) * Ideal.exp (gF z l m (ix2 t d)) * S (ix2 e d)) + y (ix3 0 t e) := by
  unfold QG0
  obtain ⟨G, hG⟩ : ∃ x, x = gF z l m := ⟨_, rfl⟩
  obtain ⟨Q, hQ⟩ : ∃ x, x = k0_pay2 q := ⟨_, rfl⟩
  rw [← hG, ← hQ]
  pointwise [k0_pay52, k0_pay39, k0_pay20, k0_pay21]

theorem outB_at (S : FVec Ideal S128x128 .f32) (q z : Vec Ideal S1x64x128 .f32) (l m : Vec Ideal S1x128 .f32) (y : FVec Ideal S1x64x128 .f32) (t : Fin 64) (e : Fin 128) :
    k0_pay53 (k0_pay41 S (QG1 q z l m)) y (ix2 t e) = (∑ d : Fin 128, k0_pay2 q (ix2 t d) * Ideal.exp (gB z l m (ix2 t d)) * S (ix2 e d)) + y (ix3 0 t e) := by
  unfold QG1
  obtain ⟨G, hG⟩ : ∃ x, x = gB z l m := ⟨_, rfl⟩
  obtain ⟨Q, hQ⟩ : ∃ x, x = k0_pay2 q := ⟨_, rfl⟩
  rw [← hG, ← hQ]
  pointwise [k0_pay53, k0_pay41, k0_pay47]

theorem k0_pay50_at (e d : Fin 128) : k0_pay50 (F := Ideal) (ix2 e d) = 0 := by
  pointwise [k0_pay50]

theorem row0_at (x : Vec Ideal S2x128 .f32) (d : Fin 128) : row0 x (ix2 0 d) = x (ix2 0 d) := by
  pointwise [row0]
theorem row1_at (x : Vec Ideal S2x128 .f32) (d : Fin 128) : row1 x (ix2 0 d) = x (ix2 1 d) := by
  pointwise [row1]

theorem ldc_at (x : Vec Ideal S1x2304x128 .f32) (n : T1) (t : Fin 64) (d : Fin 128) : ldc x n (ix3 0 t d) = ap x (64 * n.val + t.val) d := by
  have hn : n.val < 36 := lt_of_lt_of_eq n.isLt k0_t1_trips
  have ht := t.isLt
  unfold ap
  rw [dif_pos (by omega)]
  unfold ldc
  have hz : ∀ a, (![0, 64 * n.val, 0] : Fin 3 → ℕ) a + S1x64x128.size a ≤ S1x2304x128.size a := by
    have h := k0_off1_inb n
    rw [k0_off1_eq] at h
    exact h
  rw [ld_unit_congr (F := Ideal) (sh := S1x2304x128) (e := .f32) x (k0_off1_eq n) (k0_off1_inb n) hz]
  refine congrArg x (funext fun a => Fin.ext ?_)
  fin_cases a
  · rfl
  · show 64 * n.val + 1 * t.val = 64 * n.val + t.val; omega
  · show 0 + 1 * d.val = d.val; omega

end Cert.KernelIdeal.Run

end
-- ==== Proof.Block.lean ====
/- The kernel's block is the recurrence of its two directions, added, normed and gated. -/
module

public import proofs.«01_k».proof.Proof.State

@[expose] public section

set_option maxRecDepth 16384

noncomputable section

namespace Cert.KernelIdeal.Run

open Idealize.ShloMosaic
open Cert.KernelIdeal Cert.KernelIdeal.Gen Cert.Hgrn

/-! ## The recurrence's data, from the block, along the positions `f` -/

/-- The gated query, -/
def dQ (x : Vec Ideal S1x2304x128 .f32) (f : ℕ → ℕ) (n : ℕ) (t : Fin 64) (d : Fin 128) : EReal :=
  ap x (f (64 * n + t.val)) d * Ideal.logistic (ap x (f (64 * n + t.val)) d)
/-- the key, -/
def dK (x : Vec Ideal S1x2304x128 .f32) (o : Fin 128 → EReal) (f : ℕ → ℕ) (n : ℕ) (t : Fin 64) (d : Fin 128) : EReal :=
  ky (ap x (f (64 * n + t.val)) d) (o d)
/-- the log gate -/
def dW (x : Vec Ideal S1x2304x128 .f32) (l m : Fin 128 → EReal) (f : ℕ → ℕ) (n : ℕ) (t : Fin 64) (d : Fin 128) : EReal :=
  lg (ap x (f (64 * n + t.val)) d) (l d) (m d)
/-- and the value. -/
def dV (x : Vec Ideal S1x2304x128 .f32) (f : ℕ → ℕ) (n : ℕ) (t : Fin 64) (d : Fin 128) : EReal := ap x (f (64 * n + t.val)) d

theorem turn_bwd (k : T2) (u : Fin 64) : turn (64 * k.val + u.val) = 64 * (bwd k).val + u.rev.val := by
  have hk : k.val < 36 := lt_of_lt_of_eq k.isLt k0_t2_trips
  have hu := u.isLt
  rw [Fin.val_rev]
  unfold turn
  by_cases h : k.val < 4
  · rw [bwd_val_lt k h, if_pos (by omega)]; omega
  · rw [bwd_val_ge k h, if_neg (by omega)]; omega

section block
variable (x0 x1 x2 x3 : Vec Ideal S1x2304x128 .f32) (x5 x6 x7 : Vec Ideal S2x128 .f32)

abbrev rw0 (x : Vec Ideal S2x128 .f32) (d : Fin 128) : EReal := x (ix2 0 d)
abbrev rw1 (x : Vec Ideal S2x128 .f32) (d : Fin 128) : EReal := x (ix2 1 d)

theorem cF (k : T2) (t : Fin 64) (d : Fin 128) :
    gF (ldc x1 (fwd k)) (row0 x5) (row0 x6) (ix2 t d) = cum (dW x1 (rw0 x5) (rw0 x6) id k.val) t d := by
  rw [gF_at]
  simp only [ldc_at, row0_at]
  rfl

theorem cB (k : T2) (t : Fin 64) (d : Fin 128) :
    gB (ldc x2 (bwd k)) (row1 x5) (row1 x6) (ix2 t d) = cum (dW x2 (rw1 x5) (rw1 x6) turn k.val) t.rev d := by
  rw [gB_at, sum_rev]
  simp only [ldc_at, row1_at, ← turn_bwd]
  refine Finset.sum_congr rfl fun u _ => if_congr ?_ rfl rfl
  rw [Fin.le_def, Fin.le_def, Fin.val_rev, Fin.val_rev]
  omega

theorem keF (k : T2) (t : Fin 64) (d : Fin 128) : kF (ldc x1 (fwd k)) (row0 x7) (ix2 t d) = dK x1 (rw0 x7) id k.val t d := by
  rw [keyF_at, ldc_at, row0_at]
  rfl
theorem keB (k : T2) (t : Fin 64) (d : Fin 128) : kB (ldc x2 (bwd k)) (row1 x7) (ix2 t d) = dK x2 (rw1 x7) turn k.val t.rev d := by
  rw [keyB_at, ldc_at, row1_at]
  unfold dK
  rw [turn_bwd, Fin.rev_rev]

theorem quF (k : T2) (t : Fin 64) (d : Fin 128) : k0_pay2 (ldc x0 (fwd k)) (ix2 t d) = dQ x0 id k.val t d := by
  rw [qs_at, ldc_at]
  rfl
theorem quB (k : T2) (t : Fin 64) (d : Fin 128) : k0_pay2 (ldc x0 (bwd k)) (ix2 t d) = dQ x0 turn k.val t.rev d := by
  rw [qs_at, ldc_at]
  unfold dQ
  rw [turn_bwd, Fin.rev_rev]

theorem vaF (k : T2) (t : Fin 64) (d : Fin 128) : ldc x3 (fwd k) (ix3 0 t d) = dV x3 id k.val t d := ldc_at _ _ _ _
theorem vaB (k : T2) (t : Fin 64) (d : Fin 128) : ldc x3 (bwd k) (ix3 0 t d) = dV x3 turn k.val t.rev d := by
  rw [ldc_at]
  unfold dV
  rw [turn_bwd, Fin.rev_rev]

/-- The forward state before trip `k`. -/
theorem stateF : ∀ k ≤ k0_t2_loop.trips, ∀ e d : Fin 128,
    (stF x1 x2 x3 x5 x6 x7 k).1 (ix2 e d) = St (dK x1 (rw0 x7) id) (dW x1 (rw0 x5) (rw0 x6) id) (dV x3 id) k d e
  | 0, _, e, d => k0_pay50_at e d
  | k + 1, h, e, d => by
    have ih := stateF k (Nat.le_of_succ_le h) e d
    have es := congrArg Prod.fst (stF_succ x1 x2 x3 x5 x6 x7 ⟨k, h⟩)
    dsimp only at es
    rw [es, stepF_at, ih]
    simp only [cF, keF, vaF]
    rfl

/-- The backward state before trip `k`. -/
theorem stateB : ∀ k ≤ k0_t2_loop.trips, ∀ e d : Fin 128,
    (stF x1 x2 x3 x5 x6 x7 k).2 (ix2 e d) = St (dK x2 (rw1 x7) turn) (dW x2 (rw1 x5) (rw1 x6) turn) (dV x3 turn) k d e
  | 0, _, e, d => k0_pay50_at e d
  | k + 1, h, e, d => by
    have ih := stateB k (Nat.le_of_succ_le h) e d
    have es := congrArg Prod.snd (stF_succ x1 x2 x3 x5 x6 x7 ⟨k, h⟩)
    dsimp only at es
    rw [es, stepB_at, ih, sum_rev]
    simp only [cB, keB, vaB, Fin.rev_rev]
    rfl

/-- The forward output of trip `k`. -/
theorem outFwd (hw : ∀ p d, ∃ r : ℝ, r ≤ 0 ∧ lg (ap x1 p d) (rw0 x5 d) (rw0 x6 d) = (r : EReal)) (k : T2) (t : Fin 64) (e : Fin 128) :
    OF x0 x1 x2 x3 x5 x6 x7 k (ix2 t e)
      = Out (dQ x0 id) (dK x1 (rw0 x7) id) (dW x1 (rw0 x5) (rw0 x6) id) (dV x3 id) k.val t e := by
  unfold OF
  rw [outF_at, OI0_val]
  · simp only [sco, cF, keF, quF, vaF, stateF x1 x2 x3 x5 x6 x7 k.val k.isLt.le]
    rfl
  · intro t d
    rw [cF]
    exact part_real _ fun u => hw _ _
  · intro t r d h
    rw [cF, cF]
    exact part_le _ (fun u => hw _ _) fun u hu => hu.trans h

/-- The backward output of trip `k`. -/
theorem outBwd (hw : ∀ p d, ∃ r : ℝ, r ≤ 0 ∧ lg (ap x2 p d) (rw1 x5 d) (rw1 x6 d) = (r : EReal)) (k : T2) (t : Fin 64) (e : Fin 128) :
    OB x0 x1 x2 x3 x5 x6 x7 k (ix2 t e)
      = Out (dQ x0 turn) (dK x2 (rw1 x7) turn) (dW x2 (rw1 x5) (rw1 x6) turn) (dV x3 turn) k.val t.rev e := by
  unfold OB
  rw [outB_at, OI1_val, sum_rev]
  · simp only [sco, cB, keB, quB, vaB, stateB x1 x2 x3 x5 x6 x7 k.val k.isLt.le, Fin.rev_rev]
    refine congrArg₂ (· + ·) rfl (Finset.sum_congr rfl fun s _ => congrArg (· * _) (if_congr ?_ rfl rfl))
    rw [Fin.le_def, Fin.le_def, Fin.val_rev, Fin.val_rev]
    omega
  · intro t d
    rw [cB]
    exact part_real _ fun u => hw _ _
  · intro t r d h
    rw [cB, cB]
    refine part_le _ (fun u => hw _ _) fun u hu => ?_
    have h1 := Fin.le_def.1 hu
    have h2 := Fin.le_def.1 h
    rw [Fin.val_rev] at h1
    rw [Fin.le_def, Fin.val_rev]
    omega

end block

/-- The mixer's final step at a position: the two directions' sum over its root mean square, times the gain and the gate. -/
def fin (o : Fin 128 → EReal) (g y : EReal) (e : Fin 128) : EReal :=
  o e * Ideal.rsqrt (Ideal.div (∑ d : Fin 128, o d * o d) (Ideal.ofBits .f32 0x43000000#32) + Ideal.ofBits .f32 0x358637BD#32) * g * (y * Ideal.logistic y)

theorem fin_at (a b : Vec Ideal S2304x128 .f32) (g : Vec Ideal S1x128 .f32) (y : Vec Ideal S1x2304x128 .f32) (s : Fin 2304) (e : Fin 128) :
    k0_pay1 (k0_pay54 a b g) y (ix3 0 s e) = fin (fun d => a (ix2 s d) + b (ix2 s d)) (g (ix2 0 e)) (y (ix3 0 s e)) e := by
  pointwise [k0_pay1, k0_pay54]
  rfl

/-- The two directions' outputs at position `s`, from the recurrences. -/
def both (x0 x1 x2 x3 : Vec Ideal S1x2304x128 .f32) (x5 x6 x7 : Vec Ideal S2x128 .f32) (s : Fin 2304) (e : Fin 128) : EReal :=
  Out (dQ x0 id) (dK x1 (rw0 x7) id) (dW x1 (rw0 x5) (rw0 x6) id) (dV x3 id) (s.val / 64) ⟨s.val % 64, Nat.mod_lt _ (by decide)⟩ e
    + Out (dQ x0 turn) (dK x2 (rw1 x7) turn) (dW x2 (rw1 x5) (rw1 x6) turn) (dV x3 turn) (turn s.val / 64) ⟨turn s.val % 64, Nat.mod_lt _ (by decide)⟩ e

/-- The kernel's block at an entry. -/
theorem OUT_at (x0 x1 x2 x3 x4 : Vec Ideal S1x2304x128 .f32) (x5 x6 x7 : Vec Ideal S2x128 .f32) (x8 : Vec Ideal S1x128 .f32)
    (h0 : ∀ p d, ∃ r : ℝ, r ≤ 0 ∧ lg (ap x1 p d) (rw0 x5 d) (rw0 x6 d) = (r : EReal))
    (h1 : ∀ p d, ∃ r : ℝ, r ≤ 0 ∧ lg (ap x2 p d) (rw1 x5 d) (rw1 x6 d) = (r : EReal)) (s : Fin 2304) (e : Fin 128) :
    OUT x0 x1 x2 x3 x4 x5 x6 x7 x8 (ix3 0 s e) = fin (both x0 x1 x2 x3 x5 x6 x7 s) (x8 (ix2 0 e)) (x4 (ix3 0 s e)) e := by
  unfold OUT
  rw [fin_at]
  congr 1
  funext d
  have hs := s.isLt
  have ha : W16 x0 x1 x2 x3 x5 x6 x7 (ix2 s d) = OF x0 x1 x2 x3 x5 x6 x7 (tripF s) (ix2 ⟨s.val % 64, Nat.mod_lt _ (by decide)⟩ d) := rfl
  have hb : W17 x0 x1 x2 x3 x5 x6 x7 (ix2 s d) = OB x0 x1 x2 x3 x5 x6 x7 (tripB s) (ix2 ⟨s.val % 64, Nat.mod_lt _ (by decide)⟩ d) := rfl
  rw [ha, hb, outFwd x0 x1 x2 x3 x5 x6 x7 h0, outBwd x0 x1 x2 x3 x5 x6 x7 h1]
  have et : (tripB s).val = turn s.val / 64 := by
    unfold tripB turn
    by_cases h : s.val / 64 < 4
    · rw [dif_pos h, if_pos (by omega)]; show 3 - s.val / 64 = _; omega
    · rw [dif_neg h, if_neg (by omega)]; show 39 - s.val / 64 = _; omega
  have er : (⟨s.val % 64, Nat.mod_lt _ (by decide)⟩ : Fin 64).rev = ⟨turn s.val % 64, Nat.mod_lt _ (by decide)⟩ := by
    refine Fin.ext ?_
    rw [Fin.val_rev]
    show 64 - (s.val % 64 + 1) = turn s.val % 64
    unfold turn
    by_cases h : s.val < 256
    · rw [if_pos h]; omega
    · rw [if_neg h]; omega
  rw [er, et]
  rfl

end Cert.KernelIdeal.Run

end
-- ==== Proof.RefData.lean ====
/- The reference's chunks of queries, keys, values and log gates, read at an entry. -/
module

public import proofs.«01_k».proof.Proof.Gen.ReferenceIdeal.Step
public import proofs.«01_k».proof.Proof.Mixer
public import Idealize.ShloMosaic.Lib.Pointwise

@[expose] public section

set_option maxRecDepth 16384

noncomputable section

namespace Cert.ReferenceIdeal.Ref

open Idealize.ShloMosaic
open Cert.ReferenceIdeal Cert.ReferenceIdeal.Gen Cert.ReferenceIdeal.Step Cert.Hgrn

abbrev Arr := (⟨S8x2304x4096, .f32⟩ : BufTy).Contents (Elt Ideal)
abbrev Lbs := (⟨S2x512, .f32⟩ : BufTy).Contents (Elt Ideal)

/-- The position the backward direction takes at its step `p`. -/
def back (p : Fin 2304) : Fin 2304 := ⟨if p.val < 256 then 255 - p.val else 2559 - p.val, by split <;> omega⟩

theorem rev256 (x : FVec Ideal S8x256x512 .f32) (b : Fin 8) (p : Fin 256) (c : Fin 512) :
    Host.reverse [1] x (ix3 b p c) = x (ix3 b p.rev c) := by
  refine congrArg x (funext fun a => ?_)
  match a with
  | 0 => rfl
  | 1 => rfl
  | 2 => rfl

theorem rev2048 (x : FVec Ideal S8x2048x512 .f32) (b : Fin 8) (p : Fin 2048) (c : Fin 512) :
    Host.reverse [1] x (ix3 b p c) = x (ix3 b p.rev c) := by
  refine congrArg x (funext fun a => ?_)
  match a with
  | 0 => rfl
  | 1 => rfl
  | 2 => rfl

/-- The context's positions reversed, then the others' reversed. -/
theorem turned (x : FVec Ideal S8x2304x512 .f32) (b : Fin 8) (p : Fin 2304) (c : Fin 512) :
    concatenate S8x2304x512 1 [⟨S8x256x512, Host.reverse [1] (extractStridedSlice S8x256x512 ![0, 0, 0] x slices_S8x2304x512_S8x256x512_0_0_0)⟩,
      ⟨S8x2048x512, Host.reverse [1] (extractStridedSlice S8x2048x512 ![0, 256, 0] x slices_S8x2304x512_S8x2048x512_0_256_0)⟩]
      concatenates_S8x256x512_S8x2048x512_S8x2304x512_d1 (ix3 b p c) = x (ix3 b (back p) c) := by
  obtain ⟨y, hy⟩ : ∃ y, y = Host.reverse [1] (extractStridedSlice S8x256x512 ![0, 0, 0] x slices_S8x2304x512_S8x256x512_0_0_0) := ⟨_, rfl⟩
  obtain ⟨z, hz⟩ : ∃ z, z = Host.reverse [1] (extractStridedSlice S8x2048x512 ![0, 256, 0] x slices_S8x2304x512_S8x2048x512_0_256_0) := ⟨_, rfl⟩
  have ey : ∀ p c, y (ix3 b p c) = x (ix3 b ⟨p.rev.val, by omega⟩ c) := fun p c => by
    rw [hy, rev256]
    pointwise
  have ez : ∀ p c, z (ix3 b p c) = x (ix3 b ⟨256 + p.rev.val, by omega⟩ c) := fun p c => by
    rw [hz, rev2048]
    pointwise
  rw [← hy, ← hz]
  clear hy hz
  pointwise
  by_cases h : p.val < 256
  · rw [dif_pos h, ey]
    refine congrArg (fun k => x (ix3 b k c)) (Fin.ext ?_)
    show 256 - (p.val + 1) = if _ then _ else _
    rw [if_pos h]; omega
  · rw [dif_neg h, ez]
    refine congrArg (fun k => x (ix3 b k c)) (Fin.ext ?_)
    show 256 + (2048 - (p.val - 256 + 1)) = if _ then _ else _
    rw [if_neg h]; omega

/-- The position direction `r` takes at its step `p`. -/
def posd (r : Fin 2) (p : Fin 2304) : Fin 2304 := if r.val < 1 then p else back p

end Cert.ReferenceIdeal.Ref

end
-- ==== Proof.RefHeads.lean ====
/- The reference's chunks of queries, keys, values and log gates, read at an entry. -/
module

public import proofs.«01_k».proof.Proof.Gen.ReferenceIdeal.Step
public import proofs.«01_k».proof.Proof.RefData
public import Idealize.ShloMosaic.Lib.Pointwise
public import Idealize.ShloMosaic.Lib.Pipeline.Value

@[expose] public section

set_option maxRecDepth 16384

noncomputable section

namespace Cert.ReferenceIdeal.Ref

open Idealize.ShloMosaic
open Cert.ReferenceIdeal Cert.ReferenceIdeal.Gen Cert.ReferenceIdeal.Step Cert.Hgrn

-- := (⟨S8x2304x4096, .f32⟩ : BufTy).Contents (Elt Ideal)
-- := (⟨S2x512, .f32⟩ : BufTy).Contents (Elt Ideal)

/-- A row of the lower bounds spread over all entries, read at an entry. -/
theorem row_at (x : FVec Ideal S2x1x4x1x128 .f32) (r : Fin 2) (b : Fin 8) (h : Fin 4) (p : Fin 2304) (d : Fin 128) :
    broadcastInDim S2x8x4x2304x128 ![0, 1, 2, 3, 4] bcast_S2x1x4x1x128_S2x8x4x2304x128_0_1_2_3_4 x (ix5 r b h p d) = x (ix5 r 0 h 0 d) := by
  refine congrArg x (funext fun a => ?_)
  match a with
  | 0 => rfl
  | 1 => rfl
  | 2 => rfl
  | 3 => rfl
  | 4 => rfl

/-- The lower bounds laid out by direction, head and key channel. -/
theorem v41_at (a : Arr) (l : Lbs) (r : Fin 2) (h : Fin 4) (d : Fin 128) :
    A_main_v41 a l (ix5 r 0 h 0 d) = l (ix2 r ⟨h.val * 128 + d.val, by omega⟩) := by
  refine shapeCast_apply l shapeCasts_S2x512_S2x1x4x1x128 _ _ ?_
  rw [Shape.rowMajor_val_two, Shape.rowMajor_val_five]
  show r.val * 512 + (h.val * 128 + d.val) = (((r.val * 1 + 0) * 4 + h.val) * 1 + 0) * 128 + d.val
  omega

/-- The two directions' arrays, stacked, read at an entry. -/
theorem stack_at (x y : FVec Ideal S8x2304x512 .f32) (r : Fin 2) (b : Fin 8) (p : Fin 2304) (c : Fin 512) :
    concatenate S2x8x2304x512 0 [⟨S1x8x2304x512, broadcastInDim S1x8x2304x512 ![1,2,3] bcast_S8x2304x512_S1x8x2304x512_1_2_3 x⟩, ⟨S1x8x2304x512, broadcastInDim S1x8x2304x512 ![1,2,3] bcast_S8x2304x512_S1x8x2304x512_1_2_3 y⟩] concatenates_S1x8x2304x512_S1x8x2304x512_S2x8x2304x512_d0 (ix4 r b p c)
      = if r.val < 1 then x (ix3 b p c) else y (ix3 b p c) := by
  pointwise
  rfl

/-- The stacked arrays cut into heads, read at an entry. -/
theorem heads (x y : FVec Ideal S8x2304x512 .f32) (r : Fin 2) (b : Fin 8) (h : Fin 4) (p : Fin 2304) (d : Fin 128) :
    transpose S2x8x4x2304x128 [0,1,3,2,4] (shapeCast S2x8x2304x4x128 (concatenate S2x8x2304x512 0 [⟨S1x8x2304x512, broadcastInDim S1x8x2304x512 ![1,2,3] bcast_S8x2304x512_S1x8x2304x512_1_2_3 x⟩, ⟨S1x8x2304x512, broadcastInDim S1x8x2304x512 ![1,2,3] bcast_S8x2304x512_S1x8x2304x512_1_2_3 y⟩] concatenates_S1x8x2304x512_S1x8x2304x512_S2x8x2304x512_d0) shapeCasts_S2x8x2304x512_S2x8x2304x4x128) transposes_S2x8x2304x4x128_S2x8x4x2304x128_0_1_3_2_4 (ix5 r b h p d)
      = if r.val < 1 then x (ix3 b p ⟨h.val*128+d.val, by omega⟩) else y (ix3 b p ⟨h.val*128+d.val, by omega⟩) := by
  refine (transpose_apply _ _ _ (ix5 r b h p d) (ix5 r b p h d) ?_).trans ?_
  · intro a
    match a with
    | 0 => rfl
    | 1 => rfl
    | 2 => rfl
    | 3 => rfl
    | 4 => rfl
  refine (shapeCast_apply _ shapeCasts_S2x8x2304x512_S2x8x2304x4x128 (ix5 r b p h d) (ix4 r b p ⟨h.val*128+d.val, by omega⟩) ?_).trans (stack_at x y r b p _)
  rw [Shape.rowMajor_val_four, Shape.rowMajor_val_five]
  show ((r.val * 8 + b.val) * 2304 + p.val) * 512 + (h.val * 128 + d.val) = (((r.val * 8 + b.val) * 2304 + p.val) * 4 + h.val) * 128 + d.val
  omega

/-- The queries by direction and head: the swish of the first stretch of columns. -/
theorem v20_at (a : Arr) (l : Lbs) (r : Fin 2) (b : Fin 8) (h : Fin 4) (p : Fin 2304) (d : Fin 128) :
    A_main_v20 a l (ix5 r b h p d) = a (ix3 b (posd r p) ⟨1536 + (h.val * 128 + d.val), by omega⟩)
      * Ideal.logistic (a (ix3 b (posd r p) ⟨1536 + (h.val * 128 + d.val), by omega⟩)) := by
  have e7 : ∀ (p : Fin 2304) (c : Fin 512), A_main_v7 a l (ix3 b p c) = a (ix3 b p ⟨1536 + c.val, by omega⟩) * Ideal.logistic (a (ix3 b p ⟨1536 + c.val, by omega⟩)) := by
    intro p c
    pointwise [A_main_v7, A_main_v6, A_main_v4, A_main_v2, A_main_v1, A_main_v0, K_main_v3, K_main_v5, K_main_cst, K_main_cst_0]
    rfl
  refine (heads (A_main_v7 a l) (A_main_v15 a l) r b h p d).trans ?_
  unfold posd
  by_cases hr : r.val < 1
  · rw [if_pos hr, if_pos hr, e7]
  · rw [if_neg hr, if_neg hr, show A_main_v15 a l (ix3 b p ⟨h.val * 128 + d.val, by omega⟩) = _ from turned (A_main_v7 a l) b p _, e7]

/-- The values by direction and head. -/
theorem v30_at (a : Arr) (l : Lbs) (r : Fin 2) (b : Fin 8) (h : Fin 4) (p : Fin 2304) (d : Fin 128) :
    A_main_v30 a l (ix5 r b h p d) = a (ix3 b (posd r p) ⟨3072 + (h.val * 128 + d.val), by omega⟩) := by
  have e10 : ∀ (p : Fin 2304) (c : Fin 512), A_main_v10 a l (ix3 b p c) = a (ix3 b p ⟨3072 + c.val, by omega⟩) := by
    intro p c
    pointwise [A_main_v10]
  refine (heads (A_main_v10 a l) (A_main_v25 a l) r b h p d).trans ?_
  unfold posd
  by_cases hr : r.val < 1
  · rw [if_pos hr, if_pos hr, e10]
  · rw [if_neg hr, if_neg hr, show A_main_v25 a l (ix3 b p ⟨h.val * 128 + d.val, by omega⟩) = _ from turned (A_main_v10 a l) b p _, e10]

/-- The logits by direction and head: each direction has columns of its own. -/
theorem v40_at (a : Arr) (l : Lbs) (r : Fin 2) (b : Fin 8) (h : Fin 4) (p : Fin 2304) (d : Fin 128) :
    A_main_v40 a l (ix5 r b h p d) = a (ix3 b (posd r p) ⟨2048 + 512 * r.val + (h.val * 128 + d.val), by omega⟩) := by
  have e8 : ∀ (p : Fin 2304) (c : Fin 512), A_main_v8 a l (ix3 b p c) = a (ix3 b p ⟨2048 + c.val, by omega⟩) := by
    intro p c
    pointwise [A_main_v8]
  have e9 : ∀ (p : Fin 2304) (c : Fin 512), A_main_v9 a l (ix3 b p c) = a (ix3 b p ⟨2560 + c.val, by omega⟩) := by
    intro p c
    pointwise [A_main_v9]
  refine (heads (A_main_v8 a l) (A_main_v35 a l) r b h p d).trans ?_
  unfold posd
  by_cases hr : r.val < 1
  · rw [if_pos hr, if_pos hr, e8]
    refine congrArg (fun k => a (ix3 b p k)) (Fin.ext ?_)
    show 2048 + (h.val * 128 + d.val) = 2048 + 512 * r.val + (h.val * 128 + d.val)
    omega
  · rw [if_neg hr, if_neg hr, show A_main_v35 a l (ix3 b p ⟨h.val * 128 + d.val, by omega⟩) = _ from turned (A_main_v9 a l) b p _, e9]
    refine congrArg (fun k => a (ix3 b (back p) k)) (Fin.ext ?_)
    show 2560 + (h.val * 128 + d.val) = 2048 + 512 * r.val + (h.val * 128 + d.val)
    omega

end Cert.ReferenceIdeal.Ref
-- ==== Proof.RefGate.lean ====
/- The reference's log gate and key, read at an entry. -/
module

public import proofs.«01_k».proof.Proof.Gen.ReferenceIdeal.Step
public import proofs.«01_k».proof.Proof.RefData
public import Idealize.ShloMosaic.Lib.Pointwise
public import Idealize.ShloMosaic.Lib.Pipeline.Value
public import proofs.«01_k».proof.Proof.RefHeads

@[expose] public section

set_option maxRecDepth 16384

noncomputable section

namespace Cert.ReferenceIdeal.Ref

open Idealize.ShloMosaic
open Cert.ReferenceIdeal Cert.ReferenceIdeal.Gen Cert.ReferenceIdeal.Step Cert.Hgrn

-- := (⟨S8x2304x4096, .f32⟩ : BufTy).Contents (Elt Ideal)
-- := (⟨S2x512, .f32⟩ : BufTy).Contents (Elt Ideal)

/-- A constant spread over a shape, at an entry. -/
theorem const_at {t : Shape} (h : S_.BroadcastsInDim t ![]) (w : BitVec 32) (j : t.Idx) :
    broadcastInDim t ![] h (constant (F := Ideal) S_ .f32 w) j = Ideal.ofBits .f32 w := rfl

/-- The softplus of an array, as a call writes it, at an entry. -/
theorem softplus_at {s : Shape} (x Z : FVec Ideal s .f32) (i : s.Idx) (hZ : Z i = 0) :
    select (cmpf .une (subf x Z) (subf x Z)) (addf x Z)
      (addf (maximumf x Z) (Host.log1p (Host.exp (Host.negf (Host.absf (subf x Z)))))) i = max (x i) 0 + sp (x i) := by
  pointwise [hZ]
  rw [if_neg (fun h => h rfl)]
  unfold sp
  rw [zero_sub]
  rfl

/-- The log of the sum of two exponentials, as a call writes it, at an entry. -/
theorem logadd_at {s : Shape} (L D : FVec Ideal s .f32) (i : s.Idx) :
    select (cmpf .une (subf L D) (subf L D)) (addf L D)
      (addf (maximumf L D) (Host.log1p (Host.exp (Host.negf (Host.absf (subf L D)))))) i
      = max (L i) (D i) + Ideal.log1p (Ideal.exp (0 - max (L i - D i) (-(L i - D i)))) := by
  pointwise
  rw [if_neg (fun h => h rfl), zero_sub]
  rfl

/-- The sum of a spread row and a difference, at an entry. -/
theorem sub_at {s : Shape} (x y : FVec Ideal s .f32) (i : s.Idx) : subf x y i = x i - y i := rfl

theorem neg_at {s : Shape} (x : FVec Ideal s .f32) (i : s.Idx) : Host.negf x i = -(x i) := rfl

theorem log_at {s : Shape} (x : FVec Ideal s .f32) (i : s.Idx) : Host.log x i = Ideal.log (x i) := rfl

theorem log1p_at {s : Shape} (x : FVec Ideal s .f32) (i : s.Idx) : Host.log1p x i = Ideal.log1p (x i) := rfl

/-- A row times the sigmoid of the negated argument, as a call writes it, at an entry. -/
theorem gate_at {s : Shape} (M A B x : FVec Ideal s .f32) (i : s.Idx) (hA : A i = 1) (hB : B i = 1) :
    mulf M (Host.divf A (addf B (Host.exp (Host.negf (Host.negf x))))) i = M i * Ideal.div 1 (1 + Ideal.exp (x i)) := by
  pointwise [hA, hB]
  rw [neg_neg]

/-- The log of the lower bound, spread, at an entry. -/
theorem v49_at (a : Arr) (l : Lbs) (r : Fin 2) (b : Fin 8) (h : Fin 4) (p : Fin 2304) (d : Fin 128) :
    A_main_v49 a l (ix5 r b h p d) = Ideal.log (l (ix2 r ⟨h.val * 128 + d.val, by omega⟩)) := by
  unfold A_main_v49 A_main_v42
  rw [row_at, log_at, v41_at]

/-- The log of one minus the lower bound, spread, at an entry. -/
theorem v47_at (a : Arr) (l : Lbs) (r : Fin 2) (b : Fin 8) (h : Fin 4) (p : Fin 2304) (d : Fin 128) :
    A_main_v47 a l (ix5 r b h p d) = Ideal.log1p (-(l (ix2 r ⟨h.val * 128 + d.val, by omega⟩))) := by
  unfold A_main_v47 A_main_v44 A_main_v43
  rw [row_at, log1p_at, neg_at, v41_at]

/-- The softplus of the negated logit at an entry. -/
theorem v46_at (a : Arr) (l : Lbs) (i : S2x8x4x2304x128.Idx) :
    A_main_v46 a l i = max (-(A_main_v40 a l i)) 0 + sp (-(A_main_v40 a l i)) := by
  unfold A_main_v46 A_main_call6_v4 A_main_call6_v6 A_main_call6_v11 A_main_call6_v1 A_main_call6_v10 A_main_call6_v9 A_main_call6_v8 A_main_call6_v7 A_main_call6_v3
  generalize hx : (A_main_v45 a l) = x
  have hz : (K_main_call6_v0 (F := Ideal)) i = 0 := by
    unfold K_main_call6_v0 K_main_call6_cst
    rw [const_at, Ideal.ofBits_zero_f32]
  have e2 : (K_main_call6_v2 (F := Ideal)) = K_main_call6_v0 := rfl
  have e5 : (K_main_call6_v5 (F := Ideal)) = K_main_call6_v0 := rfl
  rw [e2, e5]
  generalize (K_main_call6_v0 (F := Ideal)) = Z at hz ⊢
  rw [softplus_at x Z i hz, ← hx]
  unfold A_main_v45
  rw [neg_at]

/-- The log of the forget gate at an entry. -/
theorem v61_at (a : Arr) (l : Lbs) (r : Fin 2) (b : Fin 8) (h : Fin 4) (p : Fin 2304) (d : Fin 128) :
    A_main_v61 a l (ix5 r b h p d) = lg (A_main_v40 a l (ix5 r b h p d)) (Ideal.log (l (ix2 r ⟨h.val * 128 + d.val, by omega⟩)))
      (Ideal.log1p (-(l (ix2 r ⟨h.val * 128 + d.val, by omega⟩)))) := by
  have e48 : A_main_v48 a l (ix5 r b h p d) = Ideal.log1p (-(l (ix2 r ⟨h.val * 128 + d.val, by omega⟩)))
      + (min (A_main_v40 a l (ix5 r b h p d)) 0 - sp (A_main_v40 a l (ix5 r b h p d))) := by
    unfold A_main_v48
    rw [sub_at, v47_at, v46_at, sp_neg, logsig_eq, sub_eq_add_neg]
  have eL := v49_at a l r b h p d
  unfold A_main_v61 A_main_v53 A_main_v55 A_main_v60 A_main_v52 A_main_v50 A_main_v59 A_main_v58 A_main_v57 A_main_v56
  have e51 : A_main_v51 a l = A_main_v49 a l := rfl
  have e54 : A_main_v54 a l = A_main_v49 a l := rfl
  unfold A_main_v52
  rw [e51, e54]
  generalize A_main_v49 a l = L at eL ⊢
  generalize A_main_v48 a l = D at e48 ⊢
  rw [logadd_at, eL, e48]
  rfl

/-- The key at an entry: one minus the forget gate. -/
theorem v72_at (a : Arr) (l : Lbs) (r : Fin 2) (b : Fin 8) (h : Fin 4) (p : Fin 2304) (d : Fin 128) :
    A_main_v72 a l (ix5 r b h p d) = ky (A_main_v40 a l (ix5 r b h p d)) (1 - l (ix2 r ⟨h.val * 128 + d.val, by omega⟩)) := by
  have eo : A_main_v71 a l (ix5 r b h p d) = 1 - l (ix2 r ⟨h.val * 128 + d.val, by omega⟩) := by
    unfold A_main_v71 A_main_v63 K_main_v62 K_main_cst_1
    rw [row_at, sub_at, const_at, v41_at, Ideal.ofBits_one_f32]
  have hA : (K_main_v69 (F := Ideal)) (ix5 r b h p d) = 1 := by
    unfold K_main_v69 K_main_cst_3
    rw [const_at, Ideal.ofBits_one_f32]
  have hB : (K_main_v67 (F := Ideal)) (ix5 r b h p d) = 1 := by
    unfold K_main_v67 K_main_cst_2
    rw [const_at, Ideal.ofBits_one_f32]
  rw [ky_eq]
  unfold A_main_v72 A_main_v70 A_main_v68 A_main_v66 A_main_v65 A_main_v64
  generalize A_main_v71 a l = M at eo ⊢
  generalize (K_main_v69 (F := Ideal)) = A at hA ⊢
  generalize (K_main_v67 (F := Ideal)) = B at hB ⊢
  rw [gate_at M A B _ _ hA hB, eo]

end Cert.ReferenceIdeal.Ref
-- ==== Proof.RefCum.lean ====
/- A running sum inside a chunk, as the reference writes it. -/
module

public import proofs.«01_k».proof.Proof.Gen.ReferenceIdeal.Step
public import proofs.«01_k».proof.Proof.RefData
public import Idealize.ShloMosaic.Lib.Pointwise
public import Idealize.ShloMosaic.Lib.Pipeline.Value
public import proofs.«01_k».proof.Proof.RefHeads

@[expose] public section

set_option maxRecDepth 16384

noncomputable section

namespace Cert.ReferenceIdeal.Ref

open Idealize.ShloMosaic
open Cert.ReferenceIdeal Cert.ReferenceIdeal.Gen Cert.ReferenceIdeal.Step Cert.Hgrn

-- := (⟨S8x2304x4096, .f32⟩ : BufTy).Contents (Elt Ideal)
-- := (⟨S2x512, .f32⟩ : BufTy).Contents (Elt Ideal)

/-- The one position of a window of 64 along the fifth axis. -/
def winE : Fin 64 ≃ (⟨6, ![1, 1, 1, 1, 64, 1]⟩ : Shape).Idx where
  toFun w := ix6 0 0 0 0 w 0
  invFun k := k 4
  left_inv _ := rfl
  right_inv k := by
    funext a
    match a with
    | 0 => exact Subsingleton.elim (α := Fin 1) _ _
    | 1 => exact Subsingleton.elim (α := Fin 1) _ _
    | 2 => exact Subsingleton.elim (α := Fin 1) _ _
    | 3 => exact Subsingleton.elim (α := Fin 1) _ _
    | 4 => rfl
    | 5 => exact Subsingleton.elim (α := Fin 1) _ _

/-- A fold of additions from zero is the sum. -/
theorem fold_sum {n : ℕ} (f : Fin n → EReal) : (List.finRange n).foldl (fun r k => r + f k) 0 = ∑ k, f k := by
  rw [Fin.sum_univ_def, List.sum_eq_foldl, List.foldl_map]

/-- A window of 64 ending at `t` and padded below sums the entries up to `t`. -/
theorem win_sum (f : Fin 64 → EReal) (t : Fin 64) :
    (∑ w : Fin 64, if h : 63 ≤ t.val + w.val ∧ t.val + w.val - 63 < 64 then f ⟨t.val + w.val - 63, h.2⟩ else 0)
      = ∑ u : Fin 64, if u ≤ t then f u else 0 := by
  have e : ∀ w : Fin 64, (if h : 63 ≤ t.val + w.val ∧ t.val + w.val - 63 < 64 then f ⟨t.val + w.val - 63, h.2⟩ else 0)
      = if 63 ≤ t.val + w.val then f ⟨t.val + w.val - 63, by omega⟩ else 0 := by
    intro w
    by_cases h : 63 ≤ t.val + w.val
    · rw [if_pos h, dif_pos ⟨h, by omega⟩]
    · rw [if_neg h, dif_neg fun h2 => h h2.1]
  rw [Finset.sum_congr rfl fun w _ => e w, ← Finset.sum_filter, ← Finset.sum_filter]
  refine Finset.sum_bij' (fun w _ => ⟨t.val + w.val - 63, by omega⟩) (fun u _ => ⟨(63 + u.val - t.val) % 64, by omega⟩) ?_ ?_ ?_ ?_ ?_
  · intro w hw
    simp only [Finset.mem_filter, Finset.mem_univ, true_and, Fin.le_def] at hw ⊢
    omega
  · intro u hu
    simp only [Finset.mem_filter, Finset.mem_univ, true_and, Fin.le_def] at hu ⊢
    omega
  · intro w hw
    simp only [Finset.mem_filter, Finset.mem_univ, true_and] at hw
    refine Fin.ext ?_
    show (63 + (t.val + w.val - 63) - t.val) % 64 = w.val
    omega
  · intro u hu
    simp only [Finset.mem_filter, Finset.mem_univ, true_and, Fin.le_def] at hu
    refine Fin.ext ?_
    show t.val + (63 + u.val - t.val) % 64 - 63 = u.val
    omega
  · intro w hw
    rfl

/-- The running sum inside a chunk, at an entry. -/
theorem cumsum_at (x : FVec Ideal S2x8x4x36x64x128 .f32) (z : FVec Ideal S_ .f32) (hz : ∀ i, z i = 0)
    (r : Fin 2) (b : Fin 8) (h : Fin 4) (n : Fin 36) (t : Fin 64) (d : Fin 128) :
    Host.reduceWindowAdd ![1, 1, 1, 1, 64, 1] ![1, 1, 1, 1, 1, 1] ![0, 0, 0, 0, 63, 0] ![0, 0, 0, 0, 0, 0] x z
        reduceWindows_S2x8x4x36x64x128_S2x8x4x36x64x128_w1s1p0_0_w1s1p0_0_w1s1p0_0_w1s1p0_0_w64s1p63_0_w1s1p0_0 h_S_ (ix6 r b h n t d)
      = ∑ u : Fin 64, if u ≤ t then x (ix6 r b h n u d) else 0 := by
  rw [← win_sum (fun u => x (ix6 r b h n u d)) t]
  unfold Host.reduceWindowAdd
  rw [Ideal.hostReduceWindowAdd_def]
  unfold Ideal.hostReduceWindowAdd Host.reduceWindow
  rw [hz]
  refine (fold_sum _).trans ?_
  rw [← Equiv.sum_comp ((⟨6, ![1, 1, 1, 1, 64, 1]⟩ : Shape).rowMajor)]
  rw [← Equiv.sum_comp winE]
  refine Finset.sum_congr rfl fun w _ => ?_
  have hk : ∀ a : Fin 6, (((⟨6, ![1, 1, 1, 1, 64, 1]⟩ : Shape).rowMajor.symm (((⟨6, ![1, 1, 1, 1, 64, 1]⟩ : Shape).rowMajor) (winE w))) a).val = (winE w a).val := fun a => by
    rw [Equiv.symm_apply_apply]
  have k0 := (hk 0).trans (show (winE w 0).val = 0 from rfl)
  have k1 := (hk 1).trans (show (winE w 1).val = 0 from rfl)
  have k2 := (hk 2).trans (show (winE w 2).val = 0 from rfl)
  have k3 := (hk 3).trans (show (winE w 3).val = 0 from rfl)
  have k4 := (hk 4).trans (show (winE w 4).val = w.val from rfl)
  have k5 := (hk 5).trans (show (winE w 5).val = 0 from rfl)
  by_cases hc : 63 ≤ t.val + w.val ∧ t.val + w.val - 63 < 64
  · rw [dif_pos hc]
    refine (dif_pos ?_).trans (congrArg x (funext fun a => Fin.ext ?_))
    · intro a
      match a with
      | 0 => exact ⟨by show 0 ≤ r.val * 1 + (((⟨6, ![1, 1, 1, 1, 64, 1]⟩ : Shape).rowMajor.symm (((⟨6, ![1, 1, 1, 1, 64, 1]⟩ : Shape).rowMajor) (winE w))) 0).val; omega, by show r.val * 1 + (((⟨6, ![1, 1, 1, 1, 64, 1]⟩ : Shape).rowMajor.symm (((⟨6, ![1, 1, 1, 1, 64, 1]⟩ : Shape).rowMajor) (winE w))) 0).val - 0 < 2; omega⟩
      | 1 => exact ⟨by show 0 ≤ b.val * 1 + (((⟨6, ![1, 1, 1, 1, 64, 1]⟩ : Shape).rowMajor.symm (((⟨6, ![1, 1, 1, 1, 64, 1]⟩ : Shape).rowMajor) (winE w))) 1).val; omega, by show b.val * 1 + (((⟨6, ![1, 1, 1, 1, 64, 1]⟩ : Shape).rowMajor.symm (((⟨6, ![1, 1, 1, 1, 64, 1]⟩ : Shape).rowMajor) (winE w))) 1).val - 0 < 8; omega⟩
      | 2 => exact ⟨by show 0 ≤ h.val * 1 + (((⟨6, ![1, 1, 1, 1, 64, 1]⟩ : Shape).rowMajor.symm (((⟨6, ![1, 1, 1, 1, 64, 1]⟩ : Shape).rowMajor) (winE w))) 2).val; omega, by show h.val * 1 + (((⟨6, ![1, 1, 1, 1, 64, 1]⟩ : Shape).rowMajor.symm (((⟨6, ![1, 1, 1, 1, 64, 1]⟩ : Shape).rowMajor) (winE w))) 2).val - 0 < 4; omega⟩
      | 3 => exact ⟨by show 0 ≤ n.val * 1 + (((⟨6, ![1, 1, 1, 1, 64, 1]⟩ : Shape).rowMajor.symm (((⟨6, ![1, 1, 1, 1, 64, 1]⟩ : Shape).rowMajor) (winE w))) 3).val; omega, by show n.val * 1 + (((⟨6, ![1, 1, 1, 1, 64, 1]⟩ : Shape).rowMajor.symm (((⟨6, ![1, 1, 1, 1, 64, 1]⟩ : Shape).rowMajor) (winE w))) 3).val - 0 < 36; omega⟩
      | 4 => exact ⟨by show 63 ≤ t.val * 1 + (((⟨6, ![1, 1, 1, 1, 64, 1]⟩ : Shape).rowMajor.symm (((⟨6, ![1, 1, 1, 1, 64, 1]⟩ : Shape).rowMajor) (winE w))) 4).val; omega, by show t.val * 1 + (((⟨6, ![1, 1, 1, 1, 64, 1]⟩ : Shape).rowMajor.symm (((⟨6, ![1, 1, 1, 1, 64, 1]⟩ : Shape).rowMajor) (winE w))) 4).val - 63 < 64; omega⟩
      | 5 => exact ⟨by show 0 ≤ d.val * 1 + (((⟨6, ![1, 1, 1, 1, 64, 1]⟩ : Shape).rowMajor.symm (((⟨6, ![1, 1, 1, 1, 64, 1]⟩ : Shape).rowMajor) (winE w))) 5).val; omega, by show d.val * 1 + (((⟨6, ![1, 1, 1, 1, 64, 1]⟩ : Shape).rowMajor.symm (((⟨6, ![1, 1, 1, 1, 64, 1]⟩ : Shape).rowMajor) (winE w))) 5).val - 0 < 128; omega⟩
    match a with
    | 0 => show r.val * 1 + (((⟨6, ![1, 1, 1, 1, 64, 1]⟩ : Shape).rowMajor.symm (((⟨6, ![1, 1, 1, 1, 64, 1]⟩ : Shape).rowMajor) (winE w))) 0).val - 0 = r.val; omega
    | 1 => show b.val * 1 + (((⟨6, ![1, 1, 1, 1, 64, 1]⟩ : Shape).rowMajor.symm (((⟨6, ![1, 1, 1, 1, 64, 1]⟩ : Shape).rowMajor) (winE w))) 1).val - 0 = b.val; omega
    | 2 => show h.val * 1 + (((⟨6, ![1, 1, 1, 1, 64, 1]⟩ : Shape).rowMajor.symm (((⟨6, ![1, 1, 1, 1, 64, 1]⟩ : Shape).rowMajor) (winE w))) 2).val - 0 = h.val; omega
    | 3 => show n.val * 1 + (((⟨6, ![1, 1, 1, 1, 64, 1]⟩ : Shape).rowMajor.symm (((⟨6, ![1, 1, 1, 1, 64, 1]⟩ : Shape).rowMajor) (winE w))) 3).val - 0 = n.val; omega
    | 4 => show t.val * 1 + (((⟨6, ![1, 1, 1, 1, 64, 1]⟩ : Shape).rowMajor.symm (((⟨6, ![1, 1, 1, 1, 64, 1]⟩ : Shape).rowMajor) (winE w))) 4).val - 63 = t.val + w.val - 63; omega
    | 5 => show d.val * 1 + (((⟨6, ![1, 1, 1, 1, 64, 1]⟩ : Shape).rowMajor.symm (((⟨6, ![1, 1, 1, 1, 64, 1]⟩ : Shape).rowMajor) (winE w))) 5).val - 0 = d.val; omega
  · rw [dif_neg hc]
    refine dif_neg fun H => hc ?_
    have e1 : 63 ≤ t.val * 1 + (((⟨6, ![1, 1, 1, 1, 64, 1]⟩ : Shape).rowMajor.symm (((⟨6, ![1, 1, 1, 1, 64, 1]⟩ : Shape).rowMajor) (winE w))) 4).val := (H 4).1
    have e2 : t.val * 1 + (((⟨6, ![1, 1, 1, 1, 64, 1]⟩ : Shape).rowMajor.symm (((⟨6, ![1, 1, 1, 1, 64, 1]⟩ : Shape).rowMajor) (winE w))) 4).val - 63 < 64 := (H 4).2
    omega

end Cert.ReferenceIdeal.Ref
-- ==== Proof.RefOps.lean ====
/- The reference's layout operations, read at an entry. -/
module

public import proofs.«01_k».proof.Proof.Gen.ReferenceIdeal.Step
public import proofs.«01_k».proof.Proof.RefData
public import Idealize.ShloMosaic.Lib.Pointwise
public import Idealize.ShloMosaic.Lib.Pipeline.Value
public import proofs.«01_k».proof.Proof.RefHeads

@[expose] public section

set_option maxRecDepth 16384

noncomputable section

namespace Cert.ReferenceIdeal.Ref

open Idealize.ShloMosaic
open Cert.ReferenceIdeal Cert.ReferenceIdeal.Gen Cert.ReferenceIdeal.Step Cert.Hgrn

-- := (⟨S8x2304x4096, .f32⟩ : BufTy).Contents (Elt Ideal)
-- := (⟨S2x512, .f32⟩ : BufTy).Contents (Elt Ideal)

/-- The row-major place of an index of six axes. -/
theorem place_six {d : Fin 6 → ℕ} (i : (⟨6, d⟩ : Shape).Idx) :
    ((⟨6, d⟩ : Shape).rowMajor i).val
      = (((((i 0).val * d 1 + (i 1).val) * d 2 + (i 2).val) * d 3 + (i 3).val) * d 4 + (i 4).val) * d 5 + (i 5).val := by
  rw [Shape.rowMajor_val_succ, Shape.rowMajor_val_five]
  have e : (⟨5, fun a => d a.succ⟩ : Shape).numel = d 1 * (d 2 * (d 3 * (d 4 * d 5))) := by
    show ∏ a : Fin 5, d a.succ = _
    simp [Fin.prod_univ_succ]
  rw [e]
  show (i 0).val * (d 1 * (d 2 * (d 3 * (d 4 * d 5)))) + (((((i 1).val * d 2 + (i 2).val) * d 3 + (i 3).val) * d 4 + (i 4).val) * d 5 + (i 5).val) = _
  ring

/-- The positions of an array cut into chunks. -/
theorem cut_at (x : FVec Ideal S2x8x4x2304x128 .f32) (r : Fin 2) (b : Fin 8) (h : Fin 4) (n : Fin 36) (t : Fin 64) (d : Fin 128) :
    shapeCast S2x8x4x36x64x128 x shapeCasts_S2x8x4x2304x128_S2x8x4x36x64x128 (ix6 r b h n t d)
      = x (ix5 r b h ⟨64 * n.val + t.val, by omega⟩ d) := by
  refine shapeCast_apply x _ _ _ ?_
  rw [Shape.rowMajor_val_five, place_six]
  show (((r.val * 8 + b.val) * 4 + h.val) * 2304 + (64 * n.val + t.val)) * 128 + d.val
    = ((((r.val * 8 + b.val) * 4 + h.val) * 36 + n.val) * 64 + t.val) * 128 + d.val
  omega

/-- The chunks first. -/
theorem front_at (x : FVec Ideal S2x8x4x36x64x128 .f32) (r : Fin 2) (b : Fin 8) (h : Fin 4) (n : Fin 36) (t : Fin 64) (d : Fin 128) :
    transpose S36x2x8x4x64x128 [3, 0, 1, 2, 4, 5] x transposes_S2x8x4x36x64x128_S36x2x8x4x64x128_3_0_1_2_4_5 (ix6 n r b h t d)
      = x (ix6 r b h n t d) := by
  refine transpose_apply _ x _ _ _ ?_
  intro a
  match a with
  | 0 => rfl
  | 1 => rfl
  | 2 => rfl
  | 3 => rfl
  | 4 => rfl
  | 5 => rfl

/-- One chunk taken out of the stack. -/
theorem take_at (x : FVec Ideal S36x2x8x4x64x128 .f32) (st : Fin 6 → Int) (j : Fin 36) (h0 : st 0 = (j.val : Int)) (h1 : st 1 = 0) (h2 : st 2 = 0)
    (h3 : st 3 = 0) (h4 : st 4 = 0) (h5 : st 5 = 0) (r : Fin 2) (b : Fin 8) (h : Fin 4) (t : Fin 64) (d : Fin 128) :
    shapeCast S2x8x4x64x128 (Host.dynamicSlice S1x2x8x4x64x128 x st sliceFits_S36x2x8x4x64x128_S1x2x8x4x64x128) shapeCasts_S1x2x8x4x64x128_S2x8x4x64x128 (ix5 r b h t d)
      = x (ix6 j r b h t d) := by
  refine (shapeCast_apply _ shapeCasts_S1x2x8x4x64x128_S2x8x4x64x128 _ (ix6 0 r b h t d) ?_).trans ?_
  · rw [Shape.rowMajor_val_five, place_six]
    show ((((0 * 2 + r.val) * 8 + b.val) * 4 + h.val) * 64 + t.val) * 128 + d.val = (((r.val * 8 + b.val) * 4 + h.val) * 64 + t.val) * 128 + d.val
    omega
  unfold Host.dynamicSlice extractStridedSlice
  refine congrArg x (funext fun a => Fin.ext ?_)
  match a with
  | 0 => show (min (max (st 0) 0) ((36 - 1 : ℕ) : Int)).toNat + 0 = j.val; rw [h0]; omega
  | 1 => show (min (max (st 1) 0) ((2 - 2 : ℕ) : Int)).toNat + r.val = r.val; rw [h1]; omega
  | 2 => show (min (max (st 2) 0) ((8 - 8 : ℕ) : Int)).toNat + b.val = b.val; rw [h2]; omega
  | 3 => show (min (max (st 3) 0) ((4 - 4 : ℕ) : Int)).toNat + h.val = h.val; rw [h3]; omega
  | 4 => show (min (max (st 4) 0) ((64 - 64 : ℕ) : Int)).toNat + t.val = t.val; rw [h4]; omega
  | 5 => show (min (max (st 5) 0) ((128 - 128 : ℕ) : Int)).toNat + d.val = d.val; rw [h5]; omega

/-- One chunk put into the stack: that chunk reads the new one, the others are as before. -/
theorem put_at (x : FVec Ideal S36x2x8x4x64x128 .f32) (y : FVec Ideal S2x8x4x64x128 .f32) (st : Fin 6 → Int) (j n : Fin 36) (h0 : st 0 = (j.val : Int)) (h1 : st 1 = 0) (h2 : st 2 = 0)
    (h3 : st 3 = 0) (h4 : st 4 = 0) (h5 : st 5 = 0) (r : Fin 2) (b : Fin 8) (h : Fin 4) (t : Fin 64) (d : Fin 128) :
    Host.dynamicUpdateSlice x (broadcastInDim S1x2x8x4x64x128 ![1, 2, 3, 4, 5] bcast_S2x8x4x64x128_S1x2x8x4x64x128_1_2_3_4_5 y) st
        updateFits_S36x2x8x4x64x128_S1x2x8x4x64x128 (ix6 n r b h t d)
      = if n = j then y (ix5 r b h t d) else x (ix6 n r b h t d) := by
  unfold Host.dynamicUpdateSlice updateSlice
  have e0 : (min (max (st 0) 0) ((36 - 1 : ℕ) : Int)).toNat = j.val := by rw [h0]; omega
  have e1 : (min (max (st 1) 0) ((2 - 2 : ℕ) : Int)).toNat = 0 := by rw [h1]; omega
  have e2 : (min (max (st 2) 0) ((8 - 8 : ℕ) : Int)).toNat = 0 := by rw [h2]; omega
  have e3 : (min (max (st 3) 0) ((4 - 4 : ℕ) : Int)).toNat = 0 := by rw [h3]; omega
  have e4 : (min (max (st 4) 0) ((64 - 64 : ℕ) : Int)).toNat = 0 := by rw [h4]; omega
  have e5 : (min (max (st 5) 0) ((128 - 128 : ℕ) : Int)).toNat = 0 := by rw [h5]; omega
  by_cases hn : n = j
  · subst hn
    rw [if_pos rfl]
    refine (dif_pos ?_).trans (congrArg y (funext fun a => Fin.ext ?_))
    · intro a
      match a with
      | 0 => exact ⟨by show (min (max (st 0) 0) ((36 - 1 : ℕ) : Int)).toNat ≤ n.val; omega, by show n.val < (min (max (st 0) 0) ((36 - 1 : ℕ) : Int)).toNat + 1; omega⟩
      | 1 => exact ⟨by show (min (max (st 1) 0) ((2 - 2 : ℕ) : Int)).toNat ≤ r.val; omega, by show r.val < (min (max (st 1) 0) ((2 - 2 : ℕ) : Int)).toNat + 2; omega⟩
      | 2 => exact ⟨by show (min (max (st 2) 0) ((8 - 8 : ℕ) : Int)).toNat ≤ b.val; omega, by show b.val < (min (max (st 2) 0) ((8 - 8 : ℕ) : Int)).toNat + 8; omega⟩
      | 3 => exact ⟨by show (min (max (st 3) 0) ((4 - 4 : ℕ) : Int)).toNat ≤ h.val; omega, by show h.val < (min (max (st 3) 0) ((4 - 4 : ℕ) : Int)).toNat + 4; omega⟩
      | 4 => exact ⟨by show (min (max (st 4) 0) ((64 - 64 : ℕ) : Int)).toNat ≤ t.val; omega, by show t.val < (min (max (st 4) 0) ((64 - 64 : ℕ) : Int)).toNat + 64; omega⟩
      | 5 => exact ⟨by show (min (max (st 5) 0) ((128 - 128 : ℕ) : Int)).toNat ≤ d.val; omega, by show d.val < (min (max (st 5) 0) ((128 - 128 : ℕ) : Int)).toNat + 128; omega⟩
    · match a with
      | 0 => show r.val - (min (max (st 1) 0) ((2 - 2 : ℕ) : Int)).toNat = r.val; omega
      | 1 => show b.val - (min (max (st 2) 0) ((8 - 8 : ℕ) : Int)).toNat = b.val; omega
      | 2 => show h.val - (min (max (st 3) 0) ((4 - 4 : ℕ) : Int)).toNat = h.val; omega
      | 3 => show t.val - (min (max (st 4) 0) ((64 - 64 : ℕ) : Int)).toNat = t.val; omega
      | 4 => show d.val - (min (max (st 5) 0) ((128 - 128 : ℕ) : Int)).toNat = d.val; omega
  · rw [if_neg hn]
    refine dif_neg fun H => hn (Fin.ext ?_)
    have g1 : (min (max (st 0) 0) ((36 - 1 : ℕ) : Int)).toNat ≤ n.val := (H 0).1
    have g2 : n.val < (min (max (st 0) 0) ((36 - 1 : ℕ) : Int)).toNat + 1 := (H 0).2
    omega

end Cert.ReferenceIdeal.Ref
-- ==== Proof.RefDots.lean ====
/- The reference's products and sums, read at an entry. -/
module

public import proofs.«01_k».proof.Proof.Gen.ReferenceIdeal.Step
public import proofs.«01_k».proof.Proof.RefData
public import Idealize.ShloMosaic.Lib.Pointwise
public import Idealize.ShloMosaic.Lib.Pipeline.Value
public import proofs.«01_k».proof.Proof.RefHeads

@[expose] public section

set_option maxRecDepth 16384

noncomputable section

namespace Cert.ReferenceIdeal.Ref

open Idealize.ShloMosaic
open Cert.ReferenceIdeal Cert.ReferenceIdeal.Gen Cert.ReferenceIdeal.Step Cert.Hgrn

-- := (⟨S8x2304x4096, .f32⟩ : BufTy).Contents (Elt Ideal)
-- := (⟨S2x512, .f32⟩ : BufTy).Contents (Elt Ideal)

/-- Queries against a state, at an entry. -/
theorem dotS_at (x : FVec Ideal S2x8x4x64x128 .f32) (y : FVec Ideal S2x8x4x128x128 .f32) (r : Fin 2) (b : Fin 8) (h : Fin 4) (t : Fin 64) (e : Fin 128) :
    Host.dotGeneral dot_S2x8x4x64x128_S2x8x4x128x128_S2x8x4x64x128_4_3_3_4_012_012 none x y (ix5 r b h t e)
      = ∑ d : Fin 128, x (ix5 r b h t d) * y (ix5 r b h d e) := by
  pointwise

/-- Scores against values, at an entry. -/
theorem dotV_at (x : FVec Ideal S2x8x4x64x64 .f32) (y : FVec Ideal S2x8x4x64x128 .f32) (r : Fin 2) (b : Fin 8) (h : Fin 4) (t : Fin 64) (e : Fin 128) :
    Host.dotGeneral dot_S2x8x4x64x64_S2x8x4x64x128_S2x8x4x64x128_4_3_3_4_012_012 none x y (ix5 r b h t e)
      = ∑ s : Fin 64, x (ix5 r b h t s) * y (ix5 r b h s e) := by
  pointwise

/-- Keys against values, at an entry. -/
theorem dotK_at (x y : FVec Ideal S2x8x4x64x128 .f32) (r : Fin 2) (b : Fin 8) (h : Fin 4) (d e : Fin 128) :
    Host.dotGeneral dot_S2x8x4x64x128_S2x8x4x64x128_S2x8x4x128x128_3_3_4_4_012_012 none x y (ix5 r b h d e)
      = ∑ s : Fin 64, x (ix5 r b h s d) * y (ix5 r b h s e) := by
  pointwise

/-- A sum over the last axis, at an entry. -/
theorem sumLast_at (x : FVec Ideal S2x8x4x64x64x128 .f32) (z : FVec Ideal S_ .f32) (r : Fin 2) (b : Fin 8) (h : Fin 4) (t s : Fin 64) :
    Host.reduceAdd x z reducesTo_S2x8x4x64x64x128_S2x8x4x64x64_d5 h_S_ (ix5 r b h t s) = z ix0 + ∑ d : Fin 128, x (ix6 r b h t s d) := by
  unfold Host.reduceAdd
  rw [Ideal.hostReduceAdd_def]
  unfold Ideal.hostReduceAdd
  refine congrArg₂ (· + ·) (congrArg z (funext fun a => a.elim0)) ?_
  refine Finset.sum_bij' (fun i _ => i 5) (fun d _ => ix6 r b h t s d) ?_ ?_ ?_ ?_ ?_
  · intro i _
    exact Finset.mem_univ _
  · intro d _
    refine Finset.mem_filter.2 ⟨Finset.mem_univ _, funext fun a => Fin.ext ?_⟩
    match a with
    | 0 => rfl
    | 1 => rfl
    | 2 => rfl
    | 3 => rfl
    | 4 => rfl
  · intro i hi
    have e := (Finset.mem_filter.1 hi).2
    have e0 : (i 0).val = r.val := congrArg Fin.val (congrFun e 0)
    have e1 : (i 1).val = b.val := congrArg Fin.val (congrFun e 1)
    have e2 : (i 2).val = h.val := congrArg Fin.val (congrFun e 2)
    have e3 : (i 3).val = t.val := congrArg Fin.val (congrFun e 3)
    have e4 : (i 4).val = s.val := congrArg Fin.val (congrFun e 4)
    refine funext fun a => Fin.ext ?_
    match a with
    | 0 => exact e0.symm
    | 1 => exact e1.symm
    | 2 => exact e2.symm
    | 3 => exact e3.symm
    | 4 => exact e4.symm
    | 5 => rfl
  · intro d _
    rfl
  · intro i hi
    have e := (Finset.mem_filter.1 hi).2
    have e0 : (i 0).val = r.val := congrArg Fin.val (congrFun e 0)
    have e1 : (i 1).val = b.val := congrArg Fin.val (congrFun e 1)
    have e2 : (i 2).val = h.val := congrArg Fin.val (congrFun e 2)
    have e3 : (i 3).val = t.val := congrArg Fin.val (congrFun e 3)
    have e4 : (i 4).val = s.val := congrArg Fin.val (congrFun e 4)
    refine congrArg x (funext fun a => Fin.ext ?_)
    match a with
    | 0 => exact e0
    | 1 => exact e1
    | 2 => exact e2
    | 3 => exact e3
    | 4 => exact e4
    | 5 => rfl

end Cert.ReferenceIdeal.Ref
-- ==== Proof.RefTrip.lean ====
/- One trip of the reference's loop, read at an entry. -/
module

public import proofs.«01_k».proof.Proof.Gen.ReferenceIdeal.Step
public import proofs.«01_k».proof.Proof.RefData
public import Idealize.ShloMosaic.Lib.Pointwise
public import Idealize.ShloMosaic.Lib.Pipeline.Value
public import proofs.«01_k».proof.Proof.RefGate
public import proofs.«01_k».proof.Proof.RefCum
public import proofs.«01_k».proof.Proof.RefOps
public import proofs.«01_k».proof.Proof.RefDots

@[expose] public section

set_option maxRecDepth 16384

noncomputable section

namespace Cert.ReferenceIdeal.Ref

open Idealize.ShloMosaic
open Cert.ReferenceIdeal Cert.ReferenceIdeal.Gen Cert.ReferenceIdeal.Step Cert.Hgrn

-- := (⟨S8x2304x4096, .f32⟩ : BufTy).Contents (Elt Ideal)
-- := (⟨S2x512, .f32⟩ : BufTy).Contents (Elt Ideal)

/-- A small number is its own signed word. -/
theorem word_small {n : ℕ} (h : n < 2147483648) : (BitVec.ofNat 32 n).toInt = (n : Int) := by
  rw [BitVec.toInt_eq_toNat_of_lt (by rw [BitVec.toNat_ofNat, Nat.mod_eq_of_lt (by omega)]; omega), BitVec.toNat_ofNat, Nat.mod_eq_of_lt (by omega)]

/-- The mask of the scores: a position sees itself and the ones before. -/
theorem mask_at (t s : Fin 64) : (K_main_v83 (F := Ideal)) (ix2 t s) = if s ≤ t then 1#1 else 0#1 := by
  pointwise [K_main_v83, K_main_call8_v4, K_main_v82, K_main_call8_v5, K_main_call8_v2, K_main_call8_v3, K_main_call8_v0, K_main_call8_v1, K_main_call8_c, K_main_call8_c_0, K_main_c]
  rw [show IntOp.addi (BitVec.ofNat 32 t.val) 0#32 = BitVec.ofNat 32 t.val from BitVec.add_zero _]
  unfold Scalar.select IntOp.cmpi
  by_cases hs : s ≤ t
  · rw [if_pos hs]
    have e : (BitVec.ofNat 32 s.val).sle (BitVec.ofNat 32 t.val) = true := by
      rw [BitVec.sle_iff_toInt_le, word_small (by omega), word_small (by omega)]
      exact_mod_cast hs
    simp [e]
  · rw [if_neg hs]
    have e : (BitVec.ofNat 32 s.val).sle (BitVec.ofNat 32 t.val) = false := by
      rw [Bool.eq_false_iff, ne_eq, BitVec.sle_iff_toInt_le, word_small (by omega), word_small (by omega)]
      exact_mod_cast hs
    simp [e]

/-- A query row spread over the scores. -/
theorem spreadT_at (x : FVec Ideal S2x8x4x64x128 .f32) (r : Fin 2) (b : Fin 8) (h : Fin 4) (t s : Fin 64) (d : Fin 128) :
    broadcastInDim S2x8x4x64x64x128 ![0, 1, 2, 3, 4, 5] bcast_S2x8x4x64x1x128_S2x8x4x64x64x128_0_1_2_3_4_5
      (broadcastInDim S2x8x4x64x1x128 ![0, 1, 2, 3, 5] bcast_S2x8x4x64x128_S2x8x4x64x1x128_0_1_2_3_5 x) (ix6 r b h t s d) = x (ix5 r b h t d) := by
  refine congrArg x (funext fun a => ?_)
  match a with
  | 0 => rfl
  | 1 => rfl
  | 2 => rfl
  | 3 => rfl
  | 4 => rfl

/-- A key row spread over the scores. -/
theorem spreadS_at (x : FVec Ideal S2x8x4x64x128 .f32) (r : Fin 2) (b : Fin 8) (h : Fin 4) (t s : Fin 64) (d : Fin 128) :
    broadcastInDim S2x8x4x64x64x128 ![0, 1, 2, 3, 4, 5] bcast_S2x8x4x1x64x128_S2x8x4x64x64x128_0_1_2_3_4_5
      (broadcastInDim S2x8x4x1x64x128 ![0, 1, 2, 4, 5] bcast_S2x8x4x64x128_S2x8x4x1x64x128_0_1_2_4_5 x) (ix6 r b h t s d) = x (ix5 r b h s d) := by
  refine congrArg x (funext fun a => ?_)
  match a with
  | 0 => rfl
  | 1 => rfl
  | 2 => rfl
  | 3 => rfl
  | 4 => rfl

/-- The mask spread over the scores. -/
theorem maskSpread_at (r : Fin 2) (b : Fin 8) (h : Fin 4) (t s : Fin 64) (d : Fin 128) :
    broadcastInDim S2x8x4x64x64x128 ![3, 4, 5] bcast_S64x64x1_S2x8x4x64x64x128_3_4_5 (K_main_v84 (F := Ideal)) (ix6 r b h t s d)
      = if s ≤ t then 1#1 else 0#1 := by
  rw [← mask_at]
  unfold K_main_v84
  refine congrArg (K_main_v83 (F := Ideal)) (funext fun a => ?_)
  match a with
  | 0 => rfl
  | 1 => rfl

/-- The last row of a chunk. -/
theorem last_at (x : FVec Ideal S2x8x4x64x128 .f32) (r : Fin 2) (b : Fin 8) (h : Fin 4) (d : Fin 128) :
    shapeCast S2x8x4x128 (extractStridedSlice S2x8x4x1x128 ![0, 0, 0, 63, 0] x slices_S2x8x4x64x128_S2x8x4x1x128_0_0_0_63_0) shapeCasts_S2x8x4x1x128_S2x8x4x128 (ix4 r b h d)
      = x (ix5 r b h 63 d) := by
  refine (shapeCast_apply _ shapeCasts_S2x8x4x1x128_S2x8x4x128 _ (ix5 r b h 0 d) ?_).trans ?_
  · rw [Shape.rowMajor_val_four, Shape.rowMajor_val_five]
    show (((r.val * 8 + b.val) * 4 + h.val) * 1 + 0) * 128 + d.val = ((r.val * 8 + b.val) * 4 + h.val) * 128 + d.val
    omega
  refine congrArg x (funext fun a => Fin.ext ?_)
  match a with
  | 0 => exact Nat.zero_add _
  | 1 => exact Nat.zero_add _
  | 2 => exact Nat.zero_add _
  | 3 => rfl
  | 4 => exact Nat.zero_add _

/-- A row of channels spread over a state's columns. -/
theorem spreadE_at (x : FVec Ideal S2x8x4x128 .f32) (r : Fin 2) (b : Fin 8) (h : Fin 4) (d e : Fin 128) :
    broadcastInDim S2x8x4x128x128 ![0, 1, 2, 3, 4] bcast_S2x8x4x128x1_S2x8x4x128x128_0_1_2_3_4
      (broadcastInDim S2x8x4x128x1 ![0, 1, 2, 3] bcast_S2x8x4x128_S2x8x4x128x1_0_1_2_3 x) (ix5 r b h d e) = x (ix4 r b h d) := by
  refine congrArg x (funext fun a => ?_)
  match a with
  | 0 => rfl
  | 1 => rfl
  | 2 => rfl
  | 3 => rfl

/-- A row of channels spread over a chunk's positions. -/
theorem spreadP_at (x : FVec Ideal S2x8x4x128 .f32) (r : Fin 2) (b : Fin 8) (h : Fin 4) (s : Fin 64) (d : Fin 128) :
    broadcastInDim S2x8x4x64x128 ![0, 1, 2, 3, 4] bcast_S2x8x4x1x128_S2x8x4x64x128_0_1_2_3_4
      (broadcastInDim S2x8x4x1x128 ![0, 1, 2, 4] bcast_S2x8x4x128_S2x8x4x1x128_0_1_2_4 x) (ix5 r b h s d) = x (ix4 r b h d) := by
  refine congrArg x (funext fun a => ?_)
  match a with
  | 0 => rfl
  | 1 => rfl
  | 2 => rfl
  | 3 => rfl

theorem mul_at {s : Shape} (x y : FVec Ideal s .f32) (i : s.Idx) : mulf x y i = x i * y i := rfl

theorem add_at {s : Shape} (x y : FVec Ideal s .f32) (i : s.Idx) : addf x y i = x i + y i := rfl

theorem exp_at {s : Shape} (x : FVec Ideal s .f32) (i : s.Idx) : Host.exp x i = Ideal.exp (x i) := rfl

section step
variable (j : Fin 36) (s : State Ideal) (r : Fin 2) (b : Fin 8) (h : Fin 4)

/-- The chunk of queries a trip works on. -/
theorem b6_at (t : Fin 64) (d : Fin 128) : b6 j.val s (ix5 r b h t d) = s.main_v87_0 (ix6 j r b h t d) := by
  unfold b6 b5
  refine take_at _ _ j ?_ rfl rfl rfl rfl rfl r b h t d
  show (BitVec.ofNat 32 j.val).toInt = (j.val : Int)
  exact word_small (by omega)

/-- The chunk of keys a trip works on. -/
theorem b13_at (t : Fin 64) (d : Fin 128) : b13 j.val s (ix5 r b h t d) = s.main_v87_1 (ix6 j r b h t d) := by
  unfold b13 b12
  refine take_at _ _ j ?_ rfl rfl rfl rfl rfl r b h t d
  show (BitVec.ofNat 32 j.val).toInt = (j.val : Int)
  exact word_small (by omega)

/-- The chunk of values a trip works on. -/
theorem b20_at (t : Fin 64) (d : Fin 128) : b20 j.val s (ix5 r b h t d) = s.main_v87_2 (ix6 j r b h t d) := by
  unfold b20 b19
  refine take_at _ _ j ?_ rfl rfl rfl rfl rfl r b h t d
  show (BitVec.ofNat 32 j.val).toInt = (j.val : Int)
  exact word_small (by omega)

/-- The chunk of summed log gates a trip works on. -/
theorem b27_at (t : Fin 64) (d : Fin 128) : b27 j.val s (ix5 r b h t d) = s.main_v87_3 (ix6 j r b h t d) := by
  unfold b27 b26
  refine take_at _ _ j ?_ rfl rfl rfl rfl rfl r b h t d
  show (BitVec.ofNat 32 j.val).toInt = (j.val : Int)
  exact word_small (by omega)
end step

section trip
variable (j : Fin 36) (s : State Ideal) (r : Fin 2) (b : Fin 8) (h : Fin 4) (Q K W V : ℕ → Fin 64 → Fin 128 → EReal)

/-- The minus infinity a call writes. -/
theorem ninf : Ideal.ofBits .f32 0xFF800000#32 = ⊥ := by
  rfl

/-- The scores of a trip's chunk. -/
theorem b46_at (h0 : ∀ t d, s.main_v87_0 (ix6 j r b h t d) = Q j.val t d) (h1 : ∀ t d, s.main_v87_1 (ix6 j r b h t d) = K j.val t d)
    (h3 : ∀ t d, s.main_v87_3 (ix6 j r b h t d) = cum (W j.val) t d) (t u : Fin 64) :
    b46 j.val s (ix5 r b h t u) = if u ≤ t then score (Q j.val) (K j.val) (W j.val) t u else 0 := by
  unfold b46
  rw [sumLast_at, show b45 j.val s ix0 = 0 from Ideal.ofBits_zero_f32, zero_add]
  have e : ∀ d : Fin 128, b44 j.val s (ix6 r b h t u d)
      = Q j.val t d * K j.val u d * Ideal.exp (if u ≤ t then cum (W j.val) t d - cum (W j.val) u d else ⊥) := by
    intro d
    unfold b44 b43 b38 b41 b42 b39 b40
    rw [mul_at, mul_at, exp_at, spreadT_at, spreadS_at, b6_at, b13_at, h0, h1]
    refine congrArg (fun z => Q j.val t d * K j.val u d * Ideal.exp z) ?_
    unfold b37 b36 b35 b34 b33 b32 b31 b30 b29 b28
    have em := maskSpread_at r b h t u d
    generalize broadcastInDim S2x8x4x64x64x128 ![3, 4, 5] bcast_S64x64x1_S2x8x4x64x64x128_3_4_5 (K_main_v84 (F := Ideal)) = m at em ⊢
    show Scalar.select (m (ix6 r b h t u d)) (subf _ _ (ix6 r b h t u d)) (broadcastInDim S2x8x4x64x64x128 ![] bcast_S_S2x8x4x64x64x128 (constant S_ .f32 0xFF800000#32) (ix6 r b h t u d)) = _
    rw [em, sub_at, spreadT_at, spreadS_at, b27_at, b27_at, h3, h3, const_at, ninf]
    by_cases hu : u ≤ t
    · rw [if_pos hu, if_pos hu]
      rfl
    · rw [if_neg hu, if_neg hu]
      rfl
  rw [Finset.sum_congr rfl fun d _ => e d]
  by_cases hu : u ≤ t
  · rw [if_pos hu]
    unfold score
    refine Finset.sum_congr rfl fun d _ => ?_
    rw [if_pos hu]
  · rw [if_neg hu]
    refine Finset.sum_eq_zero fun d _ => ?_
    rw [if_neg hu, Ideal.exp_bot, mul_zero]

/-- The outputs of a trip's chunk. -/
theorem b51_at (h0 : ∀ t d, s.main_v87_0 (ix6 j r b h t d) = Q j.val t d) (h1 : ∀ t d, s.main_v87_1 (ix6 j r b h t d) = K j.val t d)
    (h2 : ∀ t d, s.main_v87_2 (ix6 j r b h t d) = V j.val t d) (h3 : ∀ t d, s.main_v87_3 (ix6 j r b h t d) = cum (W j.val) t d)
    (h6 : ∀ d e, s.main_v87_6 (ix5 r b h d e) = St K W V j.val d e) (t : Fin 64) (e : Fin 128) :
    b51 j.val s (ix5 r b h t e) = Out Q K W V j.val t e := by
  unfold b51 b49 b50 b48 b47
  rw [add_at, dotS_at, dotV_at]
  unfold Out
  refine congrArg₂ (· + ·) (Finset.sum_congr rfl fun d _ => ?_) (Finset.sum_congr rfl fun u _ => ?_)
  · rw [mul_at, exp_at, b6_at, b27_at, h0, h3, h6]
  · rw [b46_at j s r b h Q K W h0 h1 h3, b20_at, h2]

/-- The state a trip leaves. -/
theorem b64_at (h1 : ∀ t d, s.main_v87_1 (ix6 j r b h t d) = K j.val t d)
    (h2 : ∀ t d, s.main_v87_2 (ix6 j r b h t d) = V j.val t d) (h3 : ∀ t d, s.main_v87_3 (ix6 j r b h t d) = cum (W j.val) t d)
    (h6 : ∀ d e, s.main_v87_6 (ix5 r b h d e) = St K W V j.val d e) (d e : Fin 128) :
    b64 j.val s (ix5 r b h d e) = St K W V (j.val + 1) d e := by
  have e53 : ∀ d, b53 j.val s (ix4 r b h d) = cum (W j.val) 63 d := by
    intro d
    unfold b53 b52
    rw [last_at, b27_at, h3]
  unfold b64 b57 b56 b55 b54 b63 b62 b61 b60 b59 b58
  rw [add_at, mul_at, spreadE_at, exp_at, e53, h6, dotK_at]
  show _ = St K W V j.val d e * Ideal.exp (cum (W j.val) 63 d) + ∑ s : Fin 64, V j.val s e * (K j.val s d * Ideal.exp (cum (W j.val) 63 d - cum (W j.val) s d))
  rw [mul_comm (Ideal.exp _)]
  refine congrArg₂ (· + ·) rfl (Finset.sum_congr rfl fun u _ => ?_)
  rw [mul_at, exp_at, sub_at, spreadP_at, e53, b13_at, b27_at, b20_at, h1, h2, h3, mul_comm]
end trip

end Cert.ReferenceIdeal.Ref
-- ==== Proof.RefOut.lean ====
/- The reference's result, read at an entry. -/
module

public import proofs.«01_k».proof.Proof.Gen.ReferenceIdeal.Step
public import proofs.«01_k».proof.Proof.RefData
public import Idealize.ShloMosaic.Lib.Pointwise
public import Idealize.ShloMosaic.Lib.Pipeline.Value
public import proofs.«01_k».proof.Proof.RefTrip
public import proofs.«01_k».proof.Proof.Block

@[expose] public section

set_option maxRecDepth 16384

noncomputable section

namespace Cert.ReferenceIdeal.Ref

open Idealize.ShloMosaic
open Cert.ReferenceIdeal Cert.ReferenceIdeal.Gen Cert.ReferenceIdeal.Step Cert.Hgrn
open Cert.KernelIdeal.Run (ap turn dQ dK dW dV fin)

-- := (⟨S8x2304x4096, .f32⟩ : BufTy).Contents (Elt Ideal)
-- := (⟨S2x512, .f32⟩ : BufTy).Contents (Elt Ideal)

/-- The outputs' chunks joined, heads last but one. -/
theorem join_at (y : FVec Ideal S36x2x8x4x64x128 .f32) (r : Fin 2) (b : Fin 8) (p : Fin 2304) (h : Fin 4) (d : Fin 128) :
    (transpose S2x8x2304x4x128 [0, 1, 3, 2, 4] (shapeCast S2x8x4x2304x128 (transpose S2x8x4x36x64x128 [1, 2, 3, 0, 4, 5] y transposes_S36x2x8x4x64x128_S2x8x4x36x64x128_1_2_3_0_4_5) shapeCasts_S2x8x4x36x64x128_S2x8x4x2304x128) transposes_S2x8x4x2304x128_S2x8x2304x4x128_0_1_3_2_4) (ix5 r b p h d)
      = y (ix6 ⟨p.val / 64, by omega⟩ r b h ⟨p.val % 64, Nat.mod_lt _ (by decide)⟩ d) := by
  refine (transpose_apply _ _ _ _ (ix5 r b h p d) ?_).trans ?_
  · intro a
    match a with
    | 0 => rfl
    | 1 => rfl
    | 2 => rfl
    | 3 => rfl
    | 4 => rfl
  refine (shapeCast_apply _ shapeCasts_S2x8x4x36x64x128_S2x8x4x2304x128 _ (ix6 r b h ⟨p.val / 64, by omega⟩ ⟨p.val % 64, Nat.mod_lt _ (by decide)⟩ d) ?_).trans ?_
  · rw [Shape.rowMajor_val_five, place_six]
    show ((((r.val * 8 + b.val) * 4 + h.val) * 36 + p.val / 64) * 64 + p.val % 64) * 128 + d.val = (((r.val * 8 + b.val) * 4 + h.val) * 2304 + p.val) * 128 + d.val
    omega
  refine transpose_apply _ y _ _ _ ?_
  intro a
  match a with
  | 0 => rfl
  | 1 => rfl
  | 2 => rfl
  | 3 => rfl
  | 4 => rfl
  | 5 => rfl

/-- The forward direction's outputs. -/
theorem half0_at (x : FVec Ideal S2x8x2304x4x128 .f32) (b : Fin 8) (p : Fin 2304) (h : Fin 4) (d : Fin 128) :
    (shapeCast S8x2304x4x128 (extractStridedSlice S1x8x2304x4x128 ![0, 0, 0, 0, 0] x slices_S2x8x2304x4x128_S1x8x2304x4x128_0_0_0_0_0) shapeCasts_S1x8x2304x4x128_S8x2304x4x128) (ix4 b p h d) = x (ix5 0 b p h d) := by
  refine (shapeCast_apply _ shapeCasts_S1x8x2304x4x128_S8x2304x4x128 _ (ix5 0 b p h d) ?_).trans ?_
  · rw [Shape.rowMajor_val_four, Shape.rowMajor_val_five]
    show (((0 * 8 + b.val) * 2304 + p.val) * 4 + h.val) * 128 + d.val = ((b.val * 2304 + p.val) * 4 + h.val) * 128 + d.val
    omega
  refine congrArg x (funext fun a => Fin.ext ?_)
  match a with
  | 0 => rfl
  | 1 => exact Nat.zero_add _
  | 2 => exact Nat.zero_add _
  | 3 => exact Nat.zero_add _
  | 4 => exact Nat.zero_add _

/-- The backward direction's outputs. -/
theorem half1_at (x : FVec Ideal S2x8x2304x4x128 .f32) (b : Fin 8) (p : Fin 2304) (h : Fin 4) (d : Fin 128) :
    (shapeCast S8x2304x4x128 (extractStridedSlice S1x8x2304x4x128 ![1, 0, 0, 0, 0] x slices_S2x8x2304x4x128_S1x8x2304x4x128_1_0_0_0_0) shapeCasts_S1x8x2304x4x128_S8x2304x4x128) (ix4 b p h d) = x (ix5 1 b p h d) := by
  refine (shapeCast_apply _ shapeCasts_S1x8x2304x4x128_S8x2304x4x128 _ (ix5 0 b p h d) ?_).trans ?_
  · rw [Shape.rowMajor_val_four, Shape.rowMajor_val_five]
    show (((0 * 8 + b.val) * 2304 + p.val) * 4 + h.val) * 128 + d.val = ((b.val * 2304 + p.val) * 4 + h.val) * 128 + d.val
    omega
  refine congrArg x (funext fun a => Fin.ext ?_)
  match a with
  | 0 => rfl
  | 1 => exact Nat.zero_add _
  | 2 => exact Nat.zero_add _
  | 3 => exact Nat.zero_add _
  | 4 => exact Nat.zero_add _

theorem rev256' (x : FVec Ideal S8x256x4x128 .f32) (b : Fin 8) (p : Fin 256) (h : Fin 4) (d : Fin 128) :
    Host.reverse [1] x (ix4 b p h d) = x (ix4 b p.rev h d) := by
  refine congrArg x (funext fun a => ?_)
  match a with
  | 0 => rfl
  | 1 => rfl
  | 2 => rfl
  | 3 => rfl

theorem rev2048' (x : FVec Ideal S8x2048x4x128 .f32) (b : Fin 8) (p : Fin 2048) (h : Fin 4) (d : Fin 128) :
    Host.reverse [1] x (ix4 b p h d) = x (ix4 b p.rev h d) := by
  refine congrArg x (funext fun a => ?_)
  match a with
  | 0 => rfl
  | 1 => rfl
  | 2 => rfl
  | 3 => rfl

/-- The backward outputs turned back into the positions' order. -/
theorem unturned (x : FVec Ideal S8x2304x4x128 .f32) (b : Fin 8) (p : Fin 2304) (h : Fin 4) (d : Fin 128) :
    (concatenate S8x2304x4x128 1 [⟨S8x256x4x128, (Host.reverse [1] (extractStridedSlice S8x256x4x128 ![0, 0, 0, 0] x slices_S8x2304x4x128_S8x256x4x128_0_0_0_0))⟩, ⟨S8x2048x4x128, (Host.reverse [1] (extractStridedSlice S8x2048x4x128 ![0, 256, 0, 0] x slices_S8x2304x4x128_S8x2048x4x128_0_256_0_0))⟩] concatenates_S8x256x4x128_S8x2048x4x128_S8x2304x4x128_d1) (ix4 b p h d) = x (ix4 b (back p) h d) := by
  obtain ⟨y, hy⟩ : ∃ y, y = Host.reverse [1] (extractStridedSlice S8x256x4x128 ![0, 0, 0, 0] x slices_S8x2304x4x128_S8x256x4x128_0_0_0_0) := ⟨_, rfl⟩
  obtain ⟨z, hz⟩ : ∃ z, z = Host.reverse [1] (extractStridedSlice S8x2048x4x128 ![0, 256, 0, 0] x slices_S8x2304x4x128_S8x2048x4x128_0_256_0_0) := ⟨_, rfl⟩
  have ey : ∀ p, y (ix4 b p h d) = x (ix4 b ⟨p.rev.val, by omega⟩ h d) := fun p => by
    rw [hy, rev256']
    pointwise
  have ez : ∀ p, z (ix4 b p h d) = x (ix4 b ⟨256 + p.rev.val, by omega⟩ h d) := fun p => by
    rw [hz, rev2048']
    pointwise
  rw [← hy, ← hz]
  clear hy hz
  pointwise
  by_cases hp : p.val < 256
  · rw [dif_pos hp, ey]
    refine congrArg (fun k => x (ix4 b k h d)) (Fin.ext ?_)
    show 256 - (p.val + 1) = if _ then _ else _
    rw [if_pos hp]; omega
  · rw [dif_neg hp, ez]
    refine congrArg (fun k => x (ix4 b k h d)) (Fin.ext ?_)
    show 256 + (2048 - (p.val - 256 + 1)) = if _ then _ else _
    rw [if_neg hp]; omega

/-- The gate's columns by head. -/
theorem gz_at (a : Arr) (b : Fin 8) (p : Fin 2304) (h : Fin 4) (d : Fin 128) :
    shapeCast S8x2304x4x128 (extractStridedSlice S8x2304x512 ![0, 0, 3584] a slices_S8x2304x4096_S8x2304x512_0_0_3584) shapeCasts_S8x2304x512_S8x2304x4x128 (ix4 b p h d)
      = a (ix3 b p ⟨3584 + (h.val * 128 + d.val), by omega⟩) := by
  refine (shapeCast_apply _ shapeCasts_S8x2304x512_S8x2304x4x128 _ (ix3 b p ⟨h.val * 128 + d.val, by omega⟩) ?_).trans ?_
  · rw [Shape.rowMajor_val_three, Shape.rowMajor_val_four]
    show (b.val * 2304 + p.val) * 512 + (h.val * 128 + d.val) = ((b.val * 2304 + p.val) * 4 + h.val) * 128 + d.val
    omega
  pointwise

theorem trunc_at {s : Shape} (x : FVec Ideal s .f32) (i : s.Idx) : (truncf .bf16 x bitsLt_bf16_f32 : FVec Ideal s .bf16) i = x i := rfl

/-- The norm, gain and gate of the summed outputs, at an entry. -/
theorem tail_at (O : FVec Ideal S8x2304x4x128 .f32) (a : Arr) (g : FVec Ideal S128 .f32) (b : Fin 8) (p : Fin 2304) (h : Fin 4) (e : Fin 128) :
    truncf .bf16 (shapeCast S8x2304x512 (mulf (mulf (mulf O (broadcastInDim S8x2304x4x128 ![0, 1, 2, 3] bcast_S8x2304x4x1_S8x2304x4x128_0_1_2_3 (Host.rsqrt (addf (Host.divf (broadcastInDim S8x2304x4x1 ![0, 1, 2] bcast_S8x2304x4_S8x2304x4x1_0_1_2 (Host.reduceAdd (mulf O O) (constant S_ .f32 0x00000000#32) reducesTo_S8x2304x4x128_S8x2304x4_d3 h_S_)) (broadcastInDim S8x2304x4x1 ![] bcast_S_S8x2304x4x1 (constant S_ .f32 0x43000000#32))) (broadcastInDim S8x2304x4x1 ![] bcast_S_S8x2304x4x1 (constant S_ .f32 0x358637BD#32)))))) (broadcastInDim S8x2304x4x128 ![0, 1, 2, 3] bcast_S1x1x1x128_S8x2304x4x128_0_1_2_3 (broadcastInDim S1x1x1x128 ![3] bcast_S128_S1x1x1x128_3 g))) (mulf (shapeCast S8x2304x4x128 (extractStridedSlice S8x2304x512 ![0, 0, 3584] a slices_S8x2304x4096_S8x2304x512_0_0_3584) shapeCasts_S8x2304x512_S8x2304x4x128) (Host.divf (broadcastInDim S8x2304x4x128 ![] bcast_S_S8x2304x4x128 (constant S_ .f32 0x3F800000#32)) (addf (broadcastInDim S8x2304x4x128 ![] bcast_S_S8x2304x4x128 (constant S_ .f32 0x3F800000#32)) (Host.exp (Host.negf (shapeCast S8x2304x4x128 (extractStridedSlice S8x2304x512 ![0, 0, 3584] a slices_S8x2304x4096_S8x2304x512_0_0_3584) shapeCasts_S8x2304x512_S8x2304x4x128))))))) shapeCasts_S8x2304x4x128_S8x2304x512) bitsLt_bf16_f32 (ix3 b p ⟨h.val * 128 + e.val, by omega⟩)
      = fin (fun d => O (ix4 b p h d)) (g (ix1 e)) (a (ix3 b p ⟨3584 + (h.val * 128 + e.val), by omega⟩)) e := by
  rw [trunc_at]
  refine (shapeCast_apply _ shapeCasts_S8x2304x4x128_S8x2304x512 _ (ix4 b p h e) ?_).trans ?_
  · rw [Shape.rowMajor_val_three, Shape.rowMajor_val_four]
    show ((b.val * 2304 + p.val) * 4 + h.val) * 128 + e.val = (b.val * 2304 + p.val) * 512 + (h.val * 128 + e.val)
    omega
  have ey := gz_at a b p h e
  generalize shapeCast S8x2304x4x128 (extractStridedSlice S8x2304x512 ![0, 0, 3584] a slices_S8x2304x4096_S8x2304x512_0_0_3584) shapeCasts_S8x2304x512_S8x2304x4x128 = Y at ey ⊢
  pointwise [ey]
  rfl

/-- The result of a last state, at an entry. -/
theorem R_at (s : State Ideal) (a : Arr) (g : FVec Ideal S128 .f32) (b : Fin 8) (p : Fin 2304) (h : Fin 4) (e : Fin 128) :
    R_main_v125 s a g (ix3 b p ⟨h.val * 128 + e.val, by omega⟩)
      = fin (fun d => s.main_v87_7 (ix6 ⟨p.val / 64, by omega⟩ 0 b h ⟨p.val % 64, Nat.mod_lt _ (by decide)⟩ d)
          + s.main_v87_7 (ix6 ⟨(back p).val / 64, by omega⟩ 1 b h ⟨(back p).val % 64, Nat.mod_lt _ (by decide)⟩ d))
        (g (ix1 e)) (a (ix3 b p ⟨3584 + (h.val * 128 + e.val), by omega⟩)) e := by
  refine (tail_at _ a g b p h e).trans ?_
  refine congrArg (fun O => fin O (g (ix1 e)) (a (ix3 b p ⟨3584 + (h.val * 128 + e.val), by omega⟩)) e) (funext fun d => ?_)
  rw [add_at, unturned, half0_at, half1_at, join_at, join_at]

end Cert.ReferenceIdeal.Ref
-- ==== Proof.RefLoop.lean ====
/- The reference's loop as the recurrence of the two directions. -/
module

public import proofs.«01_k».proof.Proof.Gen.ReferenceIdeal.Step
public import proofs.«01_k».proof.Proof.RefData
public import Idealize.ShloMosaic.Lib.Pointwise
public import Idealize.ShloMosaic.Lib.Pipeline.Value
public import proofs.«01_k».proof.Proof.RefOut

@[expose] public section

set_option maxRecDepth 16384

noncomputable section

namespace Cert.ReferenceIdeal.Ref

open Idealize.ShloMosaic
open Cert.ReferenceIdeal Cert.ReferenceIdeal.Gen Cert.ReferenceIdeal.Step Cert.Hgrn
open Cert.KernelIdeal.Run (ap turn dQ dK dW dV fin)

-- := (⟨S8x2304x4096, .f32⟩ : BufTy).Contents (Elt Ideal)
-- := (⟨S2x512, .f32⟩ : BufTy).Contents (Elt Ideal)

/-- A head's columns of one stretch of the projections, as a block of the kernel's. -/
def blk (a : Arr) (b : Fin 8) (c0 : ℕ) (hc : c0 ≤ 3584) (h : Fin 4) : FVec Ideal Cert.KernelIdeal.S1x2304x128 .f32 :=
  fun i => a (ix3 b (i 1) ⟨c0 + (h.val * 128 + (i 2).val), by have : (i 2).val < 128 := (i 2).isLt; omega⟩)

/-- The order direction `r` takes the positions in. -/
def dir (r : Fin 2) : ℕ → ℕ := if r.val < 1 then id else turn

/-- A head's row of the lower bounds. -/
def lrow (l : Lbs) (r : Fin 2) (h : Fin 4) (d : Fin 128) : EReal := l (ix2 r ⟨h.val * 128 + d.val, by omega⟩)

theorem ap_blk (a : Arr) (b : Fin 8) (c0 : ℕ) (hc : c0 ≤ 3584) (h : Fin 4) (r : Fin 2) (p : Fin 2304) (d : Fin 128) :
    ap (blk a b c0 hc h) (dir r p.val) d = a (ix3 b (posd r p) ⟨c0 + (h.val * 128 + d.val), by omega⟩) := by
  have e : dir r p.val = (posd r p).val := by
    unfold dir posd
    by_cases hr : r.val < 1
    · rw [if_pos hr, if_pos hr]; rfl
    · rw [if_neg hr, if_neg hr]; rfl
  rw [e]
  unfold ap
  rw [dif_pos (posd r p).isLt]
  rfl

section data
variable (a : Arr) (l : Lbs) (r : Fin 2) (b : Fin 8) (h : Fin 4)

/-- The queries, -/
def rQ : ℕ → Fin 64 → Fin 128 → EReal := dQ (blk a b 1536 (by omega) h) (dir r)
/-- the keys, -/
def rK : ℕ → Fin 64 → Fin 128 → EReal := dK (blk a b (2048 + 512 * r.val) (by omega) h) (fun d => 1 - lrow l r h d) (dir r)
/-- the log gates -/
def rW : ℕ → Fin 64 → Fin 128 → EReal :=
  dW (blk a b (2048 + 512 * r.val) (by omega) h) (fun d => Ideal.log (lrow l r h d)) (fun d => Ideal.log1p (-(lrow l r h d))) (dir r)
/-- and the values of a direction and head, chunk by chunk. -/
def rV : ℕ → Fin 64 → Fin 128 → EReal := dV (blk a b 3072 (by omega) h) (dir r)

theorem v78_at (n : Fin 36) (t : Fin 64) (d : Fin 128) : A_main_v78 a l (ix6 n r b h t d) = rQ a r b h n.val t d := by
  unfold A_main_v78 A_main_v75 rQ dQ
  rw [front_at, cut_at, v20_at]
  have e := ap_blk a b 1536 (by omega) h r ⟨64 * n.val + t.val, by omega⟩ d
  rw [e]

theorem v79_at (n : Fin 36) (t : Fin 64) (d : Fin 128) : A_main_v79 a l (ix6 n r b h t d) = rK a l r b h n.val t d := by
  unfold A_main_v79 A_main_v76 rK dK
  rw [front_at, cut_at, v72_at, v40_at]
  have e := ap_blk a b (2048 + 512 * r.val) (by omega) h r ⟨64 * n.val + t.val, by omega⟩ d
  rw [e]
  rfl

theorem v80_at (n : Fin 36) (t : Fin 64) (d : Fin 128) : A_main_v80 a l (ix6 n r b h t d) = rV a r b h n.val t d := by
  unfold A_main_v80 A_main_v77 rV dV
  rw [front_at, cut_at, v30_at]
  have e := ap_blk a b 3072 (by omega) h r ⟨64 * n.val + t.val, by omega⟩ d
  rw [e]

theorem v81_at (n : Fin 36) (t : Fin 64) (d : Fin 128) : A_main_v81 a l (ix6 n r b h t d) = cum (rW a l r b h n.val) t d := by
  unfold A_main_v81 A_main_v74
  rw [front_at, cumsum_at _ _ (fun i => by unfold K_main_call7_call0_v0 K_main_call7_call0_cst; rw [const_at, Ideal.ofBits_zero_f32])]
  unfold cum
  refine Finset.sum_congr rfl fun u _ => ?_
  unfold A_main_v73
  rw [cut_at, v61_at, v40_at]
  unfold rW dW
  have e := ap_blk a b (2048 + 512 * r.val) (by omega) h r ⟨64 * n.val + u.val, by omega⟩ d
  rw [e]
  rfl
end data

/-- What the loop holds before trip `k`: the chunks as at the start, the state of the recurrence, and the outputs of the chunks done. -/
structure Held (a : Arr) (l : Lbs) (k : ℕ) (s : State Ideal) : Prop where
  q : s.main_v87_0 = A_main_v78 a l
  kk : s.main_v87_1 = A_main_v79 a l
  v : s.main_v87_2 = A_main_v80 a l
  w : s.main_v87_3 = A_main_v81 a l
  st : ∀ r b h d e, s.main_v87_6 (ix5 r b h d e) = St (rK a l r b h) (rW a l r b h) (rV a r b h) k d e
  out : ∀ (n : Fin 36), n.val < k → ∀ r b h t e, s.main_v87_7 (ix6 n r b h t e) = Out (rQ a r b h) (rK a l r b h) (rW a l r b h) (rV a r b h) n.val t e

theorem inv_init (a : Arr) (l : Lbs) : Held a l 0 (init a l) where
  q := rfl
  kk := rfl
  v := rfl
  w := rfl
  st r b h d e := by
    show K_main_v85 (F := Ideal) (ix5 r b h d e) = 0
    unfold K_main_v85 K_main_cst_4
    rw [const_at, Ideal.ofBits_zero_f32]
  out n hn := absurd hn (Nat.not_lt_zero _)

theorem inv_step (a : Arr) (l : Lbs) (j : Fin 36) (s : State Ideal) (H : Held a l j.val s) : Held a l (j.val + 1) (step j.val s) where
  q := H.q
  kk := H.kk
  v := H.v
  w := H.w
  st r b h d e := by
    rw [step_main_v87_6]
    exact b64_at j s r b h (rK a l r b h) (rW a l r b h) (rV a r b h) (fun t d => by rw [H.kk, v79_at]) (fun t d => by rw [H.v, v80_at])
      (fun t d => by rw [H.w, v81_at]) (H.st r b h) d e
  out n hn r b h t e := by
    rw [step_main_v87_7]
    unfold b71 b65
    refine (put_at _ _ _ j n ?_ rfl rfl rfl rfl rfl r b h t e).trans ?_
    · show (BitVec.ofNat 32 j.val).toInt = (j.val : Int)
      exact word_small (by omega)
    by_cases hj : n = j
    · rw [if_pos hj, hj]
      exact b51_at j s r b h (rQ a r b h) (rK a l r b h) (rW a l r b h) (rV a r b h) (fun t d => by rw [H.q, v78_at]) (fun t d => by rw [H.kk, v79_at])
        (fun t d => by rw [H.v, v80_at]) (fun t d => by rw [H.w, v81_at]) (H.st r b h) t e
    · rw [if_neg hj]
      exact H.out n (by have : n.val ≠ j.val := fun h => hj (Fin.ext h); omega) r b h t e

/-- The invariant through all trips. -/
theorem inv_iter (a : Arr) (l : Lbs) (it : ℕ → State Ideal) (h0 : it 0 = init a l) (hs : ∀ n, it (n + 1) = step n (it n)) :
    ∀ k, k ≤ 36 → Held a l k (it k)
  | 0, _ => h0 ▸ inv_init a l
  | k + 1, hk => hs k ▸ inv_step a l ⟨k, by omega⟩ (it k) (inv_iter a l it h0 hs k (by omega))

/-- The result of the reference at an entry. -/
theorem value_at (a : Arr) (l : Lbs) (g : FVec Ideal S128 .f32) (it : ℕ → State Ideal) (h0 : it 0 = init a l) (hs : ∀ n, it (n + 1) = step n (it n))
    (b : Fin 8) (p : Fin 2304) (h : Fin 4) (e : Fin 128) :
    R_main_v125 (it 36) a g (ix3 b p ⟨h.val * 128 + e.val, by omega⟩)
      = fin (fun d => Out (rQ a 0 b h) (rK a l 0 b h) (rW a l 0 b h) (rV a 0 b h) (p.val / 64) ⟨p.val % 64, Nat.mod_lt _ (by decide)⟩ d
          + Out (rQ a 1 b h) (rK a l 1 b h) (rW a l 1 b h) (rV a 1 b h) (turn p.val / 64) ⟨turn p.val % 64, Nat.mod_lt _ (by decide)⟩ d)
        (g (ix1 e)) (a (ix3 b p ⟨3584 + (h.val * 128 + e.val), by omega⟩)) e := by
  have H := inv_iter a l it h0 hs 36 le_rfl
  rw [R_at]
  refine congrArg (fun O => fin O (g (ix1 e)) (a (ix3 b p ⟨3584 + (h.val * 128 + e.val), by omega⟩)) e) (funext fun d => ?_)
  rw [H.out _ (by show p.val / 64 < 36; omega), H.out _ (by show (back p).val / 64 < 36; omega)]
  rfl

end Cert.ReferenceIdeal.Ref
-- ==== Proof.Bridge.lean ====
/- The kernel's array and the reference's array are the same, given what the precondition says. -/
module

public import proofs.«01_k».proof.Proof.Whole
public import proofs.«01_k».proof.Proof.Block
public import proofs.«01_k».proof.Proof.RefLoop

@[expose] public section

set_option maxRecDepth 16384

noncomputable section

namespace Cert.Bridge

open Idealize.ShloMosaic Idealize.ShloMosaic.TcCoe
open Cert.KernelIdeal Cert.KernelIdeal.Gen Cert.KernelIdeal.Run Cert.Hgrn
open Cert.ReferenceIdeal.Ref (Arr Lbs blk lrow rQ rK rW rV dir value_at)

variable (m : (ℓ : Loc nD τ sig) → Buf (Elt Ideal) ℓ) (c : Dev nD)

/-- The projections, -/
abbrev A : Arr := m ((c : Thread nD τ).loc main_arg0)
/-- the lower bounds -/
abbrev L : Lbs := m ((c : Thread nD τ).loc main_arg1)
/-- and the gain, as the memory holds them. -/
abbrev G : FVec Ideal Cert.ReferenceIdeal.S128 .f32 := m ((c : Thread nD τ).loc main_arg2)

/-- An index of a block with one leading entry. -/
theorem ix_blk (i : S1x2304x128.Idx) : i = ix3 (0 : Fin 1) (i 1) (i 2) := by
  funext k
  match k with
  | 0 => exact Fin.ext (by have : (i 0).val < 1 := (i 0).isLt; show (i 0).val = 0; omega)
  | 1 => rfl
  | 2 => rfl

/-- Two blocks with one leading entry agree when they do position by position. -/
theorem ext_blk {X Y : Vec Ideal S1x2304x128 .f32} (e : ∀ s d, X (ix3 0 s d) = Y (ix3 0 s d)) : X = Y := by
  funext i
  rw [ix_blk i]
  exact e _ _

section blocks
variable (b : Fin 8) (h : Fin 4)

theorem blk0 : (iblk m c 0 (pt b h) : Vec Ideal S1x2304x128 .f32) = blk (A m c) b 1536 (by omega) h := by
  refine ext_blk fun s d => (iblk0 m c b h s d).trans ?_
  exact congrArg (fun k => A m c (ix3 b s k)) (Fin.ext (by show 1536 + 128 * h.val + d.val = 1536 + (h.val * 128 + d.val); omega))
theorem blk1 : (iblk m c 1 (pt b h) : Vec Ideal S1x2304x128 .f32) = blk (A m c) b 2048 (by omega) h := by
  refine ext_blk fun s d => (iblk1 m c b h s d).trans ?_
  exact congrArg (fun k => A m c (ix3 b s k)) (Fin.ext (by show 2048 + 128 * h.val + d.val = 2048 + (h.val * 128 + d.val); omega))
theorem blk2 : (iblk m c 2 (pt b h) : Vec Ideal S1x2304x128 .f32) = blk (A m c) b 2560 (by omega) h := by
  refine ext_blk fun s d => (iblk2 m c b h s d).trans ?_
  exact congrArg (fun k => A m c (ix3 b s k)) (Fin.ext (by show 2560 + 128 * h.val + d.val = 2560 + (h.val * 128 + d.val); omega))
theorem blk3 : (iblk m c 3 (pt b h) : Vec Ideal S1x2304x128 .f32) = blk (A m c) b 3072 (by omega) h := by
  refine ext_blk fun s d => (iblk3 m c b h s d).trans ?_
  exact congrArg (fun k => A m c (ix3 b s k)) (Fin.ext (by show 3072 + 128 * h.val + d.val = 3072 + (h.val * 128 + d.val); omega))

/-- The kernel's rows of the lower bounds: their logarithms, -/
theorem row5 (r : Fin 2) (d : Fin 128) :
    (iblk m c 5 (pt b h) : Vec Ideal S2x128 .f32) (ix2 r d) = Ideal.log (lrow (L m c) r h d) := by
  refine (iblk5 m c b h r d).trans ((congrFun (V_v0 m c) _).trans ?_)
  exact congrArg (fun k => Ideal.log (L m c (ix2 r k))) (Fin.ext (by show 128 * h.val + d.val = h.val * 128 + d.val; omega))
/-- those of one less them, -/
theorem row6 (r : Fin 2) (d : Fin 128) :
    (iblk m c 6 (pt b h) : Vec Ideal S2x128 .f32) (ix2 r d) = Ideal.log1p (-(lrow (L m c) r h d)) := by
  refine (iblk6 m c b h r d).trans ((congrFun (V_v2 m c) _).trans ?_)
  exact congrArg (fun k => Ideal.log1p (-(L m c (ix2 r k)))) (Fin.ext (by show 128 * h.val + d.val = h.val * 128 + d.val; omega))
/-- and one less them. -/
theorem row7 (r : Fin 2) (d : Fin 128) :
    (iblk m c 7 (pt b h) : Vec Ideal S2x128 .f32) (ix2 r d) = 1 - lrow (L m c) r h d := by
  refine (iblk7 m c b h r d).trans ((congrFun (V_v4 m c) _).trans ?_)
  refine Eq.trans ?_ (congrArg (· - lrow (L m c) r h d) Ideal.ofBits_one_f32)
  exact congrArg (fun k => Ideal.ofBits .f32 0x3F800000#32 - (L m c (ix2 r k))) (Fin.ext (by show 128 * h.val + d.val = h.val * 128 + d.val; omega))
/-- A row put under one leading entry. -/
theorem row_of (x : FVec Ideal Cert.ReferenceIdeal.S128 .f32) (d : Fin 128) :
    shapeCast S1x128 x shapeCasts_S128_S1x128 (ix2 0 d) = x (ix1 d) := by pointwise
/-- The gain, as the kernel's one row. -/
theorem row8 (d : Fin 128) : (iblk m c 8 (pt b h) : Vec Ideal S1x128 .f32) (ix2 0 d) = G m c (ix1 d) := by
  refine (iblk8 m c b h 0 d).trans ((congrFun (V_v5 m c) _).trans ?_)
  exact row_of (G m c) d

end blocks

/-- The column of gate projection number `k`. -/
def gcol (k : Fin 1024) : Fin 4096 := ⟨2048 + k.val, by omega⟩

variable (hl : ∀ i, 0 ≤ L m c i ∧ L m c i ≤ 1) (ha : ∀ (b : Fin 8) (p : Fin 2304) (k : Fin 1024), A m c (ix3 b p (gcol k)) ≠ ⊥)

include hl ha in
/-- Under the precondition every gate's logarithm is a real number not above zero. -/
theorem gate_real (b : Fin 8) (h : Fin 4) (c0 : ℕ) (h0 : 2048 ≤ c0) (h1 : c0 ≤ 2560) (r : Fin 2) (p : ℕ) (d : Fin 128) :
    ∃ x : ℝ, x ≤ 0 ∧ lg (ap (blk (A m c) b c0 (by omega) h) p d) (Ideal.log (lrow (L m c) r h d)) (Ideal.log1p (-(lrow (L m c) r h d))) = (x : EReal) := by
  refine lg_real ?_ (hl _).1 (hl _).2
  unfold ap
  by_cases hp : p < 2304
  · rw [dif_pos hp]
    have e := ha b ⟨p, hp⟩ ⟨c0 - 2048 + (h.val * 128 + d.val), by omega⟩
    intro e'
    refine e (Eq.trans ?_ e')
    exact congrArg (fun k => A m c (ix3 b ⟨p, hp⟩ k)) (Fin.ext (by show 2048 + (c0 - 2048 + (h.val * 128 + d.val)) = c0 + (h.val * 128 + d.val); omega))
  · rw [dif_neg hp]
    exact EReal.zero_ne_bot

include hl ha in
/-- The kernel's block at an entry, its nine inputs being those of a sequence and head. -/
theorem core (b : Fin 8) (h : Fin 4) (p : Fin 2304) (e : Fin 128)
    (x0 x1 x2 x3 x4 : Vec Ideal S1x2304x128 .f32) (x5 x6 x7 : Vec Ideal S2x128 .f32) (x8 : Vec Ideal S1x128 .f32)
    (e0 : x0 = blk (A m c) b 1536 (by omega) h) (e1 : x1 = blk (A m c) b 2048 (by omega) h)
    (e2 : x2 = blk (A m c) b 2560 (by omega) h) (e3 : x3 = blk (A m c) b 3072 (by omega) h)
    (e4 : x4 (ix3 0 p e) = A m c (ix3 b p ⟨3584 + 128 * h.val + e.val, by omega⟩))
    (e5 : ∀ r d, x5 (ix2 r d) = Ideal.log (lrow (L m c) r h d)) (e6 : ∀ r d, x6 (ix2 r d) = Ideal.log1p (-(lrow (L m c) r h d)))
    (e7 : ∀ r d, x7 (ix2 r d) = 1 - lrow (L m c) r h d) (e8 : x8 (ix2 0 e) = G m c (ix1 e)) :
    OUT x0 x1 x2 x3 x4 x5 x6 x7 x8 (ix3 0 p e)
      = fin (fun d => Out (rQ (A m c) 0 b h) (rK (A m c) (L m c) 0 b h) (rW (A m c) (L m c) 0 b h) (rV (A m c) 0 b h) (p.val / 64) ⟨p.val % 64, Nat.mod_lt _ (by decide)⟩ d
          + Out (rQ (A m c) 1 b h) (rK (A m c) (L m c) 1 b h) (rW (A m c) (L m c) 1 b h) (rV (A m c) 1 b h) (turn p.val / 64) ⟨turn p.val % 64, Nat.mod_lt _ (by decide)⟩ d)
        (G m c (ix1 e)) (A m c (ix3 b p ⟨3584 + (h.val * 128 + e.val), by omega⟩)) e := by
  rw [OUT_at x0 x1 x2 x3 x4 x5 x6 x7 x8
    (fun p d => by
      unfold rw0
      rw [e1, e5, e6]
      exact gate_real m c hl ha b h 2048 (by omega) (by omega) 0 p d)
    (fun p d => by
      unfold rw1
      rw [e2, e5, e6]
      exact gate_real m c hl ha b h 2560 (by omega) (by omega) 1 p d), e8, e4]
  have f5 : rw0 x5 = fun d => Ideal.log (lrow (L m c) 0 h d) := funext (e5 0)
  have g5 : rw1 x5 = fun d => Ideal.log (lrow (L m c) 1 h d) := funext (e5 1)
  have f6 : rw0 x6 = fun d => Ideal.log1p (-(lrow (L m c) 0 h d)) := funext (e6 0)
  have g6 : rw1 x6 = fun d => Ideal.log1p (-(lrow (L m c) 1 h d)) := funext (e6 1)
  have f7 : rw0 x7 = fun d => 1 - lrow (L m c) 0 h d := funext (e7 0)
  have g7 : rw1 x7 = fun d => 1 - lrow (L m c) 1 h d := funext (e7 1)
  have eo : both x0 x1 x2 x3 x5 x6 x7 p = fun d => Out (rQ (A m c) 0 b h) (rK (A m c) (L m c) 0 b h) (rW (A m c) (L m c) 0 b h) (rV (A m c) 0 b h) (p.val / 64) ⟨p.val % 64, Nat.mod_lt _ (by decide)⟩ d
          + Out (rQ (A m c) 1 b h) (rK (A m c) (L m c) 1 b h) (rW (A m c) (L m c) 1 b h) (rV (A m c) 1 b h) (turn p.val / 64) ⟨turn p.val % 64, Nat.mod_lt _ (by decide)⟩ d := by
    funext d
    unfold both
    rw [f5, g5, f6, g6, f7, g7, e0, e1, e2, e3]
    rfl
  rw [eo]
  exact congrArg (fun k => fin _ (G m c (ix1 e)) (A m c (ix3 b p k)) e) (Fin.ext (by show 3584 + 128 * h.val + e.val = 3584 + (h.val * 128 + e.val); omega))

include hl ha in
/-- An entry of the kernel's array is that of the reference's. -/
theorem entry_eq (it : ℕ → Cert.ReferenceIdeal.Step.State Ideal) (h0 : it 0 = Cert.ReferenceIdeal.Step.init (A m c) (L m c))
    (hs : ∀ n, it (n + 1) = Cert.ReferenceIdeal.Step.step n (it n)) (b : Fin 8) (p : Fin 2304) (h : Fin 4) (e : Fin 128) :
    outB m c (pt b h) (ix3 0 p e)
      = Cert.ReferenceIdeal.Step.R_main_v125 (it 36) (A m c) (G m c) (ix3 b p ⟨h.val * 128 + e.val, by omega⟩) := by
  rw [value_at (A m c) (L m c) (G m c) it h0 hs b p h e]
  unfold outB
  exact core m c hl ha b h p e _ _ _ _ _ _ _ _ _ (blk0 m c b h) (blk1 m c b h) (blk2 m c b h) (blk3 m c b h) (iblk4 m c b h p e)
    (row5 m c b h) (row6 m c b h) (row7 m c b h) (row8 m c b h e)

/-- An index of the result, its lane split into a head and a lane of the head. -/
theorem ix_res (i : Cert.ReferenceIdeal.S8x2304x512.Idx) :
    (ix3 (i 0) (i 1) ⟨(hd (i 2)).val * 128 + (ln (i 2)).val, by omega⟩ : Cert.ReferenceIdeal.S8x2304x512.Idx) = i := by
  funext k
  match k with
  | 0 => rfl
  | 1 => rfl
  | 2 => exact Fin.ext (by show (i 2).val / 128 * 128 + (i 2).val % 128 = (i 2).val; omega)

include hl ha in
/-- THE TWO ARRAYS AGREE: the kernel's result is the reference's, read off the loop's last state. -/
theorem result_eq (it : ℕ → Cert.ReferenceIdeal.Step.State Ideal) (h0 : it 0 = Cert.ReferenceIdeal.Step.init (A m c) (L m c))
    (hs : ∀ n, it (n + 1) = Cert.ReferenceIdeal.Step.step n (it n)) :
    result m c = Cert.ReferenceIdeal.Step.R_main_v125 (it 36) (A m c) (G m c) := by
  generalize hR : Cert.ReferenceIdeal.Step.R_main_v125 (it 36) (A m c) (G m c) = R
  have H := entry_eq m c hl ha it h0 hs
  rw [hR] at H
  funext i
  exact (H (i 0) (i 1) (hd (i 2)) (ln (i 2))).trans (congrArg R (ix_res i))

end Cert.Bridge

end
-- ==== Proof.Range.lean ====
/- What the precondition says: the lower bounds lie between 0 and 1, and no gate projection is -∞. -/
module

public import proofs.«01_k».proof.Pre_gates_in_range
public import Idealize.ShloMosaic.Lib.ReduceAll
public import Idealize.ShloMosaic.Lib.Pointwise

@[expose] public section

set_option maxRecDepth 16384

noncomputable section

namespace Cert.Pre_gates_in_range

open Idealize.ShloMosaic

/-- The shape relations the precondition's operations take. -/
theorem facts : Facts where
  bcast_S_S2x512 := by decide
  reducesTo_S2x512_S_d0_1 := by decide
  h_S_ := by decide
  slices_S8x2304x4096_S8x2304x1024_0_0_2048 := by decide
  bcast_S_S8x2304x1024 := by decide
  reducesTo_S8x2304x1024_S_d0_1_2 := by decide

/-- A float literal spread over a shape is that literal at every index. -/
theorem lit_at {t : Shape} (hb : S_.BroadcastsInDim t (![] : Fin 0 → Fin t.rank)) (v : BitVec 32) (i : t.Idx) :
    broadcastInDim t ![] hb (constant (F := Ideal) S_ .f32 v) i = Ideal.ofBits .f32 v := rfl

/-- A bit made of a truth value is 1 exactly when it is true. -/
theorem ofBool_one (b : Bool) : BitVec.ofBool b = 1#1 ↔ b = true := by cases b <;> decide

/-- The three facts the precondition gives. -/
theorem decode [Facts] (a : FVec Ideal S8x2304x4096 .f32) (l : FVec Ideal S2x512 .f32) (g : FVec Ideal S128 .f32)
    (h : fn (F := Ideal) a l g = fun _ => 1#1) :
    (∀ i, 0 ≤ l i ∧ l i ≤ 1) ∧ ∀ (b : Fin 8) (p : Fin 2304) (k : Fin 1024), a (ix3 b p ⟨2048 + k.val, by omega⟩) ≠ ⊥ := by
  haveI : Subsingleton S_.Idx := ⟨fun x y => funext fun k => k.elim0⟩
  have hh := congrFun h (Shape.Idx.first Facts.h_S_)
  unfold fn at hh
  obtain ⟨h1, h2⟩ := IntOp.andi_eq_one.1 hh
  refine ⟨fun i => ?_, fun b p k e => ?_⟩
  · have hi := Host.reduce_andi_all _ _ _ _ _ h1 i
    obtain ⟨ha, hb⟩ := IntOp.andi_eq_one.1 hi
    change Ideal.cmp .oge (l i) (Ideal.ofBits .f32 0x00000000#32) = 1#1 at ha
    change Ideal.cmp .ole (l i) (Ideal.ofBits .f32 0x3F800000#32) = 1#1 at hb
    rw [Ideal.ofBits_zero_f32] at ha
    rw [Ideal.ofBits_one_f32] at hb
    have ha' := (ofBool_one _).1 ha
    have hb' := (ofBool_one _).1 hb
    exact ⟨of_decide_eq_true ha', of_decide_eq_true hb'⟩
  · have hi := Host.reduce_andi_all _ _ _ _ _ h2 (ix3 b p k)
    have ea : extractStridedSlice S8x2304x1024 ![0, 0, 2048] a Facts.slices_S8x2304x4096_S8x2304x1024_0_0_2048 (ix3 b p k)
        = a (ix3 b p ⟨2048 + k.val, by omega⟩) := by pointwise
    change Ideal.cmp .ogt (extractStridedSlice S8x2304x1024 ![0, 0, 2048] a Facts.slices_S8x2304x4096_S8x2304x1024_0_0_2048 (ix3 b p k))
      (Ideal.ofBits .f32 0xFF800000#32) = 1#1 at hi
    rw [ea, e] at hi
    have hc : decide (Ideal.ofBits .f32 0xFF800000#32 < (⊥ : EReal)) = true := (ofBool_one _).1 hi
    exact not_lt_bot (of_decide_eq_true hc)

end Cert.Pre_gates_in_range

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Experts
public import proofs.«01_k».proof.Proof.Gen.Experts.Frame
public import proofs.«01_k».proof.Proof.Gen.ExpertsIdeal
public import proofs.«01_k».proof.Proof.Gen.ExpertsIdeal.Value
public import proofs.«01_k».proof.Proof.Gen.OddIn
public import proofs.«01_k».proof.Proof.Gen.OddIn.Frame
public import proofs.«01_k».proof.Proof.Gen.OddInIdeal
public import proofs.«01_k».proof.Proof.Gen.OddInIdeal.Value
public import proofs.«01_k».proof.Proof.Gen.RefExpertsIdeal
public import proofs.«01_k».proof.Proof.Gen.RefExpertsIdeal.Run
public import proofs.«01_k».proof.Proof.Gen.RefOddInIdeal
public import proofs.«01_k».proof.Proof.Gen.RefOddInIdeal.Run
public import proofs.«01_k».proof.Proof.Gen.EvenIn
public import proofs.«01_k».proof.Proof.Gen.EvenIn.Frame
public import proofs.«01_k».proof.Proof.Gen.EvenInIdeal
public import proofs.«01_k».proof.Proof.Gen.EvenInIdeal.Value
public import proofs.«01_k».proof.Proof.Gen.RefEvenInIdeal
public import proofs.«01_k».proof.Proof.Gen.RefEvenInIdeal.Run
public import proofs.«01_k».proof.Proof.Gen.Mla
public import proofs.«01_k».proof.Proof.Gen.Mla.Frame
public import proofs.«01_k».proof.Proof.Gen.MlaIdeal
public import proofs.«01_k».proof.Proof.Gen.MlaIdeal.Value
public import proofs.«01_k».proof.Proof.Gen.RefMlaIdeal
public import proofs.«01_k».proof.Proof.Gen.RefMlaIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Value
public import proofs.«01_k».proof.Proof.Gen.RefOutProjIdeal
public import proofs.«01_k».proof.Proof.Gen.RefOutProjIdeal.Run
public import proofs.«01_k».proof.Proof.ExpertsWhole
public import proofs.«01_k».proof.Proof.OddInWhole
public import proofs.«01_k».proof.Proof.EvenInWhole
public import proofs.«01_k».proof.Proof.MlaWhole
public import proofs.«01_k».proof.Proof.MlaFinite
public import proofs.«01_k».proof.Proof.OutProjWhole
public import proofs.«01_k».proof.Proof.RefEntry
public import proofs.«01_k».proof.Proof.Same
public import proofs.«01_k».proof.Proof.Bridge
public import proofs.«01_k».proof.Proof.Range
public import Idealize.ShloMosaic.Lib.Quiescent

@[expose] public section

noncomputable section

namespace Cert.Proof

open Idealize.ShloMosaic Idealize.ShloMosaic.TcCoe Idealize.SL.Sem

/-- The states the reference's loop goes through on core `c`, from the memory `m`. -/
def it (m : (ℓ : Loc Cert.ReferenceIdeal.nD Cert.ReferenceIdeal.τ Cert.ReferenceIdeal.sig) → Buf (Elt Ideal) ℓ) (c : Dev Cert.ReferenceIdeal.nD) :
    ℕ → Cert.ReferenceIdeal.Step.State Ideal
  | 0 => Cert.ReferenceIdeal.RefHolds.initState m c
  | n + 1 => Cert.ReferenceIdeal.Step.step n (it m c n)

/-- Every run of the kernel, its floats the numbers of the machine's formats, ends with its arguments as they were and no counter raised. -/
theorem frame_kernel : Cert.quiescent_Kernel := fun m ρ _ => Cert.Same.frame (F := Bits) m ρ

/-- The same of the kernel read over the extended reals. -/
theorem frame_ideal : Cert.quiescent_KernelIdeal := fun m ρ _ => Cert.KernelIdeal.Run.frame (F := Ideal) m ρ

/-- Every run of the reference ends with its arguments as they were, and it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.RefHolds.run_iter m ρ (it m) (fun _ => rfl) (fun _ _ => rfl))

/-- THE KERNEL COMPUTES THE REFERENCE'S ARRAY, the lower bounds lying between 0 and 1 and no gate projection being -∞. -/
theorem same_value :
    Cert.algebraic_KernelIdeal_ReferenceIdeal_pre_gates_in_range (hPre_gates_in_range := Cert.Pre_gates_in_range.facts) := by
  intro m g m' g' hpre harg
  refine ⟨fun c => Cert.KernelIdeal.Run.result m c, Cert.KernelIdeal.Run.run m g, ?_⟩
  refine (θ_run Cert.ReferenceIdeal.defs _ _).mono (fun r h c => ⟨(h c).1.trans ?_, (h c).2⟩)
    (Cert.ReferenceIdeal.RefHolds.run_iter m' g' (it m') (fun _ => rfl) (fun _ _ => rfl))
  obtain ⟨hl, ha⟩ := @Cert.Pre_gates_in_range.decode Cert.Pre_gates_in_range.facts _ _ _ (hpre c)
  obtain ⟨e0, e1, e2⟩ := harg c
  have hi : it m' c 0 = Cert.ReferenceIdeal.Step.init (Cert.Bridge.A m c) (Cert.Bridge.L m c) := by
    show Cert.ReferenceIdeal.Step.init _ _ = _
    rw [e0, e1]
  rw [e0, e2]
  exact (Cert.Bridge.result_eq m c hl ha (it m' c) hi (fun _ => rfl)).symm

/-! ## The experts -/

theorem frame_experts : Cert.quiescent_Experts := fun m ρ _ => Cert.Experts.Gen.frame (F := Bits) m ρ
theorem frame_experts_ideal : Cert.quiescent_ExpertsIdeal := fun m ρ _ => Cert.ExpertsIdeal.Gen.frame (F := Ideal) m ρ
theorem frame_experts_reference : Cert.quiescent_RefExpertsIdeal := fun m ρ _ =>
  (θ_run Cert.RefExpertsIdeal.defs _ _).mono (fun r h => ⟨fun c => (h c).2, sem_eq_zero_of_no_sems (by decide) r.2⟩) (Cert.RefExpertsIdeal.Value.run m ρ)

/-- The kernel computes the reference's array. -/
theorem same_experts : Cert.algebraic_ExpertsIdeal_RefExpertsIdeal := by
  intro m g m' g' _ harg
  refine ⟨fun c => Cert.ExpertsIdeal.Block.want m c,
    (θ_run Cert.ExpertsIdeal.defs _ _).mono (fun r h c => ⟨h.1 c, h.2 c⟩) (θ_run_and (Cert.ExpertsIdeal.Block.run m g) (Cert.ExpertsIdeal.Gen.unchanged m g)), ?_⟩
  refine (θ_run Cert.RefExpertsIdeal.defs _ _).mono (fun r h c => ⟨(show _ = Cert.RefExpertsIdeal.Ref.val _ _ _ _ from (h c).1).trans ?_, (h c).2⟩)
    (Cert.RefExpertsIdeal.Value.run m' g')
  obtain ⟨e0, e1, e2, e3⟩ := harg c
  rw [e0, e1, e2, e3]

/-! ## The odd layers' input projection -/

theorem frame_oddin : Cert.quiescent_OddIn := fun m ρ _ => Cert.OddIn.Gen.frame (F := Bits) m ρ
theorem frame_oddin_ideal : Cert.quiescent_OddInIdeal := fun m ρ _ => Cert.OddInIdeal.Gen.frame (F := Ideal) m ρ
theorem frame_oddin_reference : Cert.quiescent_RefOddInIdeal := fun m ρ _ =>
  (θ_run Cert.RefOddInIdeal.defs _ _).mono (fun r h => ⟨fun c => (h c).2, sem_eq_zero_of_no_sems (by decide) r.2⟩) (Cert.RefOddInIdeal.Value.run m ρ)

/-- The kernel computes the reference's array. -/
theorem same_oddin : Cert.algebraic_OddInIdeal_RefOddInIdeal := by
  intro m g m' g' _ harg
  refine ⟨fun c => Cert.OddInIdeal.Block.want m c,
    (θ_run Cert.OddInIdeal.defs _ _).mono (fun r h c => ⟨h.1 c, h.2 c⟩) (θ_run_and (Cert.OddInIdeal.Block.run m g) (Cert.OddInIdeal.Gen.unchanged m g)), ?_⟩
  refine (θ_run Cert.RefOddInIdeal.defs _ _).mono (fun r h c => ⟨(show _ = Cert.RefOddInIdeal.Ref.val _ _ _ _ from (h c).1).trans ?_, (h c).2⟩)
    (Cert.RefOddInIdeal.Value.run m' g')
  obtain ⟨e0, e1, e2, e3⟩ := harg c
  rw [e0, e1, e2, e3]

/-! ## The even layers' input projection -/

theorem frame_evenin : Cert.quiescent_EvenIn := fun m ρ _ => Cert.EvenIn.Gen.frame (F := Bits) m ρ
theorem frame_evenin_ideal : Cert.quiescent_EvenInIdeal := fun m ρ _ => Cert.EvenInIdeal.Gen.frame (F := Ideal) m ρ
theorem frame_evenin_reference : Cert.quiescent_RefEvenInIdeal := fun m ρ _ =>
  (θ_run Cert.RefEvenInIdeal.defs _ _).mono (fun r h => ⟨fun c => (h c).2, sem_eq_zero_of_no_sems (by decide) r.2⟩) (Cert.RefEvenInIdeal.Value.run m ρ)

/-- The kernel computes the reference's array. -/
theorem same_evenin : Cert.algebraic_EvenInIdeal_RefEvenInIdeal := by
  intro m g m' g' _ harg
  refine ⟨fun c => Cert.EvenInIdeal.Block.want m c,
    (θ_run Cert.EvenInIdeal.defs _ _).mono (fun r h c => ⟨h.1 c, h.2 c⟩) (θ_run_and (Cert.EvenInIdeal.Block.run m g) (Cert.EvenInIdeal.Gen.unchanged m g)), ?_⟩
  refine (θ_run Cert.RefEvenInIdeal.defs _ _).mono (fun r h c => ⟨(show _ = Cert.RefEvenInIdeal.Ref.val _ _ _ (Cert.EvenInIdeal.Block.wide _) from (h c).1).trans ?_, (h c).2⟩)
    (Cert.RefEvenInIdeal.Value.run m' g')
  obtain ⟨e0, e1, e2, e3⟩ := harg c
  rw [e0, e1, e2, e3]

/-! ## The latent attention -/

theorem frame_mla : Cert.quiescent_Mla := fun m ρ _ => Cert.Mla.Gen.frame (F := Bits) m ρ
theorem frame_mla_ideal : Cert.quiescent_MlaIdeal := fun m ρ _ => Cert.MlaIdeal.Gen.frame (F := Ideal) m ρ
theorem frame_mla_reference : Cert.quiescent_RefMlaIdeal := fun m ρ _ =>
  (θ_run Cert.RefMlaIdeal.defs _ _).mono (fun r h => ⟨fun c => (h c).2, sem_eq_zero_of_no_sems (by decide) r.2⟩) (Cert.RefMlaIdeal.Value.run m ρ)

/-- The kernel computes the reference's array, the queries and keys being finite. -/
theorem same_mla : Cert.algebraic_MlaIdeal_RefMlaIdeal_pre_scores_finite (hPre_scores_finite := Cert.Pre_scores_finite.facts) := by
  intro m g m' g' hpre harg
  have fin (c : Dev Cert.MlaIdeal.nD) := @Cert.Pre_scores_finite.decode Cert.Pre_scores_finite.facts _ _ _ (hpre c)
  refine ⟨fun c => Cert.MlaIdeal.Block.want m c,
    (θ_run Cert.MlaIdeal.defs _ _).mono (fun r h c => ⟨h.1 c, h.2 c⟩)
      (θ_run_and (Cert.MlaIdeal.Block.run m (fun c => (fin c).1) (fun c => (fin c).2) g) (Cert.MlaIdeal.Gen.unchanged m g)), ?_⟩
  refine (θ_run Cert.RefMlaIdeal.defs _ _).mono (fun r h c => ⟨(show _ = Cert.RefMlaIdeal.Ref.val _ _ _ from (h c).1).trans ?_, (h c).2⟩)
    (Cert.RefMlaIdeal.Value.run m' g')
  obtain ⟨e0, e1, e2⟩ := harg c
  rw [e0, e1, e2]
  rfl

/-! ## The output projection -/

theorem frame_outproj : Cert.quiescent_OutProj := fun m ρ _ => Cert.OutProj.Gen.frame (F := Bits) m ρ
theorem frame_outproj_ideal : Cert.quiescent_OutProjIdeal := fun m ρ _ => Cert.OutProjIdeal.Gen.frame (F := Ideal) m ρ
theorem frame_outproj_reference : Cert.quiescent_RefOutProjIdeal := fun m ρ _ =>
  (θ_run Cert.RefOutProjIdeal.defs _ _).mono (fun r h => ⟨fun c => (h c).2.2, sem_eq_zero_of_no_sems (by decide) r.2⟩) (Cert.RefOutProjIdeal.Value.run m ρ)

/-- The kernel computes the reference's two arrays. -/
theorem same_outproj : Cert.algebraic_OutProjIdeal_RefOutProjIdeal := by
  intro m g m' g' _ harg
  refine ⟨fun c => Cert.OutProjIdeal.Block.want0 m c, fun c => Cert.OutProjIdeal.Block.want1 m c,
    (θ_run Cert.OutProjIdeal.defs _ _).mono (fun r h c => ⟨(h.1 c).1, (h.1 c).2, h.2 c⟩) (θ_run_and (Cert.OutProjIdeal.Block.run m g) (Cert.OutProjIdeal.Gen.unchanged m g)), ?_⟩
  refine (θ_run Cert.RefOutProjIdeal.defs _ _).mono (fun r h c => ⟨(show _ = Cert.RefOutProjIdeal.Ref.val _ _ _ _ _ _ _ from (h c).1).trans ?_,
      (show _ = Cert.RefOutProjIdeal.Ref.aff _ _ _ _ _ _ _ _ from (h c).2.1).trans ?_, (h c).2.2⟩)
    (Cert.RefOutProjIdeal.Value.run m' g')
  · obtain ⟨e0, e1, e2, e3, e4, e5, e6, e7⟩ := harg c
    rw [e0, e1, e2, e3, e4, e5, e6]
  · obtain ⟨e0, e1, e2, e3, e4, e5, e6, e7⟩ := harg c
    rw [e0, e1, e2, e3, e4, e5, e6, e7]

/-- Everything claimed. -/
theorem claim : Cert.Claim := ⟨Cert.Kernel.Gen.facts, Cert.KernelIdeal.Gen.facts, Cert.ReferenceIdeal.Gen.facts,
  Cert.Experts.Gen.facts, Cert.ExpertsIdeal.Gen.facts, Cert.RefExpertsIdeal.Gen.facts,
  Cert.OddIn.Gen.facts, Cert.OddInIdeal.Gen.facts, Cert.RefOddInIdeal.Gen.facts,
  Cert.EvenIn.Gen.facts, Cert.EvenInIdeal.Gen.facts, Cert.RefEvenInIdeal.Gen.facts,
  Cert.Mla.Gen.facts, Cert.MlaIdeal.Gen.facts, Cert.RefMlaIdeal.Gen.facts,
  Cert.OutProj.Gen.facts, Cert.OutProjIdeal.Gen.facts, Cert.RefOutProjIdeal.Gen.facts, Cert.Pre_gates_in_range.facts, Cert.Pre_scores_finite.facts,
  frame_kernel, frame_ideal, fun m ρ _ => frame_ideal m ρ trivial, frame_reference, fun m ρ _ => frame_reference m ρ trivial,
  frame_experts, frame_experts_ideal, frame_experts_reference, frame_oddin, frame_oddin_ideal, frame_oddin_reference,
  frame_evenin, frame_evenin_ideal, frame_evenin_reference,
  frame_mla, frame_mla_ideal, fun m ρ _ => frame_mla_ideal m ρ trivial, frame_mla_reference, fun m ρ _ => frame_mla_reference m ρ trivial,
  frame_outproj, frame_outproj_ideal, frame_outproj_reference,
  trivial, same_value, trivial, same_experts, trivial, same_oddin, trivial, same_evenin, trivial, same_mla, trivial, same_outproj⟩

end Cert.Proof

end
